-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7)
      ∧ r.2.mem ((c.tc : Thread Cert.Kernel11.nD Cert.Kernel11.τ).loc Cert.Kernel11.main_arg8) = m ((c.tc : Thread Cert.Kernel11.nD Cert.Kernel11.τ).loc Cert.Kernel11.main_arg8)
      ∧ r.2.mem ((c.tc : Thread Cert.Kernel11.nD Cert.Kernel11.τ).loc Cert.Kernel11.main_arg9) = m ((c.tc : Thread Cert.Kernel11.nD Cert.Kernel11.τ).loc Cert.Kernel11.main_arg9))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
      ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
      ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7)
      ∧ r.2.mem ((c.tc : Thread Cert.Reference11Ideal.nD Cert.Reference11Ideal.τ).loc Cert.Reference11Ideal.main_arg8) = m ((c.tc : Thread Cert.Reference11Ideal.nD Cert.Reference11Ideal.τ).loc Cert.Reference11Ideal.main_arg8)
      ∧ r.2.mem ((c.tc : Thread Cert.Reference11Ideal.nD Cert.Reference11Ideal.τ).loc Cert.Reference11Ideal.main_arg9) = m ((c.tc : Thread Cert.Reference11Ideal.nD Cert.Reference11Ideal.τ).loc Cert.Reference11Ideal.main_arg9))
      ∧ r.2.sem = fun _ => 0)

def preserves_Kernel_KernelIdeal : Prop :=
  IdealRules.named_const.Statement Cert.KernelIdeal.κ "scale_log2e" .f32 0x3E0293EE#32 (((11863283 / 134217728) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v44_0)) (v1 : (c : Dev Cert.KernelIdeal.nD) → Buf (Elt Ideal) ((c.tc : Thread Cert.KernelIdeal.nD Cert.KernelIdeal.τ).loc Cert.KernelIdeal.main_v44_1)) (v2 : (c : Dev Cert.KernelIdeal.nD) → Buf (Elt Ideal) ((c.tc : Thread Cert.KernelIdeal.nD Cert.KernelIdeal.τ).loc Cert.KernelIdeal.main_v44_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44_0) = v0 c
          ∧ r.2.mem ((c.tc : Thread Cert.KernelIdeal.nD Cert.KernelIdeal.τ).loc Cert.KernelIdeal.main_v44_1) = v1 c
          ∧ r.2.mem ((c.tc : Thread Cert.KernelIdeal.nD Cert.KernelIdeal.τ).loc Cert.KernelIdeal.main_v44_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_v66) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v7) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v40) = v0 c
          ∧ r.2.mem ((c.tc : Thread Cert.Reference9Ideal.nD Cert.Reference9Ideal.τ).loc Cert.Reference9Ideal.main_v41) = v1 c
          ∧ r.2.mem ((c.tc : Thread Cert.Reference9Ideal.nD Cert.Reference9Ideal.τ).loc Cert.Reference9Ideal.main_v42) = v2 c
          ∧ r.2.mem ((c.tc : Thread Cert.Reference9Ideal.nD Cert.Reference9Ideal.τ).loc Cert.Reference9Ideal.main_v44) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)) (v4 : (c : Dev Cert.Kernel10Ideal.nD) → Buf (Elt Ideal) ((c.tc : Thread Cert.Kernel10Ideal.nD Cert.Kernel10Ideal.τ).loc Cert.Kernel10Ideal.main_v0_4)) (v5 : (c : Dev Cert.Kernel10Ideal.nD) → Buf (Elt Ideal) ((c.tc : Thread Cert.Kernel10Ideal.nD Cert.Kernel10Ideal.τ).loc Cert.Kernel10Ideal.main_v0_5)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_v0_4) = v4 c
          ∧ r.2.mem ((c.tc : Thread Cert.Kernel10Ideal.nD Cert.Kernel10Ideal.τ).loc Cert.Kernel10Ideal.main_v0_5) = v5 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v38) = v0 c
          ∧ r.2.mem ((c.tc : Thread Cert.Reference10Ideal.nD Cert.Reference10Ideal.τ).loc Cert.Reference10Ideal.main_v39) = v1 c
          ∧ r.2.mem ((c.tc : Thread Cert.Reference10Ideal.nD Cert.Reference10Ideal.τ).loc Cert.Reference10Ideal.main_v40) = v2 c
          ∧ r.2.mem ((c.tc : Thread Cert.Reference10Ideal.nD Cert.Reference10Ideal.τ).loc Cert.Reference10Ideal.main_v31) = v3 c
          ∧ r.2.mem ((c.tc : Thread Cert.Reference10Ideal.nD Cert.Reference10Ideal.τ).loc Cert.Reference10Ideal.main_v41) = v4 c
          ∧ r.2.mem ((c.tc : Thread Cert.Reference10Ideal.nD Cert.Reference10Ideal.τ).loc Cert.Reference10Ideal.main_v43) = v5 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)
      ∧ m' ((c.tc : Thread Cert.Reference11Ideal.nD Cert.Reference11Ideal.τ).loc Cert.Reference11Ideal.main_arg8) = m ((c.tc : Thread Cert.Kernel11Ideal.nD Cert.Kernel11Ideal.τ).loc Cert.Kernel11Ideal.main_arg8)
      ∧ m' ((c.tc : Thread Cert.Reference11Ideal.nD Cert.Reference11Ideal.τ).loc Cert.Reference11Ideal.main_arg9) = m ((c.tc : Thread Cert.Kernel11Ideal.nD Cert.Kernel11Ideal.τ).loc Cert.Kernel11Ideal.main_arg9)) →
    ∃ (v0 : (c : Dev Cert.Kernel11Ideal.nD) → Buf (Elt Ideal) ((c.tc : Thread Cert.Kernel11Ideal.nD Cert.Kernel11Ideal.τ).loc Cert.Kernel11Ideal.main_v11_0)) (v1 : (c : Dev Cert.Kernel11Ideal.nD) → Buf (Elt Ideal) ((c.tc : Thread Cert.Kernel11Ideal.nD Cert.Kernel11Ideal.τ).loc Cert.Kernel11Ideal.main_v11_1)) (v2 : (c : Dev Cert.Kernel11Ideal.nD) → Buf (Elt Ideal) ((c.tc : Thread Cert.Kernel11Ideal.nD Cert.Kernel11Ideal.τ).loc Cert.Kernel11Ideal.main_v11_2)) (v3 : (c : Dev Cert.Kernel11Ideal.nD) → Buf (Elt Ideal) ((c.tc : Thread Cert.Kernel11Ideal.nD Cert.Kernel11Ideal.τ).loc Cert.Kernel11Ideal.main_v11_3)) (v4 : (c : Dev Cert.Kernel11Ideal.nD) → Buf (Elt Ideal) ((c.tc : Thread Cert.Kernel11Ideal.nD Cert.Kernel11Ideal.τ).loc Cert.Kernel11Ideal.main_v11_4)) (v5 : (c : Dev Cert.Kernel11Ideal.nD) → Buf (Elt Ideal) ((c.tc : Thread Cert.Kernel11Ideal.nD Cert.Kernel11Ideal.τ).loc Cert.Kernel11Ideal.main_v11_5)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v11_0) = v0 c
          ∧ r.2.mem ((c.tc : Thread Cert.Kernel11Ideal.nD Cert.Kernel11Ideal.τ).loc Cert.Kernel11Ideal.main_v11_1) = v1 c
          ∧ r.2.mem ((c.tc : Thread Cert.Kernel11Ideal.nD Cert.Kernel11Ideal.τ).loc Cert.Kernel11Ideal.main_v11_2) = v2 c
          ∧ r.2.mem ((c.tc : Thread Cert.Kernel11Ideal.nD Cert.Kernel11Ideal.τ).loc Cert.Kernel11Ideal.main_v11_3) = v3 c
          ∧ r.2.mem ((c.tc : Thread Cert.Kernel11Ideal.nD Cert.Kernel11Ideal.τ).loc Cert.Kernel11Ideal.main_v11_4) = v4 c
          ∧ r.2.mem ((c.tc : Thread Cert.Kernel11Ideal.nD Cert.Kernel11Ideal.τ).loc Cert.Kernel11Ideal.main_v11_5) = v5 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
          ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
          ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v11) = v0 c
          ∧ r.2.mem ((c.tc : Thread Cert.Reference11Ideal.nD Cert.Reference11Ideal.τ).loc Cert.Reference11Ideal.main_v130) = v1 c
          ∧ r.2.mem ((c.tc : Thread Cert.Reference11Ideal.nD Cert.Reference11Ideal.τ).loc Cert.Reference11Ideal.main_v131) = v2 c
          ∧ r.2.mem ((c.tc : Thread Cert.Reference11Ideal.nD Cert.Reference11Ideal.τ).loc Cert.Reference11Ideal.main_v132) = v3 c
          ∧ r.2.mem ((c.tc : Thread Cert.Reference11Ideal.nD Cert.Reference11Ideal.τ).loc Cert.Reference11Ideal.main_v133) = v4 c
          ∧ r.2.mem ((c.tc : Thread Cert.Reference11Ideal.nD Cert.Reference11Ideal.τ).loc Cert.Reference11Ideal.main_v134) = v5 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7)
          ∧ r.2.mem ((c.tc : Thread Cert.Reference11Ideal.nD Cert.Reference11Ideal.τ).loc Cert.Reference11Ideal.main_arg8) = m' ((c.tc : Thread Cert.Reference11Ideal.nD Cert.Reference11Ideal.τ).loc Cert.Reference11Ideal.main_arg8)
          ∧ r.2.mem ((c.tc : Thread Cert.Reference11Ideal.nD Cert.Reference11Ideal.τ).loc Cert.Reference11Ideal.main_arg9) = m' ((c.tc : Thread Cert.Reference11Ideal.nD Cert.Reference11Ideal.τ).loc Cert.Reference11Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_finite.lean ====
abbrev S8448x1024 : Shape := ⟨2, ![8448, 1024]⟩
abbrev S8448x256 : Shape := ⟨2, ![8448, 256]⟩
abbrev S_ : Shape := ⟨0, ![]⟩

class Facts : Prop where
  bitsLt_bf16_f32 : FTy.bits .bf16 < FTy.bits .f32
  bcast_S_S8448x1024 : S_.BroadcastsInDim S8448x1024 (![] : Fin 0 → Fin S8448x1024.rank)
  reducesTo_S8448x1024_S_d0_1 : S8448x1024.ReducesTo [0, 1] S_
  h_S_ : 0 < S_.numel
  bcast_S_S8448x256 : S_.BroadcastsInDim S8448x256 (![] : Fin 0 → Fin S8448x256.rank)
  reducesTo_S8448x256_S_d0_1 : S8448x256.ReducesTo [0, 1] S_

variable [Facts]

def fn_part1 {F : FTy → Type} [FloatOps F] (main_v16 : IVec S_ 1) (main_v17 : FVec F S8448x1024 .f32) : IVec S_ 1 :=
  let main_v18 : FVec F S8448x1024 .f32 := Host.absf main_v17
  let main_cst_4 : FVec F S_ .f32 := constant S_ .f32 0x7F800000#32
  let main_v19 : FVec F S8448x1024 .f32 := broadcastInDim S8448x1024 ![] bcast_S_S8448x1024 main_cst_4
  let main_v20 : IVec S8448x1024 1 := cmpf .olt main_v18 main_v19
  let main_c_5 : IVec S_ 1 := constantI S_ 1 1#1
  let main_v21 : IVec S_ 1 := (fun x v => Host.reduce IntOp.andi x v reducesTo_S8448x1024_S_d0_1 h_S_) main_v20 main_c_5
  let main_v22 : IVec S_ 1 := andi main_v16 main_v21
  main_v22

def fn {F : FTy → Type} [FloatOps F] (main_arg0 : FVec F S8448x1024 .bf16) (main_arg1 : FVec F S8448x256 .bf16) (main_arg2 : FVec F S8448x256 .bf16) (main_arg3 : FVec F S8448x1024 .bf16) : IVec S_ 1 :=
  let main_v0 : FVec F S8448x1024 .f32 := (extf .f32 · bitsLt_bf16_f32) main_arg0
  let main_v1 : FVec F S8448x1024 .f32 := Host.absf main_v0
  let main_cst : FVec F S_ .f32 := constant S_ .f32 0x7F800000#32
  let main_v2 : FVec F S8448x1024 .f32 := broadcastInDim S8448x1024 ![] bcast_S_S8448x1024 main_cst
  let main_v3 : IVec S8448x1024 1 := cmpf .olt main_v1 main_v2
  let main_c : IVec S_ 1 := constantI S_ 1 1#1
  let main_v4 : IVec S_ 1 := (fun x v => Host.reduce IntOp.andi x v reducesTo_S8448x1024_S_d0_1 h_S_) main_v3 main_c
  let main_v5 : FVec F S8448x256 .f32 := (extf .f32 · bitsLt_bf16_f32) main_arg1
  let main_v6 : FVec F S8448x256 .f32 := Host.absf main_v5
  let main_cst_0 : FVec F S_ .f32 := constant S_ .f32 0x7F800000#32
  let main_v7 : FVec F S8448x256 .f32 := broadcastInDim S8448x256 ![] bcast_S_S8448x256 main_cst_0
  let main_v8 : IVec S8448x256 1 := cmpf .olt main_v6 main_v7
  let main_c_1 : IVec S_ 1 := constantI S_ 1 1#1
  let main_v9 : IVec S_ 1 := (fun x v => Host.reduce IntOp.andi x v reducesTo_S8448x256_S_d0_1 h_S_) main_v8 main_c_1
  let main_v10 : IVec S_ 1 := andi main_v4 main_v9
  let main_v11 : FVec F S8448x256 .f32 := (extf .f32 · bitsLt_bf16_f32) main_arg2
  let main_v12 : FVec F S8448x256 .f32 := Host.absf main_v11
  let main_cst_2 : FVec F S_ .f32 := constant S_ .f32 0x7F800000#32
  let main_v13 : FVec F S8448x256 .f32 := broadcastInDim S8448x256 ![] bcast_S_S8448x256 main_cst_2
  let main_v14 : IVec S8448x256 1 := cmpf .olt main_v12 main_v13
  let main_c_3 : IVec S_ 1 := constantI S_ 1 1#1
  let main_v15 : IVec S_ 1 := (fun x v => Host.reduce IntOp.andi x v reducesTo_S8448x256_S_d0_1 h_S_) main_v14 main_c_3
  let main_v16 : IVec S_ 1 := andi main_v10 main_v15
  let main_v17 : FVec F S8448x1024 .f32 := (extf .f32 · bitsLt_bf16_f32) main_arg3
  fn_part1 (F := F) main_v16 main_v17
-- ==== Kernel.lean ====
abbrev S8448x1024 : Shape := ⟨2, ![8448, 1024]⟩
abbrev S8448x256 : Shape := ⟨2, ![8448, 256]⟩
abbrev S8448x2x4x128 : Shape := ⟨4, ![8448, 2, 4, 128]⟩
abbrev S8448x2x128 : Shape := ⟨3, ![8448, 2, 128]⟩
abbrev S2x8448x8448x4 : Shape := ⟨4, ![2, 8448, 8448, 4]⟩
abbrev S2x4x8448x8448 : Shape := ⟨4, ![2, 4, 8448, 8448]⟩
abbrev S_ : Shape := ⟨0, ![]⟩
abbrev S2x4x8448 : Shape := ⟨3, ![2, 4, 8448]⟩
abbrev S2x4x8448x1 : Shape := ⟨4, ![2, 4, 8448, 1]⟩
abbrev S2x128x4x8448 : Shape := ⟨4, ![2, 128, 4, 8448]⟩
abbrev S8448x2x4 : Shape := ⟨3, ![8448, 2, 4]⟩
abbrev S768x512 : Shape := ⟨2, ![768, 512]⟩
abbrev S1408x128 : Shape := ⟨2, ![1408, 128]⟩
abbrev S1x4x768 : Shape := ⟨3, ![1, 4, 768]⟩
abbrev S8448x128 : Shape := ⟨2, ![8448, 128]⟩
abbrev S3072x128 : Shape := ⟨2, ![3072, 128]⟩
abbrev S128x3072 : Shape := ⟨2, ![128, 3072]⟩
abbrev S768x128 : Shape := ⟨2, ![768, 128]⟩
abbrev S1408x768 : Shape := ⟨2, ![1408, 768]⟩
abbrev S1x1x768 : Shape := ⟨3, ![1, 1, 768]⟩
abbrev S1x768 : Shape := ⟨2, ![1, 768]⟩
abbrev S128x768 : Shape := ⟨2, ![128, 768]⟩

abbrev nBuf : Space → Nat
  | .hbm => 60
  | .vmem => 21
  | .smem => 0
  | _ => 0

abbrev bufTy : (tb : Table) → Fin (tcTables nBuf tb) → BufTy
  | .hbm, ⟨0, _⟩ => ⟨S8448x1024, .bf16⟩
  | .hbm, ⟨1, _⟩ => ⟨S8448x256, .bf16⟩
  | .hbm, ⟨2, _⟩ => ⟨S8448x256, .bf16⟩
  | .hbm, ⟨3, _⟩ => ⟨S8448x1024, .bf16⟩
  | .hbm, ⟨4, _⟩ => ⟨S8448x1024, .f32⟩
  | .hbm, ⟨5, _⟩ => ⟨S8448x2x4x128, .f32⟩
  | .hbm, ⟨6, _⟩ => ⟨S8448x256, .f32⟩
  | .hbm, ⟨7, _⟩ => ⟨S8448x2x128, .f32⟩
  | .hbm, ⟨8, _⟩ => ⟨S8448x256, .f32⟩
  | .hbm, ⟨9, _⟩ => ⟨S8448x2x128, .f32⟩
  | .hbm, ⟨10, _⟩ => ⟨S2x8448x8448x4, .f32⟩
  | .hbm, ⟨11, _⟩ => ⟨S2x4x8448x8448, .f32⟩
  | .hbm, ⟨12, _⟩ => ⟨S_, .f32⟩
  | .hbm, ⟨13, _⟩ => ⟨S2x4x8448x8448, .f32⟩
  | .hbm, ⟨14, _⟩ => ⟨S2x4x8448x8448, .f32⟩
  | .hbm, ⟨15, _⟩ => ⟨S_, .f32⟩
  | .hbm, ⟨16, _⟩ => ⟨S2x4x8448, .f32⟩
  | .hbm, ⟨17, _⟩ => ⟨S2x4x8448x1, .f32⟩
  | .hbm, ⟨18, _⟩ => ⟨S2x4x8448x8448, .f32⟩
  | .hbm, ⟨19, _⟩ => ⟨S2x4x8448x8448, .f32⟩
  | .hbm, ⟨20, _⟩ => ⟨S2x4x8448x8448, .f32⟩
  | .hbm, ⟨21, _⟩ => ⟨S_, .f32⟩
  | .hbm, ⟨22, _⟩ => ⟨S2x4x8448, .f32⟩
  | .hbm, ⟨23, _⟩ => ⟨S2x4x8448, .f32⟩
  | .hbm, ⟨24, _⟩ => ⟨S2x4x8448, .f32⟩
  | .hbm, ⟨25, _⟩ => ⟨S_, .f32⟩
  | .hbm, ⟨26, _⟩ => ⟨S_, .f32⟩
  | .hbm, ⟨27, _⟩ => ⟨S2x4x8448, .f32⟩
  | .hbm, ⟨28, _⟩ => ⟨S2x4x8448, .f32⟩
  | .hbm, ⟨29, _⟩ => ⟨S2x8448x8448x4, .f32⟩
  | .hbm, ⟨30, _⟩ => ⟨S2x4x8448x8448, .f32⟩
  | .hbm, ⟨31, _⟩ => ⟨S_, .f32⟩
  | .hbm, ⟨32, _⟩ => ⟨S2x4x8448x8448, .f32⟩
  | .hbm, ⟨33, _⟩ => ⟨S2x4x8448x8448, .f32⟩
  | .hbm, ⟨34, _⟩ => ⟨S_, .f32⟩
  | .hbm, ⟨35, _⟩ => ⟨S2x4x8448, .f32⟩
  | .hbm, ⟨36, _⟩ => ⟨S_, .f32⟩
  | .hbm, ⟨37, _⟩ => ⟨S2x4x8448, .f32⟩
  | .hbm, ⟨38, _⟩ => ⟨S2x4x8448, .f32⟩
  | .hbm, ⟨39, _⟩ => ⟨S2x4x8448x1, .f32⟩
  | .hbm, ⟨40, _⟩ => ⟨S2x4x8448x8448, .f32⟩
  | .hbm, ⟨41, _⟩ => ⟨S2x4x8448x8448, .f32⟩
  | .hbm, ⟨42, _⟩ => ⟨S2x4x8448x8448, .f32⟩
  | .hbm, ⟨43, _⟩ => ⟨S_, .f32⟩
  | .hbm, ⟨44, _⟩ => ⟨S2x4x8448, .f32⟩
  | .hbm, ⟨45, _⟩ => ⟨S2x4x8448x1, .f32⟩
  | .hbm, ⟨46, _⟩ => ⟨S2x4x8448x8448, .f32⟩
  | .hbm, ⟨47, _⟩ => ⟨S2x4x8448x8448, .f32⟩
  | .hbm, ⟨48, _⟩ => ⟨S2x128x4x8448, .f32⟩
  | .hbm, ⟨49, _⟩ => ⟨S8448x2x4x128, .f32⟩
  | .hbm, ⟨50, _⟩ => ⟨S8448x1024, .f32⟩
  | .hbm, ⟨51, _⟩ => ⟨S8448x1024, .f32⟩
  | .hbm, ⟨52, _⟩ => ⟨S8448x1024, .f32⟩
  | .hbm, ⟨53, _⟩ => ⟨S8448x2x4x128, .f32⟩
  | .hbm, ⟨54, _⟩ => ⟨S_, .f32⟩
  | .hbm, ⟨55, _⟩ => ⟨S8448x2x4, .f32⟩
  | .hbm, ⟨56, _⟩ => ⟨S2x4x8448, .f32⟩
  | .hbm, ⟨57, _⟩ => ⟨S8448x1024, .f32⟩
  | .hbm, ⟨58, _⟩ => ⟨S8448x256, .f32⟩
  | .hbm, ⟨59, _⟩ => ⟨S8448x256, .f32⟩
  | .local _ .vmem, ⟨0, _⟩ => ⟨S768x512, .bf16⟩
  | .local _ .vmem, ⟨1, _⟩ => ⟨S768x512, .bf16⟩
  | .local _ .vmem, ⟨2, _⟩ => ⟨S768x512, .bf16⟩
  | .local _ .vmem, ⟨3, _⟩ => ⟨S768x512, .bf16⟩
  | .local _ .vmem, ⟨4, _⟩ => ⟨S1408x128, .bf16⟩
  | .local _ .vmem, ⟨5, _⟩ => ⟨S1408x128, .bf16⟩
  | .local _ .vmem, ⟨6, _⟩ => ⟨S1408x128, .bf16⟩
  | .local _ .vmem, ⟨7, _⟩ => ⟨S1408x128, .bf16⟩
  | .local _ .vmem, ⟨8, _⟩ => ⟨S1x4x768, .f32⟩
  | .local _ .vmem, ⟨9, _⟩ => ⟨S1x4x768, .f32⟩
  | .local _ .vmem, ⟨10, _⟩ => ⟨S1x4x768, .f32⟩
  | .local _ .vmem, ⟨11, _⟩ => ⟨S1x4x768, .f32⟩
  | .local _ .vmem, ⟨12, _⟩ => ⟨S768x512, .f32⟩
  | .local _ .vmem, ⟨13, _⟩ => ⟨S768x512, .f32⟩
  | .local _ .vmem, ⟨14, _⟩ => ⟨S8448x128, .f32⟩
  | .local _ .vmem, ⟨15, _⟩ => ⟨S8448x128, .f32⟩
  | .local _ .vmem, ⟨16, _⟩ => ⟨S8448x128, .f32⟩
  | .local _ .vmem, ⟨17, _⟩ => ⟨S8448x128, .f32⟩
  | .local _ .vmem, ⟨18, _⟩ => ⟨S3072x128, .bf16⟩
  | .local _ .vmem, ⟨19, _⟩ => ⟨S3072x128, .bf16⟩
  | .local _ .vmem, ⟨20, _⟩ => ⟨S128x3072, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_6 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_7 : Ref sig .tc := ⟨.hbm, 54, rfl⟩
abbrev main_v42 : Ref sig .tc := ⟨.hbm, 55, rfl⟩
abbrev main_v43 : Ref sig .tc := ⟨.hbm, 56, rfl⟩
abbrev main_v44_0 : Ref sig .tc := ⟨.hbm, 57, rfl⟩
abbrev main_v44_1 : Ref sig .tc := ⟨.hbm, 58, rfl⟩
abbrev main_v44_2 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 11, 6], ![false, false, false]⟩

def k0_mult1 (i : grid0.Coords) : BitVec 32 :=
  let arg2 : BitVec 32 := BitVec.ofNat 32 (i 2).val
  let c1408_i32 : BitVec 32 := 1408#32
  let v135 : BitVec 32 := Scalar.muli arg2 c1408_i32
  v135
def k0_cond2 (i : grid0.Coords) : BitVec 1 :=
  let arg1 : BitVec 32 := BitVec.ofNat 32 (i 1).val
  let c0_i32_99 : BitVec 32 := 0#32
  let v137 : BitVec 1 := Scalar.cmpi .eq arg1 c0_i32_99
  let v138 : BitVec 32 := Scalar.extui v137
  let c0_i32_100 : BitVec 32 := 0#32
  let v139 : BitVec 1 := Scalar.cmpi .ne v138 c0_i32_100
  v139

def k0_off1 (i : grid0.Coords) : Fin 2 → Nat :=
  let arg2 : BitVec 32 := BitVec.ofNat 32 (i 2).val
  let c1408_i32 : BitVec 32 := 1408#32
  let v135 : BitVec 32 := Scalar.muli arg2 c1408_i32
  let v136 : BitVec 32 := v135
  let v146 : Index := Scalar.indexCast v136
  let c0_104 : Index := 0#32
  ![v146.toNat, 0]
def k0_cond3 (i : grid0.Coords) : BitVec 1 :=
  let arg1 : BitVec 32 := BitVec.ofNat 32 (i 1).val
  let c0_i32_101 : BitVec 32 := 0#32
  let v140 : BitVec 1 := Scalar.cmpi .sgt arg1 c0_i32_101
  let v141 : BitVec 32 := Scalar.extui v140
  let c0_i32_102 : BitVec 32 := 0#32
  let v142 : BitVec 1 := Scalar.cmpi .ne v141 c0_i32_102
  v142

def k0_off2 (i : grid0.Coords) : Fin 2 → Nat :=
  let arg2 : BitVec 32 := BitVec.ofNat 32 (i 2).val
  let c1408_i32 : BitVec 32 := 1408#32
  let v135 : BitVec 32 := Scalar.muli arg2 c1408_i32
  let v136 : BitVec 32 := v135
  let v146 : Index := Scalar.indexCast v136
  let c0_104 : Index := 0#32
  ![v146.toNat, 0]
def k0_cond4 (i : grid0.Coords) : BitVec 1 :=
  let arg2 : BitVec 32 := BitVec.ofNat 32 (i 2).val
  let c5_i32 : BitVec 32 := 5#32
  let v143 : BitVec 1 := Scalar.cmpi .eq arg2 c5_i32
  let v144 : BitVec 32 := Scalar.extui v143
  let c0_i32_103 : BitVec 32 := 0#32
  let v145 : BitVec 1 := Scalar.cmpi .ne v144 c0_i32_103
  v145

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S768x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S768x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1408x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1408x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x4x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x4x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S768x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S8448x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S8448x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]
-- ==== KernelIdeal.lean ====
variable {F : FTy → Type} [FloatOps F] [Named F]
def κ : String → Option EReal := fun
  | "scale_log2e" => some (((11863283 / 134217728) * (Real.log 2)⁻¹ : ℝ) : EReal)
  | _ => none
-- ==== ReferenceIdeal.lean ====
abbrev S8448x1024 : Shape := ⟨2, ![8448, 1024]⟩
abbrev S8448x256 : Shape := ⟨2, ![8448, 256]⟩
abbrev S8448x2x4x128 : Shape := ⟨4, ![8448, 2, 4, 128]⟩
abbrev S8448x2x128 : Shape := ⟨3, ![8448, 2, 128]⟩
abbrev S2x8448x8448x4 : Shape := ⟨4, ![2, 8448, 8448, 4]⟩
abbrev S2x4x8448x8448 : Shape := ⟨4, ![2, 4, 8448, 8448]⟩
abbrev S_ : Shape := ⟨0, ![]⟩
abbrev S2x4x8448 : Shape := ⟨3, ![2, 4, 8448]⟩
abbrev S2x4x8448x1 : Shape := ⟨4, ![2, 4, 8448, 1]⟩
abbrev S2x128x4x8448 : Shape := ⟨4, ![2, 128, 4, 8448]⟩
abbrev S2x128x8448 : Shape := ⟨3, ![2, 128, 8448]⟩
abbrev S2x8448x4x128 : Shape := ⟨4, ![2, 8448, 4, 128]⟩
abbrev S2x8448x128 : Shape := ⟨3, ![2, 8448, 128]⟩

abbrev nBuf : Space → Nat
  | .hbm => 87
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x256, .bf16⟩
  | .hbm, ⟨2, _⟩ => ⟨S8448x256, .bf16⟩
  | .hbm, ⟨3, _⟩ => ⟨S8448x1024, .bf16⟩
  | .hbm, ⟨4, _⟩ => ⟨S8448x1024, .f32⟩
  | .hbm, ⟨5, _⟩ => ⟨S8448x256, .f32⟩
  | .hbm, ⟨6, _⟩ => ⟨S8448x256, .f32⟩
  | .hbm, ⟨7, _⟩ => ⟨S8448x2x4x128, .f32⟩
  | .hbm, ⟨8, _⟩ => ⟨S8448x2x128, .f32⟩
  | .hbm, ⟨9, _⟩ => ⟨S8448x2x128, .f32⟩
  | .hbm, ⟨10, _⟩ => ⟨S2x8448x8448x4, .f32⟩
  | .hbm, ⟨11, _⟩ => ⟨S2x4x8448x8448, .f32⟩
  | .hbm, ⟨12, _⟩ => ⟨S_, .f32⟩
  | .hbm, ⟨13, _⟩ => ⟨S2x4x8448x8448, .f32⟩
  | .hbm, ⟨14, _⟩ => ⟨S2x4x8448x8448, .f32⟩
  | .hbm, ⟨15, _⟩ => ⟨S_, .f32⟩
  | .hbm, ⟨16, _⟩ => ⟨S2x4x8448, .f32⟩
  | .hbm, ⟨17, _⟩ => ⟨S2x4x8448x1, .f32⟩
  | .hbm, ⟨18, _⟩ => ⟨S2x4x8448x8448, .f32⟩
  | .hbm, ⟨19, _⟩ => ⟨S2x4x8448x8448, .i1⟩
  | .hbm, ⟨20, _⟩ => ⟨S2x4x8448x8448, .f32⟩
  | .hbm, ⟨21, _⟩ => ⟨S_, .f32⟩
  | .hbm, ⟨22, _⟩ => ⟨S2x4x8448, .f32⟩
  | .hbm, ⟨23, _⟩ => ⟨S_, .f32⟩
  | .hbm, ⟨24, _⟩ => ⟨S2x4x8448, .f32⟩
  | .hbm, ⟨25, _⟩ => ⟨S2x4x8448, .f32⟩
  | .hbm, ⟨26, _⟩ => ⟨S_, .f32⟩
  | .hbm, ⟨27, _⟩ => ⟨S2x4x8448, .f32⟩
  | .hbm, ⟨28, _⟩ => ⟨S2x4x8448, .i1⟩
  | .hbm, ⟨29, _⟩ => ⟨S_, .f32⟩
  | .hbm, ⟨30, _⟩ => ⟨S2x4x8448, .f32⟩
  | .hbm, ⟨31, _⟩ => ⟨S2x4x8448, .i1⟩
  | .hbm, ⟨32, _⟩ => ⟨S_, .f32⟩
  | .hbm, ⟨33, _⟩ => ⟨S2x4x8448, .f32⟩
  | .hbm, ⟨34, _⟩ => ⟨S_, .f32⟩
  | .hbm, ⟨35, _⟩ => ⟨S2x4x8448, .f32⟩
  | .hbm, ⟨36, _⟩ => ⟨S_, .f32⟩
  | .hbm, ⟨37, _⟩ => ⟨S2x4x8448, .f32⟩
  | .hbm, ⟨38, _⟩ => ⟨S2x4x8448, .f32⟩
  | .hbm, ⟨39, _⟩ => ⟨S2x4x8448, .f32⟩
  | .hbm, ⟨40, _⟩ => ⟨S2x4x8448x1, .f32⟩
  | .hbm, ⟨41, _⟩ => ⟨S2x4x8448x8448, .f32⟩
  | .hbm, ⟨42, _⟩ => ⟨S2x4x8448x8448, .f32⟩
  | .hbm, ⟨43, _⟩ => ⟨S2x4x8448x8448, .f32⟩
  | .hbm, ⟨44, _⟩ => ⟨S_, .f32⟩
  | .hbm, ⟨45, _⟩ => ⟨S2x4x8448, .f32⟩
  | .hbm, ⟨46, _⟩ => ⟨S2x4x8448x1, .f32⟩
  | .hbm, ⟨47, _⟩ => ⟨S2x4x8448x8448, .f32⟩
  | .hbm, ⟨48, _⟩ => ⟨S2x4x8448x8448, .f32⟩
  | .hbm, ⟨49, _⟩ => ⟨S2x4x8448x1, .f32⟩
  | .hbm, ⟨50, _⟩ => ⟨S_, .f32⟩
  | .hbm, ⟨51, _⟩ => ⟨S2x4x8448x1, .f32⟩
  | .hbm, ⟨52, _⟩ => ⟨S2x4x8448x1, .f32⟩
  | .hbm, ⟨53, _⟩ => ⟨S2x128x4x8448, .f32⟩
  | .hbm, ⟨54, _⟩ => ⟨S8448x2x4x128, .f32⟩
  | .hbm, ⟨55, _⟩ => ⟨S8448x1024, .f32⟩
  | .hbm, ⟨56, _⟩ => ⟨S8448x1024, .f32⟩
  | .hbm, ⟨57, _⟩ => ⟨S8448x2x4x128, .f32⟩
  | .hbm, ⟨58, _⟩ => ⟨S2x128x4x8448, .f32⟩
  | .hbm, ⟨59, _⟩ => ⟨S2x4x8448x8448, .f32⟩
  | .hbm, ⟨60, _⟩ => ⟨S2x128x8448, .f32⟩
  | .hbm, ⟨61, _⟩ => ⟨S8448x2x128, .f32⟩
  | .hbm, ⟨62, _⟩ => ⟨S2x4x8448x8448, .f32⟩
  | .hbm, ⟨63, _⟩ => ⟨S2x4x8448x8448, .f32⟩
  | .hbm, ⟨64, _⟩ => ⟨S2x4x8448x8448, .f32⟩
  | .hbm, ⟨65, _⟩ => ⟨S_, .f32⟩
  | .hbm, ⟨66, _⟩ => ⟨S2x4x8448, .f32⟩
  | .hbm, ⟨67, _⟩ => ⟨S2x4x8448x1, .f32⟩
  | .hbm, ⟨68, _⟩ => ⟨S2x4x8448x1, .f32⟩
  | .hbm, ⟨69, _⟩ => ⟨S2x4x8448x8448, .f32⟩
  | .hbm, ⟨70, _⟩ => ⟨S2x4x8448x8448, .f32⟩
  | .hbm, ⟨71, _⟩ => ⟨S_, .f32⟩
  | .hbm, ⟨72, _⟩ => ⟨S2x4x8448, .f32⟩
  | .hbm, ⟨73, _⟩ => ⟨S2x4x8448x8448, .f32⟩
  | .hbm, ⟨74, _⟩ => ⟨S2x4x8448x8448, .f32⟩
  | .hbm, ⟨75, _⟩ => ⟨S2x4x8448x8448, .f32⟩
  | .hbm, ⟨76, _⟩ => ⟨S_, .f32⟩
  | .hbm, ⟨77, _⟩ => ⟨S2x4x8448x8448, .f32⟩
  | .hbm, ⟨78, _⟩ => ⟨S2x4x8448x8448, .f32⟩
  | .hbm, ⟨79, _⟩ => ⟨S2x8448x8448x4, .f32⟩
  | .hbm, ⟨80, _⟩ => ⟨S2x8448x4x128, .f32⟩
  | .hbm, ⟨81, _⟩ => ⟨S8448x2x4x128, .f32⟩
  | .hbm, ⟨82, _⟩ => ⟨S2x8448x128, .f32⟩
  | .hbm, ⟨83, _⟩ => ⟨S8448x2x128, .f32⟩
  | .hbm, ⟨84, _⟩ => ⟨S8448x256, .f32⟩
  | .hbm, ⟨85, _⟩ => ⟨S8448x256, .f32⟩
  | .hbm, ⟨86, _⟩ => ⟨S8448x1024, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_10 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_11 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_12 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩

abbrev nD : Nat := 1
abbrev τ : Topo := Topo.v7x

variable {F : FTy → Type} [FloatOps F]
-- ==== Kernel2.lean ====
abbrev S8448x2816 : Shape := ⟨2, ![8448, 2816]⟩
abbrev S8448x1024 : Shape := ⟨2, ![8448, 1024]⟩
abbrev S2816x1024 : Shape := ⟨2, ![2816, 1024]⟩
abbrev S2816x1408 : Shape := ⟨2, ![2816, 1408]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8448x2816, .bf16⟩
  | .hbm, ⟨1, _⟩ => ⟨S8448x1024, .bf16⟩
  | .hbm, ⟨2, _⟩ => ⟨S2816x1024, .bf16⟩
  | .local _ .vmem, ⟨0, _⟩ => ⟨S2816x1408, .bf16⟩
  | .local _ .vmem, ⟨1, _⟩ => ⟨S2816x1408, .bf16⟩
  | .local _ .vmem, ⟨2, _⟩ => ⟨S2816x1024, .bf16⟩
  | .local _ .vmem, ⟨3, _⟩ => ⟨S2816x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8448x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 3], ![false, false]⟩

def k0_cond3 (i : grid0.Coords) : BitVec 1 :=
  let arg1 : BitVec 32 := BitVec.ofNat 32 (i 1).val
  let c2_i32 : BitVec 32 := 2#32
  let v9 : BitVec 1 := Scalar.cmpi .eq arg1 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2816x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference2Ideal.lean ====
abbrev S8448x2816 : Shape := ⟨2, ![8448, 2816]⟩
abbrev S8448x1024 : Shape := ⟨2, ![8448, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8448x2816, .bf16⟩
  | .hbm, ⟨1, _⟩ => ⟨S8448x1024, .bf16⟩
  | .hbm, ⟨2, _⟩ => ⟨S_, .f32⟩
  | .hbm, ⟨3, _⟩ => ⟨S2816x1024, .f32⟩
  | .hbm, ⟨4, _⟩ => ⟨S8448x2816, .f32⟩
  | .hbm, ⟨5, _⟩ => ⟨S8448x1024, .f32⟩
  | .hbm, ⟨6, _⟩ => ⟨S8448x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S8448x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S8448x5632 : Shape := ⟨2, ![8448, 5632]⟩
abbrev S8448x1024 : Shape := ⟨2, ![8448, 1024]⟩
abbrev S5632x1024 : Shape := ⟨2, ![5632, 1024]⟩
abbrev S2816x1408 : Shape := ⟨2, ![2816, 1408]⟩
abbrev S2816x1024 : Shape := ⟨2, ![2816, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8448x5632, .bf16⟩
  | .hbm, ⟨1, _⟩ => ⟨S8448x1024, .bf16⟩
  | .hbm, ⟨2, _⟩ => ⟨S5632x1024, .bf16⟩
  | .local _ .vmem, ⟨0, _⟩ => ⟨S2816x1408, .bf16⟩
  | .local _ .vmem, ⟨1, _⟩ => ⟨S2816x1408, .bf16⟩
  | .local _ .vmem, ⟨2, _⟩ => ⟨S2816x1024, .bf16⟩
  | .local _ .vmem, ⟨3, _⟩ => ⟨S2816x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8448x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 3], ![false, false]⟩

def k0_cond3 (i : grid0.Coords) : BitVec 1 :=
  let arg1 : BitVec 32 := BitVec.ofNat 32 (i 1).val
  let c2_i32 : BitVec 32 := 2#32
  let v9 : BitVec 1 := Scalar.cmpi .eq arg1 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2816x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S8448x5632 : Shape := ⟨2, ![8448, 5632]⟩
abbrev S8448x1024 : Shape := ⟨2, ![8448, 1024]⟩
abbrev S_ : Shape := ⟨0, ![]⟩
abbrev S5632x1024 : Shape := ⟨2, ![5632, 1024]⟩
abbrev S1024x5632 : Shape := ⟨2, ![1024, 5632]⟩

abbrev nBuf : Space → Nat
  | .hbm => 12
  | .vmem => 0
  | .smem => 0
  | _ => 0

abbrev bufTy : (tb : Table) → Fin (tcTables nBuf tb) → BufTy
  | .hbm, ⟨0, _⟩ => ⟨S8448x5632, .bf16⟩
  | .hbm, ⟨1, _⟩ => ⟨S8448x1024, .bf16⟩
  | .hbm, ⟨2, _⟩ => ⟨S_, .f32⟩
  | .hbm, ⟨3, _⟩ => ⟨S5632x1024, .f32⟩
  | .hbm, ⟨4, _⟩ => ⟨S8448x1024, .f32⟩
  | .hbm, ⟨5, _⟩ => ⟨S1024x5632, .f32⟩
  | .hbm, ⟨6, _⟩ => ⟨S8448x5632, .f32⟩
  | .hbm, ⟨7, _⟩ => ⟨S8448x5632, .f32⟩
  | .hbm, ⟨8, _⟩ => ⟨S5632x1024, .f32⟩
  | .hbm, ⟨9, _⟩ => ⟨S1024x5632, .f32⟩
  | .hbm, ⟨10, _⟩ => ⟨S5632x1024, .f32⟩
  | .hbm, ⟨11, _⟩ => ⟨S5632x1024, .bf16⟩
  | _, _ => ⟨S8448x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel4.lean ====
abbrev S8448x3072 : Shape := ⟨2, ![8448, 3072]⟩
abbrev S8448x1024 : Shape := ⟨2, ![8448, 1024]⟩
abbrev S3072x1024 : Shape := ⟨2, ![3072, 1024]⟩
abbrev S2816x1024 : Shape := ⟨2, ![2816, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8448x3072, .bf16⟩
  | .hbm, ⟨1, _⟩ => ⟨S8448x1024, .bf16⟩
  | .hbm, ⟨2, _⟩ => ⟨S3072x1024, .bf16⟩
  | .local _ .vmem, ⟨0, _⟩ => ⟨S2816x1024, .bf16⟩
  | .local _ .vmem, ⟨1, _⟩ => ⟨S2816x1024, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8448x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 3], ![false, false]⟩

def k0_cond3 (i : grid0.Coords) : BitVec 1 :=
  let arg1 : BitVec 32 := BitVec.ofNat 32 (i 1).val
  let c2_i32 : BitVec 32 := 2#32
  let v9 : BitVec 1 := Scalar.cmpi .eq arg1 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2816x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S8448x3072 : Shape := ⟨2, ![8448, 3072]⟩
abbrev S8448x1024 : Shape := ⟨2, ![8448, 1024]⟩
abbrev S_ : Shape := ⟨0, ![]⟩
abbrev S3072x1024 : Shape := ⟨2, ![3072, 1024]⟩
abbrev S1024x3072 : Shape := ⟨2, ![1024, 3072]⟩

abbrev nBuf : Space → Nat
  | .hbm => 12
  | .vmem => 0
  | .smem => 0
  | _ => 0

abbrev bufTy : (tb : Table) → Fin (tcTables nBuf tb) → BufTy
  | .hbm, ⟨0, _⟩ => ⟨S8448x3072, .bf16⟩
  | .hbm, ⟨1, _⟩ => ⟨S8448x1024, .bf16⟩
  | .hbm, ⟨2, _⟩ => ⟨S_, .f32⟩
  | .hbm, ⟨3, _⟩ => ⟨S3072x1024, .f32⟩
  | .hbm, ⟨4, _⟩ => ⟨S8448x1024, .f32⟩
  | .hbm, ⟨5, _⟩ => ⟨S1024x3072, .f32⟩
  | .hbm, ⟨6, _⟩ => ⟨S8448x3072, .f32⟩
  | .hbm, ⟨7, _⟩ => ⟨S8448x3072, .f32⟩
  | .hbm, ⟨8, _⟩ => ⟨S3072x1024, .f32⟩
  | .hbm, ⟨9, _⟩ => ⟨S1024x3072, .f32⟩
  | .hbm, ⟨10, _⟩ => ⟨S3072x1024, .f32⟩
  | .hbm, ⟨11, _⟩ => ⟨S3072x1024, .bf16⟩
  | _, _ => ⟨S8448x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel5.lean ====
abbrev S8448x2048 : Shape := ⟨2, ![8448, 2048]⟩
abbrev S8448x1024 : Shape := ⟨2, ![8448, 1024]⟩
abbrev S2048x1024 : Shape := ⟨2, ![2048, 1024]⟩
abbrev S2816x1024 : Shape := ⟨2, ![2816, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8448x2048, .bf16⟩
  | .hbm, ⟨1, _⟩ => ⟨S8448x1024, .bf16⟩
  | .hbm, ⟨2, _⟩ => ⟨S2048x1024, .bf16⟩
  | .local _ .vmem, ⟨0, _⟩ => ⟨S2816x1024, .bf16⟩
  | .local _ .vmem, ⟨1, _⟩ => ⟨S2816x1024, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 3], ![false, false]⟩

def k0_cond3 (i : grid0.Coords) : BitVec 1 :=
  let arg1 : BitVec 32 := BitVec.ofNat 32 (i 1).val
  let c2_i32 : BitVec 32 := 2#32
  let v9 : BitVec 1 := Scalar.cmpi .eq arg1 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2816x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference5Ideal.lean ====
abbrev S8448x2048 : Shape := ⟨2, ![8448, 2048]⟩
abbrev S8448x1024 : Shape := ⟨2, ![8448, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 12
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S8448x1024, .bf16⟩
  | .hbm, ⟨2, _⟩ => ⟨S_, .f32⟩
  | .hbm, ⟨3, _⟩ => ⟨S2048x1024, .f32⟩
  | .hbm, ⟨4, _⟩ => ⟨S8448x1024, .f32⟩
  | .hbm, ⟨5, _⟩ => ⟨S1024x2048, .f32⟩
  | .hbm, ⟨6, _⟩ => ⟨S8448x2048, .f32⟩
  | .hbm, ⟨7, _⟩ => ⟨S8448x2048, .f32⟩
  | .hbm, ⟨8, _⟩ => ⟨S2048x1024, .f32⟩
  | .hbm, ⟨9, _⟩ => ⟨S1024x2048, .f32⟩
  | .hbm, ⟨10, _⟩ => ⟨S2048x1024, .f32⟩
  | .hbm, ⟨11, _⟩ => ⟨S2048x1024, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel6.lean ====
abbrev S8448x1536 : Shape := ⟨2, ![8448, 1536]⟩
abbrev S8448x1024 : Shape := ⟨2, ![8448, 1024]⟩
abbrev S1536x1024 : Shape := ⟨2, ![1536, 1024]⟩
abbrev S2816x512 : Shape := ⟨2, ![2816, 512]⟩
abbrev S2816x1024 : Shape := ⟨2, ![2816, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8448x1536, .bf16⟩
  | .hbm, ⟨1, _⟩ => ⟨S8448x1024, .bf16⟩
  | .hbm, ⟨2, _⟩ => ⟨S1536x1024, .bf16⟩
  | .local _ .vmem, ⟨0, _⟩ => ⟨S2816x512, .bf16⟩
  | .local _ .vmem, ⟨1, _⟩ => ⟨S2816x512, .bf16⟩
  | .local _ .vmem, ⟨2, _⟩ => ⟨S2816x1024, .bf16⟩
  | .local _ .vmem, ⟨3, _⟩ => ⟨S2816x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8448x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 3], ![false, false]⟩

def k0_cond3 (i : grid0.Coords) : BitVec 1 :=
  let arg1 : BitVec 32 := BitVec.ofNat 32 (i 1).val
  let c2_i32 : BitVec 32 := 2#32
  let v9 : BitVec 1 := Scalar.cmpi .eq arg1 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2816x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference6Ideal.lean ====
abbrev S8448x1536 : Shape := ⟨2, ![8448, 1536]⟩
abbrev S8448x1024 : Shape := ⟨2, ![8448, 1024]⟩
abbrev S_ : Shape := ⟨0, ![]⟩
abbrev S1536x1024 : Shape := ⟨2, ![1536, 1024]⟩
abbrev S1024x1536 : Shape := ⟨2, ![1024, 1536]⟩

abbrev nBuf : Space → Nat
  | .hbm => 12
  | .vmem => 0
  | .smem => 0
  | _ => 0

abbrev bufTy : (tb : Table) → Fin (tcTables nBuf tb) → BufTy
  | .hbm, ⟨0, _⟩ => ⟨S8448x1536, .bf16⟩
  | .hbm, ⟨1, _⟩ => ⟨S8448x1024, .bf16⟩
  | .hbm, ⟨2, _⟩ => ⟨S_, .f32⟩
  | .hbm, ⟨3, _⟩ => ⟨S1536x1024, .f32⟩
  | .hbm, ⟨4, _⟩ => ⟨S8448x1024, .f32⟩
  | .hbm, ⟨5, _⟩ => ⟨S1024x1536, .f32⟩
  | .hbm, ⟨6, _⟩ => ⟨S8448x1536, .f32⟩
  | .hbm, ⟨7, _⟩ => ⟨S8448x1536, .f32⟩
  | .hbm, ⟨8, _⟩ => ⟨S1536x1024, .f32⟩
  | .hbm, ⟨9, _⟩ => ⟨S1024x1536, .f32⟩
  | .hbm, ⟨10, _⟩ => ⟨S1536x1024, .f32⟩
  | .hbm, ⟨11, _⟩ => ⟨S1536x1024, .bf16⟩
  | _, _ => ⟨S8448x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel7.lean ====
abbrev S8448x1024 : Shape := ⟨2, ![8448, 1024]⟩
abbrev S1024x1024 : Shape := ⟨2, ![1024, 1024]⟩
abbrev S2816x1024 : Shape := ⟨2, ![2816, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S1024x1024, .bf16⟩
  | .local _ .vmem, ⟨0, _⟩ => ⟨S2816x1024, .bf16⟩
  | .local _ .vmem, ⟨1, _⟩ => ⟨S2816x1024, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .bf16⟩
  | .local _ .vmem, ⟨5, _⟩ => ⟨S1024x1024, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 3], ![false, false]⟩

def k0_cond3 (i : grid0.Coords) : BitVec 1 :=
  let arg1 : BitVec 32 := BitVec.ofNat 32 (i 1).val
  let c2_i32 : BitVec 32 := 2#32
  let v9 : BitVec 1 := Scalar.cmpi .eq arg1 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2816x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference7Ideal.lean ====
abbrev S8448x1024 : Shape := ⟨2, ![8448, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S_, .f32⟩
  | .hbm, ⟨3, _⟩ => ⟨S1024x1024, .f32⟩
  | .hbm, ⟨4, _⟩ => ⟨S8448x1024, .f32⟩
  | .hbm, ⟨5, _⟩ => ⟨S8448x1024, .f32⟩
  | .hbm, ⟨6, _⟩ => ⟨S8448x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S8448x1024 : Shape := ⟨2, ![8448, 1024]⟩
abbrev S1024x1024 : Shape := ⟨2, ![1024, 1024]⟩
abbrev S2816x1024 : Shape := ⟨2, ![2816, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .f32⟩
  | .hbm, ⟨1, _⟩ => ⟨S8448x1024, .bf16⟩
  | .hbm, ⟨2, _⟩ => ⟨S1024x1024, .bf16⟩
  | .local _ .vmem, ⟨0, _⟩ => ⟨S2816x1024, .f32⟩
  | .local _ .vmem, ⟨1, _⟩ => ⟨S2816x1024, .f32⟩
  | .local _ .vmem, ⟨2, _⟩ => ⟨S2816x1024, .bf16⟩
  | .local _ .vmem, ⟨3, _⟩ => ⟨S2816x1024, .bf16⟩
  | .local _ .vmem, ⟨4, _⟩ => ⟨S1024x1024, .bf16⟩
  | .local _ .vmem, ⟨5, _⟩ => ⟨S1024x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 3], ![false, false]⟩

def k0_cond3 (i : grid0.Coords) : BitVec 1 :=
  let arg1 : BitVec 32 := BitVec.ofNat 32 (i 1).val
  let c2_i32 : BitVec 32 := 2#32
  let v10 : BitVec 1 := Scalar.cmpi .eq arg1 c2_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2816x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference8Ideal.lean ====
abbrev S8448x1024 : Shape := ⟨2, ![8448, 1024]⟩
abbrev S_ : Shape := ⟨0, ![]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x1024, .bf16⟩
  | .hbm, ⟨2, _⟩ => ⟨S8448x1024, .bf16⟩
  | .hbm, ⟨3, _⟩ => ⟨S_, .f32⟩
  | .hbm, ⟨4, _⟩ => ⟨S1024x1024, .f32⟩
  | .hbm, ⟨5, _⟩ => ⟨S8448x1024, .f32⟩
  | .hbm, ⟨6, _⟩ => ⟨S8448x1024, .f32⟩
  | .hbm, ⟨7, _⟩ => ⟨S8448x1024, .f32⟩
  | .hbm, ⟨8, _⟩ => ⟨S1024x1024, .f32⟩
  | .hbm, ⟨9, _⟩ => ⟨S1024x1024, .f32⟩
  | .hbm, ⟨10, _⟩ => ⟨S1024x1024, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel9.lean ====
abbrev S256x1024 : Shape := ⟨2, ![256, 1024]⟩
abbrev S8192x1024 : Shape := ⟨2, ![8192, 1024]⟩
abbrev S2x16x1024 : Shape := ⟨3, ![2, 16, 1024]⟩
abbrev S1x1024 : Shape := ⟨2, ![1, 1024]⟩
abbrev S5632x1024 : Shape := ⟨2, ![5632, 1024]⟩
abbrev S2816x1024 : Shape := ⟨2, ![2816, 1024]⟩
abbrev S8448x1024 : Shape := ⟨2, ![8448, 1024]⟩
abbrev S8448x5632 : Shape := ⟨2, ![8448, 5632]⟩
abbrev S8448x2816 : Shape := ⟨2, ![8448, 2816]⟩
abbrev S1x16x1024 : Shape := ⟨3, ![1, 16, 1024]⟩
abbrev S256x5632 : Shape := ⟨2, ![256, 5632]⟩
abbrev S256x2816 : Shape := ⟨2, ![256, 2816]⟩
abbrev S16x1024 : Shape := ⟨2, ![16, 1024]⟩
abbrev S256 : Shape := ⟨1, ![256]⟩
abbrev S256x1 : Shape := ⟨2, ![256, 1]⟩

abbrev nBuf : Space → Nat
  | .hbm => 10
  | .vmem => 16
  | .smem => 0
  | _ => 0

abbrev bufTy : (tb : Table) → Fin (tcTables nBuf tb) → BufTy
  | .hbm, ⟨0, _⟩ => ⟨S256x1024, .f32⟩
  | .hbm, ⟨1, _⟩ => ⟨S8192x1024, .f32⟩
  | .hbm, ⟨2, _⟩ => ⟨S2x16x1024, .f32⟩
  | .hbm, ⟨3, _⟩ => ⟨S1x1024, .f32⟩
  | .hbm, ⟨4, _⟩ => ⟨S5632x1024, .bf16⟩
  | .hbm, ⟨5, _⟩ => ⟨S2816x1024, .bf16⟩
  | .hbm, ⟨6, _⟩ => ⟨S8448x1024, .bf16⟩
  | .hbm, ⟨7, _⟩ => ⟨S8448x5632, .bf16⟩
  | .hbm, ⟨8, _⟩ => ⟨S8448x2816, .bf16⟩
  | .hbm, ⟨9, _⟩ => ⟨S8448x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S1x16x1024, .f32⟩
  | .local _ .vmem, ⟨4, _⟩ => ⟨S1x16x1024, .f32⟩
  | .local _ .vmem, ⟨5, _⟩ => ⟨S1x1024, .f32⟩
  | .local _ .vmem, ⟨6, _⟩ => ⟨S5632x1024, .bf16⟩
  | .local _ .vmem, ⟨7, _⟩ => ⟨S2816x1024, .bf16⟩
  | .local _ .vmem, ⟨8, _⟩ => ⟨S256x1024, .bf16⟩
  | .local _ .vmem, ⟨9, _⟩ => ⟨S256x1024, .bf16⟩
  | .local _ .vmem, ⟨10, _⟩ => ⟨S256x5632, .bf16⟩
  | .local _ .vmem, ⟨11, _⟩ => ⟨S256x5632, .bf16⟩
  | .local _ .vmem, ⟨12, _⟩ => ⟨S256x2816, .bf16⟩
  | .local _ .vmem, ⟨13, _⟩ => ⟨S256x2816, .bf16⟩
  | .local _ .vmem, ⟨14, _⟩ => ⟨S256x1024, .f32⟩
  | .local _ .vmem, ⟨15, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 3 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S5632x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x5632 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference9Ideal.lean ====
abbrev S256x1024 : Shape := ⟨2, ![256, 1024]⟩
abbrev S8192x1024 : Shape := ⟨2, ![8192, 1024]⟩
abbrev S2x16x1024 : Shape := ⟨3, ![2, 16, 1024]⟩
abbrev S1x1024 : Shape := ⟨2, ![1, 1024]⟩
abbrev S5632x1024 : Shape := ⟨2, ![5632, 1024]⟩
abbrev S2816x1024 : Shape := ⟨2, ![2816, 1024]⟩
abbrev S8448x1024 : Shape := ⟨2, ![8448, 1024]⟩
abbrev S1024 : Shape := ⟨1, ![1024]⟩
abbrev S_ : Shape := ⟨0, ![]⟩
abbrev S8448 : Shape := ⟨1, ![8448]⟩
abbrev S8448x1 : Shape := ⟨2, ![8448, 1]⟩
abbrev S1x1x1024 : Shape := ⟨3, ![1, 1, 1024]⟩
abbrev S1024x5632 : Shape := ⟨2, ![1024, 5632]⟩
abbrev S8448x5632 : Shape := ⟨2, ![8448, 5632]⟩
abbrev S8448x2816 : Shape := ⟨2, ![8448, 2816]⟩

abbrev nBuf : Space → Nat
  | .hbm => 63
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S8192x1024, .f32⟩
  | .hbm, ⟨2, _⟩ => ⟨S2x16x1024, .f32⟩
  | .hbm, ⟨3, _⟩ => ⟨S1x1024, .f32⟩
  | .hbm, ⟨4, _⟩ => ⟨S5632x1024, .bf16⟩
  | .hbm, ⟨5, _⟩ => ⟨S2816x1024, .bf16⟩
  | .hbm, ⟨6, _⟩ => ⟨S8448x1024, .f32⟩
  | .hbm, ⟨7, _⟩ => ⟨S1024, .f32⟩
  | .hbm, ⟨8, _⟩ => ⟨S8448x1024, .f32⟩
  | .hbm, ⟨9, _⟩ => ⟨S_, .f32⟩
  | .hbm, ⟨10, _⟩ => ⟨S8448, .f32⟩
  | .hbm, ⟨11, _⟩ => ⟨S8448x1, .f32⟩
  | .hbm, ⟨12, _⟩ => ⟨S_, .f32⟩
  | .hbm, ⟨13, _⟩ => ⟨S8448x1, .f32⟩
  | .hbm, ⟨14, _⟩ => ⟨S8448x1, .f32⟩
  | .hbm, ⟨15, _⟩ => ⟨S_, .f32⟩
  | .hbm, ⟨16, _⟩ => ⟨S8448x1, .f32⟩
  | .hbm, ⟨17, _⟩ => ⟨S8448x1, .f32⟩
  | .hbm, ⟨18, _⟩ => ⟨S8448x1, .f32⟩
  | .hbm, ⟨19, _⟩ => ⟨S8448x1024, .f32⟩
  | .hbm, ⟨20, _⟩ => ⟨S8448x1024, .f32⟩
  | .hbm, ⟨21, _⟩ => ⟨S1x1024, .f32⟩
  | .hbm, ⟨22, _⟩ => ⟨S8448x1024, .f32⟩
  | .hbm, ⟨23, _⟩ => ⟨S8448x1024, .f32⟩
  | .hbm, ⟨24, _⟩ => ⟨S1x1x1024, .f32⟩
  | .hbm, ⟨25, _⟩ => ⟨S1024, .f32⟩
  | .hbm, ⟨26, _⟩ => ⟨S256x1024, .f32⟩
  | .hbm, ⟨27, _⟩ => ⟨S1x1x1024, .f32⟩
  | .hbm, ⟨28, _⟩ => ⟨S1024, .f32⟩
  | .hbm, ⟨29, _⟩ => ⟨S8192x1024, .f32⟩
  | .hbm, ⟨30, _⟩ => ⟨S8448x1024, .f32⟩
  | .hbm, ⟨31, _⟩ => ⟨S1x1x1024, .f32⟩
  | .hbm, ⟨32, _⟩ => ⟨S1024, .f32⟩
  | .hbm, ⟨33, _⟩ => ⟨S256x1024, .f32⟩
  | .hbm, ⟨34, _⟩ => ⟨S1x1x1024, .f32⟩
  | .hbm, ⟨35, _⟩ => ⟨S1024, .f32⟩
  | .hbm, ⟨36, _⟩ => ⟨S8192x1024, .f32⟩
  | .hbm, ⟨37, _⟩ => ⟨S8448x1024, .f32⟩
  | .hbm, ⟨38, _⟩ => ⟨S_, .f32⟩
  | .hbm, ⟨39, _⟩ => ⟨S8448x1024, .f32⟩
  | .hbm, ⟨40, _⟩ => ⟨S8448x1024, .f32⟩
  | .hbm, ⟨41, _⟩ => ⟨S8448x1024, .f32⟩
  | .hbm, ⟨42, _⟩ => ⟨S8448x1024, .f32⟩
  | .hbm, ⟨43, _⟩ => ⟨S1024x5632, .bf16⟩
  | .hbm, ⟨44, _⟩ => ⟨S1024x5632, .f32⟩
  | .hbm, ⟨45, _⟩ => ⟨S8448x5632, .f32⟩
  | .hbm, ⟨46, _⟩ => ⟨S8448x2816, .f32⟩
  | .hbm, ⟨47, _⟩ => ⟨S8448x2816, .f32⟩
  | .hbm, ⟨48, _⟩ => ⟨S8448x2816, .f32⟩
  | .hbm, ⟨49, _⟩ => ⟨S8448x2816, .f32⟩
  | .hbm, ⟨50, _⟩ => ⟨S_, .f32⟩
  | .hbm, ⟨51, _⟩ => ⟨S8448x2816, .f32⟩
  | .hbm, ⟨52, _⟩ => ⟨S8448x2816, .f32⟩
  | .hbm, ⟨53, _⟩ => ⟨S_, .f32⟩
  | .hbm, ⟨54, _⟩ => ⟨S8448x2816, .f32⟩
  | .hbm, ⟨55, _⟩ => ⟨S8448x2816, .f32⟩
  | .hbm, ⟨56, _⟩ => ⟨S8448x2816, .f32⟩
  | .hbm, ⟨57, _⟩ => ⟨S8448x2816, .f32⟩
  | .hbm, ⟨58, _⟩ => ⟨S8448x1024, .bf16⟩
  | .hbm, ⟨59, _⟩ => ⟨S8448x5632, .bf16⟩
  | .hbm, ⟨60, _⟩ => ⟨S8448x2816, .bf16⟩
  | .hbm, ⟨61, _⟩ => ⟨S2816x1024, .f32⟩
  | .hbm, ⟨62, _⟩ => ⟨S8448x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_2 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩

abbrev nD : Nat := 1
abbrev τ : Topo := Topo.v7x

variable {F : FTy → Type} [FloatOps F]
-- ==== Kernel10.lean ====
abbrev S8448x1024 : Shape := ⟨2, ![8448, 1024]⟩
abbrev S8448x6656 : Shape := ⟨2, ![8448, 6656]⟩
abbrev S1024x1024 : Shape := ⟨2, ![1024, 1024]⟩
abbrev S8448x2048 : Shape := ⟨2, ![8448, 2048]⟩
abbrev S2x4x8448 : Shape := ⟨3, ![2, 4, 8448]⟩
abbrev S256x1024 : Shape := ⟨2, ![256, 1024]⟩
abbrev S256x512 : Shape := ⟨2, ![256, 512]⟩
abbrev S256x2048 : Shape := ⟨2, ![256, 2048]⟩
abbrev S2x4x256 : Shape := ⟨3, ![2, 4, 256]⟩
abbrev S256x128 : Shape := ⟨2, ![256, 128]⟩
abbrev S256 : Shape := ⟨1, ![256]⟩
abbrev S256x1 : Shape := ⟨2, ![256, 1]⟩
abbrev S128x256 : Shape := ⟨2, ![128, 256]⟩
abbrev S1x256 : Shape := ⟨2, ![1, 256]⟩
abbrev S1x1x256 : Shape := ⟨3, ![1, 1, 256]⟩

abbrev nBuf : Space → Nat
  | .hbm => 14
  | .vmem => 31
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S8448x1024, .bf16⟩
  | .hbm, ⟨3, _⟩ => ⟨S8448x1024, .f32⟩
  | .hbm, ⟨4, _⟩ => ⟨S8448x6656, .bf16⟩
  | .hbm, ⟨5, _⟩ => ⟨S1024x1024, .bf16⟩
  | .hbm, ⟨6, _⟩ => ⟨S1024x1024, .bf16⟩
  | .hbm, ⟨7, _⟩ => ⟨S1024x1024, .bf16⟩
  | .hbm, ⟨8, _⟩ => ⟨S8448x1024, .bf16⟩
  | .hbm, ⟨9, _⟩ => ⟨S8448x1024, .bf16⟩
  | .hbm, ⟨10, _⟩ => ⟨S8448x2048, .bf16⟩
  | .hbm, ⟨11, _⟩ => ⟨S8448x1024, .f32⟩
  | .hbm, ⟨12, _⟩ => ⟨S8448x1024, .bf16⟩
  | .hbm, ⟨13, _⟩ => ⟨S2x4x8448, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | .local _ .vmem, ⟨7, _⟩ => ⟨S256x1024, .f32⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x2048, .bf16⟩
  | .local _ .vmem, ⟨24, _⟩ => ⟨S256x2048, .bf16⟩
  | .local _ .vmem, ⟨25, _⟩ => ⟨S256x1024, .f32⟩
  | .local _ .vmem, ⟨26, _⟩ => ⟨S256x1024, .f32⟩
  | .local _ .vmem, ⟨27, _⟩ => ⟨S256x1024, .bf16⟩
  | .local _ .vmem, ⟨28, _⟩ => ⟨S256x1024, .bf16⟩
  | .local _ .vmem, ⟨29, _⟩ => ⟨S2x4x256, .f32⟩
  | .local _ .vmem, ⟨30, _⟩ => ⟨S2x4x256, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_5 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_6 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_7 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2x4x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference10Ideal.lean ====
abbrev S8448x1024 : Shape := ⟨2, ![8448, 1024]⟩
abbrev S8448x6656 : Shape := ⟨2, ![8448, 6656]⟩
abbrev S1024x1024 : Shape := ⟨2, ![1024, 1024]⟩
abbrev S8448x2048 : Shape := ⟨2, ![8448, 2048]⟩
abbrev S_ : Shape := ⟨0, ![]⟩
abbrev S8448x8x128 : Shape := ⟨3, ![8448, 8, 128]⟩
abbrev S8448x8 : Shape := ⟨2, ![8448, 8]⟩
abbrev S8x8448 : Shape := ⟨2, ![8, 8448]⟩
abbrev S2x4x8448 : Shape := ⟨3, ![2, 4, 8448]⟩

abbrev nBuf : Space → Nat
  | .hbm => 57
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S8448x1024, .bf16⟩
  | .hbm, ⟨3, _⟩ => ⟨S8448x1024, .f32⟩
  | .hbm, ⟨4, _⟩ => ⟨S8448x6656, .bf16⟩
  | .hbm, ⟨5, _⟩ => ⟨S1024x1024, .bf16⟩
  | .hbm, ⟨6, _⟩ => ⟨S1024x1024, .bf16⟩
  | .hbm, ⟨7, _⟩ => ⟨S1024x1024, .bf16⟩
  | .hbm, ⟨8, _⟩ => ⟨S8448x2048, .bf16⟩
  | .hbm, ⟨9, _⟩ => ⟨S8448x2048, .f32⟩
  | .hbm, ⟨10, _⟩ => ⟨S8448x1024, .f32⟩
  | .hbm, ⟨11, _⟩ => ⟨S8448x1024, .f32⟩
  | .hbm, ⟨12, _⟩ => ⟨S8448x2048, .f32⟩
  | .hbm, ⟨13, _⟩ => ⟨S8448x2048, .f32⟩
  | .hbm, ⟨14, _⟩ => ⟨S_, .f32⟩
  | .hbm, ⟨15, _⟩ => ⟨S8448x2048, .f32⟩
  | .hbm, ⟨16, _⟩ => ⟨S8448x2048, .f32⟩
  | .hbm, ⟨17, _⟩ => ⟨S_, .f32⟩
  | .hbm, ⟨18, _⟩ => ⟨S8448x2048, .f32⟩
  | .hbm, ⟨19, _⟩ => ⟨S8448x2048, .f32⟩
  | .hbm, ⟨20, _⟩ => ⟨S_, .f32⟩
  | .hbm, ⟨21, _⟩ => ⟨S8448x2048, .f32⟩
  | .hbm, ⟨22, _⟩ => ⟨S8448x2048, .f32⟩
  | .hbm, ⟨23, _⟩ => ⟨S8448x2048, .f32⟩
  | .hbm, ⟨24, _⟩ => ⟨S8448x1024, .f32⟩
  | .hbm, ⟨25, _⟩ => ⟨S8448x1024, .f32⟩
  | .hbm, ⟨26, _⟩ => ⟨S8448x1024, .f32⟩
  | .hbm, ⟨27, _⟩ => ⟨S8448x1024, .f32⟩
  | .hbm, ⟨28, _⟩ => ⟨S8448x1024, .f32⟩
  | .hbm, ⟨29, _⟩ => ⟨S1024x1024, .f32⟩
  | .hbm, ⟨30, _⟩ => ⟨S8448x1024, .f32⟩
  | .hbm, ⟨31, _⟩ => ⟨S8448x1024, .f32⟩
  | .hbm, ⟨32, _⟩ => ⟨S8448x1024, .f32⟩
  | .hbm, ⟨33, _⟩ => ⟨S8448x1024, .f32⟩
  | .hbm, ⟨34, _⟩ => ⟨S8448x1024, .f32⟩
  | .hbm, ⟨35, _⟩ => ⟨S8448x1024, .f32⟩
  | .hbm, ⟨36, _⟩ => ⟨S8448x1024, .f32⟩
  | .hbm, ⟨37, _⟩ => ⟨S8448x2048, .f32⟩
  | .hbm, ⟨38, _⟩ => ⟨S8448x2048, .f32⟩
  | .hbm, ⟨39, _⟩ => ⟨S_, .f32⟩
  | .hbm, ⟨40, _⟩ => ⟨S8448x1024, .f32⟩
  | .hbm, ⟨41, _⟩ => ⟨S1024x1024, .f32⟩
  | .hbm, ⟨42, _⟩ => ⟨S8448x1024, .f32⟩
  | .hbm, ⟨43, _⟩ => ⟨S8448x1024, .f32⟩
  | .hbm, ⟨44, _⟩ => ⟨S1024x1024, .f32⟩
  | .hbm, ⟨45, _⟩ => ⟨S8448x1024, .f32⟩
  | .hbm, ⟨46, _⟩ => ⟨S8448x1024, .f32⟩
  | .hbm, ⟨47, _⟩ => ⟨S8448x1024, .f32⟩
  | .hbm, ⟨48, _⟩ => ⟨S8448x8x128, .f32⟩
  | .hbm, ⟨49, _⟩ => ⟨S_, .f32⟩
  | .hbm, ⟨50, _⟩ => ⟨S8448x8, .f32⟩
  | .hbm, ⟨51, _⟩ => ⟨S8448x1024, .bf16⟩
  | .hbm, ⟨52, _⟩ => ⟨S8448x1024, .bf16⟩
  | .hbm, ⟨53, _⟩ => ⟨S8448x2048, .bf16⟩
  | .hbm, ⟨54, _⟩ => ⟨S8448x1024, .bf16⟩
  | .hbm, ⟨55, _⟩ => ⟨S8x8448, .f32⟩
  | .hbm, ⟨56, _⟩ => ⟨S2x4x8448, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_2 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_3 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩

abbrev nD : Nat := 1
abbrev τ : Topo := Topo.v7x

variable {F : FTy → Type} [FloatOps F]
-- ==== Kernel11.lean ====
abbrev S256x1024 : Shape := ⟨2, ![256, 1024]⟩
abbrev S8192x1024 : Shape := ⟨2, ![8192, 1024]⟩
abbrev S8448x1024 : Shape := ⟨2, ![8448, 1024]⟩
abbrev S2x16x1024 : Shape := ⟨3, ![2, 16, 1024]⟩
abbrev S1x1024 : Shape := ⟨2, ![1, 1024]⟩
abbrev S6656x1024 : Shape := ⟨2, ![6656, 1024]⟩
abbrev S1x128 : Shape := ⟨2, ![1, 128]⟩
abbrev S8192x2x32 : Shape := ⟨3, ![8192, 2, 32]⟩
abbrev S8192x2x1x32 : Shape := ⟨4, ![8192, 2, 1, 32]⟩
abbrev S8192x2x2x32 : Shape := ⟨4, ![8192, 2, 2, 32]⟩
abbrev S8192x128 : Shape := ⟨2, ![8192, 128]⟩
abbrev S_ : Shape := ⟨0, ![]⟩
abbrev S256x128 : Shape := ⟨2, ![256, 128]⟩
abbrev S8448x128 : Shape := ⟨2, ![8448, 128]⟩
abbrev S8448x6656 : Shape := ⟨2, ![8448, 6656]⟩
abbrev S8448x256 : Shape := ⟨2, ![8448, 256]⟩
abbrev S1x16x1024 : Shape := ⟨3, ![1, 16, 1024]⟩
abbrev S256x6656 : Shape := ⟨2, ![256, 6656]⟩
abbrev S256x256 : Shape := ⟨2, ![256, 256]⟩
abbrev S16x1024 : Shape := ⟨2, ![16, 1024]⟩
abbrev S256 : Shape := ⟨1, ![256]⟩
abbrev S256x1 : Shape := ⟨2, ![256, 1]⟩
abbrev S1024x1024 : Shape := ⟨2, ![1024, 1024]⟩
abbrev S512x1024 : Shape := ⟨2, ![512, 1024]⟩
abbrev S256x512 : Shape := ⟨2, ![256, 512]⟩

abbrev nBuf : Space → Nat
  | .hbm => 29
  | .vmem => 27
  | .smem => 0
  | _ => 0

abbrev bufTy : (tb : Table) → Fin (tcTables nBuf tb) → BufTy
  | .hbm, ⟨0, _⟩ => ⟨S256x1024, .f32⟩
  | .hbm, ⟨1, _⟩ => ⟨S8192x1024, .f32⟩
  | .hbm, ⟨2, _⟩ => ⟨S8448x1024, .f32⟩
  | .hbm, ⟨3, _⟩ => ⟨S2x16x1024, .f32⟩
  | .hbm, ⟨4, _⟩ => ⟨S1x1024, .f32⟩
  | .hbm, ⟨5, _⟩ => ⟨S6656x1024, .bf16⟩
  | .hbm, ⟨6, _⟩ => ⟨S1x128, .f32⟩
  | .hbm, ⟨7, _⟩ => ⟨S1x128, .f32⟩
  | .hbm, ⟨8, _⟩ => ⟨S8192x2x32, .f32⟩
  | .hbm, ⟨9, _⟩ => ⟨S8192x2x32, .f32⟩
  | .hbm, ⟨10, _⟩ => ⟨S8192x2x1x32, .f32⟩
  | .hbm, ⟨11, _⟩ => ⟨S8192x2x1x32, .f32⟩
  | .hbm, ⟨12, _⟩ => ⟨S8192x2x2x32, .f32⟩
  | .hbm, ⟨13, _⟩ => ⟨S8192x128, .f32⟩
  | .hbm, ⟨14, _⟩ => ⟨S8192x2x1x32, .f32⟩
  | .hbm, ⟨15, _⟩ => ⟨S8192x2x2x32, .f32⟩
  | .hbm, ⟨16, _⟩ => ⟨S8192x128, .f32⟩
  | .hbm, ⟨17, _⟩ => ⟨S_, .f32⟩
  | .hbm, ⟨18, _⟩ => ⟨S256x128, .f32⟩
  | .hbm, ⟨19, _⟩ => ⟨S8448x128, .f32⟩
  | .hbm, ⟨20, _⟩ => ⟨S_, .f32⟩
  | .hbm, ⟨21, _⟩ => ⟨S256x128, .f32⟩
  | .hbm, ⟨22, _⟩ => ⟨S8448x128, .f32⟩
  | .hbm, ⟨23, _⟩ => ⟨S8448x1024, .f32⟩
  | .hbm, ⟨24, _⟩ => ⟨S8448x1024, .bf16⟩
  | .hbm, ⟨25, _⟩ => ⟨S8448x6656, .bf16⟩
  | .hbm, ⟨26, _⟩ => ⟨S8448x1024, .bf16⟩
  | .hbm, ⟨27, _⟩ => ⟨S8448x256, .bf16⟩
  | .hbm, ⟨28, _⟩ => ⟨S8448x256, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S1x16x1024, .f32⟩
  | .local _ .vmem, ⟨6, _⟩ => ⟨S1x16x1024, .f32⟩
  | .local _ .vmem, ⟨7, _⟩ => ⟨S1x1024, .f32⟩
  | .local _ .vmem, ⟨8, _⟩ => ⟨S6656x1024, .bf16⟩
  | .local _ .vmem, ⟨9, _⟩ => ⟨S1x128, .f32⟩
  | .local _ .vmem, ⟨10, _⟩ => ⟨S1x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x1024, .f32⟩
  | .local _ .vmem, ⟨16, _⟩ => ⟨S256x1024, .f32⟩
  | .local _ .vmem, ⟨17, _⟩ => ⟨S256x1024, .bf16⟩
  | .local _ .vmem, ⟨18, _⟩ => ⟨S256x1024, .bf16⟩
  | .local _ .vmem, ⟨19, _⟩ => ⟨S256x6656, .bf16⟩
  | .local _ .vmem, ⟨20, _⟩ => ⟨S256x6656, .bf16⟩
  | .local _ .vmem, ⟨21, _⟩ => ⟨S256x1024, .bf16⟩
  | .local _ .vmem, ⟨22, _⟩ => ⟨S256x1024, .bf16⟩
  | .local _ .vmem, ⟨23, _⟩ => ⟨S256x256, .bf16⟩
  | .local _ .vmem, ⟨24, _⟩ => ⟨S256x256, .bf16⟩
  | .local _ .vmem, ⟨25, _⟩ => ⟨S256x256, .bf16⟩
  | .local _ .vmem, ⟨26, _⟩ => ⟨S256x256, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11_0 : Ref sig .tc := ⟨.hbm, 23, rfl⟩
abbrev main_v11_1 : Ref sig .tc := ⟨.hbm, 24, rfl⟩
abbrev main_v11_2 : Ref sig .tc := ⟨.hbm, 25, rfl⟩
abbrev main_v11_3 : Ref sig .tc := ⟨.hbm, 26, rfl⟩
abbrev main_v11_4 : Ref sig .tc := ⟨.hbm, 27, rfl⟩
abbrev main_v11_5 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S6656x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x6656 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference11Ideal.lean ====
abbrev S256x1024 : Shape := ⟨2, ![256, 1024]⟩
abbrev S8192x1024 : Shape := ⟨2, ![8192, 1024]⟩
abbrev S8448x1024 : Shape := ⟨2, ![8448, 1024]⟩
abbrev S2x16x1024 : Shape := ⟨3, ![2, 16, 1024]⟩
abbrev S1x1024 : Shape := ⟨2, ![1, 1024]⟩
abbrev S6656x1024 : Shape := ⟨2, ![6656, 1024]⟩
abbrev S1x128 : Shape := ⟨2, ![1, 128]⟩
abbrev S8192x2x32 : Shape := ⟨3, ![8192, 2, 32]⟩
abbrev S1x1x1024 : Shape := ⟨3, ![1, 1, 1024]⟩
abbrev S1024 : Shape := ⟨1, ![1024]⟩
abbrev S_ : Shape := ⟨0, ![]⟩
abbrev S8448 : Shape := ⟨1, ![8448]⟩
abbrev S8448x1 : Shape := ⟨2, ![8448, 1]⟩
abbrev S1024x6656 : Shape := ⟨2, ![1024, 6656]⟩
abbrev S8448x6656 : Shape := ⟨2, ![8448, 6656]⟩
abbrev S8448x256 : Shape := ⟨2, ![8448, 256]⟩
abbrev S128 : Shape := ⟨1, ![128]⟩
abbrev S8448x8x128 : Shape := ⟨3, ![8448, 8, 128]⟩
abbrev S8448x8 : Shape := ⟨2, ![8448, 8]⟩
abbrev S8448x8x1 : Shape := ⟨3, ![8448, 8, 1]⟩
abbrev S1x1x128 : Shape := ⟨3, ![1, 1, 128]⟩
abbrev S256x8x128 : Shape := ⟨3, ![256, 8, 128]⟩
abbrev S8192x8x128 : Shape := ⟨3, ![8192, 8, 128]⟩
abbrev S8192x8x2x2x32 : Shape := ⟨5, ![8192, 8, 2, 2, 32]⟩
abbrev S8192x8x2x1x32 : Shape := ⟨5, ![8192, 8, 2, 1, 32]⟩
abbrev S8192x8x2x32 : Shape := ⟨4, ![8192, 8, 2, 32]⟩
abbrev S8192x1x2x32 : Shape := ⟨4, ![8192, 1, 2, 32]⟩
abbrev S8448x2x128 : Shape := ⟨3, ![8448, 2, 128]⟩
abbrev S8448x2 : Shape := ⟨2, ![8448, 2]⟩
abbrev S8448x2x1 : Shape := ⟨3, ![8448, 2, 1]⟩
abbrev S256x2x128 : Shape := ⟨3, ![256, 2, 128]⟩
abbrev S8192x2x128 : Shape := ⟨3, ![8192, 2, 128]⟩
abbrev S8192x2x2x2x32 : Shape := ⟨5, ![8192, 2, 2, 2, 32]⟩
abbrev S8192x2x2x1x32 : Shape := ⟨5, ![8192, 2, 2, 1, 32]⟩
abbrev S8192x2x2x32 : Shape := ⟨4, ![8192, 2, 2, 32]⟩

abbrev nBuf : Space → Nat
  | .hbm => 156
  | .vmem => 0
  | .smem => 0
  | _ => 0

abbrev hbmTy0_0 (i : Nat) : BufTy := match i % 128 with
  | 0 => ⟨S256x1024, .f32⟩
  | 1 => ⟨S8192x1024, .f32⟩
  | 2 => ⟨S8448x1024, .f32⟩
  | 3 => ⟨S2x16x1024, .f32⟩
  | 4 => ⟨S1x1024, .f32⟩
  | 5 => ⟨S6656x1024, .bf16⟩
  | 6 => ⟨S1x128, .f32⟩
  | 7 => ⟨S1x128, .f32⟩
  | 8 => ⟨S8192x2x32, .f32⟩
  | 9 => ⟨S8192x2x32, .f32⟩
  | 10 => ⟨S8448x1024, .f32⟩
  | 11 => ⟨S1x1x1024, .f32⟩
  | 12 => ⟨S1024, .f32⟩
  | 13 => ⟨S256x1024, .f32⟩
  | 14 => ⟨S1x1x1024, .f32⟩
  | 15 => ⟨S1024, .f32⟩
  | 16 => ⟨S8192x1024, .f32⟩
  | 17 => ⟨S8448x1024, .f32⟩
  | 18 => ⟨S_, .f32⟩
  | 19 => ⟨S8448x1024, .f32⟩
  | 20 => ⟨S8448x1024, .f32⟩
  | 21 => ⟨S8448x1024, .f32⟩
  | 22 => ⟨S8448x1024, .f32⟩
  | 23 => ⟨S1024, .f32⟩
  | 24 => ⟨S8448x1024, .f32⟩
  | 25 => ⟨S_, .f32⟩
  | 26 => ⟨S8448, .f32⟩
  | 27 => ⟨S8448x1, .f32⟩
  | 28 => ⟨S_, .f32⟩
  | 29 => ⟨S8448x1, .f32⟩
  | 30 => ⟨S8448x1, .f32⟩
  | 31 => ⟨S_, .f32⟩
  | 32 => ⟨S8448x1, .f32⟩
  | 33 => ⟨S8448x1, .f32⟩
  | 34 => ⟨S8448x1, .f32⟩
  | 35 => ⟨S8448x1024, .f32⟩
  | 36 => ⟨S8448x1024, .f32⟩
  | 37 => ⟨S1x1024, .f32⟩
  | 38 => ⟨S8448x1024, .f32⟩
  | 39 => ⟨S8448x1024, .f32⟩
  | 40 => ⟨S1x1x1024, .f32⟩
  | 41 => ⟨S1024, .f32⟩
  | 42 => ⟨S256x1024, .f32⟩
  | 43 => ⟨S1x1x1024, .f32⟩
  | 44 => ⟨S1024, .f32⟩
  | 45 => ⟨S8192x1024, .f32⟩
  | 46 => ⟨S8448x1024, .f32⟩
  | 47 => ⟨S1x1x1024, .f32⟩
  | 48 => ⟨S1024, .f32⟩
  | 49 => ⟨S256x1024, .f32⟩
  | 50 => ⟨S1x1x1024, .f32⟩
  | 51 => ⟨S1024, .f32⟩
  | 52 => ⟨S8192x1024, .f32⟩
  | 53 => ⟨S8448x1024, .f32⟩
  | 54 => ⟨S_, .f32⟩
  | 55 => ⟨S8448x1024, .f32⟩
  | 56 => ⟨S8448x1024, .f32⟩
  | 57 => ⟨S8448x1024, .f32⟩
  | 58 => ⟨S8448x1024, .f32⟩
  | 59 => ⟨S1024x6656, .bf16⟩
  | 60 => ⟨S1024x6656, .f32⟩
  | 61 => ⟨S8448x6656, .f32⟩
  | 62 => ⟨S8448x1024, .f32⟩
  | 63 => ⟨S8448x256, .f32⟩
  | 64 => ⟨S8448x256, .f32⟩
  | 65 => ⟨S128, .f32⟩
  | 66 => ⟨S8448x8x128, .f32⟩
  | 67 => ⟨S8448x8x128, .f32⟩
  | 68 => ⟨S_, .f32⟩
  | 69 => ⟨S8448x8, .f32⟩
  | 70 => ⟨S8448x8x1, .f32⟩
  | 71 => ⟨S_, .f32⟩
  | 72 => ⟨S8448x8x1, .f32⟩
  | 73 => ⟨S8448x8x1, .f32⟩
  | 74 => ⟨S_, .f32⟩
  | 75 => ⟨S8448x8x1, .f32⟩
  | 76 => ⟨S8448x8x1, .f32⟩
  | 77 => ⟨S8448x8x1, .f32⟩
  | 78 => ⟨S8448x8x128, .f32⟩
  | 79 => ⟨S8448x8x128, .f32⟩
  | 80 => ⟨S1x1x128, .f32⟩
  | 81 => ⟨S8448x8x128, .f32⟩
  | 82 => ⟨S8448x8x128, .f32⟩
  | 83 => ⟨S256x8x128, .f32⟩
  | 84 => ⟨S8192x8x128, .f32⟩
  | 85 => ⟨S8192x8x2x2x32, .f32⟩
  | 86 => ⟨S8192x8x2x1x32, .f32⟩
  | 87 => ⟨S8192x8x2x32, .f32⟩
  | 88 => ⟨S8192x8x2x1x32, .f32⟩
  | 89 => ⟨S8192x8x2x32, .f32⟩
  | 90 => ⟨S8192x1x2x32, .f32⟩
  | 91 => ⟨S8192x1x2x32, .f32⟩
  | 92 => ⟨S8192x8x2x32, .f32⟩
  | 93 => ⟨S8192x8x2x32, .f32⟩
  | 94 => ⟨S8192x8x2x32, .f32⟩
  | 95 => ⟨S8192x8x2x32, .f32⟩
  | 96 => ⟨S8192x8x2x32, .f32⟩
  | 97 => ⟨S8192x8x2x32, .f32⟩
  | 98 => ⟨S8192x8x2x32, .f32⟩
  | 99 => ⟨S8192x8x2x32, .f32⟩
  | 100 => ⟨S8192x8x2x32, .f32⟩
  | 101 => ⟨S8192x8x2x32, .f32⟩
  | 102 => ⟨S8192x8x2x1x32, .f32⟩
  | 103 => ⟨S8192x8x2x1x32, .f32⟩
  | 104 => ⟨S8192x8x2x2x32, .f32⟩
  | 105 => ⟨S8192x8x128, .f32⟩
  | 106 => ⟨S8448x8x128, .f32⟩
  | 107 => ⟨S8448x1024, .f32⟩
  | 108 => ⟨S128, .f32⟩
  | 109 => ⟨S8448x2x128, .f32⟩
  | 110 => ⟨S8448x2x128, .f32⟩
  | 111 => ⟨S_, .f32⟩
  | 112 => ⟨S8448x2, .f32⟩
  | 113 => ⟨S8448x2x1, .f32⟩
  | 114 => ⟨S_, .f32⟩
  | 115 => ⟨S8448x2x1, .f32⟩
  | 116 => ⟨S8448x2x1, .f32⟩
  | 117 => ⟨S_, .f32⟩
  | 118 => ⟨S8448x2x1, .f32⟩
  | 119 => ⟨S8448x2x1, .f32⟩
  | 120 => ⟨S8448x2x1, .f32⟩
  | 121 => ⟨S8448x2x128, .f32⟩
  | 122 => ⟨S8448x2x128, .f32⟩
  | 123 => ⟨S1x1x128, .f32⟩
  | 124 => ⟨S8448x2x128, .f32⟩
  | 125 => ⟨S8448x2x128, .f32⟩
  | 126 => ⟨S256x2x128, .f32⟩
  | 127 => ⟨S8192x2x128, .f32⟩
  | _ => ⟨S256x1024, .f32⟩

abbrev hbmTy0_1 (i : Nat) : BufTy := match i % 128 with
  | 0 => ⟨S8192x2x2x2x32, .f32⟩
  | 1 => ⟨S8192x2x2x1x32, .f32⟩
  | 2 => ⟨S8192x2x2x32, .f32⟩
  | 3 => ⟨S8192x2x2x1x32, .f32⟩
  | 4 => ⟨S8192x2x2x32, .f32⟩
  | 5 => ⟨S8192x1x2x32, .f32⟩
  | 6 => ⟨S8192x1x2x32, .f32⟩
  | 7 => ⟨S8192x2x2x32, .f32⟩
  | 8 => ⟨S8192x2x2x32, .f32⟩
  | 9 => ⟨S8192x2x2x32, .f32⟩
  | 10 => ⟨S8192x2x2x32, .f32⟩
  | 11 => ⟨S8192x2x2x32, .f32⟩
  | 12 => ⟨S8192x2x2x32, .f32⟩
  | 13 => ⟨S8192x2x2x32, .f32⟩
  | 14 => ⟨S8192x2x2x32, .f32⟩
  | 15 => ⟨S8192x2x2x32, .f32⟩
  | 16 => ⟨S8192x2x2x32, .f32⟩
  | 17 => ⟨S8192x2x2x1x32, .f32⟩
  | 18 => ⟨S8192x2x2x1x32, .f32⟩
  | 19 => ⟨S8192x2x2x2x32, .f32⟩
  | 20 => ⟨S8192x2x128, .f32⟩
  | 21 => ⟨S8448x2x128, .f32⟩
  | 22 => ⟨S8448x256, .f32⟩
  | 23 => ⟨S8448x1024, .bf16⟩
  | 24 => ⟨S8448x6656, .bf16⟩
  | 25 => ⟨S8448x1024, .bf16⟩
  | 26 => ⟨S8448x256, .bf16⟩
  | 27 => ⟨S8448x256, .bf16⟩
  | _ => ⟨S256x1024, .f32⟩

abbrev hbmTy (i : Nat) : BufTy := match i / 128 with
  | 0 => hbmTy0_0 i
  | 1 => hbmTy0_1 i
  | _ => ⟨S256x1024, .f32⟩

abbrev bufTy : (tb : Table) → Fin (tcTables nBuf tb) → BufTy
  | .hbm, ⟨i, _⟩ => hbmTy i
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_3 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_4 : Ref sig .tc := ⟨.hbm, 68, rfl⟩
abbrev main_v53 : Ref sig .tc := ⟨.hbm, 69, rfl⟩
abbrev main_v54 : Ref sig .tc := ⟨.hbm, 70, rfl⟩
abbrev main_cst_5 : Ref sig .tc := ⟨.hbm, 71, rfl⟩
abbrev main_v55 : Ref sig .tc := ⟨.hbm, 72, rfl⟩
abbrev main_v56 : Ref sig .tc := ⟨.hbm, 73, rfl⟩
abbrev main_cst_6 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_cst_7 : Ref sig .tc := ⟨.hbm, 111, rfl⟩
abbrev main_v93 : Ref sig .tc := ⟨.hbm, 112, rfl⟩
abbrev main_v94 : Ref sig .tc := ⟨.hbm, 113, rfl⟩
abbrev main_cst_8 : Ref sig .tc := ⟨.hbm, 114, rfl⟩
abbrev main_v95 : Ref sig .tc := ⟨.hbm, 115, rfl⟩
abbrev main_v96 : Ref sig .tc := ⟨.hbm, 116, rfl⟩
abbrev main_cst_9 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩

abbrev nD : Nat := 1
abbrev τ : Topo := Topo.v7x

variable {F : FTy → Type} [FloatOps F]
-- ==== Proof.Bits.Point.lean ====
module

public import proofs.«01_k».proof.Proof.Gen.Kernel.Frame
public import proofs.«01_k».proof.Proof.Gen.Kernel.Skeleton
public import Idealize.ShloMosaic.Lib.VecWindow
public import Idealize.ShloMosaic.Lib.Pointwise.Index
public import Idealize.ShloMosaic.Lib.Pipeline.ReadBack

@[expose] public section

set_option maxRecDepth 16384

/-!
The points of the launch at any float instance: the branches a point takes, the buffers, and what the frame asks of the body.
-/

noncomputable section

namespace Cert.Kernel.Bits

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The block of keys is the first one. -/
abbrev atFirst (i : grid0.Coords) : Prop :=
  Scalar.cmpi .ne (Scalar.extui (Scalar.cmpi .eq (BitVec.ofNat 32 (i 2).val) 0#32)) 0#32 = 1#1
/-- The block of queries is the first one. -/
abbrev atStart (i : grid0.Coords) : Prop := k0_cond2 i = 1#1
/-- The block of queries is not the first one. -/
abbrev pastStart (i : grid0.Coords) : Prop := k0_cond3 i = 1#1
/-- The block of keys is the last one. -/
abbrev atLast (i : grid0.Coords) : Prop := k0_cond4 i = 1#1

theorem atFirst_iff : ∀ t : Fin grid0.N, atFirst (grid0.coords t) ↔ t.val % 6 = 0 := by decide +kernel
theorem atStart_iff : ∀ t : Fin grid0.N, atStart (grid0.coords t) ↔ t.val / 6 % 11 = 0 := by decide +kernel
theorem pastStart_iff : ∀ t : Fin grid0.N, pastStart (grid0.coords t) ↔ 1 ≤ t.val / 6 % 11 := by decide +kernel
theorem atLast_iff : ∀ t : Fin grid0.N, atLast (grid0.coords t) ↔ t.val % 6 = 5 := by decide +kernel

abbrev st0 (t : Fin cfg0.N) : Memref sig .tc .vmem S768x512 .bf16 := win0_0.stage (cfg0.slots t 0)
abbrev st1 (t : Fin cfg0.N) : Memref sig .tc .vmem S768x512 .bf16 := win0_1.stage (cfg0.slots t 1)
abbrev st2 (t : Fin cfg0.N) : Memref sig .tc .vmem S1408x128 .bf16 := win0_2.stage (cfg0.slots t 2)
abbrev st3 (t : Fin cfg0.N) : Memref sig .tc .vmem S1408x128 .bf16 := win0_3.stage (cfg0.slots t 3)
abbrev st4 (t : Fin cfg0.N) : Memref sig .tc .vmem S1x4x768 .f32 := win0_4.stage (cfg0.slots t 4)
abbrev st5 (t : Fin cfg0.N) : Memref sig .tc .vmem S1x4x768 .f32 := win0_5.stage (cfg0.slots t 5)
abbrev st6 (t : Fin cfg0.N) : Memref sig .tc .vmem S768x512 .f32 := win0_6.stage (cfg0.slots t 6)
abbrev st7 (t : Fin cfg0.N) : Memref sig .tc .vmem S8448x128 .f32 := win0_7.stage (cfg0.slots t 7)
abbrev st8 (t : Fin cfg0.N) : Memref sig .tc .vmem S8448x128 .f32 := win0_8.stage (cfg0.slots t 8)
abbrev scQ : Memref sig .tc .vmem S3072x128 .bf16 := Memref.whole cc0_scratch0
abbrev scO : Memref sig .tc .vmem S3072x128 .bf16 := Memref.whole cc0_scratch1
abbrev scG : Memref sig .tc .vmem S128x3072 .f32 := Memref.whole cc0_scratch2

/-- The body, run on whole buffers, ends with the inputs as they were and the other buffers at some contents. -/
def Returns (c : Dev nD) (i : grid0.Coords) (arg3 : Memref sig .tc .vmem S768x512 .bf16) (harg3 : arg3.IsWhole) (arg4 : Memref sig .tc .vmem S768x512 .bf16) (harg4 : arg4.IsWhole) (arg5 : Memref sig .tc .vmem S1408x128 .bf16) (harg5 : arg5.IsWhole) (arg6 : Memref sig .tc .vmem S1408x128 .bf16) (harg6 : arg6.IsWhole) (arg7 : Memref sig .tc .vmem S1x4x768 .f32) (harg7 : arg7.IsWhole) (arg8 : Memref sig .tc .vmem S1x4x768 .f32) (harg8 : arg8.IsWhole) (arg9 : Memref sig .tc .vmem S768x512 .f32) (harg9 : arg9.IsWhole) (arg10 : Memref sig .tc .vmem S8448x128 .f32) (harg10 : arg10.IsWhole) (arg11 : Memref sig .tc .vmem S8448x128 .f32) (harg11 : arg11.IsWhole) (arg12 : Memref sig .tc .vmem S3072x128 .bf16) (harg12 : arg12.IsWhole) (arg13 : Memref sig .tc .vmem S3072x128 .bf16) (harg13 : arg13.IsWhole) (arg14 : Memref sig .tc .vmem S128x3072 .f32) (harg14 : arg14.IsWhole) : Prop :=
  ∀ (x0 : Vec F S768x512 .bf16) (x1 : Vec F S768x512 .bf16) (x2 : Vec F S1408x128 .bf16) (x3 : Vec F S1408x128 .bf16) (x4 : Vec F S1x4x768 .f32) (x5 : Vec F S1x4x768 .f32) (x6 : Vec F S768x512 .f32) (x7 : Vec F S8448x128 .f32) (x8 : Vec F S8448x128 .f32) (xq : Vec F S3072x128 .bf16) (xo : Vec F S3072x128 .bf16) (xg : Vec F S128x3072 .f32) (E : Set ℕ) (K : PUnit → sProp 𝕄),
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare xq ∗ owns (c : Thread nD τ) arg13 fullShare xo ∗ owns (c : Thread nD τ) arg14 fullShare xg ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ y, owns (c : Thread nD τ) arg9 fullShare y) ∗ (∃ y, owns (c : Thread nD τ) arg10 fullShare y) ∗ (∃ y, owns (c : Thread nD τ) arg11 fullShare y) ∗ (∃ y, owns (c : Thread nD τ) arg12 fullShare y) ∗ (∃ y, owns (c : Thread nD τ) arg13 fullShare y) ∗ (∃ y, owns (c : Thread nD τ) arg14 fullShare y)) -∗ K ⟨⟩))
      ⊢ wp frame (wpE (defs₀ (F := F)) Variants.none c none) E (cc0_b_attn i arg3 harg3 arg4 harg4 arg5 harg5 arg6 harg6 arg7 harg7 arg8 harg8 arg9 harg9 arg10 harg10 arg11 harg11 arg12 harg12 arg13 harg13 arg14 harg14) K

end Cert.Kernel.Bits

end
-- ==== Proof.Bits.RunFirst.lean ====
module

public import proofs.«01_k».proof.Proof.Bits.Point

@[expose] public section

set_option maxRecDepth 16384

/-!
The body at the first blocks of keys, in the first block of queries and in the later ones.
-/

noncomputable section

namespace Cert.Kernel.Bits

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
theorem run_first_start (c : Dev nD) (i : grid0.Coords) (arg3 : Memref sig .tc .vmem S768x512 .bf16) (harg3 : arg3.IsWhole) (arg4 : Memref sig .tc .vmem S768x512 .bf16) (harg4 : arg4.IsWhole) (arg5 : Memref sig .tc .vmem S1408x128 .bf16) (harg5 : arg5.IsWhole) (arg6 : Memref sig .tc .vmem S1408x128 .bf16) (harg6 : arg6.IsWhole) (arg7 : Memref sig .tc .vmem S1x4x768 .f32) (harg7 : arg7.IsWhole) (arg8 : Memref sig .tc .vmem S1x4x768 .f32) (harg8 : arg8.IsWhole) (arg9 : Memref sig .tc .vmem S768x512 .f32) (harg9 : arg9.IsWhole) (arg10 : Memref sig .tc .vmem S8448x128 .f32) (harg10 : arg10.IsWhole) (arg11 : Memref sig .tc .vmem S8448x128 .f32) (harg11 : arg11.IsWhole) (arg12 : Memref sig .tc .vmem S3072x128 .bf16) (harg12 : arg12.IsWhole) (arg13 : Memref sig .tc .vmem S3072x128 .bf16) (harg13 : arg13.IsWhole) (arg14 : Memref sig .tc .vmem S128x3072 .f32) (harg14 : arg14.IsWhole)
    (h0 : atFirst i) (h1 : atStart i) (h2 : ¬ pastStart i) (h3 : ¬ atLast i) :
    Returns (F := F) c i arg3 harg3 arg4 harg4 arg5 harg5 arg6 harg6 arg7 harg7 arg8 harg8 arg9 harg9 arg10 harg10 arg11 harg11 arg12 harg12 arg13 harg13 arg14 harg14 := by
  intro x0 x1 x2 x3 x4 x5 x6 x7 x8 xq xo xg E K
  simp only [cc0_b_attn_eq_skeleton]; unfold cc0_b_attn_skel
  simp only [k0_part2_eq_skeleton, k0_part3_eq_skeleton, k0_part4_eq_skeleton, k0_part5_eq_skeleton]
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%fq, %eq, Hq⟩, ⟨%fo, %eo, Ho⟩, ⟨%fg, %eg, Hg⟩, Hk⟩
  obtain rfl := harg3.eq_unread e0; obtain rfl := harg4.eq_unread e1; obtain rfl := harg5.eq_unread e2; obtain rfl := harg6.eq_unread e3; obtain rfl := harg7.eq_unread e4; obtain rfl := harg8.eq_unread e5; obtain rfl := harg9.eq_unread e6; obtain rfl := harg10.eq_unread e7; obtain rfl := harg11.eq_unread e8; obtain rfl := harg12.eq_unread eq; obtain rfl := harg13.eq_unread eo; obtain rfl := harg14.eq_unread eg
  sl_exec (disch := first | sl_exact h0 | sl_exact h1 | sl_exact h2 | sl_exact h3)
  sl_step
  iapply Hk
  isplitl [H0]
  · iexists _; isplitr; swap; · iexact H0
    · ipureintro; exact harg3.read_unread _
  isplitl [H1]
  · iexists _; isplitr; swap; · iexact H1
    · ipureintro; exact harg4.read_unread _
  isplitl [H2]
  · iexists _; isplitr; swap; · iexact H2
    · ipureintro; exact harg5.read_unread _
  isplitl [H3]
  · iexists _; isplitr; swap; · iexact H3
    · ipureintro; exact harg6.read_unread _
  isplitl [H4]
  · iexists _; isplitr; swap; · iexact H4
    · ipureintro; exact harg7.read_unread _
  isplitl [H5]
  · iexists _; isplitr; swap; · iexact H5
    · ipureintro; exact harg8.read_unread _
  isplitl [H6]
  · iexists _; iexists _; isplitr; swap; · iexact H6
    · ipureintro; rfl
  isplitl [H7]
  · iexists _; iexists _; isplitr; swap; · iexact H7
    · ipureintro; rfl
  isplitl [H8]
  · iexists _; iexists _; isplitr; swap; · iexact H8
    · ipureintro; rfl
  isplitl [Hq]
  · iexists _; iexists _; isplitr; swap; · iexact Hq
    · ipureintro; rfl
  isplitl [Ho]
  · iexists _; iexists _; isplitr; swap; · iexact Ho
    · ipureintro; rfl
  iexists _; iexists _; isplitr; swap; · iexact Hg
  · ipureintro; rfl

set_option maxHeartbeats 4000000 in
theorem run_first_past (c : Dev nD) (i : grid0.Coords) (arg3 : Memref sig .tc .vmem S768x512 .bf16) (harg3 : arg3.IsWhole) (arg4 : Memref sig .tc .vmem S768x512 .bf16) (harg4 : arg4.IsWhole) (arg5 : Memref sig .tc .vmem S1408x128 .bf16) (harg5 : arg5.IsWhole) (arg6 : Memref sig .tc .vmem S1408x128 .bf16) (harg6 : arg6.IsWhole) (arg7 : Memref sig .tc .vmem S1x4x768 .f32) (harg7 : arg7.IsWhole) (arg8 : Memref sig .tc .vmem S1x4x768 .f32) (harg8 : arg8.IsWhole) (arg9 : Memref sig .tc .vmem S768x512 .f32) (harg9 : arg9.IsWhole) (arg10 : Memref sig .tc .vmem S8448x128 .f32) (harg10 : arg10.IsWhole) (arg11 : Memref sig .tc .vmem S8448x128 .f32) (harg11 : arg11.IsWhole) (arg12 : Memref sig .tc .vmem S3072x128 .bf16) (harg12 : arg12.IsWhole) (arg13 : Memref sig .tc .vmem S3072x128 .bf16) (harg13 : arg13.IsWhole) (arg14 : Memref sig .tc .vmem S128x3072 .f32) (harg14 : arg14.IsWhole)
    (h0 : atFirst i) (h1 : ¬ atStart i) (h2 : pastStart i) (h3 : ¬ atLast i) :
    Returns (F := F) c i arg3 harg3 arg4 harg4 arg5 harg5 arg6 harg6 arg7 harg7 arg8 harg8 arg9 harg9 arg10 harg10 arg11 harg11 arg12 harg12 arg13 harg13 arg14 harg14 := by
  intro x0 x1 x2 x3 x4 x5 x6 x7 x8 xq xo xg E K
  simp only [cc0_b_attn_eq_skeleton]; unfold cc0_b_attn_skel
  simp only [k0_part2_eq_skeleton, k0_part3_eq_skeleton, k0_part4_eq_skeleton, k0_part5_eq_skeleton]
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%fq, %eq, Hq⟩, ⟨%fo, %eo, Ho⟩, ⟨%fg, %eg, Hg⟩, Hk⟩
  obtain rfl := harg3.eq_unread e0; obtain rfl := harg4.eq_unread e1; obtain rfl := harg5.eq_unread e2; obtain rfl := harg6.eq_unread e3; obtain rfl := harg7.eq_unread e4; obtain rfl := harg8.eq_unread e5; obtain rfl := harg9.eq_unread e6; obtain rfl := harg10.eq_unread e7; obtain rfl := harg11.eq_unread e8; obtain rfl := harg12.eq_unread eq; obtain rfl := harg13.eq_unread eo; obtain rfl := harg14.eq_unread eg
  sl_exec (disch := first | sl_exact h0 | sl_exact h1 | sl_exact h2 | sl_exact h3)
  sl_step
  iapply Hk
  isplitl [H0]
  · iexists _; isplitr; swap; · iexact H0
    · ipureintro; exact harg3.read_unread _
  isplitl [H1]
  · iexists _; isplitr; swap; · iexact H1
    · ipureintro; exact harg4.read_unread _
  isplitl [H2]
  · iexists _; isplitr; swap; · iexact H2
    · ipureintro; exact harg5.read_unread _
  isplitl [H3]
  · iexists _; isplitr; swap; · iexact H3
    · ipureintro; exact harg6.read_unread _
  isplitl [H4]
  · iexists _; isplitr; swap; · iexact H4
    · ipureintro; exact harg7.read_unread _
  isplitl [H5]
  · iexists _; isplitr; swap; · iexact H5
    · ipureintro; exact harg8.read_unread _
  isplitl [H6]
  · iexists _; iexists _; isplitr; swap; · iexact H6
    · ipureintro; rfl
  isplitl [H7]
  · iexists _; iexists _; isplitr; swap; · iexact H7
    · ipureintro; rfl
  isplitl [H8]
  · iexists _; iexists _; isplitr; swap; · iexact H8
    · ipureintro; rfl
  isplitl [Hq]
  · iexists _; iexists _; isplitr; swap; · iexact Hq
    · ipureintro; rfl
  isplitl [Ho]
  · iexists _; iexists _; isplitr; swap; · iexact Ho
    · ipureintro; rfl
  iexists _; iexists _; isplitr; swap; · iexact Hg
  · ipureintro; rfl

end Cert.Kernel.Bits

end
-- ==== Proof.Bits.RunMid.lean ====
module

public import proofs.«01_k».proof.Proof.Bits.Point

@[expose] public section

set_option maxRecDepth 16384

/-!
The body at the middle blocks of keys, in the first block of queries and in the later ones.
-/

noncomputable section

namespace Cert.Kernel.Bits

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
theorem run_mid_start (c : Dev nD) (i : grid0.Coords) (arg3 : Memref sig .tc .vmem S768x512 .bf16) (harg3 : arg3.IsWhole) (arg4 : Memref sig .tc .vmem S768x512 .bf16) (harg4 : arg4.IsWhole) (arg5 : Memref sig .tc .vmem S1408x128 .bf16) (harg5 : arg5.IsWhole) (arg6 : Memref sig .tc .vmem S1408x128 .bf16) (harg6 : arg6.IsWhole) (arg7 : Memref sig .tc .vmem S1x4x768 .f32) (harg7 : arg7.IsWhole) (arg8 : Memref sig .tc .vmem S1x4x768 .f32) (harg8 : arg8.IsWhole) (arg9 : Memref sig .tc .vmem S768x512 .f32) (harg9 : arg9.IsWhole) (arg10 : Memref sig .tc .vmem S8448x128 .f32) (harg10 : arg10.IsWhole) (arg11 : Memref sig .tc .vmem S8448x128 .f32) (harg11 : arg11.IsWhole) (arg12 : Memref sig .tc .vmem S3072x128 .bf16) (harg12 : arg12.IsWhole) (arg13 : Memref sig .tc .vmem S3072x128 .bf16) (harg13 : arg13.IsWhole) (arg14 : Memref sig .tc .vmem S128x3072 .f32) (harg14 : arg14.IsWhole)
    (h0 : ¬ atFirst i) (h1 : atStart i) (h2 : ¬ pastStart i) (h3 : ¬ atLast i) :
    Returns (F := F) c i arg3 harg3 arg4 harg4 arg5 harg5 arg6 harg6 arg7 harg7 arg8 harg8 arg9 harg9 arg10 harg10 arg11 harg11 arg12 harg12 arg13 harg13 arg14 harg14 := by
  intro x0 x1 x2 x3 x4 x5 x6 x7 x8 xq xo xg E K
  simp only [cc0_b_attn_eq_skeleton]; unfold cc0_b_attn_skel
  simp only [k0_part2_eq_skeleton, k0_part3_eq_skeleton, k0_part4_eq_skeleton, k0_part5_eq_skeleton]
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%fq, %eq, Hq⟩, ⟨%fo, %eo, Ho⟩, ⟨%fg, %eg, Hg⟩, Hk⟩
  obtain rfl := harg3.eq_unread e0; obtain rfl := harg4.eq_unread e1; obtain rfl := harg5.eq_unread e2; obtain rfl := harg6.eq_unread e3; obtain rfl := harg7.eq_unread e4; obtain rfl := harg8.eq_unread e5; obtain rfl := harg9.eq_unread e6; obtain rfl := harg10.eq_unread e7; obtain rfl := harg11.eq_unread e8; obtain rfl := harg12.eq_unread eq; obtain rfl := harg13.eq_unread eo; obtain rfl := harg14.eq_unread eg
  sl_exec (disch := first | sl_exact h0 | sl_exact h1 | sl_exact h2 | sl_exact h3)
  sl_step
  iapply Hk
  isplitl [H0]
  · iexists _; isplitr; swap; · iexact H0
    · ipureintro; exact harg3.read_unread _
  isplitl [H1]
  · iexists _; isplitr; swap; · iexact H1
    · ipureintro; exact harg4.read_unread _
  isplitl [H2]
  · iexists _; isplitr; swap; · iexact H2
    · ipureintro; exact harg5.read_unread _
  isplitl [H3]
  · iexists _; isplitr; swap; · iexact H3
    · ipureintro; exact harg6.read_unread _
  isplitl [H4]
  · iexists _; isplitr; swap; · iexact H4
    · ipureintro; exact harg7.read_unread _
  isplitl [H5]
  · iexists _; isplitr; swap; · iexact H5
    · ipureintro; exact harg8.read_unread _
  isplitl [H6]
  · iexists _; iexists _; isplitr; swap; · iexact H6
    · ipureintro; rfl
  isplitl [H7]
  · iexists _; iexists _; isplitr; swap; · iexact H7
    · ipureintro; rfl
  isplitl [H8]
  · iexists _; iexists _; isplitr; swap; · iexact H8
    · ipureintro; rfl
  isplitl [Hq]
  · iexists _; iexists _; isplitr; swap; · iexact Hq
    · ipureintro; rfl
  isplitl [Ho]
  · iexists _; iexists _; isplitr; swap; · iexact Ho
    · ipureintro; rfl
  iexists _; iexists _; isplitr; swap; · iexact Hg
  · ipureintro; rfl

set_option maxHeartbeats 4000000 in
theorem run_mid_past (c : Dev nD) (i : grid0.Coords) (arg3 : Memref sig .tc .vmem S768x512 .bf16) (harg3 : arg3.IsWhole) (arg4 : Memref sig .tc .vmem S768x512 .bf16) (harg4 : arg4.IsWhole) (arg5 : Memref sig .tc .vmem S1408x128 .bf16) (harg5 : arg5.IsWhole) (arg6 : Memref sig .tc .vmem S1408x128 .bf16) (harg6 : arg6.IsWhole) (arg7 : Memref sig .tc .vmem S1x4x768 .f32) (harg7 : arg7.IsWhole) (arg8 : Memref sig .tc .vmem S1x4x768 .f32) (harg8 : arg8.IsWhole) (arg9 : Memref sig .tc .vmem S768x512 .f32) (harg9 : arg9.IsWhole) (arg10 : Memref sig .tc .vmem S8448x128 .f32) (harg10 : arg10.IsWhole) (arg11 : Memref sig .tc .vmem S8448x128 .f32) (harg11 : arg11.IsWhole) (arg12 : Memref sig .tc .vmem S3072x128 .bf16) (harg12 : arg12.IsWhole) (arg13 : Memref sig .tc .vmem S3072x128 .bf16) (harg13 : arg13.IsWhole) (arg14 : Memref sig .tc .vmem S128x3072 .f32) (harg14 : arg14.IsWhole)
    (h0 : ¬ atFirst i) (h1 : ¬ atStart i) (h2 : pastStart i) (h3 : ¬ atLast i) :
    Returns (F := F) c i arg3 harg3 arg4 harg4 arg5 harg5 arg6 harg6 arg7 harg7 arg8 harg8 arg9 harg9 arg10 harg10 arg11 harg11 arg12 harg12 arg13 harg13 arg14 harg14 := by
  intro x0 x1 x2 x3 x4 x5 x6 x7 x8 xq xo xg E K
  simp only [cc0_b_attn_eq_skeleton]; unfold cc0_b_attn_skel
  simp only [k0_part2_eq_skeleton, k0_part3_eq_skeleton, k0_part4_eq_skeleton, k0_part5_eq_skeleton]
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%fq, %eq, Hq⟩, ⟨%fo, %eo, Ho⟩, ⟨%fg, %eg, Hg⟩, Hk⟩
  obtain rfl := harg3.eq_unread e0; obtain rfl := harg4.eq_unread e1; obtain rfl := harg5.eq_unread e2; obtain rfl := harg6.eq_unread e3; obtain rfl := harg7.eq_unread e4; obtain rfl := harg8.eq_unread e5; obtain rfl := harg9.eq_unread e6; obtain rfl := harg10.eq_unread e7; obtain rfl := harg11.eq_unread e8; obtain rfl := harg12.eq_unread eq; obtain rfl := harg13.eq_unread eo; obtain rfl := harg14.eq_unread eg
  sl_exec (disch := first | sl_exact h0 | sl_exact h1 | sl_exact h2 | sl_exact h3)
  sl_step
  iapply Hk
  isplitl [H0]
  · iexists _; isplitr; swap; · iexact H0
    · ipureintro; exact harg3.read_unread _
  isplitl [H1]
  · iexists _; isplitr; swap; · iexact H1
    · ipureintro; exact harg4.read_unread _
  isplitl [H2]
  · iexists _; isplitr; swap; · iexact H2
    · ipureintro; exact harg5.read_unread _
  isplitl [H3]
  · iexists _; isplitr; swap; · iexact H3
    · ipureintro; exact harg6.read_unread _
  isplitl [H4]
  · iexists _; isplitr; swap; · iexact H4
    · ipureintro; exact harg7.read_unread _
  isplitl [H5]
  · iexists _; isplitr; swap; · iexact H5
    · ipureintro; exact harg8.read_unread _
  isplitl [H6]
  · iexists _; iexists _; isplitr; swap; · iexact H6
    · ipureintro; rfl
  isplitl [H7]
  · iexists _; iexists _; isplitr; swap; · iexact H7
    · ipureintro; rfl
  isplitl [H8]
  · iexists _; iexists _; isplitr; swap; · iexact H8
    · ipureintro; rfl
  isplitl [Hq]
  · iexists _; iexists _; isplitr; swap; · iexact Hq
    · ipureintro; rfl
  isplitl [Ho]
  · iexists _; iexists _; isplitr; swap; · iexact Ho
    · ipureintro; rfl
  iexists _; iexists _; isplitr; swap; · iexact Hg
  · ipureintro; rfl

end Cert.Kernel.Bits

end
-- ==== Proof.Bits.RunLast.lean ====
module

public import proofs.«01_k».proof.Proof.Bits.Point

@[expose] public section

set_option maxRecDepth 16384

/-!
The body at the last blocks of keys, in the first block of queries and in the later ones.
-/

noncomputable section

namespace Cert.Kernel.Bits

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
theorem run_last_start (c : Dev nD) (i : grid0.Coords) (arg3 : Memref sig .tc .vmem S768x512 .bf16) (harg3 : arg3.IsWhole) (arg4 : Memref sig .tc .vmem S768x512 .bf16) (harg4 : arg4.IsWhole) (arg5 : Memref sig .tc .vmem S1408x128 .bf16) (harg5 : arg5.IsWhole) (arg6 : Memref sig .tc .vmem S1408x128 .bf16) (harg6 : arg6.IsWhole) (arg7 : Memref sig .tc .vmem S1x4x768 .f32) (harg7 : arg7.IsWhole) (arg8 : Memref sig .tc .vmem S1x4x768 .f32) (harg8 : arg8.IsWhole) (arg9 : Memref sig .tc .vmem S768x512 .f32) (harg9 : arg9.IsWhole) (arg10 : Memref sig .tc .vmem S8448x128 .f32) (harg10 : arg10.IsWhole) (arg11 : Memref sig .tc .vmem S8448x128 .f32) (harg11 : arg11.IsWhole) (arg12 : Memref sig .tc .vmem S3072x128 .bf16) (harg12 : arg12.IsWhole) (arg13 : Memref sig .tc .vmem S3072x128 .bf16) (harg13 : arg13.IsWhole) (arg14 : Memref sig .tc .vmem S128x3072 .f32) (harg14 : arg14.IsWhole)
    (h0 : ¬ atFirst i) (h1 : atStart i) (h2 : ¬ pastStart i) (h3 : atLast i) :
    Returns (F := F) c i arg3 harg3 arg4 harg4 arg5 harg5 arg6 harg6 arg7 harg7 arg8 harg8 arg9 harg9 arg10 harg10 arg11 harg11 arg12 harg12 arg13 harg13 arg14 harg14 := by
  intro x0 x1 x2 x3 x4 x5 x6 x7 x8 xq xo xg E K
  simp only [cc0_b_attn_eq_skeleton]; unfold cc0_b_attn_skel
  simp only [k0_part2_eq_skeleton, k0_part3_eq_skeleton, k0_part4_eq_skeleton, k0_part5_eq_skeleton]
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%fq, %eq, Hq⟩, ⟨%fo, %eo, Ho⟩, ⟨%fg, %eg, Hg⟩, Hk⟩
  obtain rfl := harg3.eq_unread e0; obtain rfl := harg4.eq_unread e1; obtain rfl := harg5.eq_unread e2; obtain rfl := harg6.eq_unread e3; obtain rfl := harg7.eq_unread e4; obtain rfl := harg8.eq_unread e5; obtain rfl := harg9.eq_unread e6; obtain rfl := harg10.eq_unread e7; obtain rfl := harg11.eq_unread e8; obtain rfl := harg12.eq_unread eq; obtain rfl := harg13.eq_unread eo; obtain rfl := harg14.eq_unread eg
  sl_exec (disch := first | sl_exact h0 | sl_exact h1 | sl_exact h2 | sl_exact h3)
  sl_step
  iapply Hk
  isplitl [H0]
  · iexists _; isplitr; swap; · iexact H0
    · ipureintro; exact harg3.read_unread _
  isplitl [H1]
  · iexists _; isplitr; swap; · iexact H1
    · ipureintro; exact harg4.read_unread _
  isplitl [H2]
  · iexists _; isplitr; swap; · iexact H2
    · ipureintro; exact harg5.read_unread _
  isplitl [H3]
  · iexists _; isplitr; swap; · iexact H3
    · ipureintro; exact harg6.read_unread _
  isplitl [H4]
  · iexists _; isplitr; swap; · iexact H4
    · ipureintro; exact harg7.read_unread _
  isplitl [H5]
  · iexists _; isplitr; swap; · iexact H5
    · ipureintro; exact harg8.read_unread _
  isplitl [H6]
  · iexists _; iexists _; isplitr; swap; · iexact H6
    · ipureintro; rfl
  isplitl [H7]
  · iexists _; iexists _; isplitr; swap; · iexact H7
    · ipureintro; rfl
  isplitl [H8]
  · iexists _; iexists _; isplitr; swap; · iexact H8
    · ipureintro; rfl
  isplitl [Hq]
  · iexists _; iexists _; isplitr; swap; · iexact Hq
    · ipureintro; rfl
  isplitl [Ho]
  · iexists _; iexists _; isplitr; swap; · iexact Ho
    · ipureintro; rfl
  iexists _; iexists _; isplitr; swap; · iexact Hg
  · ipureintro; rfl

set_option maxHeartbeats 4000000 in
theorem run_last_past (c : Dev nD) (i : grid0.Coords) (arg3 : Memref sig .tc .vmem S768x512 .bf16) (harg3 : arg3.IsWhole) (arg4 : Memref sig .tc .vmem S768x512 .bf16) (harg4 : arg4.IsWhole) (arg5 : Memref sig .tc .vmem S1408x128 .bf16) (harg5 : arg5.IsWhole) (arg6 : Memref sig .tc .vmem S1408x128 .bf16) (harg6 : arg6.IsWhole) (arg7 : Memref sig .tc .vmem S1x4x768 .f32) (harg7 : arg7.IsWhole) (arg8 : Memref sig .tc .vmem S1x4x768 .f32) (harg8 : arg8.IsWhole) (arg9 : Memref sig .tc .vmem S768x512 .f32) (harg9 : arg9.IsWhole) (arg10 : Memref sig .tc .vmem S8448x128 .f32) (harg10 : arg10.IsWhole) (arg11 : Memref sig .tc .vmem S8448x128 .f32) (harg11 : arg11.IsWhole) (arg12 : Memref sig .tc .vmem S3072x128 .bf16) (harg12 : arg12.IsWhole) (arg13 : Memref sig .tc .vmem S3072x128 .bf16) (harg13 : arg13.IsWhole) (arg14 : Memref sig .tc .vmem S128x3072 .f32) (harg14 : arg14.IsWhole)
    (h0 : ¬ atFirst i) (h1 : ¬ atStart i) (h2 : pastStart i) (h3 : atLast i) :
    Returns (F := F) c i arg3 harg3 arg4 harg4 arg5 harg5 arg6 harg6 arg7 harg7 arg8 harg8 arg9 harg9 arg10 harg10 arg11 harg11 arg12 harg12 arg13 harg13 arg14 harg14 := by
  intro x0 x1 x2 x3 x4 x5 x6 x7 x8 xq xo xg E K
  simp only [cc0_b_attn_eq_skeleton]; unfold cc0_b_attn_skel
  simp only [k0_part2_eq_skeleton, k0_part3_eq_skeleton, k0_part4_eq_skeleton, k0_part5_eq_skeleton]
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%fq, %eq, Hq⟩, ⟨%fo, %eo, Ho⟩, ⟨%fg, %eg, Hg⟩, Hk⟩
  obtain rfl := harg3.eq_unread e0; obtain rfl := harg4.eq_unread e1; obtain rfl := harg5.eq_unread e2; obtain rfl := harg6.eq_unread e3; obtain rfl := harg7.eq_unread e4; obtain rfl := harg8.eq_unread e5; obtain rfl := harg9.eq_unread e6; obtain rfl := harg10.eq_unread e7; obtain rfl := harg11.eq_unread e8; obtain rfl := harg12.eq_unread eq; obtain rfl := harg13.eq_unread eo; obtain rfl := harg14.eq_unread eg
  sl_exec (disch := first | sl_exact h0 | sl_exact h1 | sl_exact h2 | sl_exact h3)
  sl_step
  iapply Hk
  isplitl [H0]
  · iexists _; isplitr; swap; · iexact H0
    · ipureintro; exact harg3.read_unread _
  isplitl [H1]
  · iexists _; isplitr; swap; · iexact H1
    · ipureintro; exact harg4.read_unread _
  isplitl [H2]
  · iexists _; isplitr; swap; · iexact H2
    · ipureintro; exact harg5.read_unread _
  isplitl [H3]
  · iexists _; isplitr; swap; · iexact H3
    · ipureintro; exact harg6.read_unread _
  isplitl [H4]
  · iexists _; isplitr; swap; · iexact H4
    · ipureintro; exact harg7.read_unread _
  isplitl [H5]
  · iexists _; isplitr; swap; · iexact H5
    · ipureintro; exact harg8.read_unread _
  isplitl [H6]
  · iexists _; iexists _; isplitr; swap; · iexact H6
    · ipureintro; rfl
  isplitl [H7]
  · iexists _; iexists _; isplitr; swap; · iexact H7
    · ipureintro; rfl
  isplitl [H8]
  · iexists _; iexists _; isplitr; swap; · iexact H8
    · ipureintro; rfl
  isplitl [Hq]
  · iexists _; iexists _; isplitr; swap; · iexact Hq
    · ipureintro; rfl
  isplitl [Ho]
  · iexists _; iexists _; isplitr; swap; · iexact Ho
    · ipureintro; rfl
  iexists _; iexists _; isplitr; swap; · iexact Hg
  · ipureintro; rfl

end Cert.Kernel.Bits

end
-- ==== Proof.Bits.Launch.lean ====
module

public import proofs.«01_k».proof.Proof.Bits.RunFirst
public import proofs.«01_k».proof.Proof.Bits.RunMid
public import proofs.«01_k».proof.Proof.Bits.RunLast
public import proofs.«01_k».proof.Proof.Gen.Kernel.Frame
public import Idealize.ShloMosaic.Lib.Pipeline.ArrRel

@[expose] public section

set_option maxRecDepth 16384

/-!
The launch at any float instance, with the inputs held at their blocks and everything else at some contents: the frame of the program.
-/

noncomputable section

namespace Cert.Kernel.Bits

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hs0 (t : Fin cfg0.N) : (st0 t).IsWhole := hstage0_0 ((cfg0.slots t 0).cast nbuf0_0)
theorem hs1 (t : Fin cfg0.N) : (st1 t).IsWhole := hstage0_1 ((cfg0.slots t 1).cast nbuf0_1)
theorem hs2 (t : Fin cfg0.N) : (st2 t).IsWhole := hstage0_2 ((cfg0.slots t 2).cast nbuf0_2)
theorem hs3 (t : Fin cfg0.N) : (st3 t).IsWhole := hstage0_3 ((cfg0.slots t 3).cast nbuf0_3)
theorem hs4 (t : Fin cfg0.N) : (st4 t).IsWhole := hstage0_4 ((cfg0.slots t 4).cast nbuf0_4)
theorem hs5 (t : Fin cfg0.N) : (st5 t).IsWhole := hstage0_5 ((cfg0.slots t 5).cast nbuf0_5)
theorem hs6 (t : Fin cfg0.N) : (st6 t).IsWhole := hstage0_6 ((cfg0.slots t 6).cast nbuf0_6)
theorem hs7 (t : Fin cfg0.N) : (st7 t).IsWhole := hstage0_7 ((cfg0.slots t 7).cast nbuf0_7)
theorem hs8 (t : Fin cfg0.N) : (st8 t).IsWhole := hstage0_8 ((cfg0.slots t 8).cast nbuf0_8)

/-- The branches never disagree: the first block of queries starts the gradients by rows, the later ones add to them. -/
theorem branches (t : Fin grid0.N) : (atStart (grid0.coords t) ∧ ¬ pastStart (grid0.coords t)) ∨ (¬ atStart (grid0.coords t) ∧ pastStart (grid0.coords t)) := by
  rw [atStart_iff, pastStart_iff]; omega

/-- The body at every point. -/
theorem returns (c : Dev nD) (t : Fin cfg0.N) :
    Returns (F := F) c (grid0.coords t) (st0 t) (hs0 t) (st1 t) (hs1 t) (st2 t) (hs2 t) (st3 t) (hs3 t) (st4 t) (hs4 t) (st5 t) (hs5 t) (st6 t) (hs6 t) (st7 t) (hs7 t) (st8 t) (hs8 t) scQ (Memref.isWhole_whole _) scO (Memref.isWhole_whole _) scG (Memref.isWhole_whole _) := by
  by_cases h0 : atFirst (grid0.coords t)
  · have h3 : ¬ atLast (grid0.coords t) := fun e => by
      have := (atLast_iff t).1 e; have := (atFirst_iff t).1 h0; omega
    rcases branches t with ⟨h1, h2⟩ | ⟨h1, h2⟩
    · exact run_first_start (F := F) c _ _ _ _ _ _ _ _ _ _ _ _ _ _ _ _ _ _ _ _ _ _ _ _ _ h0 h1 h2 h3
    · exact run_first_past (F := F) c _ _ _ _ _ _ _ _ _ _ _ _ _ _ _ _ _ _ _ _ _ _ _ _ _ h0 h1 h2 h3
  · by_cases h3 : atLast (grid0.coords t)
    · rcases branches t with ⟨h1, h2⟩ | ⟨h1, h2⟩
      · exact run_last_start (F := F) c _ _ _ _ _ _ _ _ _ _ _ _ _ _ _ _ _ _ _ _ _ _ _ _ _ h0 h1 h2 h3
      · exact run_last_past (F := F) c _ _ _ _ _ _ _ _ _ _ _ _ _ _ _ _ _ _ _ _ _ _ _ _ _ h0 h1 h2 h3
    · rcases branches t with ⟨h1, h2⟩ | ⟨h1, h2⟩
      · exact run_mid_start (F := F) c _ _ _ _ _ _ _ _ _ _ _ _ _ _ _ _ _ _ _ _ _ _ _ _ _ h0 h1 h2 h3
      · exact run_mid_past (F := F) c _ _ _ _ _ _ _ _ _ _ _ _ _ _ _ _ _ _ _ _ _ _ _ _ _ h0 h1 h2 h3

/-- The proof data: each input's buffer at its block, the outputs' at anything, the scratch at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q _ := fullShare
  owed _ := 0

/-- The windows whose contents are not named: the outputs. -/
def outs : Fin 9 → Bool
  | 6 => true | 7 => true | 8 => true | _ => false

theorem A_eq (c : Dev nD) (w : Fin cfg0.W) : (dats m 0 c).A w = V m c (Pipeline.arrRef spec0 w) := by
  dsimp only [dats]

theorem before0 (c : Dev nD) (t : Fin cfg0.N) (d) : (dats m 0 c).before 0 t d = iblk m c 0 t := before0_0_of m _ (A_eq m c 0) (fun _ => rfl) t d
theorem before1 (c : Dev nD) (t : Fin cfg0.N) (d) : (dats m 0 c).before 1 t d = iblk m c 1 t := before0_1_of m _ (A_eq m c 1) (fun _ => rfl) t d
theorem before2 (c : Dev nD) (t : Fin cfg0.N) (d) : (dats m 0 c).before 2 t d = iblk m c 2 t := before0_2_of m _ (A_eq m c 2) (fun _ => rfl) t d
theorem before3 (c : Dev nD) (t : Fin cfg0.N) (d) : (dats m 0 c).before 3 t d = iblk m c 3 t := before0_3_of m _ (A_eq m c 3) (fun _ => rfl) t d
theorem before4 (c : Dev nD) (t : Fin cfg0.N) (d) : (dats m 0 c).before 4 t d = iblk m c 4 t := before0_4_of m _ (A_eq m c 4) (fun _ => rfl) t d
theorem before5 (c : Dev nD) (t : Fin cfg0.N) (d) : (dats m 0 c).before 5 t d = iblk m c 5 t := before0_5_of m _ (A_eq m c 5) (fun _ => rfl) t d

/-- The launch's share of the scratch: each buffer whole at some contents, and the generator register. -/
theorem launched_eq (c : Dev nD) :
    (Pipeline.ΦA spec0 c : sProp 𝕄)
      = iprop(iprop((∃ d, owns (c : Thread nD τ) scQ fullShare d) ∗ (∃ d, owns (c : Thread nD τ) scO fullShare d) ∗ (∃ d, owns (c : Thread nD τ) scG fullShare d)) ∗ (∃ r, prngReg c r)) := by
  unfold Pipeline.ΦA; rw [scopedRest0_eq]; simp only [scQ, scO, scG, owns_whole]; try rfl

/-- What a point starts from. -/
def bodyPre (c : Dev nD) (t : Fin cfg0.N) : sProp 𝕄 :=
  iprop((dats m 0 c).Φ t.castSucc ∗ (dats m 0 c).owesAt () t.castSucc ∗ (∃ d, owns (c : Thread nD τ) (st0 t) fullShare ((dats m 0 c).before 0 t d)) ∗ (∃ d, owns (c : Thread nD τ) (st1 t) fullShare ((dats m 0 c).before 1 t d)) ∗ (∃ d, owns (c : Thread nD τ) (st2 t) fullShare ((dats m 0 c).before 2 t d)) ∗ (∃ d, owns (c : Thread nD τ) (st3 t) fullShare ((dats m 0 c).before 3 t d)) ∗ (∃ d, owns (c : Thread nD τ) (st4 t) fullShare ((dats m 0 c).before 4 t d)) ∗ (∃ d, owns (c : Thread nD τ) (st5 t) fullShare ((dats m 0 c).before 5 t d)) ∗ (∃ Y, owns (c : Thread nD τ) (st6 t) fullShare Y) ∗ (∃ Y, owns (c : Thread nD τ) (st7 t) fullShare Y) ∗ (∃ Y, owns (c : Thread nD τ) (st8 t) fullShare Y))

/-- What a point leaves. -/
def bodyPost (c : Dev nD) (t : Fin cfg0.N) : sProp 𝕄 :=
  iprop((dats m 0 c).Φ t.succ ∗ (dats m 0 c).owesAt () t.succ ∗ owns (c : Thread nD τ) (st0 t) fullShare ((dats m 0 c).after 0 t) ∗ owns (c : Thread nD τ) (st1 t) fullShare ((dats m 0 c).after 1 t) ∗ owns (c : Thread nD τ) (st2 t) fullShare ((dats m 0 c).after 2 t) ∗ owns (c : Thread nD τ) (st3 t) fullShare ((dats m 0 c).after 3 t) ∗ owns (c : Thread nD τ) (st4 t) fullShare ((dats m 0 c).after 4 t) ∗ owns (c : Thread nD τ) (st5 t) fullShare ((dats m 0 c).after 5 t) ∗ (∃ Y, owns (c : Thread nD τ) (st6 t) fullShare Y) ∗ (∃ Y, owns (c : Thread nD τ) (st7 t) fullShare Y) ∗ (∃ Y, owns (c : Thread nD τ) (st8 t) fullShare Y))

set_option maxHeartbeats 800000 in
theorem sound_body (c : Dev nD) (t : Fin cfg0.N) :
    bodyPre m c t ⊢ wp frame (wpE (defs₀ (F := F)) Variants.none c none) Set.univ
      (cc0_b_attn (F := F) (grid0.coords t) (st0 t) (hs0 t) (st1 t) (hs1 t) (st2 t) (hs2 t) (st3 t) (hs3 t) (st4 t) (hs4 t) (st5 t) (hs5 t) (st6 t) (hs6 t) (st7 t) (hs7 t) (st8 t) (hs8 t) scQ (Memref.isWhole_whole _) scO (Memref.isWhole_whole _) scG (Memref.isWhole_whole _)) fun _ => bodyPost m c t := by
  unfold bodyPre bodyPost
  simp only [before0 m c t, before1 m c t, before2 m c t, before3 m c t, before4 m c t, before5 m c t]
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl, launched_eq]
  iintro ⟨⟨⟨⟨%xq, Hq⟩, ⟨%xo, Hs⟩, ⟨%xg, Hg⟩⟩, Hr⟩, Ho, ⟨%d0, H0⟩, ⟨%d1, H1⟩, ⟨%d2, H2⟩, ⟨%d3, H3⟩, ⟨%d4, H4⟩, ⟨%d5, H5⟩, ⟨%x6, H6⟩, ⟨%x7, H7⟩, ⟨%x8, H8⟩⟩
  iapply (returns (F := F) c t _ _ _ _ _ _ x6 x7 x8 xq xo xg Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [Hq]; · iexact Hq
  isplitl [Hs]; · iexact Hs
  isplitl [Hg]; · iexact Hg
  iintro ⟨H0, H1, H2, H3, H4, H5, H6, H7, H8, Hq, Hs, Hg⟩
  isplitl [Hq Hs Hg Hr]
  · isplitr [Hr]
    · isplitl [Hq]; · iexact Hq
      isplitl [Hs]; · iexact Hs
      iexact Hg
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body the pipeline calls at a point. -/
theorem called (t : Fin cfg0.N) :
    defs₀ (F := F) .tc cfg0.body (cfg0.bodyArgs t (cfg0.slots t)) = cc0_b_attn (F := F) (grid0.coords t) (st0 t) (hs0 t) (st1 t) (hs1 t) (st2 t) (hs2 t) (st3 t) (hs3 t) (st4 t) (hs4 t) (st5 t) (hs5 t) (st6 t) (hs6 t) (st7 t) (hs7 t) (st8 t) (hs8 t) scQ (Memref.isWhole_whole _) scO (Memref.isWhole_whole _) scG (Memref.isWhole_whole _) := by
  unfold defs₀; rw [Defs.onTc_tc]

theorem obligation (c : Dev nD) : Pipeline.BodyObligationLoose (dats m 0 c) (defs₀ (F := F)) Variants.none () Set.univ outs := fun t => by
  rw [bigSep_W0, bigSep_W0, called]
  exact triple_restated (sound_body m c t) rfl .rfl fun _ => .rfl

set_option backward.isDefEq.respectTransparency.types false in
/-- Every run ends with the arrays as the proof data leaves them and every semaphore at zero. -/
theorem run : θ_run defs (onTc (τ := τ) (main (F := F))) (s₀ m ρ)
    (fun r => Pipeline.RDat.FramePost (cfgs 0) (fun c => (dats m 0 c).toRForget outs) (V m) r ∧ r.2.sem = fun _ => 0) :=
  Pipeline.θ_run_frame_track_forget cfgs (dats m) 0 launch0 defs₀ Variants.none outs m ρ main
    (hbody := obligation m) (hshare := fun c => (dats m 0 c).share_full fun _ => rfl) (howed := fun _ _ => rfl) (V := V m) (hmain := hmain m Variants.none)
    (hA := A_eq m) (hin := fun _ => Entails.refl _) (hout := fun _ => Entails.refl _) (Q' := _) (hQ' := fun _ h => h)

end Cert.Kernel.Bits

end
-- ==== Proof.Bits.Frame.lean ====
module

public import proofs.«01_k».proof.Proof.Bits.Launch
public import Idealize.ShloMosaic.PureOps.BitExact

@[expose] public section

set_option maxRecDepth 16384

/-!
The frame of the program on floats as words: its arguments end as they were and no signal is left.
-/

noncomputable section

namespace Cert.Kernel.Words

open Idealize.ShloMosaic Idealize.ShloMosaic.TcCoe
open Idealize.SL Idealize.SL.Sem
open Idealize.ShloMosaic.Pipeline (Dat)
open Cert.Kernel Cert.Kernel.Gen Cert.Kernel.Bits

variable (m : (ℓ : Loc nD τ sig) → Buf (Elt Bits) ℓ) (ρ : Dev nD → PrngReg)

set_option maxHeartbeats 400000 in
theorem unchanged_of (r : PUnit × MemSt nD τ sig (Elt Bits))
    (h : Pipeline.RDat.FramePost (cfgs 0) (fun c => (dats m 0 c).toRForget outs) (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  obtain ⟨after, hL, hA⟩ := Pipeline.RDat.FramePost.exists_exact h c
  have a0 := (((dats m 0 c).toRForget outs).withAfter after).arrAt_in 0 rfl cfg0.N
  have a1 := (((dats m 0 c).toRForget outs).withAfter after).arrAt_in 1 rfl cfg0.N
  have a2 := (((dats m 0 c).toRForget outs).withAfter after).arrAt_in 2 rfl cfg0.N
  have a3 := (((dats m 0 c).toRForget outs).withAfter after).arrAt_in 3 rfl cfg0.N
  refine ⟨?_, ?_, ?_, ?_⟩
  · exact (hA 0).trans (a0.trans ((A_eq m c 0).trans (V_main_arg0 m c)))
  · exact (hA 2).trans (a2.trans ((A_eq m c 2).trans (V_main_arg1 m c)))
  · exact (hA 3).trans (a3.trans ((A_eq m c 3).trans (V_main_arg2 m c)))
  · exact (hA 1).trans (a1.trans ((A_eq m c 1).trans (V_main_arg3 m c)))

/-- Every run of the program on words ends with the arguments as they were and every semaphore at zero. -/
theorem frame : θ_run defs (onTc (τ := τ) (main (F := Bits))) ⟨m, fun _ => 0, ρ⟩
    (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨fun c => unchanged_of m r h.1 c, h.2⟩) (run m ρ)

end Cert.Kernel.Words

end
-- ==== Proof.Bwd.Point.lean ====
module

public import proofs.«01_k».proof.Proof.Gen.KernelIdeal.Frame
public import proofs.«01_k».proof.Proof.Gen.KernelIdeal.Skeleton
public import Idealize.ShloMosaic.Lib.VecWindow
public import Idealize.ShloMosaic.Lib.Pointwise.Index
public import Idealize.ShloMosaic.Lib.Pipeline.ReadBack

@[expose] public section

set_option maxRecDepth 16384

/-!
The backward pass of the grouped attention, as one call over a grid of 2 × 11 × 6 points (key/value head, block of
768 queries, block of 1408 keys). This module fixes the vocabulary: when each branch of the body runs, the buffers it
is handed, and, as plain functions of what those buffers hold, what one point computes.
-/

noncomputable section

namespace Cert.KernelIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! ## The branches -/

/-- The block of keys is the first one. -/
abbrev atFirst (i : grid0.Coords) : Prop :=
  Scalar.cmpi .ne (Scalar.extui (Scalar.cmpi .eq (BitVec.ofNat 32 (i 2).val) 0#32)) 0#32 = 1#1
/-- The block of queries is the first one. -/
abbrev atStart (i : grid0.Coords) : Prop := k0_cond2 i = 1#1
/-- The block of queries is not the first one. -/
abbrev pastStart (i : grid0.Coords) : Prop := k0_cond3 i = 1#1
/-- The block of keys is the last one. -/
abbrev atLast (i : grid0.Coords) : Prop := k0_cond4 i = 1#1

theorem coord0 (t : Fin grid0.N) : (grid0.coords t 0).val = t.val / 66 := by
  have e : (grid0.coords t 0).val = t.val / 66 % 2 := Pipeline.Grid.coords_val t 0 (by decide) rfl
  have ht : t.val < 132 := Nat.lt_of_lt_of_eq t.isLt N_0
  omega
theorem coord1 (t : Fin grid0.N) : (grid0.coords t 1).val = t.val / 6 % 11 := Pipeline.Grid.coords_val t 1 (by decide) rfl
theorem coord2 (t : Fin grid0.N) : (grid0.coords t 2).val = t.val % 6 := by
  have e : (grid0.coords t 2).val = t.val / 1 % 6 := Pipeline.Grid.coords_val t 2 (by decide) rfl
  omega

theorem atFirst_iff : ∀ t : Fin grid0.N, atFirst (grid0.coords t) ↔ t.val % 6 = 0 := by decide +kernel
theorem atStart_iff : ∀ t : Fin grid0.N, atStart (grid0.coords t) ↔ t.val / 6 % 11 = 0 := by decide +kernel
theorem pastStart_iff : ∀ t : Fin grid0.N, pastStart (grid0.coords t) ↔ 1 ≤ t.val / 6 % 11 := by decide +kernel
theorem atLast_iff : ∀ t : Fin grid0.N, atLast (grid0.coords t) ↔ t.val % 6 = 5 := by decide +kernel

theorem off1_eq : ∀ t : Fin grid0.N, k0_off1 (grid0.coords t) = ![t.val % 6 * 1408, 0] := by decide +kernel
theorem off2_eq : ∀ t : Fin grid0.N, k0_off2 (grid0.coords t) = ![t.val % 6 * 1408, 0] := by decide +kernel

/-! ## The buffers -/

abbrev st0 (t : Fin cfg0.N) : Memref sig .tc .vmem S768x512 .bf16 := win0_0.stage (cfg0.slots t 0)
abbrev st1 (t : Fin cfg0.N) : Memref sig .tc .vmem S768x512 .bf16 := win0_1.stage (cfg0.slots t 1)
abbrev st2 (t : Fin cfg0.N) : Memref sig .tc .vmem S1408x128 .bf16 := win0_2.stage (cfg0.slots t 2)
abbrev st3 (t : Fin cfg0.N) : Memref sig .tc .vmem S1408x128 .bf16 := win0_3.stage (cfg0.slots t 3)
abbrev st4 (t : Fin cfg0.N) : Memref sig .tc .vmem S1x4x768 .f32 := win0_4.stage (cfg0.slots t 4)
abbrev st5 (t : Fin cfg0.N) : Memref sig .tc .vmem S1x4x768 .f32 := win0_5.stage (cfg0.slots t 5)
abbrev st6 (t : Fin cfg0.N) : Memref sig .tc .vmem S768x512 .f32 := win0_6.stage (cfg0.slots t 6)
abbrev st7 (t : Fin cfg0.N) : Memref sig .tc .vmem S8448x128 .f32 := win0_7.stage (cfg0.slots t 7)
abbrev st8 (t : Fin cfg0.N) : Memref sig .tc .vmem S8448x128 .f32 := win0_8.stage (cfg0.slots t 8)
abbrev scQ : Memref sig .tc .vmem S3072x128 .bf16 := Memref.whole cc0_scratch0
abbrev scO : Memref sig .tc .vmem S3072x128 .bf16 := Memref.whole cc0_scratch1
abbrev scG : Memref sig .tc .vmem S128x3072 .f32 := Memref.whole cc0_scratch2

/-! ## What one point computes -/

/-- The four heads of a 768 × 512 block, one under the other. -/
def heads (x : Vec F S768x512 .bf16) : Vec F S3072x128 .bf16 :=
  fun y => x (ix2 (n0 := 768) (n1 := 512) ⟨(y 0).val % 768, Nat.mod_lt _ (by decide)⟩ ⟨(y 0).val / 768 * 128 + (y 1).val, by
    have h0 : (y 0).val < 3072 := (y 0).isLt
    have h1 : (y 1).val < 128 := (y 1).isLt
    omega⟩)

/-- Rows 0 to 768: head 0. -/
abbrev row0 (X : Vec F S3072x128 .bf16) : Vec F S768x128 .bf16 := VecWindow.window X ![0, 0] S768x128.size inb_S3072x128_S768x128_0_0
/-- Columns 0 to 768: head 0. -/
abbrev col0 (X : Vec F S128x3072 .f32) : Vec F S128x768 .f32 := VecWindow.window X ![0, 0] S128x768.size inb_S128x3072_S128x768_0_0
/-- The row statistic of head 0. -/
abbrev stat0 (X : Vec F S1x4x768 .f32) : Vec F S1x1x768 .f32 := VecWindow.window X ![0, 0, 0] S1x1x768.size inb_S1x4x768_S1x1x768_0_0_0
/-- Rows 768 to 1536: head 1. -/
abbrev row1 (X : Vec F S3072x128 .bf16) : Vec F S768x128 .bf16 := VecWindow.window X ![768, 0] S768x128.size inb_S3072x128_S768x128_768_0
/-- Columns 768 to 1536: head 1. -/
abbrev col1 (X : Vec F S128x3072 .f32) : Vec F S128x768 .f32 := VecWindow.window X ![0, 768] S128x768.size inb_S128x3072_S128x768_0_768
/-- The row statistic of head 1. -/
abbrev stat1 (X : Vec F S1x4x768 .f32) : Vec F S1x1x768 .f32 := VecWindow.window X ![0, 1, 0] S1x1x768.size inb_S1x4x768_S1x1x768_0_1_0
/-- Rows 1536 to 2304: head 2. -/
abbrev row2 (X : Vec F S3072x128 .bf16) : Vec F S768x128 .bf16 := VecWindow.window X ![1536, 0] S768x128.size inb_S3072x128_S768x128_1536_0
/-- Columns 1536 to 2304: head 2. -/
abbrev col2 (X : Vec F S128x3072 .f32) : Vec F S128x768 .f32 := VecWindow.window X ![0, 1536] S128x768.size inb_S128x3072_S128x768_0_1536
/-- The row statistic of head 2. -/
abbrev stat2 (X : Vec F S1x4x768 .f32) : Vec F S1x1x768 .f32 := VecWindow.window X ![0, 2, 0] S1x1x768.size inb_S1x4x768_S1x1x768_0_2_0
/-- Rows 2304 to 3072: head 3. -/
abbrev row3 (X : Vec F S3072x128 .bf16) : Vec F S768x128 .bf16 := VecWindow.window X ![2304, 0] S768x128.size inb_S3072x128_S768x128_2304_0
/-- Columns 2304 to 3072: head 3. -/
abbrev col3 (X : Vec F S128x3072 .f32) : Vec F S128x768 .f32 := VecWindow.window X ![0, 2304] S128x768.size inb_S128x3072_S128x768_0_2304
/-- The row statistic of head 3. -/
abbrev stat3 (X : Vec F S1x4x768 .f32) : Vec F S1x1x768 .f32 := VecWindow.window X ![0, 3, 0] S1x1x768.size inb_S1x4x768_S1x1x768_0_3_0

section Point
variable (X Y : Vec F S3072x128 .bf16) (k v : Vec F S1408x128 .bf16) (L E : Vec F S1x4x768 .f32)

/-- The score gradient of head 1, of key by query. -/
abbrev sg1 : FVec F S1408x768 .bf16 := k0_pay32 (k0_pay20 k (row1 X)) (k0_pay21 v (row1 Y)) (stat1 L) (stat1 E)
/-- The score gradient of head 2. -/
abbrev sg2 : FVec F S1408x768 .bf16 := k0_pay39 (k0_pay29 k (row2 X)) (k0_pay30 v (row2 Y)) (stat2 L) (stat2 E)
/-- The score gradient of head 3. -/
abbrev sg3 : FVec F S1408x768 .bf16 := k0_pay43 (k0_pay36 k (row3 X)) (k0_pay37 v (row3 Y)) (stat3 L) (stat3 E)

/-- The point's share of the value gradient: its block of keys, summed over its queries and the four heads. -/
def dvPart : FVec F S1408x128 .f32 :=
  k0_pay44 (k0_pay33 (k0_pay26 k0_pay19 (k0_pay22 k (row0 X) (stat0 L)) (row0 Y)) (k0_pay31 (k0_pay20 k (row1 X)) (stat1 L)) (row1 Y))
    (k0_pay36 k (row3 X)) (k0_pay40 (k0_pay29 k (row2 X)) (stat2 L)) (row2 Y) (stat3 L) (row3 Y)

/-- The point's share of the key gradient. -/
def dkPart : FVec F S1408x128 .f32 :=
  k0_pay45 (k0_pay34 (k0_pay27 k0_pay18 (k0_pay23 k v (row0 X) (row0 Y) (stat0 L) (stat0 E)) k0_pay24 (row0 X)) (sg1 X Y k v L E) (row1 X))
    (k0_pay36 k (row3 X)) (k0_pay37 v (row3 Y)) (sg2 X Y k v L E) (row2 X) (stat3 L) (stat3 E) (row3 X)

/-- The query gradient carried so far, `G`, with the point's share added, head by head. -/
def dqNext (G : Vec F S128x3072 .f32) : Vec F S128x3072 .f32 :=
  VecWindow.put (VecWindow.put (VecWindow.put (VecWindow.put G
    ![0, 0] S128x768.size (k0_pay28 k (k0_pay23 k v (row0 X) (row0 Y) (stat0 L) (stat0 E)) k0_pay24 (col0 G)))
    ![0, 768] S128x768.size (k0_pay35 k (sg1 X Y k v L E) (col1 G)))
    ![0, 1536] S128x768.size (k0_pay41 k (sg2 X Y k v L E) (col2 G)))
    ![0, 2304] S128x768.size (k0_pay1 k (sg3 X Y k v L E) (col3 G))

end Point

/-- The block of the query gradient the last point of a row of blocks stores: the four heads, transposed, side by side. -/
def dqOut (x6 : Vec F S768x512 .f32) (G : Vec F S128x3072 .f32) : Vec F S768x512 .f32 :=
  VecWindow.put (VecWindow.put (VecWindow.put (VecWindow.put x6
    ![0, 0] S768x128.size (k0_pay5 G)) ![0, 128] S768x128.size (k0_pay6 G)) ![0, 256] S768x128.size (k0_pay7 G)) ![0, 384] S768x128.size (k0_pay8 G)

/-- A key or value gradient of a head with the point's block of rows replaced. -/
def rowsSet (x : Vec F S8448x128 .f32) (j : ℕ) (w : FVec F S1408x128 .f32) : Vec F S8448x128 .f32 :=
  VecWindow.put x ![j * 1408, 0] S1408x128.size w

/-- The point's block of rows of a key or value gradient. -/
def rowsGet (x : Vec F S8448x128 .f32) (i : grid0.Coords) (h : pastStart i) : Vec F S1408x128 .f32 :=
  VecWindow.window x (k0_off2 i) S1408x128.size (k0_off2_inb i h)

/-- The body of the call, run at `i` on whole buffers: from the contents `x`, it ends, with the inputs as they were and the
    others holding the contents `y`. -/
def BodyRun (c : Dev nD) (i : grid0.Coords) (arg3 : Memref sig .tc .vmem S768x512 .bf16) (harg3 : arg3.IsWhole) (arg4 : Memref sig .tc .vmem S768x512 .bf16) (harg4 : arg4.IsWhole) (arg5 : Memref sig .tc .vmem S1408x128 .bf16) (harg5 : arg5.IsWhole) (arg6 : Memref sig .tc .vmem S1408x128 .bf16) (harg6 : arg6.IsWhole) (arg7 : Memref sig .tc .vmem S1x4x768 .f32) (harg7 : arg7.IsWhole) (arg8 : Memref sig .tc .vmem S1x4x768 .f32) (harg8 : arg8.IsWhole) (arg9 : Memref sig .tc .vmem S768x512 .f32) (harg9 : arg9.IsWhole) (arg10 : Memref sig .tc .vmem S8448x128 .f32) (harg10 : arg10.IsWhole) (arg11 : Memref sig .tc .vmem S8448x128 .f32) (harg11 : arg11.IsWhole) (arg12 : Memref sig .tc .vmem S3072x128 .bf16) (harg12 : arg12.IsWhole) (arg13 : Memref sig .tc .vmem S3072x128 .bf16) (harg13 : arg13.IsWhole) (arg14 : Memref sig .tc .vmem S128x3072 .f32) (harg14 : arg14.IsWhole)
    (x0 x1 : Vec F S768x512 .bf16) (x2 x3 : Vec F S1408x128 .bf16) (x4 x5 : Vec F S1x4x768 .f32) (x6 : Vec F S768x512 .f32) (x7 x8 : Vec F S8448x128 .f32)
    (xq xo : Vec F S3072x128 .bf16) (xg : Vec F S128x3072 .f32)
    (y6 : Vec F S768x512 .f32) (y7 y8 : Vec F S8448x128 .f32) (yq yo : Vec F S3072x128 .bf16) (yg : Vec F S128x3072 .f32) : Prop :=
  ∀ (E : Set ℕ) (K : PUnit → sProp 𝕄),
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare xq ∗ owns (c : Thread nD τ) arg13 fullShare xo ∗ owns (c : Thread nD τ) arg14 fullShare xg ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare y6 ∗ owns (c : Thread nD τ) arg10 fullShare y7 ∗ owns (c : Thread nD τ) arg11 fullShare y8 ∗ owns (c : Thread nD τ) arg12 fullShare yq ∗ owns (c : Thread nD τ) arg13 fullShare yo ∗ owns (c : Thread nD τ) arg14 fullShare yg) -∗ K ⟨⟩))
      ⊢ wp frame (wpE (defs₀ (F := F)) Variants.none c none) E (cc0_b_attn i arg3 harg3 arg4 harg4 arg5 harg5 arg6 harg6 arg7 harg7 arg8 harg8 arg9 harg9 arg10 harg10 arg11 harg11 arg12 harg12 arg13 harg13 arg14 harg14) K

end Cert.KernelIdeal.Bwd

end
-- ==== Proof.Bwd.Reads.lean ====
module

public import proofs.«01_k».proof.Proof.Bwd.Point
public import Idealize.ShloMosaic.Lib.Tactic.Stretches

@[expose] public section

set_option maxRecDepth 16384

/-!
Loads and stores of the body, read as windows of the values its buffers hold.
-/

noncomputable section

namespace Cert.KernelIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- A load of a rectangle of a whole buffer that holds `x` reads that window of `x`. -/
theorem readAt_held {s : Shape} {e : EltTy} (M : Memref sig .tc .vmem s e) (hM : M.IsWhole) (x : Vec F s e) (off size : Fin s.rank → ℕ)
    (inb : ∀ a, off a + size a ≤ s.size a) :
    M.view.readAt (Elt F) (Rect.unit off size inb).toLoadRect (hM.unread x) = VecWindow.window x off size inb := by
  rw [View.readAt_unit _ _ inb rfl inb, hM.read_unread]

/-- A load of a rectangle that earlier stores cover reads that window of what they left. -/
theorem readCov_window {s : Shape} {e : EltTy} (M : Memref sig .tc .vmem s e) (L : List (View.Piece (Elt F) s e)) (off size : Fin s.rank → ℕ)
    (inb : ∀ a, off a + size a ≤ s.size a) :
    M.view.readCov L (Rect.unit off size inb).toLoadRect = VecWindow.window (M.view.read (Elt F) (M.view.writes (Elt F) M.view.junk L)) off size inb :=
  View.readAt_unit _ _ inb rfl inb

theorem window_keys (x : Vec F S1408x128 .bf16) : VecWindow.window x ![0, 0] ![1408, 128] inb_S1408x128_S1408x128_0_0 = x := by
  funext y; exact congrArg x (Rect.emb_unit_full _ y)

theorem window_grad (x : Vec F S128x3072 .f32) : VecWindow.window x ![0, 0] ![128, 3072] inb_S128x3072_S128x3072_0_0 = x := by
  funext y; exact congrArg x (Rect.emb_unit_full _ y)

/-- The four stores of the heads of a block leave `heads`, whatever was there before. -/
theorem heads_stored {M : Memref sig .tc .vmem S3072x128 .bf16} (f : M.view.ty.Contents (Elt F)) (x : Vec F S768x512 .bf16) :
    M.view.read (Elt F) (M.view.writes (Elt F) f
      [⟨Rect.unit ![2304, 0] ![768, 128] inb_S3072x128_S768x128_2304_0, VecWindow.window x ![0, 384] ![768, 128] inb_S768x512_S768x128_0_384⟩,
       ⟨Rect.unit ![1536, 0] ![768, 128] inb_S3072x128_S768x128_1536_0, VecWindow.window x ![0, 256] ![768, 128] inb_S768x512_S768x128_0_256⟩,
       ⟨Rect.unit ![768, 0] ![768, 128] inb_S3072x128_S768x128_768_0, VecWindow.window x ![0, 128] ![768, 128] inb_S768x512_S768x128_0_128⟩,
       ⟨Rect.unit ![0, 0] ![768, 128] inb_S3072x128_S768x128_0_0, VecWindow.window x ![0, 0] ![768, 128] inb_S768x512_S768x128_0_0⟩]) = heads x := by
  rw [View.read_writes_cons_put _ _ _ _ _ rfl, View.read_writes_cons_put _ _ _ _ _ rfl, View.read_writes_cons_put _ _ _ _ _ rfl,
    View.read_writes_cons_put _ _ _ _ _ rfl]
  funext y
  have h0 : (y 0).val < 3072 := (y 0).isLt
  have h1 : (y 1).val < 128 := (y 1).isLt
  have put_hit : ∀ (g : Vec F S3072x128 .bf16) (r q : ℕ) (inb : ∀ a, (![0, q] : Fin 2 → ℕ) a + S768x128.size a ≤ S768x512.size a), r ≤ (y 0).val → (y 0).val < r + 768 → q = (y 0).val / 768 * 128 → r = (y 0).val / 768 * 768 →
      VecWindow.put g ![r, 0] S768x128.size (VecWindow.window x ![0, q] S768x128.size inb) y = heads x y := by
    intro g r q inb a b hq hr
    unfold VecWindow.put
    rw [dif_pos (by
      intro i
      match i with
      | ⟨0, _⟩ => exact ⟨a, b⟩
      | ⟨1, _⟩ => exact ⟨Nat.zero_le _, by show (y 1).val < 0 + 128; omega⟩)]
    unfold VecWindow.window heads
    refine congrArg x (funext fun i => Fin.ext ?_)
    match i with
    | ⟨0, _⟩ =>
      show 0 + 1 * ((y 0).val - r) = (y 0).val % 768
      omega
    | ⟨1, _⟩ =>
      show q + 1 * ((y 1).val - 0) = (y 0).val / 768 * 128 + (y 1).val
      omega
  have put_miss : ∀ (g : Vec F S3072x128 .bf16) (r : ℕ) (w : Vec F S768x128 .bf16), ¬ (r ≤ (y 0).val ∧ (y 0).val < r + 768) →
      VecWindow.put g ![r, 0] S768x128.size w y = g y := by
    intro g r w h
    unfold VecWindow.put
    rw [dif_neg fun hall => h (hall 0)]
  by_cases c3 : 2304 ≤ (y 0).val
  · exact put_hit _ 2304 384 _ c3 (by omega) (by omega) (by omega)
  rw [put_miss _ 2304 _ (by omega)]
  by_cases c2 : 1536 ≤ (y 0).val
  · exact put_hit _ 1536 256 _ c2 (by omega) (by omega) (by omega)
  rw [put_miss _ 1536 _ (by omega)]
  by_cases c1 : 768 ≤ (y 0).val
  · exact put_hit _ 768 128 _ c1 (by omega) (by omega) (by omega)
  rw [put_miss _ 768 _ (by omega)]
  exact put_hit _ 0 0 _ (by omega) (by omega) (by omega) (by omega)

/-- One store more over what earlier ones left. -/
theorem read_put {s : Shape} {e : EltTy} (M : Memref sig .tc .vmem s e) (f : M.view.ty.Contents (Elt F)) (off size : Fin s.rank → ℕ)
    (inb : ∀ a, off a + size a ≤ s.size a) (w : (Rect.unit off size inb).shape.Idx → Elt F e) (L : List (View.Piece (Elt F) s e)) :
    M.view.read (Elt F) (M.view.writes (Elt F) f (⟨Rect.unit off size inb, w⟩ :: L)) = VecWindow.put (M.view.read (Elt F) (M.view.writes (Elt F) f L)) off size w :=
  View.read_writes_cons_put _ _ _ _ _ rfl

/-- A store of the whole gradient buffer leaves what it stores. -/
theorem grad_stored (M : Memref sig .tc .vmem S128x3072 .f32) (f : M.view.ty.Contents (Elt F)) (w : Vec F S128x3072 .f32) :
    M.view.read (Elt F) (M.view.writes (Elt F) f [⟨Rect.unit ![0, 0] ![128, 3072] inb_S128x3072_S128x3072_0_0, w⟩]) = w :=
  View.read_writes_full _ _ _ _ _

/-- Another head's columns are not touched by a head's store. -/
theorem col_put (G : Vec F S128x3072 .f32) (a b : ℕ) (w : Vec F S128x768 .f32) (inb : ∀ i, (![0, b] : Fin 2 → ℕ) i + (![128, 768] : Fin 2 → ℕ) i ≤ S128x3072.size i)
    (h : a + 768 ≤ b) :
    VecWindow.window (VecWindow.put G ![0, a] ![128, 768] w) ![0, b] ![128, 768] inb = VecWindow.window G ![0, b] ![128, 768] inb :=
  VecWindow.window_put_of_disjoint _ _ _ _ _ _ _ 1 (Or.inr h)

/-- The four heads' columns fill the gradient buffer: what was there before does not matter. -/
theorem cols_cover (G G' : Vec F S128x3072 .f32) (w0 w1 w2 w3 : Vec F S128x768 .f32) :
    VecWindow.put (VecWindow.put (VecWindow.put (VecWindow.put G ![0, 0] ![128, 768] w0) ![0, 768] ![128, 768] w1) ![0, 1536] ![128, 768] w2) ![0, 2304] ![128, 768] w3
      = VecWindow.put (VecWindow.put (VecWindow.put (VecWindow.put G' ![0, 0] ![128, 768] w0) ![0, 768] ![128, 768] w1) ![0, 1536] ![128, 768] w2) ![0, 2304] ![128, 768] w3 := by
  funext y
  have h0 : (y 0).val < 128 := (y 0).isLt
  have h1 : (y 1).val < 3072 := (y 1).isLt
  have same : ∀ (A B : Vec F S128x3072 .f32) (o : ℕ) (w : Vec F S128x768 .f32), (o ≤ (y 1).val ∧ (y 1).val < o + 768 ∨ A y = B y) →
      VecWindow.put A ![0, o] ![128, 768] w y = VecWindow.put B ![0, o] ![128, 768] w y := by
    intro A B o w h
    by_cases c : o ≤ (y 1).val ∧ (y 1).val < o + 768
    · have hall : ∀ a, (![0, o] : Fin 2 → ℕ) a ≤ (y a).val ∧ (y a).val < (![0, o] : Fin 2 → ℕ) a + (![128, 768] : Fin 2 → ℕ) a := by
        intro a
        match a with
        | ⟨0, _⟩ => exact ⟨Nat.zero_le _, by show (y 0).val < 0 + 128; omega⟩
        | ⟨1, _⟩ => exact c
      unfold VecWindow.put
      rw [dif_pos hall, dif_pos hall]
    · have hno : ¬ ∀ a, (![0, o] : Fin 2 → ℕ) a ≤ (y a).val ∧ (y a).val < (![0, o] : Fin 2 → ℕ) a + (![128, 768] : Fin 2 → ℕ) a := fun hall => c (hall 1)
      unfold VecWindow.put
      rw [dif_neg hno, dif_neg hno]
      exact h.resolve_left c
  by_cases c3 : 2304 ≤ (y 1).val
  · exact same _ _ 2304 _ (Or.inl (by omega))
  by_cases c2 : 1536 ≤ (y 1).val
  · exact same _ _ 2304 _ (Or.inr (same _ _ 1536 _ (Or.inl (by omega))))
  by_cases c1 : 768 ≤ (y 1).val
  · exact same _ _ 2304 _ (Or.inr (same _ _ 1536 _ (Or.inr (same _ _ 768 _ (Or.inl (by omega))))))
  · exact same _ _ 2304 _ (Or.inr (same _ _ 1536 _ (Or.inr (same _ _ 768 _ (Or.inr (same _ _ 0 _ (Or.inl (by omega))))))))

theorem pay9_eq (x : Vec F S768x128 .bf16) : k0_pay9 x = x := by unfold k0_pay9; simp only [shapeCast_self]
theorem pay10_eq (x : Vec F S768x128 .bf16) : k0_pay10 x = x := by unfold k0_pay10; simp only [shapeCast_self]
theorem pay11_eq (x : Vec F S768x128 .bf16) : k0_pay11 x = x := by unfold k0_pay11; simp only [shapeCast_self]
theorem pay12_eq (x : Vec F S768x128 .bf16) : k0_pay12 x = x := by unfold k0_pay12; simp only [shapeCast_self]
theorem pay13_eq (x : Vec F S768x128 .bf16) : k0_pay13 x = x := by unfold k0_pay13; simp only [shapeCast_self]
theorem pay14_eq (x : Vec F S768x128 .bf16) : k0_pay14 x = x := by unfold k0_pay14; simp only [shapeCast_self]
theorem pay15_eq (x : Vec F S768x128 .bf16) : k0_pay15 x = x := by unfold k0_pay15; simp only [shapeCast_self]
theorem pay16_eq (x : Vec F S768x128 .bf16) : k0_pay16 x = x := by unfold k0_pay16; simp only [shapeCast_self]

end Cert.KernelIdeal.Bwd

end
-- ==== Proof.Bwd.RunFirstStart.lean ====
module

public import proofs.«01_k».proof.Proof.Bwd.Reads

@[expose] public section

set_option maxRecDepth 16384

/-!
One of the six ways through the body: the first block of keys, the first block of queries.
-/

noncomputable section

namespace Cert.KernelIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
theorem run_first_start (c : Dev nD) (i : grid0.Coords) (arg3 : Memref sig .tc .vmem S768x512 .bf16) (harg3 : arg3.IsWhole) (arg4 : Memref sig .tc .vmem S768x512 .bf16) (harg4 : arg4.IsWhole) (arg5 : Memref sig .tc .vmem S1408x128 .bf16) (harg5 : arg5.IsWhole) (arg6 : Memref sig .tc .vmem S1408x128 .bf16) (harg6 : arg6.IsWhole) (arg7 : Memref sig .tc .vmem S1x4x768 .f32) (harg7 : arg7.IsWhole) (arg8 : Memref sig .tc .vmem S1x4x768 .f32) (harg8 : arg8.IsWhole) (arg9 : Memref sig .tc .vmem S768x512 .f32) (harg9 : arg9.IsWhole) (arg10 : Memref sig .tc .vmem S8448x128 .f32) (harg10 : arg10.IsWhole) (arg11 : Memref sig .tc .vmem S8448x128 .f32) (harg11 : arg11.IsWhole) (arg12 : Memref sig .tc .vmem S3072x128 .bf16) (harg12 : arg12.IsWhole) (arg13 : Memref sig .tc .vmem S3072x128 .bf16) (harg13 : arg13.IsWhole) (arg14 : Memref sig .tc .vmem S128x3072 .f32) (harg14 : arg14.IsWhole) (h0 : atFirst i) (h1 : atStart i) (h2 : ¬pastStart i) (h3 : ¬atLast i)
    (x0 x1 : Vec F S768x512 .bf16) (x2 x3 : Vec F S1408x128 .bf16) (x4 x5 : Vec F S1x4x768 .f32) (x6 : Vec F S768x512 .f32) (x7 x8 : Vec F S8448x128 .f32)
    (xq xo : Vec F S3072x128 .bf16) (xg : Vec F S128x3072 .f32) :
    BodyRun c i arg3 harg3 arg4 harg4 arg5 harg5 arg6 harg6 arg7 harg7 arg8 harg8 arg9 harg9 arg10 harg10 arg11 harg11 arg12 harg12 arg13 harg13 arg14 harg14 x0 x1 x2 x3 x4 x5 x6 x7 x8 xq xo xg
      x6 (VecWindow.put x7 (k0_off1 i) S1408x128.size (dkPart (heads x0) (heads x1) x2 x3 x4 x5)) (VecWindow.put x8 (k0_off1 i) S1408x128.size (dvPart (heads x0) (heads x1) x2 x4)) (heads x0) (heads x1) (dqNext (heads x0) (heads x1) x2 x3 x4 x5 k0_pay17) := by
  intro E K
  simp only [cc0_b_attn_eq_skeleton]; unfold cc0_b_attn_skel
  simp only [k0_part2_eq_skeleton, k0_part3_eq_skeleton, k0_part4_eq_skeleton, k0_part5_eq_skeleton]
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%fq, %eq, Hq⟩, ⟨%fo, %eo, Ho⟩, ⟨%fg, %eg, Hg⟩, Hk⟩
  obtain rfl := harg3.eq_unread e0; obtain rfl := harg4.eq_unread e1; obtain rfl := harg5.eq_unread e2; obtain rfl := harg6.eq_unread e3; obtain rfl := harg7.eq_unread e4; obtain rfl := harg8.eq_unread e5; obtain rfl := harg9.eq_unread e6; obtain rfl := harg10.eq_unread e7; obtain rfl := harg11.eq_unread e8; obtain rfl := harg12.eq_unread eq; obtain rfl := harg13.eq_unread eo; obtain rfl := harg14.eq_unread eg
  sl_exec (disch := first | sl_exact h0 | sl_exact h1 | sl_exact h2 | sl_exact h3)
  sl_step
  iapply Hk
  isplitl [H0]
  · iexists _; isplitr; swap; · iexact H0
    · ipureintro
      exact harg3.read_unread _
  isplitl [H1]
  · iexists _; isplitr; swap; · iexact H1
    · ipureintro
      exact harg4.read_unread _
  isplitl [H2]
  · iexists _; isplitr; swap; · iexact H2
    · ipureintro
      exact harg5.read_unread _
  isplitl [H3]
  · iexists _; isplitr; swap; · iexact H3
    · ipureintro
      exact harg6.read_unread _
  isplitl [H4]
  · iexists _; isplitr; swap; · iexact H4
    · ipureintro
      exact harg7.read_unread _
  isplitl [H5]
  · iexists _; isplitr; swap; · iexact H5
    · ipureintro
      exact harg8.read_unread _
  isplitl [H6]
  · iexists _; isplitr; swap; · iexact H6
    · ipureintro
      exact harg9.read_unread _
  isplitl [H7]
  · iexists _; isplitr; swap; · iexact H7
    · ipureintro
      sl_open_run
      simp only [readCov_window, readAt_held, pay9_eq, pay10_eq, pay11_eq, pay12_eq, pay13_eq, pay14_eq, pay15_eq, pay16_eq, shapeCast_self]
      rw [read_put, View.writes_nil, e7, window_keys, window_keys, heads_stored, heads_stored]
      rfl
  isplitl [H8]
  · iexists _; isplitr; swap; · iexact H8
    · ipureintro
      sl_open_run
      simp only [readCov_window, readAt_held, pay9_eq, pay10_eq, pay11_eq, pay12_eq, pay13_eq, pay14_eq, pay15_eq, pay16_eq, shapeCast_self]
      rw [read_put, View.writes_nil, e8, window_keys, heads_stored, heads_stored]
      rfl
  isplitl [Hq]
  · iexists _; isplitr; swap; · iexact Hq
    · ipureintro
      sl_open_run
      simp only [readAt_held, pay9_eq, pay10_eq, pay11_eq, pay12_eq, pay13_eq, pay14_eq, pay15_eq, pay16_eq, shapeCast_self]
      exact heads_stored _ _
  isplitl [Ho]
  · iexists _; isplitr; swap; · iexact Ho
    · ipureintro
      sl_open_run
      simp only [readAt_held, pay9_eq, pay10_eq, pay11_eq, pay12_eq, pay13_eq, pay14_eq, pay15_eq, pay16_eq, shapeCast_self]
      exact heads_stored _ _
  iexists _; isplitr; swap; · iexact Hg
  · ipureintro
    sl_open_run
    simp only [readCov_window, readAt_held, pay9_eq, pay10_eq, pay11_eq, pay12_eq, pay13_eq, pay14_eq, pay15_eq, pay16_eq, shapeCast_self]
    rw [window_keys, window_keys, heads_stored, heads_stored]
    repeat first | rw [grad_stored] | rw [read_put]
    rw [col_put _ 0 768 _ _ (by decide), col_put _ 768 1536 _ _ (by decide), col_put _ 0 1536 _ _ (by decide), col_put _ 1536 2304 _ _ (by decide), col_put _ 768 2304 _ _ (by decide), col_put _ 0 2304 _ _ (by decide)]
    rfl

end Cert.KernelIdeal.Bwd

end
-- ==== Proof.Bwd.RunMidStart.lean ====
module

public import proofs.«01_k».proof.Proof.Bwd.RunFirstStart

@[expose] public section

set_option maxRecDepth 16384

/-!
One of the six ways through the body: a block of keys between, the first block of queries.
-/

noncomputable section

namespace Cert.KernelIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
theorem run_mid_start (c : Dev nD) (i : grid0.Coords) (arg3 : Memref sig .tc .vmem S768x512 .bf16) (harg3 : arg3.IsWhole) (arg4 : Memref sig .tc .vmem S768x512 .bf16) (harg4 : arg4.IsWhole) (arg5 : Memref sig .tc .vmem S1408x128 .bf16) (harg5 : arg5.IsWhole) (arg6 : Memref sig .tc .vmem S1408x128 .bf16) (harg6 : arg6.IsWhole) (arg7 : Memref sig .tc .vmem S1x4x768 .f32) (harg7 : arg7.IsWhole) (arg8 : Memref sig .tc .vmem S1x4x768 .f32) (harg8 : arg8.IsWhole) (arg9 : Memref sig .tc .vmem S768x512 .f32) (harg9 : arg9.IsWhole) (arg10 : Memref sig .tc .vmem S8448x128 .f32) (harg10 : arg10.IsWhole) (arg11 : Memref sig .tc .vmem S8448x128 .f32) (harg11 : arg11.IsWhole) (arg12 : Memref sig .tc .vmem S3072x128 .bf16) (harg12 : arg12.IsWhole) (arg13 : Memref sig .tc .vmem S3072x128 .bf16) (harg13 : arg13.IsWhole) (arg14 : Memref sig .tc .vmem S128x3072 .f32) (harg14 : arg14.IsWhole) (h0 : ¬atFirst i) (h1 : atStart i) (h2 : ¬pastStart i) (h3 : ¬atLast i)
    (x0 x1 : Vec F S768x512 .bf16) (x2 x3 : Vec F S1408x128 .bf16) (x4 x5 : Vec F S1x4x768 .f32) (x6 : Vec F S768x512 .f32) (x7 x8 : Vec F S8448x128 .f32)
    (xq xo : Vec F S3072x128 .bf16) (xg : Vec F S128x3072 .f32) :
    BodyRun c i arg3 harg3 arg4 harg4 arg5 harg5 arg6 harg6 arg7 harg7 arg8 harg8 arg9 harg9 arg10 harg10 arg11 harg11 arg12 harg12 arg13 harg13 arg14 harg14 x0 x1 x2 x3 x4 x5 x6 x7 x8 xq xo xg
      x6 (VecWindow.put x7 (k0_off1 i) S1408x128.size (dkPart xq xo x2 x3 x4 x5)) (VecWindow.put x8 (k0_off1 i) S1408x128.size (dvPart xq xo x2 x4)) xq xo (dqNext xq xo x2 x3 x4 x5 xg) := by
  intro E K
  simp only [cc0_b_attn_eq_skeleton]; unfold cc0_b_attn_skel
  simp only [k0_part2_eq_skeleton, k0_part3_eq_skeleton, k0_part4_eq_skeleton, k0_part5_eq_skeleton]
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%fq, %eq, Hq⟩, ⟨%fo, %eo, Ho⟩, ⟨%fg, %eg, Hg⟩, Hk⟩
  obtain rfl := harg3.eq_unread e0; obtain rfl := harg4.eq_unread e1; obtain rfl := harg5.eq_unread e2; obtain rfl := harg6.eq_unread e3; obtain rfl := harg7.eq_unread e4; obtain rfl := harg8.eq_unread e5; obtain rfl := harg9.eq_unread e6; obtain rfl := harg10.eq_unread e7; obtain rfl := harg11.eq_unread e8; obtain rfl := harg12.eq_unread eq; obtain rfl := harg13.eq_unread eo; obtain rfl := harg14.eq_unread eg
  sl_exec (disch := first | sl_exact h0 | sl_exact h1 | sl_exact h2 | sl_exact h3)
  sl_step
  iapply Hk
  isplitl [H0]
  · iexists _; isplitr; swap; · iexact H0
    · ipureintro
      exact harg3.read_unread _
  isplitl [H1]
  · iexists _; isplitr; swap; · iexact H1
    · ipureintro
      exact harg4.read_unread _
  isplitl [H2]
  · iexists _; isplitr; swap; · iexact H2
    · ipureintro
      exact harg5.read_unread _
  isplitl [H3]
  · iexists _; isplitr; swap; · iexact H3
    · ipureintro
      exact harg6.read_unread _
  isplitl [H4]
  · iexists _; isplitr; swap; · iexact H4
    · ipureintro
      exact harg7.read_unread _
  isplitl [H5]
  · iexists _; isplitr; swap; · iexact H5
    · ipureintro
      exact harg8.read_unread _
  isplitl [H6]
  · iexists _; isplitr; swap; · iexact H6
    · ipureintro
      exact harg9.read_unread _
  isplitl [H7]
  · iexists _; isplitr; swap; · iexact H7
    · ipureintro
      sl_open_run
      simp only [readAt_held]
      rw [read_put, View.writes_nil, e7, window_keys, window_keys]
      rfl
  isplitl [H8]
  · iexists _; isplitr; swap; · iexact H8
    · ipureintro
      sl_open_run
      simp only [readAt_held]
      rw [read_put, View.writes_nil, e8, window_keys]
      rfl
  isplitl [Hq]
  · iexists _; isplitr; swap; · iexact Hq
    · ipureintro
      exact harg12.read_unread _
  isplitl [Ho]
  · iexists _; isplitr; swap; · iexact Ho
    · ipureintro
      exact harg13.read_unread _
  iexists _; isplitr; swap; · iexact Hg
  · ipureintro
    sl_open_run
    simp only [readAt_held]
    rw [read_put, read_put, read_put, read_put, View.writes_nil, eg, window_keys, window_keys]
    rfl

end Cert.KernelIdeal.Bwd

end
-- ==== Proof.Bwd.RunLastStart.lean ====
module

public import proofs.«01_k».proof.Proof.Bwd.RunMidStart

@[expose] public section

set_option maxRecDepth 16384

/-!
One of the six ways through the body: the last block of keys, the first block of queries.
-/

noncomputable section

namespace Cert.KernelIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
theorem run_last_start (c : Dev nD) (i : grid0.Coords) (arg3 : Memref sig .tc .vmem S768x512 .bf16) (harg3 : arg3.IsWhole) (arg4 : Memref sig .tc .vmem S768x512 .bf16) (harg4 : arg4.IsWhole) (arg5 : Memref sig .tc .vmem S1408x128 .bf16) (harg5 : arg5.IsWhole) (arg6 : Memref sig .tc .vmem S1408x128 .bf16) (harg6 : arg6.IsWhole) (arg7 : Memref sig .tc .vmem S1x4x768 .f32) (harg7 : arg7.IsWhole) (arg8 : Memref sig .tc .vmem S1x4x768 .f32) (harg8 : arg8.IsWhole) (arg9 : Memref sig .tc .vmem S768x512 .f32) (harg9 : arg9.IsWhole) (arg10 : Memref sig .tc .vmem S8448x128 .f32) (harg10 : arg10.IsWhole) (arg11 : Memref sig .tc .vmem S8448x128 .f32) (harg11 : arg11.IsWhole) (arg12 : Memref sig .tc .vmem S3072x128 .bf16) (harg12 : arg12.IsWhole) (arg13 : Memref sig .tc .vmem S3072x128 .bf16) (harg13 : arg13.IsWhole) (arg14 : Memref sig .tc .vmem S128x3072 .f32) (harg14 : arg14.IsWhole) (h0 : ¬atFirst i) (h1 : atStart i) (h2 : ¬pastStart i) (h3 : atLast i)
    (x0 x1 : Vec F S768x512 .bf16) (x2 x3 : Vec F S1408x128 .bf16) (x4 x5 : Vec F S1x4x768 .f32) (x6 : Vec F S768x512 .f32) (x7 x8 : Vec F S8448x128 .f32)
    (xq xo : Vec F S3072x128 .bf16) (xg : Vec F S128x3072 .f32) :
    BodyRun c i arg3 harg3 arg4 harg4 arg5 harg5 arg6 harg6 arg7 harg7 arg8 harg8 arg9 harg9 arg10 harg10 arg11 harg11 arg12 harg12 arg13 harg13 arg14 harg14 x0 x1 x2 x3 x4 x5 x6 x7 x8 xq xo xg
      (dqOut x6 (dqNext xq xo x2 x3 x4 x5 xg)) (VecWindow.put x7 (k0_off1 i) S1408x128.size (dkPart xq xo x2 x3 x4 x5)) (VecWindow.put x8 (k0_off1 i) S1408x128.size (dvPart xq xo x2 x4)) xq xo (dqNext xq xo x2 x3 x4 x5 xg) := by
  intro E K
  simp only [cc0_b_attn_eq_skeleton]; unfold cc0_b_attn_skel
  simp only [k0_part2_eq_skeleton, k0_part3_eq_skeleton, k0_part4_eq_skeleton, k0_part5_eq_skeleton]
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%fq, %eq, Hq⟩, ⟨%fo, %eo, Ho⟩, ⟨%fg, %eg, Hg⟩, Hk⟩
  obtain rfl := harg3.eq_unread e0; obtain rfl := harg4.eq_unread e1; obtain rfl := harg5.eq_unread e2; obtain rfl := harg6.eq_unread e3; obtain rfl := harg7.eq_unread e4; obtain rfl := harg8.eq_unread e5; obtain rfl := harg9.eq_unread e6; obtain rfl := harg10.eq_unread e7; obtain rfl := harg11.eq_unread e8; obtain rfl := harg12.eq_unread eq; obtain rfl := harg13.eq_unread eo; obtain rfl := harg14.eq_unread eg
  sl_exec (disch := first | sl_exact h0 | sl_exact h1 | sl_exact h2 | sl_exact h3)
  sl_step
  iapply Hk
  isplitl [H0]
  · iexists _; isplitr; swap; · iexact H0
    · ipureintro
      exact harg3.read_unread _
  isplitl [H1]
  · iexists _; isplitr; swap; · iexact H1
    · ipureintro
      exact harg4.read_unread _
  isplitl [H2]
  · iexists _; isplitr; swap; · iexact H2
    · ipureintro
      exact harg5.read_unread _
  isplitl [H3]
  · iexists _; isplitr; swap; · iexact H3
    · ipureintro
      exact harg6.read_unread _
  isplitl [H4]
  · iexists _; isplitr; swap; · iexact H4
    · ipureintro
      exact harg7.read_unread _
  isplitl [H5]
  · iexists _; isplitr; swap; · iexact H5
    · ipureintro
      exact harg8.read_unread _
  isplitl [H6]
  · iexists _; isplitr; swap; · iexact H6
    · ipureintro
      sl_open_run
      simp only [readAt_held]
      rw [read_put, read_put, read_put, read_put, View.writes_nil, e6]
      rw [readCov_window, window_grad, read_put, read_put, read_put, read_put, cols_cover _ xg, window_keys, window_keys]
      rfl
  isplitl [H7]
  · iexists _; isplitr; swap; · iexact H7
    · ipureintro
      sl_open_run
      simp only [readAt_held]
      rw [read_put, View.writes_nil, e7, window_keys, window_keys]
      rfl
  isplitl [H8]
  · iexists _; isplitr; swap; · iexact H8
    · ipureintro
      sl_open_run
      simp only [readAt_held]
      rw [read_put, View.writes_nil, e8, window_keys]
      rfl
  isplitl [Hq]
  · iexists _; isplitr; swap; · iexact Hq
    · ipureintro
      exact harg12.read_unread _
  isplitl [Ho]
  · iexists _; isplitr; swap; · iexact Ho
    · ipureintro
      exact harg13.read_unread _
  iexists _; isplitr; swap; · iexact Hg
  · ipureintro
    sl_open_run
    simp only [readAt_held]
    rw [read_put, read_put, read_put, read_put, View.writes_nil, eg, window_keys, window_keys]
    rfl

end Cert.KernelIdeal.Bwd

end
-- ==== Proof.Bwd.RunFirstPast.lean ====
module

public import proofs.«01_k».proof.Proof.Bwd.RunLastStart

@[expose] public section

set_option maxRecDepth 16384

/-!
One of the six ways through the body: the first block of keys, a later block of queries.
-/

noncomputable section

namespace Cert.KernelIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
theorem run_first_past (c : Dev nD) (i : grid0.Coords) (arg3 : Memref sig .tc .vmem S768x512 .bf16) (harg3 : arg3.IsWhole) (arg4 : Memref sig .tc .vmem S768x512 .bf16) (harg4 : arg4.IsWhole) (arg5 : Memref sig .tc .vmem S1408x128 .bf16) (harg5 : arg5.IsWhole) (arg6 : Memref sig .tc .vmem S1408x128 .bf16) (harg6 : arg6.IsWhole) (arg7 : Memref sig .tc .vmem S1x4x768 .f32) (harg7 : arg7.IsWhole) (arg8 : Memref sig .tc .vmem S1x4x768 .f32) (harg8 : arg8.IsWhole) (arg9 : Memref sig .tc .vmem S768x512 .f32) (harg9 : arg9.IsWhole) (arg10 : Memref sig .tc .vmem S8448x128 .f32) (harg10 : arg10.IsWhole) (arg11 : Memref sig .tc .vmem S8448x128 .f32) (harg11 : arg11.IsWhole) (arg12 : Memref sig .tc .vmem S3072x128 .bf16) (harg12 : arg12.IsWhole) (arg13 : Memref sig .tc .vmem S3072x128 .bf16) (harg13 : arg13.IsWhole) (arg14 : Memref sig .tc .vmem S128x3072 .f32) (harg14 : arg14.IsWhole) (h0 : atFirst i) (h1 : ¬atStart i) (h2 : pastStart i) (h3 : ¬atLast i)
    (x0 x1 : Vec F S768x512 .bf16) (x2 x3 : Vec F S1408x128 .bf16) (x4 x5 : Vec F S1x4x768 .f32) (x6 : Vec F S768x512 .f32) (x7 x8 : Vec F S8448x128 .f32)
    (xq xo : Vec F S3072x128 .bf16) (xg : Vec F S128x3072 .f32) :
    BodyRun c i arg3 harg3 arg4 harg4 arg5 harg5 arg6 harg6 arg7 harg7 arg8 harg8 arg9 harg9 arg10 harg10 arg11 harg11 arg12 harg12 arg13 harg13 arg14 harg14 x0 x1 x2 x3 x4 x5 x6 x7 x8 xq xo xg
      x6 (VecWindow.put x7 (k0_off2 i) S1408x128.size (k0_pay2 (dkPart (heads x0) (heads x1) x2 x3 x4 x5) (rowsGet x7 i h2))) (VecWindow.put x8 (k0_off2 i) S1408x128.size (k0_pay3 (dvPart (heads x0) (heads x1) x2 x4) (rowsGet x8 i h2))) (heads x0) (heads x1) (dqNext (heads x0) (heads x1) x2 x3 x4 x5 k0_pay17) := by
  intro E K
  simp only [cc0_b_attn_eq_skeleton]; unfold cc0_b_attn_skel
  simp only [k0_part2_eq_skeleton, k0_part3_eq_skeleton, k0_part4_eq_skeleton, k0_part5_eq_skeleton]
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%fq, %eq, Hq⟩, ⟨%fo, %eo, Ho⟩, ⟨%fg, %eg, Hg⟩, Hk⟩
  obtain rfl := harg3.eq_unread e0; obtain rfl := harg4.eq_unread e1; obtain rfl := harg5.eq_unread e2; obtain rfl := harg6.eq_unread e3; obtain rfl := harg7.eq_unread e4; obtain rfl := harg8.eq_unread e5; obtain rfl := harg9.eq_unread e6; obtain rfl := harg10.eq_unread e7; obtain rfl := harg11.eq_unread e8; obtain rfl := harg12.eq_unread eq; obtain rfl := harg13.eq_unread eo; obtain rfl := harg14.eq_unread eg
  sl_exec (disch := first | sl_exact h0 | sl_exact h1 | sl_exact h2 | sl_exact h3)
  sl_step
  iapply Hk
  isplitl [H0]
  · iexists _; isplitr; swap; · iexact H0
    · ipureintro
      exact harg3.read_unread _
  isplitl [H1]
  · iexists _; isplitr; swap; · iexact H1
    · ipureintro
      exact harg4.read_unread _
  isplitl [H2]
  · iexists _; isplitr; swap; · iexact H2
    · ipureintro
      exact harg5.read_unread _
  isplitl [H3]
  · iexists _; isplitr; swap; · iexact H3
    · ipureintro
      exact harg6.read_unread _
  isplitl [H4]
  · iexists _; isplitr; swap; · iexact H4
    · ipureintro
      exact harg7.read_unread _
  isplitl [H5]
  · iexists _; isplitr; swap; · iexact H5
    · ipureintro
      exact harg8.read_unread _
  isplitl [H6]
  · iexists _; isplitr; swap; · iexact H6
    · ipureintro
      exact harg9.read_unread _
  isplitl [H7]
  · iexists _; isplitr; swap; · iexact H7
    · ipureintro
      sl_open_run
      simp only [readCov_window, readAt_held, pay9_eq, pay10_eq, pay11_eq, pay12_eq, pay13_eq, pay14_eq, pay15_eq, pay16_eq, shapeCast_self]
      rw [read_put, View.writes_nil, e7, window_keys, window_keys, heads_stored, heads_stored]
      rfl
  isplitl [H8]
  · iexists _; isplitr; swap; · iexact H8
    · ipureintro
      sl_open_run
      simp only [readCov_window, readAt_held, pay9_eq, pay10_eq, pay11_eq, pay12_eq, pay13_eq, pay14_eq, pay15_eq, pay16_eq, shapeCast_self]
      rw [read_put, View.writes_nil, e8, window_keys, heads_stored, heads_stored]
      rfl
  isplitl [Hq]
  · iexists _; isplitr; swap; · iexact Hq
    · ipureintro
      sl_open_run
      simp only [readAt_held, pay9_eq, pay10_eq, pay11_eq, pay12_eq, pay13_eq, pay14_eq, pay15_eq, pay16_eq, shapeCast_self]
      exact heads_stored _ _
  isplitl [Ho]
  · iexists _; isplitr; swap; · iexact Ho
    · ipureintro
      sl_open_run
      simp only [readAt_held, pay9_eq, pay10_eq, pay11_eq, pay12_eq, pay13_eq, pay14_eq, pay15_eq, pay16_eq, shapeCast_self]
      exact heads_stored _ _
  iexists _; isplitr; swap; · iexact Hg
  · ipureintro
    sl_open_run
    simp only [readCov_window, readAt_held, pay9_eq, pay10_eq, pay11_eq, pay12_eq, pay13_eq, pay14_eq, pay15_eq, pay16_eq, shapeCast_self]
    rw [window_keys, window_keys, heads_stored, heads_stored]
    repeat first | rw [grad_stored] | rw [read_put]
    rw [col_put _ 0 768 _ _ (by decide), col_put _ 768 1536 _ _ (by decide), col_put _ 0 1536 _ _ (by decide), col_put _ 1536 2304 _ _ (by decide), col_put _ 768 2304 _ _ (by decide), col_put _ 0 2304 _ _ (by decide)]
    rfl

end Cert.KernelIdeal.Bwd

end
-- ==== Proof.Bwd.RunMidPast.lean ====
module

public import proofs.«01_k».proof.Proof.Bwd.RunFirstPast

@[expose] public section

set_option maxRecDepth 16384

/-!
One of the six ways through the body: a block of keys between, a later block of queries.
-/

noncomputable section

namespace Cert.KernelIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
theorem run_mid_past (c : Dev nD) (i : grid0.Coords) (arg3 : Memref sig .tc .vmem S768x512 .bf16) (harg3 : arg3.IsWhole) (arg4 : Memref sig .tc .vmem S768x512 .bf16) (harg4 : arg4.IsWhole) (arg5 : Memref sig .tc .vmem S1408x128 .bf16) (harg5 : arg5.IsWhole) (arg6 : Memref sig .tc .vmem S1408x128 .bf16) (harg6 : arg6.IsWhole) (arg7 : Memref sig .tc .vmem S1x4x768 .f32) (harg7 : arg7.IsWhole) (arg8 : Memref sig .tc .vmem S1x4x768 .f32) (harg8 : arg8.IsWhole) (arg9 : Memref sig .tc .vmem S768x512 .f32) (harg9 : arg9.IsWhole) (arg10 : Memref sig .tc .vmem S8448x128 .f32) (harg10 : arg10.IsWhole) (arg11 : Memref sig .tc .vmem S8448x128 .f32) (harg11 : arg11.IsWhole) (arg12 : Memref sig .tc .vmem S3072x128 .bf16) (harg12 : arg12.IsWhole) (arg13 : Memref sig .tc .vmem S3072x128 .bf16) (harg13 : arg13.IsWhole) (arg14 : Memref sig .tc .vmem S128x3072 .f32) (harg14 : arg14.IsWhole) (h0 : ¬atFirst i) (h1 : ¬atStart i) (h2 : pastStart i) (h3 : ¬atLast i)
    (x0 x1 : Vec F S768x512 .bf16) (x2 x3 : Vec F S1408x128 .bf16) (x4 x5 : Vec F S1x4x768 .f32) (x6 : Vec F S768x512 .f32) (x7 x8 : Vec F S8448x128 .f32)
    (xq xo : Vec F S3072x128 .bf16) (xg : Vec F S128x3072 .f32) :
    BodyRun c i arg3 harg3 arg4 harg4 arg5 harg5 arg6 harg6 arg7 harg7 arg8 harg8 arg9 harg9 arg10 harg10 arg11 harg11 arg12 harg12 arg13 harg13 arg14 harg14 x0 x1 x2 x3 x4 x5 x6 x7 x8 xq xo xg
      x6 (VecWindow.put x7 (k0_off2 i) S1408x128.size (k0_pay2 (dkPart xq xo x2 x3 x4 x5) (rowsGet x7 i h2))) (VecWindow.put x8 (k0_off2 i) S1408x128.size (k0_pay3 (dvPart xq xo x2 x4) (rowsGet x8 i h2))) xq xo (dqNext xq xo x2 x3 x4 x5 xg) := by
  intro E K
  simp only [cc0_b_attn_eq_skeleton]; unfold cc0_b_attn_skel
  simp only [k0_part2_eq_skeleton, k0_part3_eq_skeleton, k0_part4_eq_skeleton, k0_part5_eq_skeleton]
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%fq, %eq, Hq⟩, ⟨%fo, %eo, Ho⟩, ⟨%fg, %eg, Hg⟩, Hk⟩
  obtain rfl := harg3.eq_unread e0; obtain rfl := harg4.eq_unread e1; obtain rfl := harg5.eq_unread e2; obtain rfl := harg6.eq_unread e3; obtain rfl := harg7.eq_unread e4; obtain rfl := harg8.eq_unread e5; obtain rfl := harg9.eq_unread e6; obtain rfl := harg10.eq_unread e7; obtain rfl := harg11.eq_unread e8; obtain rfl := harg12.eq_unread eq; obtain rfl := harg13.eq_unread eo; obtain rfl := harg14.eq_unread eg
  sl_exec (disch := first | sl_exact h0 | sl_exact h1 | sl_exact h2 | sl_exact h3)
  sl_step
  iapply Hk
  isplitl [H0]
  · iexists _; isplitr; swap; · iexact H0
    · ipureintro
      exact harg3.read_unread _
  isplitl [H1]
  · iexists _; isplitr; swap; · iexact H1
    · ipureintro
      exact harg4.read_unread _
  isplitl [H2]
  · iexists _; isplitr; swap; · iexact H2
    · ipureintro
      exact harg5.read_unread _
  isplitl [H3]
  · iexists _; isplitr; swap; · iexact H3
    · ipureintro
      exact harg6.read_unread _
  isplitl [H4]
  · iexists _; isplitr; swap; · iexact H4
    · ipureintro
      exact harg7.read_unread _
  isplitl [H5]
  · iexists _; isplitr; swap; · iexact H5
    · ipureintro
      exact harg8.read_unread _
  isplitl [H6]
  · iexists _; isplitr; swap; · iexact H6
    · ipureintro
      exact harg9.read_unread _
  isplitl [H7]
  · iexists _; isplitr; swap; · iexact H7
    · ipureintro
      sl_open_run
      simp only [readAt_held]
      rw [read_put, View.writes_nil, e7, window_keys, window_keys]
      rfl
  isplitl [H8]
  · iexists _; isplitr; swap; · iexact H8
    · ipureintro
      sl_open_run
      simp only [readAt_held]
      rw [read_put, View.writes_nil, e8, window_keys]
      rfl
  isplitl [Hq]
  · iexists _; isplitr; swap; · iexact Hq
    · ipureintro
      exact harg12.read_unread _
  isplitl [Ho]
  · iexists _; isplitr; swap; · iexact Ho
    · ipureintro
      exact harg13.read_unread _
  iexists _; isplitr; swap; · iexact Hg
  · ipureintro
    sl_open_run
    simp only [readAt_held]
    rw [read_put, read_put, read_put, read_put, View.writes_nil, eg, window_keys, window_keys]
    rfl

end Cert.KernelIdeal.Bwd

end
-- ==== Proof.Bwd.RunLastPast.lean ====
module

public import proofs.«01_k».proof.Proof.Bwd.RunMidPast

@[expose] public section

set_option maxRecDepth 16384

/-!
One of the six ways through the body: the last block of keys, a later block of queries.
-/

noncomputable section

namespace Cert.KernelIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
theorem run_last_past (c : Dev nD) (i : grid0.Coords) (arg3 : Memref sig .tc .vmem S768x512 .bf16) (harg3 : arg3.IsWhole) (arg4 : Memref sig .tc .vmem S768x512 .bf16) (harg4 : arg4.IsWhole) (arg5 : Memref sig .tc .vmem S1408x128 .bf16) (harg5 : arg5.IsWhole) (arg6 : Memref sig .tc .vmem S1408x128 .bf16) (harg6 : arg6.IsWhole) (arg7 : Memref sig .tc .vmem S1x4x768 .f32) (harg7 : arg7.IsWhole) (arg8 : Memref sig .tc .vmem S1x4x768 .f32) (harg8 : arg8.IsWhole) (arg9 : Memref sig .tc .vmem S768x512 .f32) (harg9 : arg9.IsWhole) (arg10 : Memref sig .tc .vmem S8448x128 .f32) (harg10 : arg10.IsWhole) (arg11 : Memref sig .tc .vmem S8448x128 .f32) (harg11 : arg11.IsWhole) (arg12 : Memref sig .tc .vmem S3072x128 .bf16) (harg12 : arg12.IsWhole) (arg13 : Memref sig .tc .vmem S3072x128 .bf16) (harg13 : arg13.IsWhole) (arg14 : Memref sig .tc .vmem S128x3072 .f32) (harg14 : arg14.IsWhole) (h0 : ¬atFirst i) (h1 : ¬atStart i) (h2 : pastStart i) (h3 : atLast i)
    (x0 x1 : Vec F S768x512 .bf16) (x2 x3 : Vec F S1408x128 .bf16) (x4 x5 : Vec F S1x4x768 .f32) (x6 : Vec F S768x512 .f32) (x7 x8 : Vec F S8448x128 .f32)
    (xq xo : Vec F S3072x128 .bf16) (xg : Vec F S128x3072 .f32) :
    BodyRun c i arg3 harg3 arg4 harg4 arg5 harg5 arg6 harg6 arg7 harg7 arg8 harg8 arg9 harg9 arg10 harg10 arg11 harg11 arg12 harg12 arg13 harg13 arg14 harg14 x0 x1 x2 x3 x4 x5 x6 x7 x8 xq xo xg
      (dqOut x6 (dqNext xq xo x2 x3 x4 x5 xg)) (VecWindow.put x7 (k0_off2 i) S1408x128.size (k0_pay2 (dkPart xq xo x2 x3 x4 x5) (rowsGet x7 i h2))) (VecWindow.put x8 (k0_off2 i) S1408x128.size (k0_pay3 (dvPart xq xo x2 x4) (rowsGet x8 i h2))) xq xo (dqNext xq xo x2 x3 x4 x5 xg) := by
  intro E K
  simp only [cc0_b_attn_eq_skeleton]; unfold cc0_b_attn_skel
  simp only [k0_part2_eq_skeleton, k0_part3_eq_skeleton, k0_part4_eq_skeleton, k0_part5_eq_skeleton]
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%fq, %eq, Hq⟩, ⟨%fo, %eo, Ho⟩, ⟨%fg, %eg, Hg⟩, Hk⟩
  obtain rfl := harg3.eq_unread e0; obtain rfl := harg4.eq_unread e1; obtain rfl := harg5.eq_unread e2; obtain rfl := harg6.eq_unread e3; obtain rfl := harg7.eq_unread e4; obtain rfl := harg8.eq_unread e5; obtain rfl := harg9.eq_unread e6; obtain rfl := harg10.eq_unread e7; obtain rfl := harg11.eq_unread e8; obtain rfl := harg12.eq_unread eq; obtain rfl := harg13.eq_unread eo; obtain rfl := harg14.eq_unread eg
  sl_exec (disch := first | sl_exact h0 | sl_exact h1 | sl_exact h2 | sl_exact h3)
  sl_step
  iapply Hk
  isplitl [H0]
  · iexists _; isplitr; swap; · iexact H0
    · ipureintro
      exact harg3.read_unread _
  isplitl [H1]
  · iexists _; isplitr; swap; · iexact H1
    · ipureintro
      exact harg4.read_unread _
  isplitl [H2]
  · iexists _; isplitr; swap; · iexact H2
    · ipureintro
      exact harg5.read_unread _
  isplitl [H3]
  · iexists _; isplitr; swap; · iexact H3
    · ipureintro
      exact harg6.read_unread _
  isplitl [H4]
  · iexists _; isplitr; swap; · iexact H4
    · ipureintro
      exact harg7.read_unread _
  isplitl [H5]
  · iexists _; isplitr; swap; · iexact H5
    · ipureintro
      exact harg8.read_unread _
  isplitl [H6]
  · iexists _; isplitr; swap; · iexact H6
    · ipureintro
      sl_open_run
      simp only [readAt_held]
      rw [read_put, read_put, read_put, read_put, View.writes_nil, e6]
      rw [readCov_window, window_grad, read_put, read_put, read_put, read_put, cols_cover _ xg, window_keys, window_keys]
      rfl
  isplitl [H7]
  · iexists _; isplitr; swap; · iexact H7
    · ipureintro
      sl_open_run
      simp only [readAt_held]
      rw [read_put, View.writes_nil, e7, window_keys, window_keys]
      rfl
  isplitl [H8]
  · iexists _; isplitr; swap; · iexact H8
    · ipureintro
      sl_open_run
      simp only [readAt_held]
      rw [read_put, View.writes_nil, e8, window_keys]
      rfl
  isplitl [Hq]
  · iexists _; isplitr; swap; · iexact Hq
    · ipureintro
      exact harg12.read_unread _
  isplitl [Ho]
  · iexists _; isplitr; swap; · iexact Ho
    · ipureintro
      exact harg13.read_unread _
  iexists _; isplitr; swap; · iexact Hg
  · ipureintro
    sl_open_run
    simp only [readAt_held]
    rw [read_put, read_put, read_put, read_put, View.writes_nil, eg, window_keys, window_keys]
    rfl

end Cert.KernelIdeal.Bwd

end
-- ==== Proof.Bwd.Payload.lean ====
module

public import proofs.«01_k».proof.Proof.Bwd.Point
public import Idealize.ShloMosaic.Lib.Pointwise

@[expose] public section

set_option maxRecDepth 16384

/-!
What one point computes, read element by element over the extended reals.
-/

noncomputable section

namespace Cert.KernelIdeal.Bwd

open Idealize.ShloMosaic Idealize.ShloMosaic.TcCoe
open Cert.KernelIdeal Cert.KernelIdeal.Gen

/-- The scale of the scores times the binary logarithm of e. -/
abbrev c2 : EReal := Named.named (F := Ideal) κ "scale_log2e" (φ := .f32) 0x3E0293EE#32
/-- The scale of the scores. -/
abbrev cs : EReal := Scalar.ofBits (F := Ideal) .f32 0x3DB504F3#32

section Leaf
variable (k v : Vec Ideal S1408x128 .bf16) (q o : Vec Ideal S768x128 .bf16) (ls es : Vec Ideal S1x1x768 .f32)

/-- The weight of key `l` for query `r`, from the stored logarithm of the row's sum. -/
def pr (l : Fin 1408) (r : Fin 768) : EReal := FloatOps.exp2 (F := Ideal) (φ := .f32) ((∑ d : Fin 128, k (ix2 l d) * q (ix2 r d)) * c2 - ls (ix3 0 0 r))

/-- The gradient of the score of key `l` and query `r`. -/
def gr (l : Fin 1408) (r : Fin 768) : EReal := pr k q ls l r * ((∑ d : Fin 128, v (ix2 l d) * o (ix2 r d)) - es (ix3 0 0 r)) * cs

theorem pay22_at (l : Fin 1408) (r : Fin 768) : k0_pay22 k q ls (ix2 l r) = pr k q ls l r := by
  unfold k0_pay22 pr
  pointwise
theorem pay31_at (l : Fin 1408) (r : Fin 768) : k0_pay31 (k0_pay20 k q) ls (ix2 l r) = pr k q ls l r := by
  unfold k0_pay31 k0_pay20 pr
  pointwise
theorem pay38_at (l : Fin 1408) (r : Fin 768) : k0_pay38 (k0_pay29 k q) ls (ix2 l r) = pr k q ls l r := by
  unfold k0_pay38 k0_pay29 pr
  pointwise
theorem pay42_at (l : Fin 1408) (r : Fin 768) : k0_pay42 (k0_pay36 k q) ls (ix2 l r) = pr k q ls l r := by
  unfold k0_pay42 k0_pay36 pr
  pointwise
theorem pay25_at (l : Fin 1408) (r : Fin 768) : k0_pay25 (k0_pay23 k v q o ls es) k0_pay24 (ix2 l r) = gr k v q o ls es l r := by
  unfold k0_pay25 k0_pay23 k0_pay24 gr
  pointwise [pay22_at]
theorem pay32_at (l : Fin 1408) (r : Fin 768) : k0_pay32 (k0_pay20 k q) (k0_pay21 v o) ls es (ix2 l r) = gr k v q o ls es l r := by
  unfold k0_pay32 k0_pay21 gr
  pointwise [pay31_at]
theorem pay39_at (l : Fin 1408) (r : Fin 768) : k0_pay39 (k0_pay29 k q) (k0_pay30 v o) ls es (ix2 l r) = gr k v q o ls es l r := by
  unfold k0_pay39 k0_pay30 gr
  pointwise [pay38_at]
theorem pay43_at (l : Fin 1408) (r : Fin 768) : k0_pay43 (k0_pay36 k q) (k0_pay37 v o) ls es (ix2 l r) = gr k v q o ls es l r := by
  unfold k0_pay43 k0_pay37 gr
  pointwise [pay42_at]

end Leaf

/-! ## The heads of a point, out of the scratch -/

/-- Query `r` of head `p`, among the rows (or columns) of the scratch. -/
abbrev hp (p : Fin 4) (r : Fin 768) : Fin 3072 := ⟨p.val * 768 + r.val, by omega⟩
/-- Lane `d` of head `p`, among the columns of a block of queries. -/
abbrev hd (p : Fin 4) (d : Fin 128) : Fin 512 := ⟨p.val * 128 + d.val, by omega⟩

theorem win2 {n0 n1 m0 m1 : ℕ} {α : Type} (x : (⟨2, ![n0, n1]⟩ : Shape).Idx → α) (o0 o1 : ℕ)
    (inb : ∀ a, (![o0, o1] : Fin 2 → ℕ) a + (![m0, m1] : Fin 2 → ℕ) a ≤ (⟨2, ![n0, n1]⟩ : Shape).size a) (a : Fin m0) (b : Fin m1)
    (ha : o0 + a.val < n0) (hb : o1 + b.val < n1) :
    VecWindow.window (s := ⟨2, ![n0, n1]⟩) x ![o0, o1] ![m0, m1] inb (ix2 a b) = x (ix2 ⟨o0 + a.val, ha⟩ ⟨o1 + b.val, hb⟩) := by
  unfold VecWindow.window
  refine congrArg x (funext fun i => Fin.ext ?_)
  match i with
  | ⟨0, _⟩ => show o0 + 1 * a.val = o0 + a.val; omega
  | ⟨1, _⟩ => show o1 + 1 * b.val = o1 + b.val; omega

theorem win3 {n0 n1 n2 m0 m1 m2 : ℕ} {α : Type} (x : (⟨3, ![n0, n1, n2]⟩ : Shape).Idx → α) (o0 o1 o2 : ℕ)
    (inb : ∀ a, (![o0, o1, o2] : Fin 3 → ℕ) a + (![m0, m1, m2] : Fin 3 → ℕ) a ≤ (⟨3, ![n0, n1, n2]⟩ : Shape).size a) (a : Fin m0) (b : Fin m1) (c : Fin m2)
    (ha : o0 + a.val < n0) (hb : o1 + b.val < n1) (hc : o2 + c.val < n2) :
    VecWindow.window (s := ⟨3, ![n0, n1, n2]⟩) x ![o0, o1, o2] ![m0, m1, m2] inb (ix3 a b c)
      = x (ix3 ⟨o0 + a.val, ha⟩ ⟨o1 + b.val, hb⟩ ⟨o2 + c.val, hc⟩) := by
  unfold VecWindow.window
  refine congrArg x (funext fun i => Fin.ext ?_)
  match i with
  | ⟨0, _⟩ => show o0 + 1 * a.val = o0 + a.val; omega
  | ⟨1, _⟩ => show o1 + 1 * b.val = o1 + b.val; omega
  | ⟨2, _⟩ => show o2 + 1 * c.val = o2 + c.val; omega

theorem put2_hit {n0 n1 m0 m1 : ℕ} {α : Type} (x : (⟨2, ![n0, n1]⟩ : Shape).Idx → α) (o0 o1 : ℕ) (w : (⟨2, ![m0, m1]⟩ : Shape).Idx → α)
    (y : (⟨2, ![n0, n1]⟩ : Shape).Idx) (a : Fin m0) (b : Fin m1) (ha : (y 0).val = o0 + a.val) (hb : (y 1).val = o1 + b.val) :
    VecWindow.put (s := ⟨2, ![n0, n1]⟩) x ![o0, o1] ![m0, m1] w y = w (ix2 a b) := by
  have hall : ∀ i, (![o0, o1] : Fin 2 → ℕ) i ≤ (y i).val ∧ (y i).val < (![o0, o1] : Fin 2 → ℕ) i + (![m0, m1] : Fin 2 → ℕ) i := by
    intro i
    match i with
    | ⟨0, _⟩ => show o0 ≤ (y 0).val ∧ (y 0).val < o0 + m0; have := a.isLt; omega
    | ⟨1, _⟩ => show o1 ≤ (y 1).val ∧ (y 1).val < o1 + m1; have := b.isLt; omega
  unfold VecWindow.put
  rw [dif_pos hall]
  refine congrArg w (funext fun i => Fin.ext ?_)
  match i with
  | ⟨0, _⟩ => show (y 0).val - o0 = a.val; omega
  | ⟨1, _⟩ => show (y 1).val - o1 = b.val; omega

theorem put2_miss0 {n0 n1 m0 m1 : ℕ} {α : Type} (x : (⟨2, ![n0, n1]⟩ : Shape).Idx → α) (o0 o1 : ℕ) (w : (⟨2, ![m0, m1]⟩ : Shape).Idx → α)
    (y : (⟨2, ![n0, n1]⟩ : Shape).Idx) (h : ¬ (o0 ≤ (y 0).val ∧ (y 0).val < o0 + m0)) :
    VecWindow.put (s := ⟨2, ![n0, n1]⟩) x ![o0, o1] ![m0, m1] w y = x y := by
  unfold VecWindow.put
  rw [dif_neg fun hall => h (hall 0)]

theorem put2_miss1 {n0 n1 m0 m1 : ℕ} {α : Type} (x : (⟨2, ![n0, n1]⟩ : Shape).Idx → α) (o0 o1 : ℕ) (w : (⟨2, ![m0, m1]⟩ : Shape).Idx → α)
    (y : (⟨2, ![n0, n1]⟩ : Shape).Idx) (h : ¬ (o1 ≤ (y 1).val ∧ (y 1).val < o1 + m1)) :
    VecWindow.put (s := ⟨2, ![n0, n1]⟩) x ![o0, o1] ![m0, m1] w y = x y := by
  unfold VecWindow.put
  rw [dif_neg fun hall => h (hall 1)]

section Heads
variable (X Y : Vec Ideal S3072x128 .bf16) (k v : Vec Ideal S1408x128 .bf16) (L E : Vec Ideal S1x4x768 .f32)

/-- The weight of key `l` for query `r` of head `p`. -/
def wt (p : Fin 4) (l : Fin 1408) (r : Fin 768) : EReal :=
  FloatOps.exp2 (F := Ideal) (φ := .f32) ((∑ d : Fin 128, k (ix2 l d) * X (ix2 (hp p r) d)) * c2 - L (ix3 0 p r))
/-- The score gradient of key `l` and query `r` of head `p`. -/
def sg (p : Fin 4) (l : Fin 1408) (r : Fin 768) : EReal :=
  wt X k L p l r * ((∑ d : Fin 128, v (ix2 l d) * Y (ix2 (hp p r) d)) - E (ix3 0 p r)) * cs

theorem row0_at (r : Fin 768) (d : Fin 128) : row0 X (ix2 r d) = X (ix2 (hp 0 r) d) := by
  refine (win2 X 0 0 _ r d (by omega) (by omega)).trans (congrArg X ?_)
  exact (ix2_inj _ _ _ _).2 ⟨Fin.ext (by show 0 + r.val = 0 * 768 + r.val; omega), Fin.ext (by show 0 + d.val = d.val; omega)⟩
theorem stat0_at (r : Fin 768) : stat0 L (ix3 0 0 r) = L (ix3 0 0 r) := by
  refine (win3 L 0 0 0 _ 0 0 r (by decide) (by decide) (by omega)).trans (congrArg L ?_)
  exact (ix3_inj _ _ _ _ _ _).2 ⟨rfl, rfl, Fin.ext (by show 0 + r.val = r.val; omega)⟩
theorem col0_at (G : Vec Ideal S128x3072 .f32) (d : Fin 128) (r : Fin 768) : col0 G (ix2 d r) = G (ix2 d (hp 0 r)) := by
  refine (win2 G 0 0 _ d r (by omega) (by omega)).trans (congrArg G ?_)
  exact (ix2_inj _ _ _ _).2 ⟨Fin.ext (by show 0 + d.val = d.val; omega), Fin.ext (by show 0 + r.val = 0 * 768 + r.val; omega)⟩
theorem pr0_at (l : Fin 1408) (r : Fin 768) : pr k (row0 X) (stat0 L) l r = wt X k L 0 l r := by
  unfold pr wt
  rw [stat0_at, Finset.sum_congr rfl fun d _ => by rw [row0_at]]
theorem gr0_at (l : Fin 1408) (r : Fin 768) : gr k v (row0 X) (row0 Y) (stat0 L) (stat0 E) l r = sg X Y k v L E 0 l r := by
  unfold gr sg
  rw [pr0_at, stat0_at, Finset.sum_congr rfl fun d _ => by rw [row0_at]]
theorem row1_at (r : Fin 768) (d : Fin 128) : row1 X (ix2 r d) = X (ix2 (hp 1 r) d) := by
  refine (win2 X 768 0 _ r d (by omega) (by omega)).trans (congrArg X ?_)
  exact (ix2_inj _ _ _ _).2 ⟨Fin.ext (by show 768 + r.val = 1 * 768 + r.val; omega), Fin.ext (by show 0 + d.val = d.val; omega)⟩
theorem stat1_at (r : Fin 768) : stat1 L (ix3 0 0 r) = L (ix3 0 1 r) := by
  refine (win3 L 0 1 0 _ 0 0 r (by decide) (by decide) (by omega)).trans (congrArg L ?_)
  exact (ix3_inj _ _ _ _ _ _).2 ⟨rfl, rfl, Fin.ext (by show 0 + r.val = r.val; omega)⟩
theorem col1_at (G : Vec Ideal S128x3072 .f32) (d : Fin 128) (r : Fin 768) : col1 G (ix2 d r) = G (ix2 d (hp 1 r)) := by
  refine (win2 G 0 768 _ d r (by omega) (by omega)).trans (congrArg G ?_)
  exact (ix2_inj _ _ _ _).2 ⟨Fin.ext (by show 0 + d.val = d.val; omega), Fin.ext (by show 768 + r.val = 1 * 768 + r.val; omega)⟩
theorem pr1_at (l : Fin 1408) (r : Fin 768) : pr k (row1 X) (stat1 L) l r = wt X k L 1 l r := by
  unfold pr wt
  rw [stat1_at, Finset.sum_congr rfl fun d _ => by rw [row1_at]]
theorem gr1_at (l : Fin 1408) (r : Fin 768) : gr k v (row1 X) (row1 Y) (stat1 L) (stat1 E) l r = sg X Y k v L E 1 l r := by
  unfold gr sg
  rw [pr1_at, stat1_at, Finset.sum_congr rfl fun d _ => by rw [row1_at]]
theorem row2_at (r : Fin 768) (d : Fin 128) : row2 X (ix2 r d) = X (ix2 (hp 2 r) d) := by
  refine (win2 X 1536 0 _ r d (by omega) (by omega)).trans (congrArg X ?_)
  exact (ix2_inj _ _ _ _).2 ⟨Fin.ext (by show 1536 + r.val = 2 * 768 + r.val; omega), Fin.ext (by show 0 + d.val = d.val; omega)⟩
theorem stat2_at (r : Fin 768) : stat2 L (ix3 0 0 r) = L (ix3 0 2 r) := by
  refine (win3 L 0 2 0 _ 0 0 r (by decide) (by decide) (by omega)).trans (congrArg L ?_)
  exact (ix3_inj _ _ _ _ _ _).2 ⟨rfl, rfl, Fin.ext (by show 0 + r.val = r.val; omega)⟩
theorem col2_at (G : Vec Ideal S128x3072 .f32) (d : Fin 128) (r : Fin 768) : col2 G (ix2 d r) = G (ix2 d (hp 2 r)) := by
  refine (win2 G 0 1536 _ d r (by omega) (by omega)).trans (congrArg G ?_)
  exact (ix2_inj _ _ _ _).2 ⟨Fin.ext (by show 0 + d.val = d.val; omega), Fin.ext (by show 1536 + r.val = 2 * 768 + r.val; omega)⟩
theorem pr2_at (l : Fin 1408) (r : Fin 768) : pr k (row2 X) (stat2 L) l r = wt X k L 2 l r := by
  unfold pr wt
  rw [stat2_at, Finset.sum_congr rfl fun d _ => by rw [row2_at]]
theorem gr2_at (l : Fin 1408) (r : Fin 768) : gr k v (row2 X) (row2 Y) (stat2 L) (stat2 E) l r = sg X Y k v L E 2 l r := by
  unfold gr sg
  rw [pr2_at, stat2_at, Finset.sum_congr rfl fun d _ => by rw [row2_at]]
theorem row3_at (r : Fin 768) (d : Fin 128) : row3 X (ix2 r d) = X (ix2 (hp 3 r) d) := by
  refine (win2 X 2304 0 _ r d (by omega) (by omega)).trans (congrArg X ?_)
  exact (ix2_inj _ _ _ _).2 ⟨Fin.ext (by show 2304 + r.val = 3 * 768 + r.val; omega), Fin.ext (by show 0 + d.val = d.val; omega)⟩
theorem stat3_at (r : Fin 768) : stat3 L (ix3 0 0 r) = L (ix3 0 3 r) := by
  refine (win3 L 0 3 0 _ 0 0 r (by decide) (by decide) (by omega)).trans (congrArg L ?_)
  exact (ix3_inj _ _ _ _ _ _).2 ⟨rfl, rfl, Fin.ext (by show 0 + r.val = r.val; omega)⟩
theorem col3_at (G : Vec Ideal S128x3072 .f32) (d : Fin 128) (r : Fin 768) : col3 G (ix2 d r) = G (ix2 d (hp 3 r)) := by
  refine (win2 G 0 2304 _ d r (by omega) (by omega)).trans (congrArg G ?_)
  exact (ix2_inj _ _ _ _).2 ⟨Fin.ext (by show 0 + d.val = d.val; omega), Fin.ext (by show 2304 + r.val = 3 * 768 + r.val; omega)⟩
theorem pr3_at (l : Fin 1408) (r : Fin 768) : pr k (row3 X) (stat3 L) l r = wt X k L 3 l r := by
  unfold pr wt
  rw [stat3_at, Finset.sum_congr rfl fun d _ => by rw [row3_at]]
theorem gr3_at (l : Fin 1408) (r : Fin 768) : gr k v (row3 X) (row3 Y) (stat3 L) (stat3 E) l r = sg X Y k v L E 3 l r := by
  unfold gr sg
  rw [pr3_at, stat3_at, Finset.sum_congr rfl fun d _ => by rw [row3_at]]

/-- The point's share of the value gradient, read. -/
theorem dvPart_at (l : Fin 1408) (d : Fin 128) :
    dvPart X Y k L (ix2 l d) = ∑ p : Fin 4, ∑ r : Fin 768, wt X k L p l r * Y (ix2 (hp p r) d) := by
  rw [Fin.sum_univ_four]
  unfold dvPart k0_pay44 k0_pay33 k0_pay26 k0_pay19 k0_pay40
  pointwise [pay22_at, pay31_at, pay38_at, pay42_at]
  rw [Finset.sum_congr rfl fun r _ => congrArg₂ (· * ·) (pr0_at X k L l r) (row0_at Y r d),
    Finset.sum_congr rfl fun r _ => congrArg₂ (· * ·) (pr1_at X k L l r) (row1_at Y r d),
    Finset.sum_congr rfl fun r _ => congrArg₂ (· * ·) (pr2_at X k L l r) (row2_at Y r d),
    Finset.sum_congr rfl fun r _ => congrArg₂ (· * ·) (pr3_at X k L l r) (row3_at Y r d)]

/-- The point's share of the key gradient, read. -/
theorem dkPart_at (l : Fin 1408) (d : Fin 128) :
    dkPart X Y k v L E (ix2 l d) = ∑ p : Fin 4, ∑ r : Fin 768, sg X Y k v L E p l r * X (ix2 (hp p r) d) := by
  rw [Fin.sum_univ_four]
  unfold dkPart k0_pay45 k0_pay34 k0_pay27 k0_pay18 sg1 sg2
  pointwise [pay25_at, pay32_at, pay39_at, pay43_at]
  rw [Finset.sum_congr rfl fun r _ => congrArg₂ (· * ·) (gr0_at X Y k v L E l r) (row0_at X r d),
    Finset.sum_congr rfl fun r _ => congrArg₂ (· * ·) (gr1_at X Y k v L E l r) (row1_at X r d),
    Finset.sum_congr rfl fun r _ => congrArg₂ (· * ·) (gr2_at X Y k v L E l r) (row2_at X r d),
    Finset.sum_congr rfl fun r _ => congrArg₂ (· * ·) (gr3_at X Y k v L E l r) (row3_at X r d)]

theorem pay28_at (G : Vec Ideal S128x3072 .f32) (d : Fin 128) (r : Fin 768) :
    k0_pay28 k (k0_pay23 k v (row0 X) (row0 Y) (stat0 L) (stat0 E)) k0_pay24 (col0 G) (ix2 d r)
      = G (ix2 d (hp 0 r)) + ∑ l : Fin 1408, k (ix2 l d) * sg X Y k v L E 0 l r := by
  unfold k0_pay28
  pointwise [pay25_at]
  rw [col0_at, Finset.sum_congr rfl fun l _ => congrArg (k (ix2 l d) * ·) (gr0_at X Y k v L E l r)]
theorem pay35_at (G : Vec Ideal S128x3072 .f32) (d : Fin 128) (r : Fin 768) :
    k0_pay35 k (sg1 X Y k v L E) (col1 G) (ix2 d r) = G (ix2 d (hp 1 r)) + ∑ l : Fin 1408, k (ix2 l d) * sg X Y k v L E 1 l r := by
  unfold k0_pay35 sg1
  pointwise [pay32_at]
  rw [col1_at, Finset.sum_congr rfl fun l _ => congrArg (k (ix2 l d) * ·) (gr1_at X Y k v L E l r)]
theorem pay41_at (G : Vec Ideal S128x3072 .f32) (d : Fin 128) (r : Fin 768) :
    k0_pay41 k (sg2 X Y k v L E) (col2 G) (ix2 d r) = G (ix2 d (hp 2 r)) + ∑ l : Fin 1408, k (ix2 l d) * sg X Y k v L E 2 l r := by
  unfold k0_pay41 sg2
  pointwise [pay39_at]
  rw [col2_at, Finset.sum_congr rfl fun l _ => congrArg (k (ix2 l d) * ·) (gr2_at X Y k v L E l r)]
theorem pay1_at (G : Vec Ideal S128x3072 .f32) (d : Fin 128) (r : Fin 768) :
    k0_pay1 k (sg3 X Y k v L E) (col3 G) (ix2 d r) = G (ix2 d (hp 3 r)) + ∑ l : Fin 1408, k (ix2 l d) * sg X Y k v L E 3 l r := by
  unfold k0_pay1 sg3
  pointwise [pay43_at]
  rw [col3_at, Finset.sum_congr rfl fun l _ => congrArg (k (ix2 l d) * ·) (gr3_at X Y k v L E l r)]

/-- The query gradient after the point, read. -/
theorem dqNext_at (G : Vec Ideal S128x3072 .f32) (d : Fin 128) (p : Fin 4) (r : Fin 768) :
    dqNext X Y k v L E G (ix2 d (hp p r)) = G (ix2 d (hp p r)) + ∑ l : Fin 1408, k (ix2 l d) * sg X Y k v L E p l r := by
  unfold dqNext
  match p with
  | 0 =>
    rw [put2_miss1 _ _ _ _ _ (by show ¬ (2304 ≤ 0 * 768 + r.val ∧ _); omega), put2_miss1 _ _ _ _ _ (by show ¬ (1536 ≤ 0 * 768 + r.val ∧ _); omega),
      put2_miss1 _ _ _ _ _ (by show ¬ (768 ≤ 0 * 768 + r.val ∧ _); omega),
      put2_hit _ _ _ _ _ d r (by show d.val = 0 + d.val; omega) (by show 0 * 768 + r.val = 0 + r.val; omega)]
    exact pay28_at X Y k v L E G d r
  | 1 =>
    rw [put2_miss1 _ _ _ _ _ (by show ¬ (2304 ≤ 1 * 768 + r.val ∧ _); omega), put2_miss1 _ _ _ _ _ (by show ¬ (1536 ≤ 1 * 768 + r.val ∧ _); omega),
      put2_hit _ _ _ _ _ d r (by show d.val = 0 + d.val; omega) (by show 1 * 768 + r.val = 768 + r.val; omega)]
    exact pay35_at X Y k v L E G d r
  | 2 =>
    rw [put2_miss1 _ _ _ _ _ (by show ¬ (2304 ≤ 2 * 768 + r.val ∧ _); omega),
      put2_hit _ _ _ _ _ d r (by show d.val = 0 + d.val; omega) (by show 2 * 768 + r.val = 1536 + r.val; omega)]
    exact pay41_at X Y k v L E G d r
  | 3 =>
    rw [put2_hit _ _ _ _ _ d r (by show d.val = 0 + d.val; omega) (by show 3 * 768 + r.val = 2304 + r.val; omega)]
    exact pay1_at X Y k v L E G d r

end Heads

theorem pay17_at (y : S128x3072.Idx) : (k0_pay17 (F := Ideal)) y = 0 := by
  rw [eq_ix2 y]
  unfold k0_pay17
  pointwise

theorem pay2_at (a b : FVec Ideal S1408x128 .f32) (l : Fin 1408) (d : Fin 128) : k0_pay2 a b (ix2 l d) = b (ix2 l d) + a (ix2 l d) := by
  unfold k0_pay2
  pointwise
theorem pay3_at (a b : FVec Ideal S1408x128 .f32) (l : Fin 1408) (d : Fin 128) : k0_pay3 a b (ix2 l d) = b (ix2 l d) + a (ix2 l d) := by
  unfold k0_pay3
  pointwise

theorem pay5_at (G : Vec Ideal S128x3072 .f32) (r : Fin 768) (d : Fin 128) : k0_pay5 G (ix2 r d) = G (ix2 d (hp 0 r)) := by
  unfold k0_pay5 k0_pay4
  pointwise
  exact congrArg G ((ix2_inj _ _ _ _).2 ⟨rfl, Fin.ext (by show r.val = 0 * 768 + r.val; omega)⟩)
theorem pay6_at (G : Vec Ideal S128x3072 .f32) (r : Fin 768) (d : Fin 128) : k0_pay6 G (ix2 r d) = G (ix2 d (hp 1 r)) := by
  unfold k0_pay6 k0_pay4
  pointwise
  exact congrArg G ((ix2_inj _ _ _ _).2 ⟨rfl, Fin.ext (by first | rfl | (show 768 + r.val = 1 * 768 + r.val; omega))⟩)
theorem pay7_at (G : Vec Ideal S128x3072 .f32) (r : Fin 768) (d : Fin 128) : k0_pay7 G (ix2 r d) = G (ix2 d (hp 2 r)) := by
  unfold k0_pay7 k0_pay4
  pointwise
  exact congrArg G ((ix2_inj _ _ _ _).2 ⟨rfl, Fin.ext (by first | rfl | (show 1536 + r.val = 2 * 768 + r.val; omega))⟩)
theorem pay8_at (G : Vec Ideal S128x3072 .f32) (r : Fin 768) (d : Fin 128) : k0_pay8 G (ix2 r d) = G (ix2 d (hp 3 r)) := by
  unfold k0_pay8 k0_pay4
  pointwise
  exact congrArg G ((ix2_inj _ _ _ _).2 ⟨rfl, Fin.ext (by first | rfl | (show 2304 + r.val = 3 * 768 + r.val; omega))⟩)

/-- The stored block of the query gradient, read. -/
theorem dqOut_at (x : Vec Ideal S768x512 .f32) (G : Vec Ideal S128x3072 .f32) (r : Fin 768) (p : Fin 4) (d : Fin 128) :
    dqOut x G (ix2 r (hd p d)) = G (ix2 d (hp p r)) := by
  unfold dqOut
  match p with
  | 0 =>
    rw [put2_miss1 _ _ _ _ _ (by show ¬ (384 ≤ 0 * 128 + d.val ∧ _); omega), put2_miss1 _ _ _ _ _ (by show ¬ (256 ≤ 0 * 128 + d.val ∧ _); omega),
      put2_miss1 _ _ _ _ _ (by show ¬ (128 ≤ 0 * 128 + d.val ∧ _); omega),
      put2_hit _ _ _ _ _ r d (by show r.val = 0 + r.val; omega) (by show 0 * 128 + d.val = 0 + d.val; omega)]
    exact pay5_at G r d
  | 1 =>
    rw [put2_miss1 _ _ _ _ _ (by show ¬ (384 ≤ 1 * 128 + d.val ∧ _); omega), put2_miss1 _ _ _ _ _ (by show ¬ (256 ≤ 1 * 128 + d.val ∧ _); omega),
      put2_hit _ _ _ _ _ r d (by show r.val = 0 + r.val; omega) (by show 1 * 128 + d.val = 128 + d.val; omega)]
    exact pay6_at G r d
  | 2 =>
    rw [put2_miss1 _ _ _ _ _ (by show ¬ (384 ≤ 2 * 128 + d.val ∧ _); omega),
      put2_hit _ _ _ _ _ r d (by show r.val = 0 + r.val; omega) (by show 2 * 128 + d.val = 256 + d.val; omega)]
    exact pay7_at G r d
  | 3 =>
    rw [put2_hit _ _ _ _ _ r d (by show r.val = 0 + r.val; omega) (by show 3 * 128 + d.val = 384 + d.val; omega)]
    exact pay8_at G r d

end Cert.KernelIdeal.Bwd

end
-- ==== Proof.Bwd.Model.lean ====
module

public import proofs.«01_k».proof.Proof.Bwd.Payload

@[expose] public section

set_option maxRecDepth 16384

/-!
The gradients as sums that grow with the grid: what the scratch and the output buffers hold after each point, and that one point takes
each of them a step further. The operands are functions of natural numbers (row, column), so that a block is the operand at a shifted row.
-/

noncomputable section

namespace Cert.KernelIdeal.Bwd

open Idealize.ShloMosaic Idealize.ShloMosaic.TcCoe
open Cert.KernelIdeal Cert.KernelIdeal.Gen

/-- The operands of the call: queries, output gradient, keys, values by row and column; the row statistics by head, group and row. -/
structure Ops where
  q : ℕ → ℕ → EReal
  o : ℕ → ℕ → EReal
  k : ℕ → ℕ → EReal
  v : ℕ → ℕ → EReal
  ls : ℕ → ℕ → ℕ → EReal
  es : ℕ → ℕ → ℕ → EReal

namespace Ops
variable (A : Ops)

/-- The weight of key `l` for query `t` in group `p` of head `h`. -/
def wt (h : ℕ) (p : ℕ) (t l : ℕ) : EReal :=
  FloatOps.exp2 (F := Ideal) (φ := .f32) ((∑ d : Fin 128, A.k l (h * 128 + d.val) * A.q t (h * 512 + (p * 128 + d.val))) * c2 - A.ls h p t)
/-- The gradient of that weight's score. -/
def sg (h : ℕ) (p : ℕ) (t l : ℕ) : EReal :=
  A.wt h p t l * ((∑ d : Fin 128, A.v l (h * 128 + d.val) * A.o t (h * 512 + (p * 128 + d.val))) - A.es h p t) * cs

/-- What key `l` adds to the query gradient. -/
def dqTerm (h p t d l : ℕ) : EReal := A.k l (h * 128 + d) * A.sg h p t l
/-- What query `t` adds to the key gradient. -/
def dkTerm (h l d t : ℕ) : EReal := ∑ p : Fin 4, A.sg h p.val t l * A.q t (h * 512 + (p.val * 128 + d))
/-- What query `t` adds to the value gradient. -/
def dvTerm (h l d t : ℕ) : EReal := ∑ p : Fin 4, A.wt h p.val t l * A.o t (h * 512 + (p.val * 128 + d))

end Ops

/-- The blocks a point is handed are the operands' blocks. -/
structure Blocks (A : Ops) (h i j : ℕ) (x0 x1 : Vec Ideal S768x512 .bf16) (x2 x3 : Vec Ideal S1408x128 .bf16) (x4 x5 : Vec Ideal S1x4x768 .f32) : Prop where
  q : ∀ (r : Fin 768) (c : Fin 512), x0 (ix2 r c) = A.q (i * 768 + r.val) (h * 512 + c.val)
  o : ∀ (r : Fin 768) (c : Fin 512), x1 (ix2 r c) = A.o (i * 768 + r.val) (h * 512 + c.val)
  k : ∀ (l : Fin 1408) (d : Fin 128), x2 (ix2 l d) = A.k (j * 1408 + l.val) (h * 128 + d.val)
  v : ∀ (l : Fin 1408) (d : Fin 128), x3 (ix2 l d) = A.v (j * 1408 + l.val) (h * 128 + d.val)
  ls : ∀ (p : Fin 4) (r : Fin 768), x4 (ix3 0 p r) = A.ls h p.val (i * 768 + r.val)
  es : ∀ (p : Fin 4) (r : Fin 768), x5 (ix3 0 p r) = A.es h p.val (i * 768 + r.val)

/-- The scratch holds block `i` of an operand of head `h`, head by head. -/
def IsHeads (f : ℕ → ℕ → EReal) (h i : ℕ) (X : Vec Ideal S3072x128 .bf16) : Prop :=
  ∀ (p : Fin 4) (r : Fin 768) (d : Fin 128), X (ix2 (hp p r) d) = f (i * 768 + r.val) (h * 512 + (p.val * 128 + d.val))

/-- The scratch holds the query gradient of block `i`, summed over the first `n` keys. -/
def IsDq (A : Ops) (h i n : ℕ) (G : Vec Ideal S128x3072 .f32) : Prop :=
  ∀ (p : Fin 4) (r : Fin 768) (d : Fin 128), G (ix2 d (hp p r)) = ∑ l ∈ Finset.range n, A.dqTerm h p.val (i * 768 + r.val) d.val l

/-- The rows of the first `j` blocks hold the terms of `i + 1` blocks of queries, the others those of `i`; of rows that no block has reached yet
    nothing is said. -/
def IsRows (f : ℕ → ℕ → ℕ → EReal) (i j : ℕ) (x : Vec Ideal S8448x128 .f32) : Prop :=
  ∀ (l : Fin 8448) (d : Fin 128) (n : ℕ), n = (if l.val / 1408 < j then i + 1 else i) * 768 → 0 < n →
    x (ix2 l d) = ∑ t ∈ Finset.range n, f l.val d.val t

theorem sum_range_block (f : ℕ → EReal) (n m : ℕ) :
    ∑ t ∈ Finset.range (n + m), f t = ∑ t ∈ Finset.range n, f t + ∑ r : Fin m, f (n + r.val) := by
  rw [← Finset.sum_range (fun r => f (n + r))]
  induction m with
  | zero => simp
  | succ m ih => rw [← Nat.add_assoc, Finset.sum_range_succ, ih, Finset.sum_range_succ, add_assoc]

theorem isHeads_heads {f : ℕ → ℕ → EReal} {h i : ℕ} {x : Vec Ideal S768x512 .bf16}
    (hx : ∀ (r : Fin 768) (c : Fin 512), x (ix2 r c) = f (i * 768 + r.val) (h * 512 + c.val)) : IsHeads f h i (heads x) := by
  intro p r d
  have e : heads x (ix2 (hp p r) d) = x (ix2 r (hd p d)) := by
    refine congrArg x ((ix2_inj _ _ _ _).2 ⟨Fin.ext ?_, Fin.ext ?_⟩)
    · show (p.val * 768 + r.val) % 768 = r.val
      omega
    · show (p.val * 768 + r.val) / 768 * 128 + d.val = p.val * 128 + d.val
      omega
  rw [e, hx]

section Step
variable {A : Ops} {h i j : ℕ} {x0 x1 : Vec Ideal S768x512 .bf16} {k v : Vec Ideal S1408x128 .bf16} {L E : Vec Ideal S1x4x768 .f32}
  {X Y : Vec Ideal S3072x128 .bf16}

theorem wt_model (hb : Blocks A h i j x0 x1 k v L E) (hX : IsHeads A.q h i X) (p : Fin 4) (l : Fin 1408) (r : Fin 768) :
    wt X k L p l r = A.wt h p.val (i * 768 + r.val) (j * 1408 + l.val) := by
  unfold wt Ops.wt
  rw [hb.ls, Finset.sum_congr rfl fun d _ => congrArg₂ (· * ·) (hb.k l d) (hX p r d)]

theorem sg_model (hb : Blocks A h i j x0 x1 k v L E) (hX : IsHeads A.q h i X) (hY : IsHeads A.o h i Y) (p : Fin 4) (l : Fin 1408) (r : Fin 768) :
    sg X Y k v L E p l r = A.sg h p.val (i * 768 + r.val) (j * 1408 + l.val) := by
  unfold sg Ops.sg
  rw [wt_model hb hX, hb.es, Finset.sum_congr rfl fun d _ => congrArg₂ (· * ·) (hb.v l d) (hY p r d)]

/-- The query gradient takes in the point's block of keys. -/
theorem isDq_next (hb : Blocks A h i j x0 x1 k v L E) (hX : IsHeads A.q h i X) (hY : IsHeads A.o h i Y) {G : Vec Ideal S128x3072 .f32}
    (hG : IsDq A h i (j * 1408) G) : IsDq A h i ((j + 1) * 1408) (dqNext X Y k v L E G) := by
  intro p r d
  rw [dqNext_at, hG, Nat.succ_mul, sum_range_block]
  refine congrArg _ (Finset.sum_congr rfl fun l _ => ?_)
  rw [hb.k, sg_model hb hX hY]; rfl

theorem isDq_zero (A : Ops) (h i : ℕ) : IsDq A h i (0 * 1408) (k0_pay17 (F := Ideal)) := by
  intro p r d
  rw [pay17_at, Nat.zero_mul, Finset.range_zero, Finset.sum_empty]

/-- The point's share of the key gradient is the terms of its block of queries. -/
theorem dkPart_model (hb : Blocks A h i j x0 x1 k v L E) (hX : IsHeads A.q h i X) (hY : IsHeads A.o h i Y) (l : Fin 1408) (d : Fin 128) :
    dkPart X Y k v L E (ix2 l d) = ∑ r : Fin 768, A.dkTerm h (j * 1408 + l.val) d.val (i * 768 + r.val) := by
  rw [dkPart_at, Finset.sum_comm]
  refine Finset.sum_congr rfl fun r _ => Finset.sum_congr rfl fun p _ => ?_
  rw [sg_model hb hX hY, hX]

/-- The point's share of the value gradient is the terms of its block of queries. -/
theorem dvPart_model (hb : Blocks A h i j x0 x1 k v L E) (hX : IsHeads A.q h i X) (hY : IsHeads A.o h i Y) (l : Fin 1408) (d : Fin 128) :
    dvPart X Y k L (ix2 l d) = ∑ r : Fin 768, A.dvTerm h (j * 1408 + l.val) d.val (i * 768 + r.val) := by
  rw [dvPart_at, Finset.sum_comm]
  refine Finset.sum_congr rfl fun r _ => Finset.sum_congr rfl fun p _ => ?_
  rw [wt_model hb hX, hY]

end Step

section Rows
variable {f : ℕ → ℕ → ℕ → EReal} {i j : ℕ} {x : Vec Ideal S8448x128 .f32} {w : Vec Ideal S1408x128 .f32}

theorem put_rows_hit (x : Vec Ideal S8448x128 .f32) (w : Vec Ideal S1408x128 .f32) (l : Fin 8448) (d : Fin 128) (hl : l.val / 1408 = j) :
    rowsSet x j w (ix2 l d) = w (ix2 ⟨l.val - j * 1408, by omega⟩ d) := by
  exact put2_hit x (j * 1408) 0 w _ _ _ (by show l.val = j * 1408 + (l.val - j * 1408); omega) (by show d.val = 0 + d.val; omega)

theorem put_rows_miss (x : Vec Ideal S8448x128 .f32) (w : Vec Ideal S1408x128 .f32) (l : Fin 8448) (d : Fin 128) (hl : l.val / 1408 ≠ j) :
    rowsSet x j w (ix2 l d) = x (ix2 l d) := by
  exact put2_miss0 x (j * 1408) 0 w _ (by show ¬ (j * 1408 ≤ l.val ∧ l.val < j * 1408 + 1408); omega)

/-- In the first row of blocks, a block of rows is stored. -/
theorem isRows_start (hx : IsRows f 0 j x) (hw : ∀ (l : Fin 1408) (d : Fin 128), w (ix2 l d) = ∑ r : Fin 768, f (j * 1408 + l.val) d.val (0 * 768 + r.val)) :
    IsRows f 0 (j + 1) (rowsSet x j w) := by
  intro l d n hn h0
  by_cases hl : l.val / 1408 = j
  · rw [put_rows_hit x w l d hl, hw]
    have en : n = 0 + 768 := by rw [hn, if_pos (by omega)]
    have el : j * 1408 + (l.val - j * 1408) = l.val := by omega
    rw [en, sum_range_block, Finset.range_zero, Finset.sum_empty, zero_add]
    show ∑ r : Fin 768, f (j * 1408 + (l.val - j * 1408)) d.val (0 * 768 + r.val) = _
    rw [el, Nat.zero_mul]
  · rw [put_rows_miss x w l d hl]
    refine hx l d n (hn.trans ?_) h0
    by_cases hlt : l.val / 1408 < j
    · rw [if_pos hlt, if_pos (by omega)]
    · rw [if_neg hlt, if_neg (by omega)]

/-- Later, a block of rows is added to. -/
theorem isRows_past (hi : 0 < i) (hx : IsRows f i j x)
    (hw : ∀ (l : Fin 1408) (d : Fin 128) (hl : j * 1408 + l.val < 8448),
      w (ix2 l d) = x (ix2 ⟨j * 1408 + l.val, hl⟩ d) + ∑ r : Fin 768, f (j * 1408 + l.val) d.val (i * 768 + r.val)) :
    IsRows f i (j + 1) (rowsSet x j w) := by
  intro l d n hn h0
  by_cases hl : l.val / 1408 = j
  · have el : j * 1408 + (l.val - j * 1408) = l.val := by omega
    have en : n = i * 768 + 768 := by rw [hn, if_pos (by omega)]; ring
    have hl' : l.val < 8448 := l.isLt
    rw [put_rows_hit x w l d hl, hw _ d (by show j * 1408 + (l.val - j * 1408) < 8448; omega)]
    have ex : (⟨j * 1408 + (l.val - j * 1408), by omega⟩ : Fin 8448) = l := Fin.ext el
    show x (ix2 ⟨j * 1408 + (l.val - j * 1408), _⟩ d) + ∑ r : Fin 768, f (j * 1408 + (l.val - j * 1408)) d.val (i * 768 + r.val) = _
    rw [en, sum_range_block, ex, el, hx l d (i * 768) (by rw [if_neg (by omega)]) (by omega)]
  · rw [put_rows_miss x w l d hl]
    refine hx l d n (hn.trans ?_) h0
    by_cases hlt : l.val / 1408 < j
    · rw [if_pos hlt, if_pos (by omega)]
    · rw [if_neg hlt, if_neg (by omega)]

/-- The end of one row of blocks is the start of the next. -/
theorem isRows_turn (hx : IsRows f i 6 x) : IsRows f (i + 1) 0 x := by
  intro l d n hn h0
  have hl : l.val < 8448 := l.isLt
  refine hx l d n ?_ h0
  rw [hn, if_neg (by omega), if_pos (by omega)]

theorem isRows_zero (f : ℕ → ℕ → ℕ → EReal) (x : Vec Ideal S8448x128 .f32) : IsRows f 0 0 x := by
  intro l d n hn h0
  rw [if_neg (by omega)] at hn
  omega

/-- After the last point of a head all queries are in. -/
theorem isRows_end (hx : IsRows f 10 6 x) (l : Fin 8448) (d : Fin 128) : x (ix2 l d) = ∑ t ∈ Finset.range 8448, f l.val d.val t := by
  have hl : l.val < 8448 := l.isLt
  exact hx l d 8448 (by rw [if_pos (by omega)]) (by decide)

end Rows

/-- What the last point of a row of blocks stores of the query gradient. -/
theorem dqOut_model {A : Ops} {h i : ℕ} {G : Vec Ideal S128x3072 .f32} (hG : IsDq A h i 8448 G) (x : Vec Ideal S768x512 .f32)
    (r : Fin 768) (p : Fin 4) (d : Fin 128) :
    dqOut x G (ix2 r (hd p d)) = ∑ l ∈ Finset.range 8448, A.dqTerm h p.val (i * 768 + r.val) d.val l := by
  rw [dqOut_at, hG]

end Cert.KernelIdeal.Bwd

end
-- ==== Proof.Bwd.Data.lean ====
module

public import proofs.«01_k».proof.Proof.Bwd.Model
public import Idealize.ShloMosaic.Lib.Pipeline.ValueKit
public import Idealize.ShloMosaic.Lib.Pipeline.DatRel
public import Idealize.ShloMosaic.Lib.Pipeline.ArrRel

@[expose] public section

set_option maxRecDepth 16384

/-!
The operands of the call as a state holds them, the blocks of them a point is handed, and the proof data of the pipeline:
what the scratch and the output buffers hold after each point.
-/

noncomputable section

namespace Cert.KernelIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

/-- A matrix read at natural numbers. -/
def at2 {n0 n1 : ℕ} (h0 : 0 < n0) (h1 : 0 < n1) (x : (⟨2, ![n0, n1]⟩ : Shape).Idx → EReal) (a b : ℕ) : EReal :=
  x (ix2 ⟨a % n0, Nat.mod_lt _ h0⟩ ⟨b % n1, Nat.mod_lt _ h1⟩)
/-- An array of three axes read at natural numbers. -/
def at3 {n0 n1 n2 : ℕ} (h0 : 0 < n0) (h1 : 0 < n1) (h2 : 0 < n2) (x : (⟨3, ![n0, n1, n2]⟩ : Shape).Idx → EReal) (a b c : ℕ) : EReal :=
  x (ix3 ⟨a % n0, Nat.mod_lt _ h0⟩ ⟨b % n1, Nat.mod_lt _ h1⟩ ⟨c % n2, Nat.mod_lt _ h2⟩)

theorem at2_eq {n0 n1 : ℕ} (h0 : 0 < n0) (h1 : 0 < n1) (x : (⟨2, ![n0, n1]⟩ : Shape).Idx → EReal) (a b : ℕ) (a' : Fin n0) (b' : Fin n1)
    (ha : a'.val = a) (hb : b'.val = b) : at2 h0 h1 x a b = x (ix2 a' b') := by
  subst ha; subst hb
  exact congrArg x ((ix2_inj _ _ _ _).2 ⟨Fin.ext (Nat.mod_eq_of_lt a'.isLt), Fin.ext (Nat.mod_eq_of_lt b'.isLt)⟩)
theorem at3_eq {n0 n1 n2 : ℕ} (h0 : 0 < n0) (h1 : 0 < n1) (h2 : 0 < n2) (x : (⟨3, ![n0, n1, n2]⟩ : Shape).Idx → EReal) (a b c : ℕ)
    (a' : Fin n0) (b' : Fin n1) (c' : Fin n2) (ha : a'.val = a) (hb : b'.val = b) (hc : c'.val = c) : at3 h0 h1 h2 x a b c = x (ix3 a' b' c') := by
  subst ha; subst hb; subst hc
  exact congrArg x ((ix3_inj _ _ _ _ _ _).2 ⟨Fin.ext (Nat.mod_eq_of_lt a'.isLt), Fin.ext (Nat.mod_eq_of_lt b'.isLt), Fin.ext (Nat.mod_eq_of_lt c'.isLt)⟩)

variable (m : (ℓ : Loc nD τ sig) → Buf (Elt Ideal) ℓ) (ρ : Dev nD → PrngReg)

/-- The operands of the call, out of the arrays it is given. -/
def opsOf (Q O : (⟨2, ![8448, 1024]⟩ : Shape).Idx → EReal) (K W : (⟨2, ![8448, 256]⟩ : Shape).Idx → EReal)
    (L E : (⟨3, ![2, 4, 8448]⟩ : Shape).Idx → EReal) : Ops where
  q := at2 (by decide) (by decide) Q
  o := at2 (by decide) (by decide) O
  k := at2 (by decide) (by decide) K
  v := at2 (by decide) (by decide) W
  ls := at3 (by decide) (by decide) (by decide) L
  es := at3 (by decide) (by decide) (by decide) E

theorem idx_q : ∀ t : Fin grid0.N, win0_0.index t = ![t.val / 6 % 11, t.val / 66] := by decide +kernel
theorem idx_o : ∀ t : Fin grid0.N, win0_1.index t = ![t.val / 6 % 11, t.val / 66] := by decide +kernel
theorem idx_k : ∀ t : Fin grid0.N, win0_2.index t = ![t.val % 6, t.val / 66] := by decide +kernel
theorem idx_v : ∀ t : Fin grid0.N, win0_3.index t = ![t.val % 6, t.val / 66] := by decide +kernel
theorem idx_ls : ∀ t : Fin grid0.N, win0_4.index t = ![t.val / 66, 0, t.val / 6 % 11] := by decide +kernel
theorem idx_es : ∀ t : Fin grid0.N, win0_5.index t = ![t.val / 66, 0, t.val / 6 % 11] := by decide +kernel
theorem idx_dq : ∀ t : Fin grid0.N, win0_6.index t = ![t.val / 6 % 11, t.val / 66] := by decide +kernel
theorem idx_dk : ∀ t : Fin grid0.N, win0_7.index t = ![0, t.val / 66] := by decide +kernel
theorem idx_dv : ∀ t : Fin grid0.N, win0_8.index t = ![0, t.val / 66] := by decide +kernel

theorem read_q (c : Dev nD) (A : Buf (Elt Ideal) ((c : Thread nD τ).loc main_arg0)) (t : Fin cfg0.N) (r : Fin 768) (a : Fin 512) (hr : t.val / 6 % 11 * 768 + r.val < 8448) (ha : t.val / 66 * 512 + a.val < 1024) :
    ((cfg0.win 0).blk t).view.read (Elt Ideal) A (ix2 r a) = A (ix2 (n0 := 8448) (n1 := 1024) ⟨t.val / 6 % 11 * 768 + r.val, hr⟩ ⟨t.val / 66 * 512 + a.val, ha⟩) := by
  blk_ext [idx_q t]
theorem read_o (c : Dev nD) (A : Buf (Elt Ideal) ((c : Thread nD τ).loc main_arg3)) (t : Fin cfg0.N) (r : Fin 768) (a : Fin 512) (hr : t.val / 6 % 11 * 768 + r.val < 8448) (ha : t.val / 66 * 512 + a.val < 1024) :
    ((cfg0.win 1).blk t).view.read (Elt Ideal) A (ix2 r a) = A (ix2 (n0 := 8448) (n1 := 1024) ⟨t.val / 6 % 11 * 768 + r.val, hr⟩ ⟨t.val / 66 * 512 + a.val, ha⟩) := by
  blk_ext [idx_o t]
theorem read_k (c : Dev nD) (A : Buf (Elt Ideal) ((c : Thread nD τ).loc main_arg1)) (t : Fin cfg0.N) (r : Fin 1408) (a : Fin 128) (hr : t.val % 6 * 1408 + r.val < 8448) (ha : t.val / 66 * 128 + a.val < 256) :
    ((cfg0.win 2).blk t).view.read (Elt Ideal) A (ix2 r a) = A (ix2 (n0 := 8448) (n1 := 256) ⟨t.val % 6 * 1408 + r.val, hr⟩ ⟨t.val / 66 * 128 + a.val, ha⟩) := by
  blk_ext [idx_k t]
theorem read_v (c : Dev nD) (A : Buf (Elt Ideal) ((c : Thread nD τ).loc main_arg2)) (t : Fin cfg0.N) (r : Fin 1408) (a : Fin 128) (hr : t.val % 6 * 1408 + r.val < 8448) (ha : t.val / 66 * 128 + a.val < 256) :
    ((cfg0.win 3).blk t).view.read (Elt Ideal) A (ix2 r a) = A (ix2 (n0 := 8448) (n1 := 256) ⟨t.val % 6 * 1408 + r.val, hr⟩ ⟨t.val / 66 * 128 + a.val, ha⟩) := by
  blk_ext [idx_v t]
theorem read_ls (c : Dev nD) (A : Buf (Elt Ideal) ((c : Thread nD τ).loc main_v20)) (t : Fin cfg0.N) (p : Fin 4) (r : Fin 768) (hr : t.val / 6 % 11 * 768 + r.val < 8448) (hh : t.val / 66 < 2) :
    ((cfg0.win 4).blk t).view.read (Elt Ideal) A (ix3 0 p r) = A (ix3 (n0 := 2) (n1 := 4) (n2 := 8448) ⟨t.val / 66, hh⟩ p ⟨t.val / 6 % 11 * 768 + r.val, hr⟩) := by
  blk_ext [idx_ls t]
theorem read_es (c : Dev nD) (A : Buf (Elt Ideal) ((c : Thread nD τ).loc main_v43)) (t : Fin cfg0.N) (p : Fin 4) (r : Fin 768) (hr : t.val / 6 % 11 * 768 + r.val < 8448) (hh : t.val / 66 < 2) :
    ((cfg0.win 5).blk t).view.read (Elt Ideal) A (ix3 0 p r) = A (ix3 (n0 := 2) (n1 := 4) (n2 := 8448) ⟨t.val / 66, hh⟩ p ⟨t.val / 6 % 11 * 768 + r.val, hr⟩) := by
  blk_ext [idx_es t]

/-- The blocks a point is handed are blocks of the operands. -/
theorem blocks_read (c : Dev nD) (Q : Buf (Elt Ideal) ((c : Thread nD τ).loc main_arg0)) (O : Buf (Elt Ideal) ((c : Thread nD τ).loc main_arg3))
    (K : Buf (Elt Ideal) ((c : Thread nD τ).loc main_arg1)) (W : Buf (Elt Ideal) ((c : Thread nD τ).loc main_arg2))
    (L : Buf (Elt Ideal) ((c : Thread nD τ).loc main_v20)) (E : Buf (Elt Ideal) ((c : Thread nD τ).loc main_v43)) (t : Fin cfg0.N) :
    Blocks (opsOf Q O K W L E) (t.val / 66) (t.val / 6 % 11) (t.val % 6)
      (((cfg0.win 0).blk t).view.read (Elt Ideal) Q) (((cfg0.win 1).blk t).view.read (Elt Ideal) O)
      (((cfg0.win 2).blk t).view.read (Elt Ideal) K) (((cfg0.win 3).blk t).view.read (Elt Ideal) W)
      (((cfg0.win 4).blk t).view.read (Elt Ideal) L) (((cfg0.win 5).blk t).view.read (Elt Ideal) E) := by
  have ht : t.val < 132 := Nat.lt_of_lt_of_eq t.isLt N_0
  exact
  { q := fun r a => (read_q c Q t r a (by omega) (by omega)).trans (at2_eq (n0 := 8448) (n1 := 1024) (by decide) (by decide) Q _ _ _ _ rfl rfl).symm
    o := fun r a => (read_o c O t r a (by omega) (by omega)).trans (at2_eq (n0 := 8448) (n1 := 1024) (by decide) (by decide) O _ _ _ _ rfl rfl).symm
    k := fun r a => (read_k c K t r a (by omega) (by omega)).trans (at2_eq (n0 := 8448) (n1 := 256) (by decide) (by decide) K _ _ _ _ rfl rfl).symm
    v := fun r a => (read_v c W t r a (by omega) (by omega)).trans (at2_eq (n0 := 8448) (n1 := 256) (by decide) (by decide) W _ _ _ _ rfl rfl).symm
    ls := fun p r => (read_ls c L t p r (by omega) (by omega)).trans (at3_eq (n0 := 2) (n1 := 4) (n2 := 8448) (by decide) (by decide) (by decide) L _ _ _ _ _ _ rfl rfl rfl).symm
    es := fun p r => (read_es c E t p r (by omega) (by omega)).trans (at3_eq (n0 := 2) (n1 := 4) (n2 := 8448) (by decide) (by decide) (by decide) E _ _ _ _ _ _ rfl rfl rfl).symm }

/-- The operands of the call, as the host leaves them. -/
def ops (c : Dev nD) : Ops :=
  opsOf (V m c main_arg0) (V m c main_arg3) (V m c main_arg1) (V m c main_arg2) (V m c main_v20) (V m c main_v43)

theorem blocks_iblk (c : Dev nD) (t : Fin cfg0.N) : Blocks (ops m c) (t.val / 66) (t.val / 6 % 11) (t.val % 6)
    (iblk m c 0 t) (iblk m c 1 t) (iblk m c 2 t) (iblk m c 3 t) (iblk m c 4 t) (iblk m c 5 t) :=
  blocks_read c _ _ _ _ _ _ t

end Cert.KernelIdeal.Bwd

end
-- ==== Proof.Bwd.Body.lean ====
module

public import proofs.«01_k».proof.Proof.Bwd.RunLastPast
public import proofs.«01_k».proof.Proof.Bwd.Data

@[expose] public section

set_option maxRecDepth 16384

/-!
One point of the grid takes the sums one step further, whichever branches its body takes.
-/

noncomputable section

namespace Cert.KernelIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

theorem hs0 (t : Fin cfg0.N) : (st0 t).IsWhole := hstage0_0 ((cfg0.slots t 0).cast nbuf0_0)
theorem hs1 (t : Fin cfg0.N) : (st1 t).IsWhole := hstage0_1 ((cfg0.slots t 1).cast nbuf0_1)
theorem hs2 (t : Fin cfg0.N) : (st2 t).IsWhole := hstage0_2 ((cfg0.slots t 2).cast nbuf0_2)
theorem hs3 (t : Fin cfg0.N) : (st3 t).IsWhole := hstage0_3 ((cfg0.slots t 3).cast nbuf0_3)
theorem hs4 (t : Fin cfg0.N) : (st4 t).IsWhole := hstage0_4 ((cfg0.slots t 4).cast nbuf0_4)
theorem hs5 (t : Fin cfg0.N) : (st5 t).IsWhole := hstage0_5 ((cfg0.slots t 5).cast nbuf0_5)
theorem hs6 (t : Fin cfg0.N) : (st6 t).IsWhole := hstage0_6 ((cfg0.slots t 6).cast nbuf0_6)
theorem hs7 (t : Fin cfg0.N) : (st7 t).IsWhole := hstage0_7 ((cfg0.slots t 7).cast nbuf0_7)
theorem hs8 (t : Fin cfg0.N) : (st8 t).IsWhole := hstage0_8 ((cfg0.slots t 8).cast nbuf0_8)

/-- What the scratch holds after point `j` of the row of blocks `i` of head `h`. -/
structure Carried (A : Ops) (h i j : ℕ) (xq xo : Vec Ideal S3072x128 .bf16) (xg : Vec Ideal S128x3072 .f32) : Prop where
  q : IsHeads A.q h i xq
  o : IsHeads A.o h i xo
  g : IsDq A h i (j * 1408) xg

/-- The stored block of the query gradient is complete. -/
def IsOut (A : Ops) (h i : ℕ) (x : Vec Ideal S768x512 .f32) : Prop :=
  ∀ (r : Fin 768) (p : Fin 4) (d : Fin 128), x (ix2 r (hd p d)) = ∑ l ∈ Finset.range 8448, A.dqTerm h p.val (i * 768 + r.val) d.val l

theorem rowsGet_at (x : Vec Ideal S8448x128 .f32) (t : Fin grid0.N) (h : pastStart (grid0.coords t)) (l : Fin 1408) (d : Fin 128)
    (hl : t.val % 6 * 1408 + l.val < 8448) : rowsGet x (grid0.coords t) h (ix2 l d) = x (ix2 ⟨t.val % 6 * 1408 + l.val, hl⟩ d) := by
  have key : ∀ (off : Fin 2 → ℕ) (inb : ∀ a, off a + S1408x128.size a ≤ S8448x128.size a), off = ![t.val % 6 * 1408, 0] →
      VecWindow.window x off S1408x128.size inb (ix2 l d) = x (ix2 ⟨t.val % 6 * 1408 + l.val, hl⟩ d) := by
    intro off inb e
    subst e
    refine (win2 x (t.val % 6 * 1408) 0 inb l d hl (by omega)).trans (congrArg x ?_)
    exact (ix2_inj _ _ _ _).2 ⟨rfl, Fin.ext (Nat.zero_add _)⟩
  exact key _ _ (off2_eq t)

section Step
variable {A : Ops} {h : ℕ} {x0 x1 : Vec Ideal S768x512 .bf16} {x2 x3 : Vec Ideal S1408x128 .bf16} {x4 x5 : Vec Ideal S1x4x768 .f32}
  {X Y : Vec Ideal S3072x128 .bf16}

theorem rows_start_k (t : Fin grid0.N) (hi : t.val / 6 % 11 = 0) (hb : Blocks A h (t.val / 6 % 11) (t.val % 6) x0 x1 x2 x3 x4 x5)
    (hX : IsHeads A.q h (t.val / 6 % 11) X) (hY : IsHeads A.o h (t.val / 6 % 11) Y) {x : Vec Ideal S8448x128 .f32}
    (hx : IsRows (A.dkTerm h) (t.val / 6 % 11) (t.val % 6) x) :
    IsRows (A.dkTerm h) (t.val / 6 % 11) (t.val % 6 + 1) (VecWindow.put x (k0_off1 (grid0.coords t)) S1408x128.size (dkPart X Y x2 x3 x4 x5)) := by
  rw [off1_eq]
  have hw := dkPart_model hb hX hY
  rw [hi] at hx hw ⊢
  exact isRows_start hx hw
theorem rows_start_v (t : Fin grid0.N) (hi : t.val / 6 % 11 = 0) (hb : Blocks A h (t.val / 6 % 11) (t.val % 6) x0 x1 x2 x3 x4 x5)
    (hX : IsHeads A.q h (t.val / 6 % 11) X) (hY : IsHeads A.o h (t.val / 6 % 11) Y) {x : Vec Ideal S8448x128 .f32}
    (hx : IsRows (A.dvTerm h) (t.val / 6 % 11) (t.val % 6) x) :
    IsRows (A.dvTerm h) (t.val / 6 % 11) (t.val % 6 + 1) (VecWindow.put x (k0_off1 (grid0.coords t)) S1408x128.size (dvPart X Y x2 x4)) := by
  rw [off1_eq]
  have hw := dvPart_model hb hX hY
  rw [hi] at hx hw ⊢
  exact isRows_start hx hw
theorem rows_past_k (t : Fin grid0.N) (hp : pastStart (grid0.coords t)) (hb : Blocks A h (t.val / 6 % 11) (t.val % 6) x0 x1 x2 x3 x4 x5)
    (hX : IsHeads A.q h (t.val / 6 % 11) X) (hY : IsHeads A.o h (t.val / 6 % 11) Y) {x : Vec Ideal S8448x128 .f32}
    (hx : IsRows (A.dkTerm h) (t.val / 6 % 11) (t.val % 6) x) :
    IsRows (A.dkTerm h) (t.val / 6 % 11) (t.val % 6 + 1)
      (VecWindow.put x (k0_off2 (grid0.coords t)) S1408x128.size (k0_pay2 (dkPart X Y x2 x3 x4 x5) (rowsGet x (grid0.coords t) hp))) := by
  rw [off2_eq]
  refine isRows_past ((pastStart_iff t).1 hp) hx fun l d hl => ?_
  rw [pay2_at, rowsGet_at x t hp l d hl, dkPart_model hb hX hY]
theorem rows_past_v (t : Fin grid0.N) (hp : pastStart (grid0.coords t)) (hb : Blocks A h (t.val / 6 % 11) (t.val % 6) x0 x1 x2 x3 x4 x5)
    (hX : IsHeads A.q h (t.val / 6 % 11) X) (hY : IsHeads A.o h (t.val / 6 % 11) Y) {x : Vec Ideal S8448x128 .f32}
    (hx : IsRows (A.dvTerm h) (t.val / 6 % 11) (t.val % 6) x) :
    IsRows (A.dvTerm h) (t.val / 6 % 11) (t.val % 6 + 1)
      (VecWindow.put x (k0_off2 (grid0.coords t)) S1408x128.size (k0_pay3 (dvPart X Y x2 x4) (rowsGet x (grid0.coords t) hp))) := by
  rw [off2_eq]
  refine isRows_past ((pastStart_iff t).1 hp) hx fun l d hl => ?_
  rw [pay3_at, rowsGet_at x t hp l d hl, dvPart_model hb hX hY]

/-- The first point of a row of blocks. -/
theorem carried_first {i : ℕ} (hb : Blocks A h i 0 x0 x1 x2 x3 x4 x5) :
    Carried A h i 1 (heads x0) (heads x1) (dqNext (heads x0) (heads x1) x2 x3 x4 x5 (k0_pay17 (F := Ideal))) :=
  ⟨isHeads_heads hb.q, isHeads_heads hb.o, isDq_next hb (isHeads_heads hb.q) (isHeads_heads hb.o) (isDq_zero A h i)⟩

/-- A later point. -/
theorem carried_next {i j : ℕ} (hb : Blocks A h i j x0 x1 x2 x3 x4 x5) {xg : Vec Ideal S128x3072 .f32} (hc : Carried A h i j X Y xg) :
    Carried A h i (j + 1) X Y (dqNext X Y x2 x3 x4 x5 xg) :=
  ⟨hc.q, hc.o, isDq_next hb hc.q hc.o hc.g⟩

/-- The body at a point: from the sums before it to those after it. -/
theorem body_step (c : Dev nD) (t : Fin cfg0.N) (hb : Blocks A h (t.val / 6 % 11) (t.val % 6) x0 x1 x2 x3 x4 x5)
    (x6 : Vec Ideal S768x512 .f32) {x7 x8 : Vec Ideal S8448x128 .f32} {xg : Vec Ideal S128x3072 .f32}
    (hc : t.val % 6 ≠ 0 → Carried A h (t.val / 6 % 11) (t.val % 6) X Y xg)
    (h7 : IsRows (A.dkTerm h) (t.val / 6 % 11) (t.val % 6) x7) (h8 : IsRows (A.dvTerm h) (t.val / 6 % 11) (t.val % 6) x8) :
    ∃ (y6 : Vec Ideal S768x512 .f32) (y7 y8 : Vec Ideal S8448x128 .f32) (yq yo : Vec Ideal S3072x128 .bf16) (yg : Vec Ideal S128x3072 .f32),
      BodyRun c (grid0.coords t) (st0 t) (hs0 t) (st1 t) (hs1 t) (st2 t) (hs2 t) (st3 t) (hs3 t) (st4 t) (hs4 t) (st5 t) (hs5 t) (st6 t) (hs6 t) (st7 t) (hs7 t) (st8 t) (hs8 t) scQ (Memref.isWhole_whole _) scO (Memref.isWhole_whole _) scG (Memref.isWhole_whole _)
        x0 x1 x2 x3 x4 x5 x6 x7 x8 X Y xg y6 y7 y8 yq yo yg
      ∧ Carried A h (t.val / 6 % 11) (t.val % 6 + 1) yq yo yg
      ∧ IsRows (A.dkTerm h) (t.val / 6 % 11) (t.val % 6 + 1) y7 ∧ IsRows (A.dvTerm h) (t.val / 6 % 11) (t.val % 6 + 1) y8
      ∧ (t.val % 6 = 5 → IsOut A h (t.val / 6 % 11) y6) := by
  by_cases c0 : t.val % 6 = 0
  · have a0 : atFirst (grid0.coords t) := (atFirst_iff t).2 c0
    have a3 : ¬ atLast (grid0.coords t) := fun e => by have := (atLast_iff t).1 e; omega
    have hq := isHeads_heads hb.q
    have ho := isHeads_heads hb.o
    have hc1 : Carried A h (t.val / 6 % 11) (t.val % 6 + 1) (heads x0) (heads x1) (dqNext (heads x0) (heads x1) x2 x3 x4 x5 (k0_pay17 (F := Ideal))) := by
      rw [c0] at hb ⊢; exact carried_first hb
    by_cases ci : t.val / 6 % 11 = 0
    · have a1 : atStart (grid0.coords t) := (atStart_iff t).2 ci
      have a2 : ¬ pastStart (grid0.coords t) := fun e => by have := (pastStart_iff t).1 e; omega
      exact ⟨_, _, _, _, _, _, run_first_start c _ (st0 t) (hs0 t) (st1 t) (hs1 t) (st2 t) (hs2 t) (st3 t) (hs3 t) (st4 t) (hs4 t) (st5 t) (hs5 t) (st6 t) (hs6 t) (st7 t) (hs7 t) (st8 t) (hs8 t) scQ (Memref.isWhole_whole _) scO (Memref.isWhole_whole _) scG (Memref.isWhole_whole _) a0 a1 a2 a3 x0 x1 x2 x3 x4 x5 x6 x7 x8 X Y xg, hc1,
        rows_start_k t ci hb hq ho h7, rows_start_v t ci hb hq ho h8, fun e => by omega⟩
    · have a1 : ¬ atStart (grid0.coords t) := fun e => ci ((atStart_iff t).1 e)
      have a2 : pastStart (grid0.coords t) := (pastStart_iff t).2 (by omega)
      exact ⟨_, _, _, _, _, _, run_first_past c _ (st0 t) (hs0 t) (st1 t) (hs1 t) (st2 t) (hs2 t) (st3 t) (hs3 t) (st4 t) (hs4 t) (st5 t) (hs5 t) (st6 t) (hs6 t) (st7 t) (hs7 t) (st8 t) (hs8 t) scQ (Memref.isWhole_whole _) scO (Memref.isWhole_whole _) scG (Memref.isWhole_whole _) a0 a1 a2 a3 x0 x1 x2 x3 x4 x5 x6 x7 x8 X Y xg, hc1,
        rows_past_k t a2 hb hq ho h7, rows_past_v t a2 hb hq ho h8, fun e => by omega⟩
  have a0 : ¬ atFirst (grid0.coords t) := fun e => c0 ((atFirst_iff t).1 e)
  have hc0 := hc c0
  have hc1 := carried_next hb hc0
  by_cases c5 : t.val % 6 = 5
  · have a3 : atLast (grid0.coords t) := (atLast_iff t).2 c5
    have hg : IsDq A h (t.val / 6 % 11) 8448 (dqNext X Y x2 x3 x4 x5 xg) := by
      have := hc1.g; rw [c5] at this; exact this
    have hout : IsOut A h (t.val / 6 % 11) (dqOut x6 (dqNext X Y x2 x3 x4 x5 xg)) := fun r p d => dqOut_model hg x6 r p d
    by_cases ci : t.val / 6 % 11 = 0
    · have a1 : atStart (grid0.coords t) := (atStart_iff t).2 ci
      have a2 : ¬ pastStart (grid0.coords t) := fun e => by have := (pastStart_iff t).1 e; omega
      exact ⟨_, _, _, _, _, _, run_last_start c _ (st0 t) (hs0 t) (st1 t) (hs1 t) (st2 t) (hs2 t) (st3 t) (hs3 t) (st4 t) (hs4 t) (st5 t) (hs5 t) (st6 t) (hs6 t) (st7 t) (hs7 t) (st8 t) (hs8 t) scQ (Memref.isWhole_whole _) scO (Memref.isWhole_whole _) scG (Memref.isWhole_whole _) a0 a1 a2 a3 x0 x1 x2 x3 x4 x5 x6 x7 x8 X Y xg, hc1,
        rows_start_k t ci hb hc0.q hc0.o h7, rows_start_v t ci hb hc0.q hc0.o h8, fun _ => hout⟩
    · have a1 : ¬ atStart (grid0.coords t) := fun e => ci ((atStart_iff t).1 e)
      have a2 : pastStart (grid0.coords t) := (pastStart_iff t).2 (by omega)
      exact ⟨_, _, _, _, _, _, run_last_past c _ (st0 t) (hs0 t) (st1 t) (hs1 t) (st2 t) (hs2 t) (st3 t) (hs3 t) (st4 t) (hs4 t) (st5 t) (hs5 t) (st6 t) (hs6 t) (st7 t) (hs7 t) (st8 t) (hs8 t) scQ (Memref.isWhole_whole _) scO (Memref.isWhole_whole _) scG (Memref.isWhole_whole _) a0 a1 a2 a3 x0 x1 x2 x3 x4 x5 x6 x7 x8 X Y xg, hc1,
        rows_past_k t a2 hb hc0.q hc0.o h7, rows_past_v t a2 hb hc0.q hc0.o h8, fun _ => hout⟩
  · have a3 : ¬ atLast (grid0.coords t) := fun e => c5 ((atLast_iff t).1 e)
    by_cases ci : t.val / 6 % 11 = 0
    · have a1 : atStart (grid0.coords t) := (atStart_iff t).2 ci
      have a2 : ¬ pastStart (grid0.coords t) := fun e => by have := (pastStart_iff t).1 e; omega
      exact ⟨_, _, _, _, _, _, run_mid_start c _ (st0 t) (hs0 t) (st1 t) (hs1 t) (st2 t) (hs2 t) (st3 t) (hs3 t) (st4 t) (hs4 t) (st5 t) (hs5 t) (st6 t) (hs6 t) (st7 t) (hs7 t) (st8 t) (hs8 t) scQ (Memref.isWhole_whole _) scO (Memref.isWhole_whole _) scG (Memref.isWhole_whole _) a0 a1 a2 a3 x0 x1 x2 x3 x4 x5 x6 x7 x8 X Y xg, hc1,
        rows_start_k t ci hb hc0.q hc0.o h7, rows_start_v t ci hb hc0.q hc0.o h8, fun e => absurd e c5⟩
    · have a1 : ¬ atStart (grid0.coords t) := fun e => ci ((atStart_iff t).1 e)
      have a2 : pastStart (grid0.coords t) := (pastStart_iff t).2 (by omega)
      exact ⟨_, _, _, _, _, _, run_mid_past c _ (st0 t) (hs0 t) (st1 t) (hs1 t) (st2 t) (hs2 t) (st3 t) (hs3 t) (st4 t) (hs4 t) (st5 t) (hs5 t) (st6 t) (hs6 t) (st7 t) (hs7 t) (st8 t) (hs8 t) scQ (Memref.isWhole_whole _) scO (Memref.isWhole_whole _) scG (Memref.isWhole_whole _) a0 a1 a2 a3 x0 x1 x2 x3 x4 x5 x6 x7 x8 X Y xg, hc1,
        rows_past_k t a2 hb hc0.q hc0.o h7, rows_past_v t a2 hb hc0.q hc0.o h8, fun e => absurd e c5⟩

end Step

end Cert.KernelIdeal.Bwd

end
-- ==== Proof.Bwd.Launch.lean ====
module

public import proofs.«01_k».proof.Proof.Bwd.Body

@[expose] public section

set_option maxRecDepth 16384

/-!
The launch: the proof data of the pipeline (the scratch carries the sums, the output buffers are held to what is known of them),
the body's obligation at every point, and the run of the whole program.
-/

noncomputable section

namespace Cert.KernelIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-- The scratch after point `n`, and the generator register at some state. -/
def carried (c : Dev nD) (n : ℕ) : sProp 𝕄 :=
  iprop(∃ (xq xo : Vec Ideal S3072x128 .bf16) (xg : Vec Ideal S128x3072 .f32),
    ⌜Carried (ops m c) (n / 66) (n / 6 % 11) (n % 6 + 1) xq xo xg⌝
      ∗ (owns (c : Thread nD τ) scQ fullShare xq ∗ owns (c : Thread nD τ) scO fullShare xo ∗ owns (c : Thread nD τ) scG fullShare xg ∗ (∃ r, prngReg c r)))

/-- The invariant before point `n`: at the start anything, later what the point before left. -/
def inv (c : Dev nD) : ℕ → sProp 𝕄
  | 0 => Pipeline.ΦA spec0 c
  | n + 1 => carried m c n

/-- The proof data: each input's buffer at its block, the outputs' held to `kept` instead. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ t := inv m c t.val
  q _ := fullShare
  owed _ := 0

/-- The windows whose contents are held to a predicate: the outputs. -/
def outs : Fin 9 → Bool
  | 6 => true | 7 => true | 8 => true | _ => false

/-- What is known of an output's buffer after a point. -/
def kept (c : Dev nD) (w : Fin cfg0.W) (t : Fin cfg0.N) (X : (cfg0.win w).block.Idx → Elt Ideal (cfg0.win w).elt) : Prop :=
  match w, X with
  | ⟨6, _⟩, X => t.val % 6 = 5 → IsOut (ops m c) (t.val / 66) (t.val / 6 % 11) X
  | ⟨7, _⟩, X => IsRows ((ops m c).dkTerm (t.val / 66)) (t.val / 6 % 11) (t.val % 6 + 1) X
  | ⟨8, _⟩, X => IsRows ((ops m c).dvTerm (t.val / 66)) (t.val / 6 % 11) (t.val % 6 + 1) X
  | _, _ => True

theorem A_eq (c : Dev nD) (w : Fin cfg0.W) : (dats m 0 c).A w = V m c (Pipeline.arrRef spec0 w) := by
  dsimp only [dats]

theorem before0 (c : Dev nD) (t : Fin cfg0.N) (d) : (dats m 0 c).before 0 t d = iblk m c 0 t := before0_0_of m _ (A_eq m c 0) (fun _ => rfl) t d
theorem before1 (c : Dev nD) (t : Fin cfg0.N) (d) : (dats m 0 c).before 1 t d = iblk m c 1 t := before0_1_of m _ (A_eq m c 1) (fun _ => rfl) t d
theorem before2 (c : Dev nD) (t : Fin cfg0.N) (d) : (dats m 0 c).before 2 t d = iblk m c 2 t := before0_2_of m _ (A_eq m c 2) (fun _ => rfl) t d
theorem before3 (c : Dev nD) (t : Fin cfg0.N) (d) : (dats m 0 c).before 3 t d = iblk m c 3 t := before0_3_of m _ (A_eq m c 3) (fun _ => rfl) t d
theorem before4 (c : Dev nD) (t : Fin cfg0.N) (d) : (dats m 0 c).before 4 t d = iblk m c 4 t := before0_4_of m _ (A_eq m c 4) (fun _ => rfl) t d
theorem before5 (c : Dev nD) (t : Fin cfg0.N) (d) : (dats m 0 c).before 5 t d = iblk m c 5 t := before0_5_of m _ (A_eq m c 5) (fun _ => rfl) t d

/-- The launch's share of the scratch: each buffer whole at some contents, and the generator register. -/
theorem launched_eq (c : Dev nD) :
    (Pipeline.ΦA spec0 c : sProp 𝕄)
      = iprop(iprop((∃ d, owns (c : Thread nD τ) scQ fullShare d) ∗ (∃ d, owns (c : Thread nD τ) scO fullShare d) ∗ (∃ d, owns (c : Thread nD τ) scG fullShare d)) ∗ (∃ r, prngReg c r)) := by
  unfold Pipeline.ΦA; rw [scopedRest0_eq]; simp only [scQ, scO, scG, owns_whole]; try rfl

/-- Before a point that is not the first of its row of blocks the scratch holds the sums so far. -/
theorem inv_open (c : Dev nD) (n : ℕ) :
    inv m c n ⊢ iprop(∃ (xq xo : Vec Ideal S3072x128 .bf16) (xg : Vec Ideal S128x3072 .f32),
      ⌜n % 6 ≠ 0 → Carried (ops m c) (n / 66) (n / 6 % 11) (n % 6) xq xo xg⌝
        ∗ (owns (c : Thread nD τ) scQ fullShare xq ∗ owns (c : Thread nD τ) scO fullShare xo ∗ owns (c : Thread nD τ) scG fullShare xg ∗ (∃ r, prngReg c r))) := by
  match n with
  | 0 =>
    show (Pipeline.ΦA spec0 c : sProp 𝕄) ⊢ _
    rw [launched_eq]
    iintro ⟨⟨⟨%xq, Hq⟩, ⟨%xo, Ho⟩, ⟨%xg, Hg⟩⟩, Hr⟩
    iexists xq; iexists xo; iexists xg
    isplitr
    · ipureintro; intro h; exact absurd rfl h
    isplitl [Hq]; · iexact Hq
    isplitl [Ho]; · iexact Ho
    isplitl [Hg]; · iexact Hg
    iexact Hr
  | k + 1 =>
    show carried m c k ⊢ _
    unfold carried
    iintro ⟨%xq, %xo, %xg, %hc, H⟩
    iexists xq; iexists xo; iexists xg
    isplitr
    · ipureintro; intro h
      rw [show (k + 1) / 66 = k / 66 by omega, show (k + 1) / 6 % 11 = k / 6 % 11 by omega, show (k + 1) % 6 = k % 6 + 1 by omega]
      exact hc
    iexact H

/-- What a gradient by rows holds after one point is what it holds before the next of the same head group. -/
theorem isRows_point (f : ℕ → ℕ → ℕ → ℕ → EReal) (n : ℕ) (h0 : n % 66 ≠ 0) (X : Vec Ideal S8448x128 .f32)
    (h : IsRows (f ((n - 1) / 66)) ((n - 1) / 6 % 11) ((n - 1) % 6 + 1) X) : IsRows (f (n / 66)) (n / 6 % 11) (n % 6) X := by
  have e : (n - 1) / 66 = n / 66 := by omega
  rw [e] at h
  by_cases h6 : n % 6 = 0
  · rw [show (n - 1) % 6 + 1 = 6 by omega] at h
    have := isRows_turn h
    rw [show (n - 1) / 6 % 11 + 1 = n / 6 % 11 by omega] at this
    rw [h6]; exact this
  · rw [show (n - 1) % 6 + 1 = n % 6 by omega, show (n - 1) / 6 % 11 = n / 6 % 11 by omega] at h
    exact h

/-- Before the first point of a head group nothing is asked. -/
theorem isRows_first (f : ℕ → ℕ → ℕ → ℕ → EReal) (n : ℕ) (h0 : n % 66 = 0) (X : Vec Ideal S8448x128 .f32) :
    IsRows (f (n / 66)) (n / 6 % 11) (n % 6) X := by
  rw [show n / 6 % 11 = 0 by omega, show n % 6 = 0 by omega]; exact isRows_zero _ _

/-- What is known of the key gradient's buffer when a point starts. -/
theorem found7 (c : Dev nD) (t : Fin cfg0.N) (X : (cfg0.win 7).block.Idx → Elt Ideal (cfg0.win 7).elt) (h : ((dats m 0 c).toRRel outs (kept m c)).Finds 7 t X) :
    IsRows ((ops m c).dkTerm (t.val / 66)) (t.val / 6 % 11) (t.val % 6) X := by
  by_cases h0 : t.val % 66 = 0
  · exact isRows_first (ops m c).dkTerm _ h0 X
  · have hL := (((dats m 0 c).toRRel outs (kept m c)).finds_of_pos ((cfg0.win 7).fetch_out rfl _) (by omega) X).1 h
    refine isRows_point (ops m c).dkTerm _ h0 X ?_
    have hf : ¬ (cfg0.win 7).flush ⟨t.val - 1, Nat.lt_of_le_of_lt (Nat.sub_le _ _) t.isLt⟩ = true := by
      rw [flush0_7]
      show ¬ (t.val - 1) % 66 = 65
      have hN : t.val < 132 := Nat.lt_of_lt_of_eq t.isLt N_0
      omega
    have hk := hL.resolve_left hf
    have hk' : kept m c 7 ⟨t.val - 1, Nat.lt_of_le_of_lt (Nat.sub_le _ _) t.isLt⟩ X := (dats m 0 c).toRRel_leaves (by rfl) hk
    exact hk'

/-- What is known of the value gradient's buffer when a point starts. -/
theorem found8 (c : Dev nD) (t : Fin cfg0.N) (X : (cfg0.win 8).block.Idx → Elt Ideal (cfg0.win 8).elt) (h : ((dats m 0 c).toRRel outs (kept m c)).Finds 8 t X) :
    IsRows ((ops m c).dvTerm (t.val / 66)) (t.val / 6 % 11) (t.val % 6) X := by
  by_cases h0 : t.val % 66 = 0
  · exact isRows_first (ops m c).dvTerm _ h0 X
  · have hL := (((dats m 0 c).toRRel outs (kept m c)).finds_of_pos ((cfg0.win 8).fetch_out rfl _) (by omega) X).1 h
    refine isRows_point (ops m c).dvTerm _ h0 X ?_
    have hf : ¬ (cfg0.win 8).flush ⟨t.val - 1, Nat.lt_of_le_of_lt (Nat.sub_le _ _) t.isLt⟩ = true := by
      rw [flush0_8]
      show ¬ (t.val - 1) % 66 = 65
      have hN : t.val < 132 := Nat.lt_of_lt_of_eq t.isLt N_0
      omega
    have hk := hL.resolve_left hf
    have hk' : kept m c 8 ⟨t.val - 1, Nat.lt_of_le_of_lt (Nat.sub_le _ _) t.isLt⟩ X := (dats m 0 c).toRRel_leaves (by rfl) hk
    exact hk'

/-- What a point starts from: the invariant, the staged blocks, and the output buffers as found. -/
def bodyPre (c : Dev nD) (t : Fin cfg0.N) : sProp 𝕄 :=
  iprop((dats m 0 c).Φ t.castSucc ∗ (dats m 0 c).owesAt () t.castSucc ∗ (∃ d, owns (c : Thread nD τ) (st0 t) fullShare ((dats m 0 c).before 0 t d)) ∗ (∃ d, owns (c : Thread nD τ) (st1 t) fullShare ((dats m 0 c).before 1 t d)) ∗ (∃ d, owns (c : Thread nD τ) (st2 t) fullShare ((dats m 0 c).before 2 t d)) ∗ (∃ d, owns (c : Thread nD τ) (st3 t) fullShare ((dats m 0 c).before 3 t d)) ∗ (∃ d, owns (c : Thread nD τ) (st4 t) fullShare ((dats m 0 c).before 4 t d)) ∗ (∃ d, owns (c : Thread nD τ) (st5 t) fullShare ((dats m 0 c).before 5 t d)) ∗ (∃ Y, ⌜((dats m 0 c).toRRel outs (kept m c)).Finds 6 t Y⌝ ∗ owns (c : Thread nD τ) (st6 t) fullShare Y) ∗ (∃ Y, ⌜((dats m 0 c).toRRel outs (kept m c)).Finds 7 t Y⌝ ∗ owns (c : Thread nD τ) (st7 t) fullShare Y) ∗ (∃ Y, ⌜((dats m 0 c).toRRel outs (kept m c)).Finds 8 t Y⌝ ∗ owns (c : Thread nD τ) (st8 t) fullShare Y))

/-- What a point leaves. -/
def bodyPost (c : Dev nD) (t : Fin cfg0.N) : sProp 𝕄 :=
  iprop((dats m 0 c).Φ t.succ ∗ (dats m 0 c).owesAt () t.succ ∗ owns (c : Thread nD τ) (st0 t) fullShare ((dats m 0 c).after 0 t) ∗ owns (c : Thread nD τ) (st1 t) fullShare ((dats m 0 c).after 1 t) ∗ owns (c : Thread nD τ) (st2 t) fullShare ((dats m 0 c).after 2 t) ∗ owns (c : Thread nD τ) (st3 t) fullShare ((dats m 0 c).after 3 t) ∗ owns (c : Thread nD τ) (st4 t) fullShare ((dats m 0 c).after 4 t) ∗ owns (c : Thread nD τ) (st5 t) fullShare ((dats m 0 c).after 5 t) ∗ (∃ X, ⌜kept m c 6 t X⌝ ∗ owns (c : Thread nD τ) (st6 t) fullShare X) ∗ (∃ X, ⌜kept m c 7 t X⌝ ∗ owns (c : Thread nD τ) (st7 t) fullShare X) ∗ (∃ X, ⌜kept m c 8 t X⌝ ∗ owns (c : Thread nD τ) (st8 t) fullShare X))

set_option maxHeartbeats 800000 in
/-- The body at a point, from the run of the point's case. -/
theorem sound_body (c : Dev nD) (t : Fin cfg0.N) :
    bodyPre m c t ⊢ wp frame (wpE (defs₀ (F := Ideal)) Variants.none c none) Set.univ
      (cc0_b_attn (F := Ideal) (grid0.coords t) (st0 t) (hs0 t) (st1 t) (hs1 t) (st2 t) (hs2 t) (st3 t) (hs3 t) (st4 t) (hs4 t) (st5 t) (hs5 t) (st6 t) (hs6 t) (st7 t) (hs7 t) (st8 t) (hs8 t) scQ (Memref.isWhole_whole _) scO (Memref.isWhole_whole _) scG (Memref.isWhole_whole _)) fun _ => bodyPost m c t := by
  unfold bodyPre bodyPost
  simp only [before0 m c t, before1 m c t, before2 m c t, before3 m c t, before4 m c t, before5 m c t]
  rw [show (dats m 0 c).Φ t.castSucc = inv m c t.val from rfl, show (dats m 0 c).Φ t.succ = carried m c t.val from rfl,
    show (dats m 0 c).owesAt () t.succ = (dats m 0 c).owesAt () t.castSucc from rfl]
  iintro ⟨HI, Ho, ⟨%d0, H0⟩, ⟨%d1, H1⟩, ⟨%d2, H2⟩, ⟨%d3, H3⟩, ⟨%d4, H4⟩, ⟨%d5, H5⟩, ⟨%x6, -, H6⟩, ⟨%x7, %f7, H7⟩, ⟨%x8, %f8, H8⟩⟩
  ihave HI := inv_open m c t.val $$ HI
  icases HI with ⟨%xq, %xo, %xg, %hc, Hq, Hs, Hg, Hr⟩
  obtain ⟨y6, y7, y8, yq, yo, yg, hrun, hc', h7, h8, h6⟩ := body_step c t (blocks_iblk m c t) x6 hc (found7 m c t x7 f7) (found8 m c t x8 f8)
  iapply (hrun Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [Hq]; · iexact Hq
  isplitl [Hs]; · iexact Hs
  isplitl [Hg]; · iexact Hg
  iintro ⟨H0, H1, H2, H3, H4, H5, H6, H7, H8, Hq, Hs, Hg⟩
  isplitl [Hq Hs Hg Hr]
  · unfold carried
    iexists yq; iexists yo; iexists yg
    isplitr
    · ipureintro; exact hc'
    isplitl [Hq]; · iexact Hq
    isplitl [Hs]; · iexact Hs
    isplitl [Hg]; · iexact Hg
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists y6; isplitr
    · ipureintro; exact h6
    iexact H6
  isplitl [H7]
  · iexists y7; isplitr
    · ipureintro; exact h7
    iexact H7
  iexists y8; isplitr
  · ipureintro; exact h8
  iexact H8

/-- The body the pipeline calls at a point. -/
theorem called (t : Fin cfg0.N) :
    defs₀ (F := Ideal) .tc cfg0.body (cfg0.bodyArgs t (cfg0.slots t))
      = cc0_b_attn (F := Ideal) (grid0.coords t) (st0 t) (hs0 t) (st1 t) (hs1 t) (st2 t) (hs2 t) (st3 t) (hs3 t) (st4 t) (hs4 t) (st5 t) (hs5 t) (st6 t) (hs6 t) (st7 t) (hs7 t) (st8 t) (hs8 t) scQ (Memref.isWhole_whole _) scO (Memref.isWhole_whole _) scG (Memref.isWhole_whole _) := by
  unfold defs₀; rw [Defs.onTc_tc]

theorem obligation (c : Dev nD) : Pipeline.BodyObligationRel (dats m 0 c) (defs₀ (F := Ideal)) Variants.none () Set.univ outs (kept m c) := fun t => by
  rw [bigSep_W0, bigSep_W0, called]
  exact triple_restated (sound_body m c t) rfl .rfl fun _ => .rfl

theorem enter (c : Dev nD) : Pipeline.ΦA spec0 c ⊢ (dats m 0 c).Φ 0 := Entails.refl _

theorem leave (c : Dev nD) : (dats m 0 c).Φ (Fin.last cfg0.N) ⊢ Pipeline.ΦA spec0 c := by
  rw [show (dats m 0 c).Φ (Fin.last cfg0.N) = inv m c cfg0.N from rfl]
  refine (inv_open m c cfg0.N).trans ?_
  rw [launched_eq]
  iintro ⟨%xq, %xo, %xg, -, Hq, Ho, Hg, Hr⟩
  isplitr [Hr]
  · isplitl [Hq]; · iexists xq; iexact Hq
    isplitl [Ho]; · iexists xo; iexact Ho
    iexists xg; iexact Hg
  iexact Hr

set_option backward.isDefEq.respectTransparency.types false in
/-- Every run ends with the arrays as the proof data leaves them and every semaphore at zero. -/
theorem run : θ_run defs (onTc (τ := τ) (main (F := Ideal))) (s₀ m ρ)
    (fun r => Pipeline.RDat.FramePost (cfgs 0) (fun c => (dats m 0 c).toRRel outs (kept m c)) (V m) r ∧ r.2.sem = fun _ => 0) :=
  Pipeline.RDat.θ_run_frame_track cfgs 0 launch0 defs₀ Variants.none (fun c => (dats m 0 c).toRRel outs (kept m c)) m ρ main
    (hbody := fun c => (obligation m c).toRRel)
    (hshare := fun c => (dats m 0 c).share_full fun _ => rfl) (howed := fun _ _ => rfl) (V := V m) (hmain := hmain m Variants.none)
    (hA := A_eq m) (hin := enter m) (hout := leave m) (Q' := _) (hQ' := fun _ h => h)

end Cert.KernelIdeal.Bwd

end
-- ==== Proof.Bwd.Out.lean ====
module

public import proofs.«01_k».proof.Proof.Bwd.Launch

@[expose] public section

set_option maxRecDepth 16384

/-!
The results: after the launch each gradient's array holds, at every index, the sum over all queries or keys.
-/

noncomputable section

namespace Cert.KernelIdeal.Bwd

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen

/-- The query gradient, as an array. -/
def dqOf (A : Ops) : S8448x1024.Idx → EReal := fun z =>
  ∑ l ∈ Finset.range 8448, A.dqTerm ((z 1).val / 512) ((z 1).val % 512 / 128) (z 0).val ((z 1).val % 128) l
/-- The key gradient, as an array. -/
def dkOf (A : Ops) : S8448x256.Idx → EReal := fun z =>
  ∑ t ∈ Finset.range 8448, A.dkTerm ((z 1).val / 128) (z 0).val ((z 1).val % 128) t
/-- The value gradient, as an array. -/
def dvOf (A : Ops) : S8448x256.Idx → EReal := fun z =>
  ∑ t ∈ Finset.range 8448, A.dvTerm ((z 1).val / 128) (z 0).val ((z 1).val % 128) t

theorem dq_block {A : Ops} {h i : ℕ} {x : Vec Ideal S768x512 .f32} (hx : IsOut A h i x) (y : S768x512.Idx) (z : S8448x1024.Idx)
    (h0 : (z 0).val = i * 768 + (y 0).val) (h1 : (z 1).val = h * 512 + (y 1).val) : x y = dqOf A z := by
  have b0 : (y 0).val < 768 := (y 0).isLt
  have b1 : (y 1).val < 512 := (y 1).isLt
  have e : y = ix2 (⟨(y 0).val, b0⟩ : Fin 768) (hd ⟨(y 1).val / 128, by omega⟩ ⟨(y 1).val % 128, by omega⟩) := by
    funext a; refine a.cases rfl fun a => a.cases (Fin.ext ?_) fun a => a.elim0
    show (y 1).val = (y 1).val / 128 * 128 + (y 1).val % 128
    omega
  have e1 : (z 1).val / 512 = h := by omega
  have e2 : (z 1).val % 512 / 128 = (y 1).val / 128 := by omega
  have e3 : (z 1).val % 128 = (y 1).val % 128 := by omega
  unfold dqOf
  rw [e1, e2, e3, h0]
  exact (congrArg x e).trans (hx _ _ _)

theorem rows_block {f : ℕ → ℕ → ℕ → ℕ → EReal} {h : ℕ} {x : Vec Ideal S8448x128 .f32} (hx : IsRows (f h) 10 6 x) (y : S8448x128.Idx) (z : S8448x256.Idx)
    (h0 : (z 0).val = (y 0).val) (h1 : (z 1).val = h * 128 + (y 1).val) :
    x y = ∑ t ∈ Finset.range 8448, f ((z 1).val / 128) (z 0).val ((z 1).val % 128) t := by
  have b0 : (y 0).val < 8448 := (y 0).isLt
  have b1 : (y 1).val < 128 := (y 1).isLt
  have e : y = ix2 (⟨(y 0).val, b0⟩ : Fin 8448) (⟨(y 1).val, b1⟩ : Fin 128) := by
    funext a; exact a.cases rfl fun a => a.cases rfl fun a => a.elim0
  have e1 : (z 1).val / 128 = h := by omega
  have e2 : (z 1).val % 128 = (y 1).val := by omega
  rw [e1, e2, h0]
  exact (congrArg x e).trans (isRows_end hx _ _)

variable (m : (ℓ : Loc nD τ sig) → Buf (Elt Ideal) ℓ) (ρ : Dev nD → PrngReg)

section Arrays
variable (c : Dev nD) (after : (w : Fin cfg0.W) → Fin cfg0.N → (cfg0.win w).block.Idx → Elt Ideal (cfg0.win w).elt)
  (hL : ∀ (w : Fin cfg0.W) (u : Fin cfg0.N), (cfg0.win w).flush u = true → ((dats m 0 c).toRRel outs (kept m c)).Leaves w u (after w u))
include hL

theorem kept6 (t : Fin cfg0.N) (ht : (cfg0.win 6).flush t = true) : IsOut (ops m c) (t.val / 66) (t.val / 6 % 11) (after 6 t) := by
  have hk : kept m c 6 t (after 6 t) := (dats m 0 c).toRRel_leaves (by rfl) (hL 6 t ht)
  exact hk ((flush0_6 t).1 ht)

theorem kept7 (t : Fin cfg0.N) (ht : (cfg0.win 7).flush t = true) : IsRows ((ops m c).dkTerm (t.val / 66)) 10 6 (after 7 t) := by
  have hk : kept m c 7 t (after 7 t) := (dats m 0 c).toRRel_leaves (by rfl) (hL 7 t ht)
  have h66 : t.val % 66 = 65 := (flush0_7 t).1 ht
  have hk' : IsRows ((ops m c).dkTerm (t.val / 66)) (t.val / 6 % 11) (t.val % 6 + 1) (after 7 t) := hk
  rw [show t.val / 6 % 11 = 10 by omega, show t.val % 6 + 1 = 6 by omega] at hk'
  exact hk'

theorem kept8 (t : Fin cfg0.N) (ht : (cfg0.win 8).flush t = true) : IsRows ((ops m c).dvTerm (t.val / 66)) 10 6 (after 8 t) := by
  have hk : kept m c 8 t (after 8 t) := (dats m 0 c).toRRel_leaves (by rfl) (hL 8 t ht)
  have h66 : t.val % 66 = 65 := (flush0_8 t).1 ht
  have hk' : IsRows ((ops m c).dvTerm (t.val / 66)) (t.val / 6 % 11) (t.val % 6 + 1) (after 8 t) := hk
  rw [show t.val / 6 % 11 = 10 by omega, show t.val % 6 + 1 = 6 by omega] at hk'
  exact hk'

theorem arr_dq : (((dats m 0 c).toRRel outs (kept m c)).withAfter after).arrAt 6 cfg0.N = dqOf (ops m c) := by
  refine Dat.arrAt_eq_of_covers (((dats m 0 c).toRRel outs (kept m c)).withAfter after) 6 _ (by decide +kernel) fun t hf y => ?_
  have hx := kept6 m c after hL t hf
  blk_simp
  refine dq_block hx _ _ ?_ ?_ <;> blk_simp [idx_dq t]

theorem arr_dk : (((dats m 0 c).toRRel outs (kept m c)).withAfter after).arrAt 7 cfg0.N = dkOf (ops m c) := by
  refine Dat.arrAt_eq_of_covers (((dats m 0 c).toRRel outs (kept m c)).withAfter after) 7 _ (by decide +kernel) fun t hf y => ?_
  have hx := kept7 m c after hL t hf
  blk_simp
  refine rows_block (f := (ops m c).dkTerm) hx _ _ ?_ ?_ <;> blk_simp [idx_dk t]

theorem arr_dv : (((dats m 0 c).toRRel outs (kept m c)).withAfter after).arrAt 8 cfg0.N = dvOf (ops m c) := by
  refine Dat.arrAt_eq_of_covers (((dats m 0 c).toRRel outs (kept m c)).withAfter after) 8 _ (by decide +kernel) fun t hf y => ?_
  have hx := kept8 m c after hL t hf
  blk_simp
  refine rows_block (f := (ops m c).dvTerm) hx _ _ ?_ ?_ <;> blk_simp [idx_dv t]

end Arrays

/-- The query gradient of device `c`. -/
def dqRes (c : Dev nD) : Buf (Elt Ideal) ((c.tc : Thread nD τ).loc main_v44_0) := dqOf (ops m c)
/-- The key gradient of device `c`. -/
def dkRes (c : Dev nD) : Buf (Elt Ideal) ((c.tc : Thread nD τ).loc main_v44_1) := dkOf (ops m c)
/-- The value gradient of device `c`. -/
def dvRes (c : Dev nD) : Buf (Elt Ideal) ((c.tc : Thread nD τ).loc main_v44_2) := dvOf (ops m c)

theorem results_of (r : PUnit × MemSt nD τ sig (Elt Ideal))
    (h : Pipeline.RDat.FramePost (cfgs 0) (fun c => (dats m 0 c).toRRel outs (kept m c)) (V m) r) (c : Dev nD) :
    r.2.mem ((c.tc : Thread nD τ).loc main_v44_0) = dqRes m c
    ∧ r.2.mem ((c.tc : Thread nD τ).loc main_v44_1) = dkRes m c
    ∧ r.2.mem ((c.tc : Thread nD τ).loc main_v44_2) = dvRes m c := by
  obtain ⟨after, hL, hA⟩ := Pipeline.RDat.FramePost.exists_exact h c
  refine ⟨?_, ?_, ?_⟩
  · exact (hA 6).trans (arr_dq m c after hL)
  · exact (hA 7).trans (arr_dk m c after hL)
  · exact (hA 8).trans (arr_dv m c after hL)

set_option maxHeartbeats 1600000 in
theorem unchanged_of (r : PUnit × MemSt nD τ sig (Elt Ideal))
    (h : Pipeline.RDat.FramePost (cfgs 0) (fun c => (dats m 0 c).toRRel outs (kept m c)) (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  obtain ⟨after, hL, hA⟩ := Pipeline.RDat.FramePost.exists_exact h c
  have a0 := (((dats m 0 c).toRRel outs (kept m c)).withAfter after).arrAt_in 0 rfl cfg0.N
  have a1 := (((dats m 0 c).toRRel outs (kept m c)).withAfter after).arrAt_in 1 rfl cfg0.N
  have a2 := (((dats m 0 c).toRRel outs (kept m c)).withAfter after).arrAt_in 2 rfl cfg0.N
  have a3 := (((dats m 0 c).toRRel outs (kept m c)).withAfter after).arrAt_in 3 rfl cfg0.N
  refine ⟨?_, ?_, ?_, ?_⟩
  · exact (hA 0).trans (a0.trans ((A_eq m c 0).trans (V_main_arg0 m c)))
  · exact (hA 2).trans (a2.trans ((A_eq m c 2).trans (V_main_arg1 m c)))
  · exact (hA 3).trans (a3.trans ((A_eq m c 3).trans (V_main_arg2 m c)))
  · exact (hA 1).trans (a1.trans ((A_eq m c 1).trans (V_main_arg3 m c)))

/-- Every run ends with the three gradients in the launch's output arrays, the four arguments as they were and no signal left. -/
theorem results : θ_run defs (onTc (τ := τ) (main (F := Ideal))) ⟨m, fun _ => 0, ρ⟩
    (fun r => (∀ c : Dev nD,
      (r.2.mem ((c.tc : Thread nD τ).loc main_v44_0) = dqRes m c
        ∧ r.2.mem ((c.tc : Thread nD τ).loc main_v44_1) = dkRes m c
        ∧ r.2.mem ((c.tc : Thread nD τ).loc main_v44_2) = dvRes m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨fun c => ⟨results_of m r h.1 c, unchanged_of m r h.1 c⟩, h.2⟩) (run m ρ)

end Cert.KernelIdeal.Bwd

end
-- ==== Proof.Frames.lean ====
module

public import proofs.«01_k».proof.Defs
public import proofs.«01_k».proof.Proof.Bits.Frame
public import proofs.«01_k».proof.Proof.Bwd.Out
public import proofs.«01_k».proof.Proof.Gen.ReferenceIdeal.Run
public import Idealize.ShloMosaic.Adequacy
public import Idealize.ShloMosaic.Init

@[expose] public section

/-!
The frames of the three programs, and the named constant.
-/

noncomputable section

namespace Cert.Proof

open Idealize.ShloMosaic Idealize.SL.Sem

theorem frame_p : Cert.quiescent_Kernel (hKernel := Cert.Kernel.Gen.facts) := fun m ρ _ => Cert.Kernel.Words.frame m ρ

theorem frame_pi : Cert.quiescent_KernelIdeal (hKernelIdeal := Cert.KernelIdeal.Gen.facts) := fun m ρ _ =>
  (θ_run Cert.KernelIdeal.defs _ _).mono (fun _ h => ⟨fun c => (h.1 c).2, h.2⟩) (Cert.KernelIdeal.Bwd.results m ρ)

theorem frame_ri : Cert.quiescent_ReferenceIdeal (hReferenceIdeal := Cert.ReferenceIdeal.Gen.facts) := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

theorem preserves : Cert.preserves_Kernel_KernelIdeal :=
  IdealRules.named_const.statement Cert.KernelIdeal.κ "scale_log2e" .f32 0x3E0293EE#32 (((11863283 / 134217728) * (Real.log 2)⁻¹ : ℝ) : EReal) rfl

end Cert.Proof

end
-- ==== Proof.Real.lean ====
module

public import Idealize.ShloMosaic.PureOps.Ideal
public import Idealize.ShloMosaic.PureOps.Ideal.Laws

@[expose] public section

/-!
Attention and its gradient over the reals: queries, keys, values and the output's gradient as functions of row and column, the weights of a
row as a softmax, and that the gradient of a score is the weight times what the weight's gradient exceeds its mean by.
-/

noncomputable section

namespace Cert.Attn

open Idealize.ShloMosaic

/-- Queries, output gradient, keys and values, and for each row a number its scores are shifted by. -/
structure Arrays where
  q : ℕ → ℕ → ℝ
  o : ℕ → ℕ → ℝ
  k : ℕ → ℕ → ℝ
  v : ℕ → ℕ → ℝ
  M : ℕ → ℕ → ℕ → ℝ

/-- The scale of the scores: the float nearest the reciprocal square root of 128. -/
def scale : ℝ := 11863283 / 134217728

namespace Arrays
variable (A : Arrays)

/-- The product of key `l` and query `t` in group `p` of head `h`. -/
def pr (h p t l : ℕ) : ℝ := ∑ d : Fin 128, A.k l (h * 128 + d.val) * A.q t (h * 512 + (p * 128 + d.val))
/-- The exponential of the shifted score. -/
def ex (h p t l : ℕ) : ℝ := Real.exp (A.pr h p t l * scale - A.M h p t)
/-- The sum of a row's exponentials. -/
def Z (h p t : ℕ) : ℝ := ∑ l : Fin 8448, A.ex h p t l.val
/-- The weight of a key. -/
def y (h p t l : ℕ) : ℝ := A.ex h p t l / A.Z h p t
/-- The gradient of a weight. -/
def dp (h p t l : ℕ) : ℝ := ∑ d : Fin 128, A.o t (h * 512 + (p * 128 + d.val)) * A.v l (h * 128 + d.val)
/-- The output. -/
def fo (h p t d : ℕ) : ℝ := ∑ l : Fin 8448, A.v l.val (h * 128 + d) * A.y h p t l.val
/-- The products of the output and its gradient, summed over a row. -/
def de (h p t : ℕ) : ℝ := ∑ d : Fin 128, A.o t (h * 512 + (p * 128 + d.val)) * A.fo h p t d.val
/-- The gradient of a product. -/
def gs (h p t l : ℕ) : ℝ := A.y h p t l * (A.dp h p t l - A.de h p t) * scale

/-- The query gradient. -/
def dq (h p t d : ℕ) : ℝ := ∑ l : Fin 8448, A.gs h p t l.val * A.k l.val (h * 128 + d)
/-- The key gradient. -/
def dk (h l d : ℕ) : ℝ := ∑ t : Fin 8448, ∑ p : Fin 4, A.gs h p.val t.val l * A.q t.val (h * 512 + (p.val * 128 + d))
/-- The value gradient. -/
def dv (h l d : ℕ) : ℝ := ∑ t : Fin 8448, ∑ p : Fin 4, A.y h p.val t.val l * A.o t.val (h * 512 + (p.val * 128 + d))

theorem Z_pos (h p t : ℕ) : 0 < A.Z h p t :=
  Finset.sum_pos (fun _ _ => Real.exp_pos _) ⟨0, Finset.mem_univ _⟩

/-- The mean of the weights' gradients is the sum of the products of the output and its gradient. -/
theorem de_eq (h p t : ℕ) : A.de h p t = ∑ l : Fin 8448, A.y h p t l.val * A.dp h p t l.val := by
  unfold de fo dp
  simp only [Finset.mul_sum]
  rw [Finset.sum_comm]
  exact Finset.sum_congr rfl fun l _ => Finset.sum_congr rfl fun d _ => by ring

/-- The gradient of a product as the rule for a softmax writes it. -/
theorem gs_eq (h p t l : ℕ) :
    (A.dp h p t l / A.Z h p t + -(∑ l' : Fin 8448, A.dp h p t l'.val * (1 / (A.Z h p t * A.Z h p t)) * A.ex h p t l'.val)) * A.ex h p t l * scale
      = A.gs h p t l := by
  have hz := (A.Z_pos h p t).ne'
  have e : ∑ l' : Fin 8448, A.dp h p t l'.val * (1 / (A.Z h p t * A.Z h p t)) * A.ex h p t l'.val = A.de h p t / A.Z h p t := by
    rw [de_eq, Finset.sum_div]
    refine Finset.sum_congr rfl fun l' _ => ?_
    unfold y
    field_simp
  rw [e]
  unfold gs y
  field_simp
  ring

/-- The weight as a power of two. -/
theorem y_eq (h p t l : ℕ) :
    Real.rpow 2 (A.pr h p t l * (scale * (Real.log 2)⁻¹) - (A.M h p t + Real.log (A.Z h p t)) / Real.log 2) = A.y h p t l := by
  have hz := A.Z_pos h p t
  have h2 : Real.log 2 ≠ 0 := (Real.log_pos (by norm_num)).ne'
  show (2 : ℝ) ^ (_ : ℝ) = _
  rw [Real.rpow_def_of_pos (by norm_num)]
  have e : Real.log 2 * (A.pr h p t l * (scale * (Real.log 2)⁻¹) - (A.M h p t + Real.log (A.Z h p t)) / Real.log 2)
      = (A.pr h p t l * scale - A.M h p t) - Real.log (A.Z h p t) := by
    field_simp
    ring
  rw [e, Real.exp_sub, Real.exp_log hz]
  rfl

end Arrays

/-- A sum of reals, as extended reals. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A quotient of reals. -/
theorem div_real (x : ℝ) {z : ℝ} (hz : z ≠ 0) : Ideal.div (x : EReal) (z : EReal) = ((x / z : ℝ) : EReal) := by
  rw [Ideal.div_coe hz, ← EReal.coe_mul, mul_one_div]

theorem zero_word : Ideal.ofBits .f32 0x00000000#32 = 0 := Ideal.ofBits_zero_f32
theorem one_word : Ideal.ofBits .f32 0x3F800000#32 = ((1 : ℝ) : EReal) := by
  simp [Ideal.ofBits, Ideal.ieee]
  exact_mod_cast (by norm_num : (8388608 : ℝ) * (2 ^ 23)⁻¹ = 1)
theorem two_word : Ideal.ofBits .f32 0x40000000#32 = ((2 : ℝ) : EReal) := by
  simp [Ideal.ofBits, Ideal.ieee]
  exact_mod_cast (by norm_num : (8388608 : ℝ) * (2 ^ 22)⁻¹ = 2)
theorem bot_word : Ideal.ofBits .f32 0xFF800000#32 = ⊥ := by
  simp [Ideal.ofBits, Ideal.ieee]
theorem scale_word : Ideal.ofBits .f32 0x3DB504F3#32 = ((scale : ℝ) : EReal) := by
  simp [Ideal.ofBits, Ideal.ieee, scale]
  exact_mod_cast (by norm_num : (11863283 : ℝ) * (2 ^ 27)⁻¹ = 11863283 / 134217728)

/-- The greatest of a list of reals, from below all of them, is none of the infinities unless the list is empty. -/
theorem fold_max {ι : Type} (l : List ι) (f : ι → EReal) (b : EReal) (hb : b ≠ ⊤) (hf : ∀ i ∈ l, ∃ r : ℝ, f i = r) :
    l.foldl (fun r i => max r (f i)) b ≠ ⊤ ∧ b ≤ l.foldl (fun r i => max r (f i)) b ∧ ∀ i ∈ l, f i ≤ l.foldl (fun r i => max r (f i)) b := by
  induction l generalizing b with
  | nil => exact ⟨hb, le_refl _, fun _ h => absurd h List.not_mem_nil⟩
  | cons a l ih =>
    obtain ⟨r, hr⟩ := hf a (List.mem_cons_self ..)
    have ht : max b (f a) ≠ ⊤ := by
      rw [hr]
      exact (max_lt (lt_top_iff_ne_top.2 hb) (EReal.coe_lt_top r)).ne
    obtain ⟨h1, h2, h3⟩ := ih (max b (f a)) ht fun i hi => hf i (List.mem_cons_of_mem _ hi)
    refine ⟨h1, (le_max_left _ _).trans h2, fun i hi => ?_⟩
    rcases List.mem_cons.1 hi with rfl | hi
    · exact (le_max_right _ _).trans h2
    · exact h3 i hi

end Cert.Attn

end
-- ==== Proof.Ref.lean ====
module

public import proofs.«01_k».proof.Proof.Real
public import proofs.«01_k».proof.Proof.Gen.ReferenceIdeal.Read
public import Idealize.ShloMosaic.Lib.TwoAxisContraction

@[expose] public section

set_option maxRecDepth 16384

/-!
The reference's arrays read at an index, from arguments that are reals: each as its real number.
-/

noncomputable section

namespace Cert.ReferenceIdeal.Reals

open Idealize.ShloMosaic Idealize.ShloMosaic.TcCoe
open Cert.ReferenceIdeal Cert.ReferenceIdeal.Gen Cert.ReferenceIdeal.Read
open Cert.Attn

/-- The four arguments are the real arrays. -/
structure Args (A : Arrays) (x0 : (⟨S8448x1024, .bf16⟩ : BufTy).Contents (Elt Ideal)) (x1 x2 : (⟨S8448x256, .bf16⟩ : BufTy).Contents (Elt Ideal))
    (x3 : (⟨S8448x1024, .bf16⟩ : BufTy).Contents (Elt Ideal)) : Prop where
  q : ∀ i : S8448x1024.Idx, (x0 i : EReal) = ((A.q (i 0).val (i 1).val : ℝ) : EReal)
  k : ∀ i : S8448x256.Idx, (x1 i : EReal) = ((A.k (i 0).val (i 1).val : ℝ) : EReal)
  v : ∀ i : S8448x256.Idx, (x2 i : EReal) = ((A.v (i 0).val (i 1).val : ℝ) : EReal)
  o : ∀ i : S8448x1024.Idx, (x3 i : EReal) = ((A.o (i 0).val (i 1).val : ℝ) : EReal)

/-- The four arguments are the real arrays, and the row maxima the shifts. -/
structure Holds (A : Arrays) (x0 : (⟨S8448x1024, .bf16⟩ : BufTy).Contents (Elt Ideal)) (x1 x2 : (⟨S8448x256, .bf16⟩ : BufTy).Contents (Elt Ideal))
    (x3 : (⟨S8448x1024, .bf16⟩ : BufTy).Contents (Elt Ideal)) : Prop where
  args : Args A x0 x1 x2 x3
  M : ∀ i : S2x4x8448.Idx, (val_main_v10 (F := Ideal) x0 x1 i : EReal) = ((A.M (i 0).val (i 1).val (i 2).val : ℝ) : EReal)

section Args
variable {A : Arrays} {x0 : (⟨S8448x1024, .bf16⟩ : BufTy).Contents (Elt Ideal)} {x1 x2 : (⟨S8448x256, .bf16⟩ : BufTy).Contents (Elt Ideal)}
  {x3 : (⟨S8448x1024, .bf16⟩ : BufTy).Contents (Elt Ideal)} (H : Args A x0 x1 x2 x3)

include H

theorem r3 (i : S8448x2x4x128.Idx) : (val_main_v3 (F := Ideal) x0 i : EReal) = ((A.q (i 0).val ((i 1).val * 512 + ((i 2).val * 128 + (i 3).val)) : ℝ) : EReal) := by
  rw [val_main_v3_apply, val_main_v0_apply]
  have b0 : (i 0).val < 8448 := (i 0).isLt
  have b1 : (i 1).val < 2 := (i 1).isLt
  have b2 : (i 2).val < 4 := (i 2).isLt
  have b3 : (i 3).val < 128 := (i 3).isLt
  refine (H.q _).trans (congrArg Real.toEReal (congrArg₂ A.q ?_ ?_))
  · show ((((i 0).val * 2 + (i 1).val) * 4 + (i 2).val) * 128 + (i 3).val) / 1024 = _
    omega
  · show ((((i 0).val * 2 + (i 1).val) * 4 + (i 2).val) * 128 + (i 3).val) % 1024 = _
    omega

theorem r4 (i : S8448x2x128.Idx) : (val_main_v4 (F := Ideal) x1 i : EReal) = ((A.k (i 0).val ((i 1).val * 128 + (i 2).val) : ℝ) : EReal) := by
  rw [val_main_v4_apply, val_main_v1_apply]
  have b0 : (i 0).val < 8448 := (i 0).isLt
  have b1 : (i 1).val < 2 := (i 1).isLt
  have b2 : (i 2).val < 128 := (i 2).isLt
  refine (H.k _).trans (congrArg Real.toEReal (congrArg₂ A.k ?_ ?_))
  · show (((i 0).val * 2 + (i 1).val) * 128 + (i 2).val) / 256 = _
    omega
  · show (((i 0).val * 2 + (i 1).val) * 128 + (i 2).val) % 256 = _
    omega

theorem r5 (i : S8448x2x128.Idx) : (val_main_v5 (F := Ideal) x2 i : EReal) = ((A.v (i 0).val ((i 1).val * 128 + (i 2).val) : ℝ) : EReal) := by
  rw [val_main_v5_apply, val_main_v2_apply]
  have b0 : (i 0).val < 8448 := (i 0).isLt
  have b1 : (i 1).val < 2 := (i 1).isLt
  have b2 : (i 2).val < 128 := (i 2).isLt
  refine (H.v _).trans (congrArg Real.toEReal (congrArg₂ A.v ?_ ?_))
  · show (((i 0).val * 2 + (i 1).val) * 128 + (i 2).val) / 256 = _
    omega
  · show (((i 0).val * 2 + (i 1).val) * 128 + (i 2).val) % 256 = _
    omega

theorem r42 (i : S8448x2x4x128.Idx) : (val_main_v42 (F := Ideal) x3 i : EReal) = ((A.o (i 0).val ((i 1).val * 512 + ((i 2).val * 128 + (i 3).val)) : ℝ) : EReal) := by
  rw [val_main_v42_apply, val_main_v41_apply]
  have b0 : (i 0).val < 8448 := (i 0).isLt
  have b1 : (i 1).val < 2 := (i 1).isLt
  have b2 : (i 2).val < 4 := (i 2).isLt
  have b3 : (i 3).val < 128 := (i 3).isLt
  refine (H.o _).trans (congrArg Real.toEReal (congrArg₂ A.o ?_ ?_))
  · show ((((i 0).val * 2 + (i 1).val) * 4 + (i 2).val) * 128 + (i 3).val) / 1024 = _
    omega
  · show ((((i 0).val * 2 + (i 1).val) * 4 + (i 2).val) * 128 + (i 3).val) % 1024 = _
    omega

theorem r6 (i : S2x8448x8448x4.Idx) : (val_main_v6 (F := Ideal) x0 x1 i : EReal) = ((A.pr (i 0).val (i 3).val (i 2).val (i 1).val : ℝ) : EReal) := by
  rw [val_main_v6_apply]
  unfold Arrays.pr
  rw [coe_sum]
  refine Finset.sum_congr rfl fun d _ => ?_
  rw [EReal.coe_mul]
  exact congrArg₂ (· * ·) (r4 H _) (r3 H _)

theorem r9 (i : S2x4x8448x8448.Idx) : (val_main_v9 (F := Ideal) x0 x1 i : EReal) = ((A.pr (i 0).val (i 1).val (i 2).val (i 3).val * scale : ℝ) : EReal) := by
  rw [val_main_v9_apply, val_main_v7_apply, val_main_v8_apply, val_main_cst_apply, EReal.coe_mul]
  exact congrArg₂ (· * ·) (r6 H _) scale_word

/-- Each row has a greatest score, and it is real. -/
theorem max_real (i : S2x4x8448.Idx) : ∃ r : ℝ, (val_main_v10 (F := Ideal) x0 x1 i : EReal) = r := by
  let n := S2x4x8448x8448.rowMajor (ValueIdx.ix4 (i 0) (i 1) (i 2) (0 : Fin 8448))
  have hn : reducesTo_S2x4x8448x8448_S2x4x8448_d3.drop (S2x4x8448x8448.rowMajor.symm n) = i := by
    rw [Equiv.symm_apply_apply]
    exact funext fun a => Fin.ext (by match a with | ⟨0, _⟩ => rfl | ⟨1, _⟩ => rfl | ⟨2, _⟩ => rfl)
  have hf := fold_max ((List.finRange S2x4x8448x8448.numel).filter fun n => reducesTo_S2x4x8448x8448_S2x4x8448_d3.drop (S2x4x8448x8448.rowMajor.symm n) = i)
    (fun n => (val_main_v9 (F := Ideal) x0 x1 (S2x4x8448x8448.rowMajor.symm n) : EReal)) (Ideal.ofBits .f32 0xFF800000#32)
    (by rw [bot_word]; exact bot_ne_top) (fun n _ => ⟨_, r9 H _⟩)
  have hm := hf.2.2 n (List.mem_filter.2 ⟨List.mem_finRange _, by simpa using hn⟩)
  rw [r9 H] at hm
  refine ⟨EReal.toReal _, (EReal.coe_toReal hf.1 ?_).symm⟩
  intro hb
  rw [hb] at hm
  exact absurd (le_bot_iff.1 hm) (EReal.coe_ne_bot _)

end Args

section Holds
variable {A : Arrays} {x0 : (⟨S8448x1024, .bf16⟩ : BufTy).Contents (Elt Ideal)} {x1 x2 : (⟨S8448x256, .bf16⟩ : BufTy).Contents (Elt Ideal)}
  {x3 : (⟨S8448x1024, .bf16⟩ : BufTy).Contents (Elt Ideal)} (H : Holds A x0 x1 x2 x3)
include H

theorem r17 (i : S2x4x8448.Idx) : (val_main_v17 (F := Ideal) x0 x1 i : EReal) = ((A.M (i 0).val (i 1).val (i 2).val : ℝ) : EReal) := by
  rw [val_main_v17_apply, val_main_v16_apply, val_main_cst_2_apply]
  show max (Ideal.ofBits .f32 0xFF800000#32) _ = _
  rw [bot_word, max_eq_right bot_le]
  exact H.M _

theorem r30 (i : S2x4x8448x8448.Idx) : (val_main_v30 (F := Ideal) x0 x1 i : EReal) = ((A.ex (i 0).val (i 1).val (i 2).val (i 3).val : ℝ) : EReal) := by
  rw [val_main_v30_apply, val_main_v29_apply, val_main_v28_apply, val_main_v27_apply]
  show Ideal.exp ((val_main_v9 (F := Ideal) x0 x1 i : EReal) - val_main_v17 (F := Ideal) x0 x1 _) = _
  rw [r9 H.args, r17 H, ← EReal.coe_sub, Ideal.exp_coe]
  rfl

theorem r31 (i : S2x4x8448.Idx) : (val_main_v31 (F := Ideal) x0 x1 i : EReal) = ((A.Z (i 0).val (i 1).val (i 2).val : ℝ) : EReal) := by
  rw [val_main_v31_apply, val_main_cst_8_apply]
  refine (congrArg₂ (· + ·) zero_word (Finset.sum_congr rfl fun l _ => r30 H _)).trans ?_
  rw [zero_add, ← coe_sum]
  rfl

theorem r32 (i : S2x4x8448x1.Idx) : (val_main_v32 (F := Ideal) x0 x1 i : EReal) = ((A.Z (i 0).val (i 1).val (i 2).val : ℝ) : EReal) := by
  rw [val_main_v32_apply]
  exact r31 H _

theorem r34 (i : S2x4x8448x8448.Idx) : (val_main_v34 (F := Ideal) x0 x1 i : EReal) = ((A.y (i 0).val (i 1).val (i 2).val (i 3).val : ℝ) : EReal) := by
  rw [val_main_v34_apply, val_main_v33_apply]
  show Ideal.div (val_main_v30 (F := Ideal) x0 x1 i) (val_main_v32 (F := Ideal) x0 x1 _) = _
  rw [r30 H, r32 H, div_real _ (A.Z_pos _ _ _).ne']
  rfl

theorem r37 (i : S2x4x8448x1.Idx) : (val_main_v37 (F := Ideal) x0 x1 i : EReal) = ((1 / (A.Z (i 0).val (i 1).val (i 2).val * A.Z (i 0).val (i 1).val (i 2).val) : ℝ) : EReal) := by
  rw [val_main_v37_apply, val_main_v36_apply, val_main_cst_9_apply, val_main_v35_apply]
  show Ideal.div (Ideal.ofBits .f32 0x3F800000#32) ((val_main_v32 (F := Ideal) x0 x1 i : EReal) * val_main_v32 (F := Ideal) x0 x1 i) = _
  rw [r32 H, one_word, ← EReal.coe_mul, div_real _ (mul_ne_zero (A.Z_pos _ _ _).ne' (A.Z_pos _ _ _).ne')]

theorem r38 (i : S2x128x4x8448.Idx) : (val_main_v38 (F := Ideal) x0 x1 x2 i : EReal) = ((A.fo (i 0).val (i 2).val (i 3).val (i 1).val : ℝ) : EReal) := by
  rw [val_main_v38_apply]
  unfold Arrays.fo
  rw [coe_sum]
  refine Finset.sum_congr rfl fun l _ => ?_
  rw [EReal.coe_mul]
  exact congrArg₂ (· * ·) (r5 H.args _) (r34 H _)

theorem r40 (i : S8448x1024.Idx) : (val_main_v40 (F := Ideal) x0 x1 x2 i : EReal) = ((A.fo ((i 1).val / 512) ((i 1).val % 512 / 128) (i 0).val ((i 1).val % 128) : ℝ) : EReal) := by
  rw [val_main_v40_apply, val_main_v39_apply, r38 H]
  have b0 : (i 0).val < 8448 := (i 0).isLt
  have b1 : (i 1).val < 1024 := (i 1).isLt
  refine congrArg Real.toEReal ?_
  have e0 : (idx_main_v39 (idx_main_v40 i) 0).val = (i 1).val / 512 := by show ((i 0).val * 1024 + (i 1).val) / 512 % 2 = _; omega
  have e1 : (idx_main_v39 (idx_main_v40 i) 1).val = (i 1).val % 128 := by show ((i 0).val * 1024 + (i 1).val) % 128 = _; omega
  have e2 : (idx_main_v39 (idx_main_v40 i) 2).val = (i 1).val % 512 / 128 := by show ((i 0).val * 1024 + (i 1).val) / 128 % 4 = _; omega
  have e3 : (idx_main_v39 (idx_main_v40 i) 3).val = (i 0).val := by show ((i 0).val * 1024 + (i 1).val) / 1024 = _; omega
  rw [e0, e1, e2, e3]

theorem r43 (i : S2x128x4x8448.Idx) : (val_main_v43 (F := Ideal) x3 i : EReal) = ((A.o (i 3).val ((i 0).val * 512 + ((i 2).val * 128 + (i 1).val)) : ℝ) : EReal) := by
  rw [val_main_v43_apply]
  exact r42 H.args _

theorem r44 (i : S2x4x8448x8448.Idx) : (val_main_v44 (F := Ideal) x2 x3 i : EReal) = ((A.dp (i 0).val (i 1).val (i 2).val (i 3).val : ℝ) : EReal) := by
  rw [val_main_v44_apply]
  unfold Arrays.dp
  rw [coe_sum]
  refine Finset.sum_congr rfl fun d _ => ?_
  rw [EReal.coe_mul]
  exact congrArg₂ (· * ·) (r43 H _) (r5 H.args _)

theorem r49 (i : S2x4x8448x8448.Idx) : (val_main_v49 (F := Ideal) x0 x1 x2 x3 i : EReal) = ((A.dp (i 0).val (i 1).val (i 2).val (i 3).val * (1 / (A.Z (i 0).val (i 1).val (i 2).val * A.Z (i 0).val (i 1).val (i 2).val)) * A.ex (i 0).val (i 1).val (i 2).val (i 3).val : ℝ) : EReal) := by
  rw [val_main_v49_apply, val_main_v48_apply, val_main_v47_apply, EReal.coe_mul, EReal.coe_mul]
  exact congrArg₂ (· * ·) (congrArg₂ (· * ·) (r44 H _) (r37 H _)) (r30 H _)

theorem r50 (i : S2x4x8448.Idx) : (val_main_v50 (F := Ideal) x0 x1 x2 x3 i : EReal) = ((∑ l : Fin 8448, A.dp (i 0).val (i 1).val (i 2).val l.val * (1 / (A.Z (i 0).val (i 1).val (i 2).val * A.Z (i 0).val (i 1).val (i 2).val)) * A.ex (i 0).val (i 1).val (i 2).val l.val : ℝ) : EReal) := by
  rw [val_main_v50_apply, val_main_cst_10_apply]
  refine (congrArg₂ (· + ·) zero_word (Finset.sum_congr rfl fun l _ => r49 H _)).trans ?_
  rw [zero_add, ← coe_sum]

theorem r52 (i : S2x4x8448x1.Idx) : (val_main_v52 (F := Ideal) x0 x1 x2 x3 i : EReal) = ((-∑ l : Fin 8448, A.dp (i 0).val (i 1).val (i 2).val l.val * (1 / (A.Z (i 0).val (i 1).val (i 2).val * A.Z (i 0).val (i 1).val (i 2).val)) * A.ex (i 0).val (i 1).val (i 2).val l.val : ℝ) : EReal) := by
  rw [val_main_v52_apply, val_main_v51_apply, EReal.coe_neg]
  have b0 : (i 0).val < 2 := (i 0).isLt
  have b1 : (i 1).val < 4 := (i 1).isLt
  have b2 : (i 2).val < 8448 := (i 2).isLt
  have b3 : (i 3).val < 1 := (i 3).isLt
  refine congrArg (fun z : EReal => -z) ((r50 H _).trans ?_)
  have e0 : (idx_main_v51 i 0).val = (i 0).val := by first | rfl | (simp; omega)
  have e1 : (idx_main_v51 i 1).val = (i 1).val := by first | rfl | (simp; omega)
  have e2 : (idx_main_v51 i 2).val = (i 2).val := by first | rfl | (simp; omega)
  rw [e0, e1, e2]

theorem r55 (i : S2x4x8448.Idx) : (val_main_v55 (F := Ideal) x0 x1 x2 x3 i : EReal) = ((-∑ l : Fin 8448, A.dp (i 0).val (i 1).val (i 2).val l.val * (1 / (A.Z (i 0).val (i 1).val (i 2).val * A.Z (i 0).val (i 1).val (i 2).val)) * A.ex (i 0).val (i 1).val (i 2).val l.val : ℝ) : EReal) := by
  rw [val_main_v55_apply, val_main_cst_11_apply]
  refine (congrArg₂ (· + ·) zero_word (Fin.sum_univ_one _)).trans ?_
  rw [zero_add]
  exact r52 H _

theorem r60 (i : S2x4x8448x8448.Idx) : (val_main_v60 (F := Ideal) x0 x1 x2 x3 i : EReal) = ((A.gs (i 0).val (i 1).val (i 2).val (i 3).val : ℝ) : EReal) := by
  rw [val_main_v60_apply, val_main_v58_apply, val_main_v57_apply, val_main_v54_apply, val_main_v53_apply, val_main_v56_apply, val_main_v59_apply,
    val_main_cst_12_apply, ← A.gs_eq, EReal.coe_mul, EReal.coe_mul, EReal.coe_add]
  refine congrArg₂ (· * ·) (congrArg₂ (· * ·) (congrArg₂ (· + ·) ?_ (r55 H _)) (r30 H _)) scale_word
  show Ideal.div (val_main_v44 (F := Ideal) x2 x3 i) (val_main_v32 (F := Ideal) x0 x1 _) = _
  rw [r44 H, r32 H, div_real _ (A.Z_pos _ _ _).ne']

theorem r61 (i : S2x8448x8448x4.Idx) : (val_main_v61 (F := Ideal) x0 x1 x2 x3 i : EReal) = ((A.gs (i 0).val (i 3).val (i 2).val (i 1).val : ℝ) : EReal) := by
  rw [val_main_v61_apply]
  exact r60 H _

theorem r62 (i : S2x8448x4x128.Idx) : (val_main_v62 (F := Ideal) x0 x1 x2 x3 i : EReal) = ((A.dq (i 0).val (i 2).val (i 1).val (i 3).val : ℝ) : EReal) := by
  rw [val_main_v62_apply]
  unfold Arrays.dq
  rw [coe_sum]
  refine Finset.sum_congr rfl fun l _ => ?_
  rw [EReal.coe_mul]
  exact congrArg₂ (· * ·) (r61 H _) (r4 H.args _)

omit H in
theorem lhs45_0 (i : S2x128x8448.Idx) (q : dot_S2x128x4x8448_S2x4x8448x8448_S2x128x8448_23_12_1_3_0_0.contr.Idx) :
    (dot_S2x128x4x8448_S2x4x8448x8448_S2x128x8448_23_12_1_3_0_0.lhsIdx i q 0).val = (i 0).val := by
  unfold DotDims.lhsIdx
  rw [dif_pos (show (0 : Fin S2x128x4x8448.rank) ∈ dot_S2x128x4x8448_S2x4x8448x8448_S2x128x8448_23_12_1_3_0_0.lhsBatch by decide)]
  rfl

omit H in
theorem lhs45_1 (i : S2x128x8448.Idx) (q : dot_S2x128x4x8448_S2x4x8448x8448_S2x128x8448_23_12_1_3_0_0.contr.Idx) :
    (dot_S2x128x4x8448_S2x4x8448x8448_S2x128x8448_23_12_1_3_0_0.lhsIdx i q 1).val = (i 1).val := by
  unfold DotDims.lhsIdx
  rw [dif_neg (show ¬(1 : Fin S2x128x4x8448.rank) ∈ dot_S2x128x4x8448_S2x4x8448x8448_S2x128x8448_23_12_1_3_0_0.lhsBatch by decide), dif_pos (show (1 : Fin S2x128x4x8448.rank) ∈ dot_S2x128x4x8448_S2x4x8448x8448_S2x128x8448_23_12_1_3_0_0.lhsNonContracting by decide)]
  rfl

omit H in
theorem lhs45_2 (i : S2x128x8448.Idx) (q : dot_S2x128x4x8448_S2x4x8448x8448_S2x128x8448_23_12_1_3_0_0.contr.Idx) :
    (dot_S2x128x4x8448_S2x4x8448x8448_S2x128x8448_23_12_1_3_0_0.lhsIdx i q 2).val = (q ⟨0, by decide⟩).val := by
  unfold DotDims.lhsIdx
  rw [dif_neg (show ¬(2 : Fin S2x128x4x8448.rank) ∈ dot_S2x128x4x8448_S2x4x8448x8448_S2x128x8448_23_12_1_3_0_0.lhsBatch by decide), dif_neg (show ¬(2 : Fin S2x128x4x8448.rank) ∈ dot_S2x128x4x8448_S2x4x8448x8448_S2x128x8448_23_12_1_3_0_0.lhsNonContracting by decide)]
  rfl

omit H in
theorem lhs45_3 (i : S2x128x8448.Idx) (q : dot_S2x128x4x8448_S2x4x8448x8448_S2x128x8448_23_12_1_3_0_0.contr.Idx) :
    (dot_S2x128x4x8448_S2x4x8448x8448_S2x128x8448_23_12_1_3_0_0.lhsIdx i q 3).val = (q ⟨1, by decide⟩).val := by
  unfold DotDims.lhsIdx
  rw [dif_neg (show ¬(3 : Fin S2x128x4x8448.rank) ∈ dot_S2x128x4x8448_S2x4x8448x8448_S2x128x8448_23_12_1_3_0_0.lhsBatch by decide), dif_neg (show ¬(3 : Fin S2x128x4x8448.rank) ∈ dot_S2x128x4x8448_S2x4x8448x8448_S2x128x8448_23_12_1_3_0_0.lhsNonContracting by decide)]
  rfl

omit H in
theorem rhs45_0 (i : S2x128x8448.Idx) (q : dot_S2x128x4x8448_S2x4x8448x8448_S2x128x8448_23_12_1_3_0_0.contr.Idx) :
    (dot_S2x128x4x8448_S2x4x8448x8448_S2x128x8448_23_12_1_3_0_0.rhsIdx i q 0).val = (i 0).val := by
  unfold DotDims.rhsIdx
  rw [dif_pos (show (0 : Fin S2x4x8448x8448.rank) ∈ dot_S2x128x4x8448_S2x4x8448x8448_S2x128x8448_23_12_1_3_0_0.rhsBatch by decide)]
  rfl

omit H in
theorem rhs45_1 (i : S2x128x8448.Idx) (q : dot_S2x128x4x8448_S2x4x8448x8448_S2x128x8448_23_12_1_3_0_0.contr.Idx) :
    (dot_S2x128x4x8448_S2x4x8448x8448_S2x128x8448_23_12_1_3_0_0.rhsIdx i q 1).val = (q ⟨0, by decide⟩).val := by
  unfold DotDims.rhsIdx
  rw [dif_neg (show ¬(1 : Fin S2x4x8448x8448.rank) ∈ dot_S2x128x4x8448_S2x4x8448x8448_S2x128x8448_23_12_1_3_0_0.rhsBatch by decide), dif_neg (show ¬(1 : Fin S2x4x8448x8448.rank) ∈ dot_S2x128x4x8448_S2x4x8448x8448_S2x128x8448_23_12_1_3_0_0.rhsNonContracting by decide)]
  rfl

omit H in
theorem rhs45_2 (i : S2x128x8448.Idx) (q : dot_S2x128x4x8448_S2x4x8448x8448_S2x128x8448_23_12_1_3_0_0.contr.Idx) :
    (dot_S2x128x4x8448_S2x4x8448x8448_S2x128x8448_23_12_1_3_0_0.rhsIdx i q 2).val = (q ⟨1, by decide⟩).val := by
  unfold DotDims.rhsIdx
  rw [dif_neg (show ¬(2 : Fin S2x4x8448x8448.rank) ∈ dot_S2x128x4x8448_S2x4x8448x8448_S2x128x8448_23_12_1_3_0_0.rhsBatch by decide), dif_neg (show ¬(2 : Fin S2x4x8448x8448.rank) ∈ dot_S2x128x4x8448_S2x4x8448x8448_S2x128x8448_23_12_1_3_0_0.rhsNonContracting by decide)]
  rfl

omit H in
theorem rhs45_3 (i : S2x128x8448.Idx) (q : dot_S2x128x4x8448_S2x4x8448x8448_S2x128x8448_23_12_1_3_0_0.contr.Idx) :
    (dot_S2x128x4x8448_S2x4x8448x8448_S2x128x8448_23_12_1_3_0_0.rhsIdx i q 3).val = (i 2).val := by
  unfold DotDims.rhsIdx
  rw [dif_neg (show ¬(3 : Fin S2x4x8448x8448.rank) ∈ dot_S2x128x4x8448_S2x4x8448x8448_S2x128x8448_23_12_1_3_0_0.rhsBatch by decide), dif_pos (show (3 : Fin S2x4x8448x8448.rank) ∈ dot_S2x128x4x8448_S2x4x8448x8448_S2x128x8448_23_12_1_3_0_0.rhsNonContracting by decide)]
  rfl

omit H in
/-- The product contracted over groups and queries, as a double sum. -/
theorem dot45 (i : S2x128x8448.Idx) (l : (⟨S2x128x4x8448, .f32⟩ : BufTy).Contents (Elt Ideal)) (r : (⟨S2x4x8448x8448, .f32⟩ : BufTy).Contents (Elt Ideal))
    (f g : ℕ → ℕ → ℝ)
    (hl : ∀ z : S2x128x4x8448.Idx, (z 0).val = (i 0).val → (z 1).val = (i 1).val → (l z : EReal) = ((f (z 2).val (z 3).val : ℝ) : EReal))
    (hr : ∀ z : S2x4x8448x8448.Idx, (z 0).val = (i 0).val → (z 3).val = (i 2).val → (r z : EReal) = ((g (z 1).val (z 2).val : ℝ) : EReal)) :
    ((Host.dotGeneral (F := Ideal) (φ₁ := .f32) (φ₂ := .f32) dot_S2x128x4x8448_S2x4x8448x8448_S2x128x8448_23_12_1_3_0_0 none l r : (⟨S2x128x8448, .f32⟩ : BufTy).Contents (Elt Ideal)) i : EReal)
      = ((∑ a : Fin 4, ∑ b : Fin 8448, f a.val b.val * g a.val b.val : ℝ) : EReal) := by
  simp only [Host.dotGeneral]
  rw [Ideal.dotGeneral_apply, ValueIdx.sum_contr2 dot_S2x128x4x8448_S2x4x8448x8448_S2x128x8448_23_12_1_3_0_0 4 8448 rfl rfl rfl, coe_sum]
  refine Finset.sum_congr rfl fun a _ => ?_
  rw [coe_sum]
  refine Finset.sum_congr rfl fun b _ => ?_
  have k0 := ValueIdx.contrEquiv2_symm_val0 dot_S2x128x4x8448_S2x4x8448x8448_S2x128x8448_23_12_1_3_0_0 4 8448 rfl rfl rfl (a, b)
  have k1 := ValueIdx.contrEquiv2_symm_val1 dot_S2x128x4x8448_S2x4x8448x8448_S2x128x8448_23_12_1_3_0_0 4 8448 rfl rfl rfl (a, b)
  rw [EReal.coe_mul]
  refine congrArg₂ (· * ·) ((hl _ ?_ ?_).trans ?_) ((hr _ ?_ ?_).trans ?_)
  · exact lhs45_0 _ _
  · exact lhs45_1 _ _
  · exact congrArg Real.toEReal (congrArg₂ f ((lhs45_2 _ _).trans k0) ((lhs45_3 _ _).trans k1))
  · exact rhs45_0 _ _
  · exact rhs45_3 _ _
  · exact congrArg Real.toEReal (congrArg₂ g ((rhs45_1 _ _).trans k0) ((rhs45_2 _ _).trans k1))

omit H in
theorem lhs64_0 (i : S2x8448x128.Idx) (q : dot_S2x8448x8448x4_S8448x2x4x128_S2x8448x128_23_02_1_3_0_1.contr.Idx) :
    (dot_S2x8448x8448x4_S8448x2x4x128_S2x8448x128_23_02_1_3_0_1.lhsIdx i q 0).val = (i 0).val := by
  unfold DotDims.lhsIdx
  rw [dif_pos (show (0 : Fin S2x8448x8448x4.rank) ∈ dot_S2x8448x8448x4_S8448x2x4x128_S2x8448x128_23_02_1_3_0_1.lhsBatch by decide)]
  rfl

omit H in
theorem lhs64_1 (i : S2x8448x128.Idx) (q : dot_S2x8448x8448x4_S8448x2x4x128_S2x8448x128_23_02_1_3_0_1.contr.Idx) :
    (dot_S2x8448x8448x4_S8448x2x4x128_S2x8448x128_23_02_1_3_0_1.lhsIdx i q 1).val = (i 1).val := by
  unfold DotDims.lhsIdx
  rw [dif_neg (show ¬(1 : Fin S2x8448x8448x4.rank) ∈ dot_S2x8448x8448x4_S8448x2x4x128_S2x8448x128_23_02_1_3_0_1.lhsBatch by decide), dif_pos (show (1 : Fin S2x8448x8448x4.rank) ∈ dot_S2x8448x8448x4_S8448x2x4x128_S2x8448x128_23_02_1_3_0_1.lhsNonContracting by decide)]
  rfl

omit H in
theorem lhs64_2 (i : S2x8448x128.Idx) (q : dot_S2x8448x8448x4_S8448x2x4x128_S2x8448x128_23_02_1_3_0_1.contr.Idx) :
    (dot_S2x8448x8448x4_S8448x2x4x128_S2x8448x128_23_02_1_3_0_1.lhsIdx i q 2).val = (q ⟨0, by decide⟩).val := by
  unfold DotDims.lhsIdx
  rw [dif_neg (show ¬(2 : Fin S2x8448x8448x4.rank) ∈ dot_S2x8448x8448x4_S8448x2x4x128_S2x8448x128_23_02_1_3_0_1.lhsBatch by decide), dif_neg (show ¬(2 : Fin S2x8448x8448x4.rank) ∈ dot_S2x8448x8448x4_S8448x2x4x128_S2x8448x128_23_02_1_3_0_1.lhsNonContracting by decide)]
  rfl

omit H in
theorem lhs64_3 (i : S2x8448x128.Idx) (q : dot_S2x8448x8448x4_S8448x2x4x128_S2x8448x128_23_02_1_3_0_1.contr.Idx) :
    (dot_S2x8448x8448x4_S8448x2x4x128_S2x8448x128_23_02_1_3_0_1.lhsIdx i q 3).val = (q ⟨1, by decide⟩).val := by
  unfold DotDims.lhsIdx
  rw [dif_neg (show ¬(3 : Fin S2x8448x8448x4.rank) ∈ dot_S2x8448x8448x4_S8448x2x4x128_S2x8448x128_23_02_1_3_0_1.lhsBatch by decide), dif_neg (show ¬(3 : Fin S2x8448x8448x4.rank) ∈ dot_S2x8448x8448x4_S8448x2x4x128_S2x8448x128_23_02_1_3_0_1.lhsNonContracting by decide)]
  rfl

omit H in
theorem rhs64_0 (i : S2x8448x128.Idx) (q : dot_S2x8448x8448x4_S8448x2x4x128_S2x8448x128_23_02_1_3_0_1.contr.Idx) :
    (dot_S2x8448x8448x4_S8448x2x4x128_S2x8448x128_23_02_1_3_0_1.rhsIdx i q 0).val = (q ⟨0, by decide⟩).val := by
  unfold DotDims.rhsIdx
  rw [dif_neg (show ¬(0 : Fin S8448x2x4x128.rank) ∈ dot_S2x8448x8448x4_S8448x2x4x128_S2x8448x128_23_02_1_3_0_1.rhsBatch by decide), dif_neg (show ¬(0 : Fin S8448x2x4x128.rank) ∈ dot_S2x8448x8448x4_S8448x2x4x128_S2x8448x128_23_02_1_3_0_1.rhsNonContracting by decide)]
  rfl

omit H in
theorem rhs64_1 (i : S2x8448x128.Idx) (q : dot_S2x8448x8448x4_S8448x2x4x128_S2x8448x128_23_02_1_3_0_1.contr.Idx) :
    (dot_S2x8448x8448x4_S8448x2x4x128_S2x8448x128_23_02_1_3_0_1.rhsIdx i q 1).val = (i 0).val := by
  unfold DotDims.rhsIdx
  rw [dif_pos (show (1 : Fin S8448x2x4x128.rank) ∈ dot_S2x8448x8448x4_S8448x2x4x128_S2x8448x128_23_02_1_3_0_1.rhsBatch by decide)]
  rfl

omit H in
theorem rhs64_2 (i : S2x8448x128.Idx) (q : dot_S2x8448x8448x4_S8448x2x4x128_S2x8448x128_23_02_1_3_0_1.contr.Idx) :
    (dot_S2x8448x8448x4_S8448x2x4x128_S2x8448x128_23_02_1_3_0_1.rhsIdx i q 2).val = (q ⟨1, by decide⟩).val := by
  unfold DotDims.rhsIdx
  rw [dif_neg (show ¬(2 : Fin S8448x2x4x128.rank) ∈ dot_S2x8448x8448x4_S8448x2x4x128_S2x8448x128_23_02_1_3_0_1.rhsBatch by decide), dif_neg (show ¬(2 : Fin S8448x2x4x128.rank) ∈ dot_S2x8448x8448x4_S8448x2x4x128_S2x8448x128_23_02_1_3_0_1.rhsNonContracting by decide)]
  rfl

omit H in
theorem rhs64_3 (i : S2x8448x128.Idx) (q : dot_S2x8448x8448x4_S8448x2x4x128_S2x8448x128_23_02_1_3_0_1.contr.Idx) :
    (dot_S2x8448x8448x4_S8448x2x4x128_S2x8448x128_23_02_1_3_0_1.rhsIdx i q 3).val = (i 2).val := by
  unfold DotDims.rhsIdx
  rw [dif_neg (show ¬(3 : Fin S8448x2x4x128.rank) ∈ dot_S2x8448x8448x4_S8448x2x4x128_S2x8448x128_23_02_1_3_0_1.rhsBatch by decide), dif_pos (show (3 : Fin S8448x2x4x128.rank) ∈ dot_S2x8448x8448x4_S8448x2x4x128_S2x8448x128_23_02_1_3_0_1.rhsNonContracting by decide)]
  rfl

omit H in
/-- The product contracted over groups and queries, as a double sum. -/
theorem dot64 (i : S2x8448x128.Idx) (l : (⟨S2x8448x8448x4, .f32⟩ : BufTy).Contents (Elt Ideal)) (r : (⟨S8448x2x4x128, .f32⟩ : BufTy).Contents (Elt Ideal))
    (f g : ℕ → ℕ → ℝ)
    (hl : ∀ z : S2x8448x8448x4.Idx, (z 0).val = (i 0).val → (z 1).val = (i 1).val → (l z : EReal) = ((f (z 2).val (z 3).val : ℝ) : EReal))
    (hr : ∀ z : S8448x2x4x128.Idx, (z 1).val = (i 0).val → (z 3).val = (i 2).val → (r z : EReal) = ((g (z 0).val (z 2).val : ℝ) : EReal)) :
    ((Host.dotGeneral (F := Ideal) (φ₁ := .f32) (φ₂ := .f32) dot_S2x8448x8448x4_S8448x2x4x128_S2x8448x128_23_02_1_3_0_1 none l r : (⟨S2x8448x128, .f32⟩ : BufTy).Contents (Elt Ideal)) i : EReal)
      = ((∑ a : Fin 8448, ∑ b : Fin 4, f a.val b.val * g a.val b.val : ℝ) : EReal) := by
  simp only [Host.dotGeneral]
  rw [Ideal.dotGeneral_apply, ValueIdx.sum_contr2 dot_S2x8448x8448x4_S8448x2x4x128_S2x8448x128_23_02_1_3_0_1 8448 4 rfl rfl rfl, coe_sum]
  refine Finset.sum_congr rfl fun a _ => ?_
  rw [coe_sum]
  refine Finset.sum_congr rfl fun b _ => ?_
  have k0 := ValueIdx.contrEquiv2_symm_val0 dot_S2x8448x8448x4_S8448x2x4x128_S2x8448x128_23_02_1_3_0_1 8448 4 rfl rfl rfl (a, b)
  have k1 := ValueIdx.contrEquiv2_symm_val1 dot_S2x8448x8448x4_S8448x2x4x128_S2x8448x128_23_02_1_3_0_1 8448 4 rfl rfl rfl (a, b)
  rw [EReal.coe_mul]
  refine congrArg₂ (· * ·) ((hl _ ?_ ?_).trans ?_) ((hr _ ?_ ?_).trans ?_)
  · exact lhs64_0 _ _
  · exact lhs64_1 _ _
  · exact congrArg Real.toEReal (congrArg₂ f ((lhs64_2 _ _).trans k0) ((lhs64_3 _ _).trans k1))
  · exact rhs64_1 _ _
  · exact rhs64_3 _ _
  · exact congrArg Real.toEReal (congrArg₂ g ((rhs64_0 _ _).trans k0) ((rhs64_2 _ _).trans k1))

theorem r45 (i : S2x128x8448.Idx) : (val_main_v45 (F := Ideal) x0 x1 x3 i : EReal) = ((A.dv (i 0).val (i 2).val (i 1).val : ℝ) : EReal) := by
  unfold val_main_v45 Arrays.dv
  rw [Finset.sum_comm]
  refine (dot45 i _ _ (fun p t => A.o t ((i 0).val * 512 + (p * 128 + (i 1).val))) (fun p t => A.y (i 0).val p t (i 2).val) (fun z z0 z1 => ?_) (fun z z0 z3 => ?_)).trans ?_
  · rw [r43 H, z0, z1]
  · rw [r34 H, z0, z3]
  · exact congrArg Real.toEReal (Finset.sum_congr rfl fun p _ => Finset.sum_congr rfl fun t _ => mul_comm _ _)

theorem r64 (i : S2x8448x128.Idx) : (val_main_v64 (F := Ideal) x0 x1 x2 x3 i : EReal) = ((A.dk (i 0).val (i 1).val (i 2).val : ℝ) : EReal) := by
  unfold val_main_v64 Arrays.dk
  refine dot64 i _ _ (fun t p => A.gs (i 0).val p t (i 1).val) (fun t p => A.q t ((i 0).val * 512 + (p * 128 + (i 2).val))) (fun z z0 z1 => ?_) (fun z z1 z3 => ?_)
  · rw [r61 H, z0, z1]
  · rw [r3 H.args, z1, z3]

theorem r66 (i : S8448x256.Idx) : (val_main_v66 (F := Ideal) x0 x1 x3 i : EReal) = ((A.dv ((i 1).val / 128) (i 0).val ((i 1).val % 128) : ℝ) : EReal) := by
  rw [val_main_v66_apply, val_main_v46_apply, r45 H]
  have b0 : (i 0).val < 8448 := (i 0).isLt
  have b1 : (i 1).val < 256 := (i 1).isLt
  refine congrArg Real.toEReal ?_
  have e0 : (idx_main_v46 (idx_main_v66 i) 0).val = (i 1).val / 128 := by show ((i 0).val * 256 + (i 1).val) / 128 % 2 = _; omega
  have e1 : (idx_main_v46 (idx_main_v66 i) 2).val = (i 0).val := by show ((i 0).val * 256 + (i 1).val) / 256 = _; omega
  have e2 : (idx_main_v46 (idx_main_v66 i) 1).val = (i 1).val % 128 := by show ((i 0).val * 256 + (i 1).val) % 128 = _; omega
  rw [e0, e1, e2]

theorem r67 (i : S8448x256.Idx) : (val_main_v67 (F := Ideal) x0 x1 x2 x3 i : EReal) = ((A.dk ((i 1).val / 128) (i 0).val ((i 1).val % 128) : ℝ) : EReal) := by
  rw [val_main_v67_apply, val_main_v65_apply, r64 H]
  have b0 : (i 0).val < 8448 := (i 0).isLt
  have b1 : (i 1).val < 256 := (i 1).isLt
  refine congrArg Real.toEReal ?_
  have e0 : (idx_main_v65 (idx_main_v67 i) 0).val = (i 1).val / 128 := by show ((i 0).val * 256 + (i 1).val) / 128 % 2 = _; omega
  have e1 : (idx_main_v65 (idx_main_v67 i) 1).val = (i 0).val := by show ((i 0).val * 256 + (i 1).val) / 256 = _; omega
  have e2 : (idx_main_v65 (idx_main_v67 i) 2).val = (i 1).val % 128 := by show ((i 0).val * 256 + (i 1).val) % 128 = _; omega
  rw [e0, e1, e2]

theorem r68 (i : S8448x1024.Idx) : (val_main_v68 (F := Ideal) x0 x1 x2 x3 i : EReal) = ((A.dq ((i 1).val / 512) ((i 1).val % 512 / 128) (i 0).val ((i 1).val % 128) : ℝ) : EReal) := by
  rw [val_main_v68_apply, val_main_v63_apply, r62 H]
  have b0 : (i 0).val < 8448 := (i 0).isLt
  have b1 : (i 1).val < 1024 := (i 1).isLt
  refine congrArg Real.toEReal ?_
  have e0 : (idx_main_v63 (idx_main_v68 i) 0).val = (i 1).val / 512 := by show ((i 0).val * 1024 + (i 1).val) / 512 % 2 = _; omega
  have e1 : (idx_main_v63 (idx_main_v68 i) 2).val = (i 1).val % 512 / 128 := by show ((i 0).val * 1024 + (i 1).val) / 128 % 4 = _; omega
  have e2 : (idx_main_v63 (idx_main_v68 i) 1).val = (i 0).val := by show ((i 0).val * 1024 + (i 1).val) / 1024 = _; omega
  have e3 : (idx_main_v63 (idx_main_v68 i) 3).val = (i 1).val % 128 := by show ((i 0).val * 1024 + (i 1).val) % 128 = _; omega
  rw [e0, e1, e2, e3]

end Holds

end Cert.ReferenceIdeal.Reals

end
-- ==== Proof.Bwd.Host.lean ====
module

public import proofs.«01_k».proof.Proof.Gen.KernelIdeal.Frame
public import proofs.«01_k».proof.Proof.Gen.ReferenceIdeal.Read
public import Idealize.ShloMosaic.Lib.StableHlo.RunRead
public import Idealize.ShloMosaic.Lib.Claim

@[expose] public section

set_option maxRecDepth 16384

/-!
The two row statistics the host hands the launch, as the reference's own arrays: the base-2 logarithm of each row's sum of exponentials,
and each row's sum of products of the output and its gradient.
-/

noncomputable section

namespace Cert.KernelIdeal.Bwd

open Idealize.ShloMosaic Idealize.ShloMosaic.TcCoe Idealize.ShloMosaic.StableHlo
open Cert.KernelIdeal Cert.KernelIdeal.Gen
open Cert.ReferenceIdeal.Read (val_main_v9 val_main_v10 val_main_v40 val_main_v41)

variable (m : (ℓ : Loc nD τ sig) → Buf (Elt Ideal) ℓ)

/-- The logarithm of each row's sum, to base 2, out of the scores and their row maxima. -/
def lseOf (s : FVec Ideal S2x4x8448x8448 .f32) (r : FVec Ideal S2x4x8448 .f32) : FVec Ideal S2x4x8448 .f32 :=
  Host.divf (addf r (Host.log (Host.reduceAdd (Host.exp (subf s (broadcastInDim S2x4x8448x8448 ![0, 1, 2, 3] bcast_S2x4x8448x1_S2x4x8448x8448_0_1_2_3
    (broadcastInDim S2x4x8448x1 ![0, 1, 2] bcast_S2x4x8448_S2x4x8448x1_0_1_2 r)))) (constant S_ .f32 0x00000000#32) reducesTo_S2x4x8448x8448_S2x4x8448_d3 h_S_)))
    (broadcastInDim S2x4x8448 ![] bcast_S_S2x4x8448 (Host.log (constant S_ .f32 0x40000000#32)))

/-- Each row's sum of products, out of the gradient and the output. -/
def deltaOf (g o : FVec Ideal S8448x1024 .f32) : FVec Ideal S2x4x8448 .f32 :=
  transpose S2x4x8448 [1, 2, 0] (Host.reduceAdd (shapeCast _ (mulf g o) shapeCasts_S8448x1024_S8448x2x4x128) (constant S_ .f32 0x00000000#32) reducesTo_S8448x2x4x128_S8448x2x4_d3 h_S_) transposes_S8448x2x4_S2x4x8448_1_2_0

theorem V_lse (c : Dev nD) (x0 : FVec Ideal S8448x1024 .bf16) (x1 : FVec Ideal S8448x256 .bf16)
    (h0 : m ((c : Thread nD τ).loc main_arg0) = x0) (h1 : m ((c : Thread nD τ).loc main_arg1) = x1) :
    V m c main_v20 = lseOf (val_main_v9 (F := Ideal) x0 x1) (val_main_v10 (F := Ideal) x0 x1) := by
  subst h0; subst h1
  unfold_abbrev_sides
  after_reads_simp
  rfl

theorem V_delta (c : Dev nD) (x0 x3 : FVec Ideal S8448x1024 .bf16) (x1 x2 : FVec Ideal S8448x256 .bf16)
    (h0 : m ((c : Thread nD τ).loc main_arg0) = x0) (h1 : m ((c : Thread nD τ).loc main_arg1) = x1)
    (h2 : m ((c : Thread nD τ).loc main_arg2) = x2) (h3 : m ((c : Thread nD τ).loc main_arg3) = x3) :
    V m c main_v43 = deltaOf (val_main_v41 (F := Ideal) x3) (val_main_v40 (F := Ideal) x0 x1 x2) := by
  subst h0; subst h1; subst h2; subst h3
  unfold_abbrev_sides
  after_reads_simp
  rfl

end Cert.KernelIdeal.Bwd

end
-- ==== Proof.Bwd.Equal.lean ====
module

public import proofs.«01_k».proof.Proof.Ref
public import proofs.«01_k».proof.Proof.Bwd.Host
public import proofs.«01_k».proof.Proof.Bwd.Out

@[expose] public section

set_option maxRecDepth 16384

/-!
The launch's sums over real operands are the gradients of attention, and so are the reference's three results.
-/

noncomputable section

namespace Cert.KernelIdeal.Bwd

open Idealize.ShloMosaic Idealize.ShloMosaic.TcCoe
open Cert.KernelIdeal Cert.KernelIdeal.Gen
open Cert.Attn Cert.ReferenceIdeal.Reals
open Cert.ReferenceIdeal.Read (val_main_v3 val_main_v9 val_main_v10 val_main_v17 val_main_v31 val_main_v40 val_main_v41)

/-- The operands of the launch are real arrays, the base-2 logarithms of the rows' sums, and the rows' sums of products. -/
structure Reads (B : Ops) (A : Arrays) : Prop where
  q : ∀ a b, B.q a b = ((A.q a b : ℝ) : EReal)
  o : ∀ a b, B.o a b = ((A.o a b : ℝ) : EReal)
  k : ∀ a b, B.k a b = ((A.k a b : ℝ) : EReal)
  v : ∀ a b, B.v a b = ((A.v a b : ℝ) : EReal)
  ls : ∀ h p t, h < 2 → p < 4 → t < 8448 → B.ls h p t = (((A.M h p t + Real.log (A.Z h p t)) / Real.log 2 : ℝ) : EReal)
  es : ∀ h p t, h < 2 → p < 4 → t < 8448 → B.es h p t = ((A.de h p t : ℝ) : EReal)

theorem c2_real : c2 = ((scale * (Real.log 2)⁻¹ : ℝ) : EReal) := rfl
theorem cs_real : cs = ((scale : ℝ) : EReal) := scale_word

section Sums
variable {B : Ops} {A : Arrays} (R : Reads B A)
include R

theorem wt_real {h p t : ℕ} (l : ℕ) (hh : h < 2) (hp : p < 4) (ht : t < 8448) : B.wt h p t l = ((A.y h p t l : ℝ) : EReal) := by
  have e : (∑ d : Fin 128, B.k l (h * 128 + d.val) * B.q t (h * 512 + (p * 128 + d.val))) = ((A.pr h p t l : ℝ) : EReal) := by
    unfold Arrays.pr
    rw [coe_sum]
    exact Finset.sum_congr rfl fun d _ => by rw [R.k, R.q, EReal.coe_mul]
  unfold Ops.wt
  rw [e, c2_real, R.ls h p t hh hp ht, ← EReal.coe_mul, ← EReal.coe_sub]
  show Ideal.exp2 _ = _
  rw [Ideal.exp2_coe, A.y_eq]

theorem sg_real {h p t : ℕ} (l : ℕ) (hh : h < 2) (hp : p < 4) (ht : t < 8448) : B.sg h p t l = ((A.gs h p t l : ℝ) : EReal) := by
  have e : (∑ d : Fin 128, B.v l (h * 128 + d.val) * B.o t (h * 512 + (p * 128 + d.val))) = ((A.dp h p t l : ℝ) : EReal) := by
    unfold Arrays.dp
    rw [coe_sum]
    exact Finset.sum_congr rfl fun d _ => by rw [R.v, R.o, mul_comm, EReal.coe_mul]
  unfold Ops.sg
  rw [e, wt_real R l hh hp ht, R.es h p t hh hp ht, cs_real, ← EReal.coe_sub, ← EReal.coe_mul, ← EReal.coe_mul]
  rfl

theorem dq_real (z : S8448x1024.Idx) :
    dqOf B z = ((A.dq ((z 1).val / 512) ((z 1).val % 512 / 128) (z 0).val ((z 1).val % 128) : ℝ) : EReal) := by
  have b0 : (z 0).val < 8448 := (z 0).isLt
  have b1 : (z 1).val < 1024 := (z 1).isLt
  unfold dqOf Arrays.dq
  rw [coe_sum, Finset.sum_range]
  refine Finset.sum_congr rfl fun l _ => ?_
  unfold Ops.dqTerm
  rw [R.k, sg_real R _ (by omega) (by omega) b0, ← EReal.coe_mul, mul_comm]

theorem dk_real (z : S8448x256.Idx) : dkOf B z = ((A.dk ((z 1).val / 128) (z 0).val ((z 1).val % 128) : ℝ) : EReal) := by
  have b1 : (z 1).val < 256 := (z 1).isLt
  unfold dkOf Arrays.dk
  rw [coe_sum, Finset.sum_range]
  refine Finset.sum_congr rfl fun t _ => ?_
  rw [coe_sum]
  refine Finset.sum_congr rfl fun p _ => ?_
  rw [R.q, sg_real R _ (by omega) p.isLt t.isLt, ← EReal.coe_mul]

theorem dv_real (z : S8448x256.Idx) : dvOf B z = ((A.dv ((z 1).val / 128) (z 0).val ((z 1).val % 128) : ℝ) : EReal) := by
  have b1 : (z 1).val < 256 := (z 1).isLt
  unfold dvOf Arrays.dv
  rw [coe_sum, Finset.sum_range]
  refine Finset.sum_congr rfl fun t _ => ?_
  rw [coe_sum]
  refine Finset.sum_congr rfl fun p _ => ?_
  rw [R.o, wt_real R _ (by omega) p.isLt t.isLt, ← EReal.coe_mul]

end Sums

section Rows
variable {A : Arrays} {x0 : FVec Ideal S8448x1024 .bf16} {x1 x2 : FVec Ideal S8448x256 .bf16} {x3 : FVec Ideal S8448x1024 .bf16}
  (H : Holds A x0 x1 x2 x3)
include H

omit H in
theorem lse_form (s : FVec Ideal S2x4x8448x8448 .f32) (r z : FVec Ideal S2x4x8448 .f32)
    (h : Host.reduceAdd (Host.exp (subf s (broadcastInDim S2x4x8448x8448 ![0, 1, 2, 3] bcast_S2x4x8448x1_S2x4x8448x8448_0_1_2_3
      (broadcastInDim S2x4x8448x1 ![0, 1, 2] bcast_S2x4x8448_S2x4x8448x1_0_1_2 r)))) (constant S_ .f32 0x00000000#32) reducesTo_S2x4x8448x8448_S2x4x8448_d3 h_S_ = z)
    (i : S2x4x8448.Idx) :
    (lseOf s r i : EReal) = Ideal.div ((r i : EReal) + Ideal.log (z i)) (Ideal.log (Ideal.ofBits .f32 0x40000000#32)) := by
  unfold lseOf
  rw [h]
  rfl

omit H in
theorem sum_form : Host.reduceAdd (F := Ideal) (φ := .f32) (Host.exp (subf (val_main_v9 (F := Ideal) x0 x1) (broadcastInDim S2x4x8448x8448 ![0, 1, 2, 3] bcast_S2x4x8448x1_S2x4x8448x8448_0_1_2_3
      (broadcastInDim S2x4x8448x1 ![0, 1, 2] bcast_S2x4x8448_S2x4x8448x1_0_1_2 (val_main_v17 (F := Ideal) x0 x1))))) (constant S_ .f32 0x00000000#32)
      reducesTo_S2x4x8448x8448_S2x4x8448_d3 h_S_ = val_main_v31 (F := Ideal) x0 x1 := by
  unfold val_main_v31 Cert.ReferenceIdeal.Read.val_main_v30 Cert.ReferenceIdeal.Read.val_main_v29 Cert.ReferenceIdeal.Read.val_main_v28
    Cert.ReferenceIdeal.Read.val_main_v27 Cert.ReferenceIdeal.Read.val_main_cst_8
  rfl

theorem lse_real (i : S2x4x8448.Idx) :
    (lseOf (val_main_v9 (F := Ideal) x0 x1) (val_main_v10 (F := Ideal) x0 x1) i : EReal)
      = (((A.M (i 0).val (i 1).val (i 2).val + Real.log (A.Z (i 0).val (i 1).val (i 2).val)) / Real.log 2 : ℝ) : EReal) := by
  have e : val_main_v10 (F := Ideal) x0 x1 = val_main_v17 (F := Ideal) x0 x1 := funext fun j => (H.M j).trans (r17 H j).symm
  rw [e, lse_form _ _ _ sum_form, r17 H, r31 H, two_word, Ideal.log_coe, if_neg (A.Z_pos _ _ _).not_ge, Ideal.log_coe, if_neg (by norm_num), ← EReal.coe_add,
    div_real _ (Real.log_pos (by norm_num)).ne']

omit H in
/-- A sum over the last axis, from zero. -/
theorem sum_last (x : FVec Ideal S8448x2x4x128 .f32) (i : S8448x2x4.Idx) :
    (Host.reduceAdd x (constant S_ .f32 0x00000000#32) reducesTo_S8448x2x4x128_S8448x2x4_d3 h_S_ i : EReal)
      = ∑ d : Fin 128, x (ix4 (i 0) (i 1) (i 2) d) := by
  simp only [Host.reduceAdd, Ideal.hostReduceAdd_def]
  rw [Ideal.hostReduceAdd_single reducesTo_S8448x2x4x128_S8448x2x4_d3 (by decide)]
  refine (congrArg₂ (· + ·) zero_word (Finset.sum_congr rfl fun d _ => ?_)).trans (zero_add _)
  exact congrArg x (funext fun a => Fin.ext (by match a with | ⟨0, _⟩ => rfl | ⟨1, _⟩ => rfl | ⟨2, _⟩ => rfl | ⟨3, _⟩ => rfl))

omit H in
theorem split_heads (y : FVec Ideal S8448x1024 .f32) (j : S8448x2x4x128.Idx) :
    shapeCast S8448x2x4x128 y shapeCasts_S8448x1024_S8448x2x4x128 j = y (Cert.ReferenceIdeal.Read.idx_main_v3 j) :=
  shapeCast_apply y _ j _ (by
    rw [Shape.rowMajor_val_two, Shape.rowMajor_val_four]
    have h0 : (j 0).val < 8448 := (j 0).isLt
    have h1 : (j 1).val < 2 := (j 1).isLt
    have h2 : (j 2).val < 4 := (j 2).isLt
    have h3 : (j 3).val < 128 := (j 3).isLt
    show ((((j 0).val * 2 + (j 1).val) * 4 + (j 2).val) * 128 + (j 3).val) / 1024 * 1024 + ((((j 0).val * 2 + (j 1).val) * 4 + (j 2).val) * 128 + (j 3).val) % 1024
      = (((j 0).val * 2 + (j 1).val) * 4 + (j 2).val) * 128 + (j 3).val
    omega)

theorem delta_real (i : S2x4x8448.Idx) :
    (deltaOf (val_main_v41 (F := Ideal) x3) (val_main_v40 (F := Ideal) x0 x1 x2) i : EReal)
      = ((A.de (i 0).val (i 1).val (i 2).val : ℝ) : EReal) := by
  have b0 : (i 0).val < 2 := (i 0).isLt
  have b1 : (i 1).val < 4 := (i 1).isLt
  have b2 : (i 2).val < 8448 := (i 2).isLt
  unfold deltaOf
  rw [transpose_apply [1, 2, 0] _ transposes_S8448x2x4_S2x4x8448_1_2_0 i (ix3 (i 2) (i 0) (i 1)) (fun b => match b with | ⟨0, _⟩ => rfl | ⟨1, _⟩ => rfl | ⟨2, _⟩ => rfl),
    sum_last]
  unfold Arrays.de
  rw [coe_sum]
  refine Finset.sum_congr rfl fun d _ => ?_
  have hd : d.val < 128 := d.isLt
  let j : S8448x2x4x128.Idx := ix4 (i 2) (i 0) (i 1) d
  let z : S8448x1024.Idx := Cert.ReferenceIdeal.Read.idx_main_v3 j
  have z0 : (z 0).val = (i 2).val := by
    show ((((i 2).val * 2 + (i 0).val) * 4 + (i 1).val) * 128 + d.val) / 1024 = _
    omega
  have z1 : (z 1).val = (i 0).val * 512 + ((i 1).val * 128 + d.val) := by
    show ((((i 2).val * 2 + (i 0).val) * 4 + (i 1).val) * 128 + d.val) % 1024 = _
    omega
  rw [split_heads]
  show (x3 z : EReal) * val_main_v40 (F := Ideal) x0 x1 x2 z = _
  rw [H.args.o, r40 H, z0, z1, EReal.coe_mul]
  have e1 : ((i 0).val * 512 + ((i 1).val * 128 + d.val)) / 512 = (i 0).val := by omega
  have e2 : ((i 0).val * 512 + ((i 1).val * 128 + d.val)) % 512 / 128 = (i 1).val := by omega
  have e3 : ((i 0).val * 512 + ((i 1).val * 128 + d.val)) % 128 = d.val := by omega
  rw [e1, e2, e3]

end Rows

end Cert.KernelIdeal.Bwd

end
-- ==== Proof.Finite.lean ====
module

public import proofs.«01_k».proof.Defs
public import Idealize.ShloMosaic.Lib.WordCmp
public import Idealize.ShloMosaic.Lib.ValueIdxCore

@[expose] public section

/-!
What the precondition says of an array: each of its elements is a real number.
-/

noncomputable section

namespace Cert.Finite

open Idealize.ShloMosaic

/-- A conjunction of two that is one has both at one. -/
theorem and_one {a b : BitVec 1} (h : IntOp.andi a b = 1#1) : a = 1#1 ∧ b = 1#1 := by revert h; revert a b; decide

/-- A fold of conjunctions that ends at one has every member at one. -/
theorem fold_one {ι : Type} (l : List ι) (f : ι → BitVec 1) (b : BitVec 1)
    (h : l.foldl (fun r i => IntOp.andi r (f i)) b = 1#1) : b = 1#1 ∧ ∀ i ∈ l, f i = 1#1 := by
  induction l generalizing b with
  | nil => exact ⟨h, fun _ hi => absurd hi List.not_mem_nil⟩
  | cons a l ih =>
    obtain ⟨h1, h2⟩ := ih _ h
    have hh := and_one h1
    refine ⟨hh.1, fun i hi => ?_⟩
    rcases List.mem_cons.1 hi with rfl | hi
    · exact hh.2
    · exact h2 i hi

/-- A conjunction over all of an array that is one has every element at one. -/
theorem reduce_one {s u : Shape} {axes : List (Fin s.rank)} {t : Shape} (x : IVec s 1) (init : IVec u 1) (h : s.ReducesTo axes t)
    (hu : 0 < u.numel) (ht : ∀ a b : t.Idx, a = b) (j : t.Idx) (hj : Host.reduce IntOp.andi x init h hu j = 1#1) (i : s.Idx) : x i = 1#1 := by
  have := (fold_one _ (fun n => x (s.rowMajor.symm n)) _ hj).2 (s.rowMajor i)
    (List.mem_filter.2 ⟨List.mem_finRange _, by simpa using ht _ _⟩)
  simpa using this

/-- An element whose absolute value is below infinity is a real number. -/
theorem real_of_abs {x : EReal} (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  have h' : max x (-x) < ⊤ := by
    by_contra hn
    rw [Ideal.cmp] at h
    simp [hn] at h
  refine ⟨x.toReal, (EReal.coe_toReal ?_ ?_).symm⟩
  · rintro rfl; simp at h'
  · rintro rfl; simp at h'

variable [Cert.Pre_finite.Facts]

/-- The precondition on four arrays makes every element of each a real number. -/
theorem reals (x0 : FVec Ideal Pre_finite.S8448x1024 .bf16) (x1 x2 : FVec Ideal Pre_finite.S8448x256 .bf16) (x3 : FVec Ideal Pre_finite.S8448x1024 .bf16)
    (h : Cert.Pre_finite.fn (F := Ideal) x0 x1 x2 x3 = fun _ => 1#1) :
    (∀ i, ∃ r : ℝ, (x0 i : EReal) = r) ∧ (∀ i, ∃ r : ℝ, (x1 i : EReal) = r) ∧ (∀ i, ∃ r : ℝ, (x2 i : EReal) = r) ∧ (∀ i, ∃ r : ℝ, (x3 i : EReal) = r) := by
  have h := congrFun h (fun a => a.elim0)
  obtain ⟨h, h3⟩ := and_one h
  obtain ⟨h, h2⟩ := and_one h
  obtain ⟨h0, h1⟩ := and_one h
  have e : ∀ a b : Pre_finite.S_.Idx, a = b := fun a b => funext fun i => i.elim0
  exact ⟨fun i => real_of_abs (reduce_one _ _ _ _ e _ h0 i), fun i => real_of_abs (reduce_one _ _ _ _ e _ h1 i),
    fun i => real_of_abs (reduce_one _ _ _ _ e _ h2 i), fun i => real_of_abs (reduce_one _ _ _ _ e _ h3 i)⟩

end Cert.Finite

end
-- ==== Proof.Bwd.Values.lean ====
module

public import proofs.«01_k».proof.Proof.Bwd.Equal
public import proofs.«01_k».proof.Proof.Finite
public import proofs.«01_k».proof.Proof.Gen.Pre_finite
public import proofs.«01_k».proof.Proof.Gen.ReferenceIdeal.Run

@[expose] public section

set_option maxRecDepth 16384

/-!
From arguments that are real numbers, the launch and the reference end with the same three gradients.
-/

noncomputable section

namespace Cert.KernelIdeal.Bwd

open Idealize.ShloMosaic Idealize.ShloMosaic.TcCoe
open Cert.KernelIdeal Cert.KernelIdeal.Gen
open Cert.Attn Cert.ReferenceIdeal.Reals
open Cert.ReferenceIdeal.Read (val_main_v9 val_main_v10 val_main_v40 val_main_v41 val_main_v66 val_main_v67 val_main_v68)

theorem at2_idx {n0 n1 : ℕ} (h0 : 0 < n0) (h1 : 0 < n1) (x : (⟨2, ![n0, n1]⟩ : Shape).Idx → EReal) (i : (⟨2, ![n0, n1]⟩ : Shape).Idx) :
    at2 h0 h1 x (i 0).val (i 1).val = x i :=
  (at2_eq h0 h1 x _ _ (i 0) (i 1) rfl rfl).trans (congrArg x (funext fun a => by match a with | ⟨0, _⟩ => rfl | ⟨1, _⟩ => rfl))
theorem at3_idx {n0 n1 n2 : ℕ} (h0 : 0 < n0) (h1 : 0 < n1) (h2 : 0 < n2) (x : (⟨3, ![n0, n1, n2]⟩ : Shape).Idx → EReal)
    (i : (⟨3, ![n0, n1, n2]⟩ : Shape).Idx) : at3 h0 h1 h2 x (i 0).val (i 1).val (i 2).val = x i :=
  (at3_eq h0 h1 h2 x _ _ _ (i 0) (i 1) (i 2) rfl rfl rfl).trans (congrArg x (funext fun a => by match a with | ⟨0, _⟩ => rfl | ⟨1, _⟩ => rfl | ⟨2, _⟩ => rfl))

theorem coe_toReal {x : EReal} (h : ∃ r : ℝ, x = r) : ((x.toReal : ℝ) : EReal) = x := by
  obtain ⟨r, rfl⟩ := h
  rw [EReal.toReal_coe]

theorem real2 {n0 n1 : ℕ} (h0 : 0 < n0) (h1 : 0 < n1) {x : (⟨2, ![n0, n1]⟩ : Shape).Idx → EReal} (hx : ∀ i, ∃ r : ℝ, x i = r)
    (i : (⟨2, ![n0, n1]⟩ : Shape).Idx) : x i = (((at2 h0 h1 x (i 0).val (i 1).val).toReal : ℝ) : EReal) := by
  rw [at2_idx, coe_toReal (hx i)]
theorem real3 {n0 n1 n2 : ℕ} (h0 : 0 < n0) (h1 : 0 < n1) (h2 : 0 < n2) {x : (⟨3, ![n0, n1, n2]⟩ : Shape).Idx → EReal} (hx : ∀ i, ∃ r : ℝ, x i = r)
    (i : (⟨3, ![n0, n1, n2]⟩ : Shape).Idx) : x i = (((at3 h0 h1 h2 x (i 0).val (i 1).val (i 2).val).toReal : ℝ) : EReal) := by
  rw [at3_idx, coe_toReal (hx i)]
theorem at3_real {n0 n1 n2 : ℕ} (h0 : 0 < n0) (h1 : 0 < n1) (h2 : 0 < n2) {x : (⟨3, ![n0, n1, n2]⟩ : Shape).Idx → EReal} {f : ℕ → ℕ → ℕ → ℝ}
    (hx : ∀ i, x i = ((f (i 0).val (i 1).val (i 2).val : ℝ) : EReal)) {a b c : ℕ} (ha : a < n0) (hb : b < n1) (hc : c < n2) :
    at3 h0 h1 h2 x a b c = ((f a b c : ℝ) : EReal) :=
  (at3_eq h0 h1 h2 x a b c ⟨a, ha⟩ ⟨b, hb⟩ ⟨c, hc⟩ rfl rfl rfl).trans (hx _)

section Arrays
variable (x0 : FVec Ideal S8448x1024 .bf16) (x1 x2 : FVec Ideal S8448x256 .bf16) (x3 : FVec Ideal S8448x1024 .bf16)

/-- The real arrays of four arguments, with the maxima read from a given array. -/
def arrsOf (w : S2x4x8448.Idx → EReal) : Arrays where
  q := fun a b => (at2 (by decide) (by decide) x0 a b).toReal
  o := fun a b => (at2 (by decide) (by decide) x3 a b).toReal
  k := fun a b => (at2 (by decide) (by decide) x1 a b).toReal
  v := fun a b => (at2 (by decide) (by decide) x2 a b).toReal
  M := fun h p t => (at3 (n0 := 2) (n1 := 4) (n2 := 8448) (by decide) (by decide) (by decide) w h p t).toReal

theorem arrsOf_M (w : S2x4x8448.Idx → EReal) (hw : ∀ i, ∃ r : ℝ, w i = r) (i : S2x4x8448.Idx) :
    w i = (((arrsOf x0 x1 x2 x3 w).M (i 0).val (i 1).val (i 2).val : ℝ) : EReal) :=
  real3 (n0 := 2) (n1 := 4) (n2 := 8448) (by decide) (by decide) (by decide) hw i

theorem ls_at (L E : S2x4x8448.Idx → EReal) {f : ℕ → ℕ → ℕ → ℝ}
    (hx : ∀ i : S2x4x8448.Idx, L i = ((f (i 0).val (i 1).val (i 2).val : ℝ) : EReal)) {a b c : ℕ} (ha : a < 2) (hb : b < 4) (hc : c < 8448) :
    (opsOf x0 x3 x1 x2 L E).ls a b c = ((f a b c : ℝ) : EReal) :=
  at3_real (n0 := 2) (n1 := 4) (n2 := 8448) (by decide) (by decide) (by decide) hx ha hb hc
theorem es_at (L E : S2x4x8448.Idx → EReal) {f : ℕ → ℕ → ℕ → ℝ}
    (hx : ∀ i : S2x4x8448.Idx, E i = ((f (i 0).val (i 1).val (i 2).val : ℝ) : EReal)) {a b c : ℕ} (ha : a < 2) (hb : b < 4) (hc : c < 8448) :
    (opsOf x0 x3 x1 x2 L E).es a b c = ((f a b c : ℝ) : EReal) :=
  at3_real (n0 := 2) (n1 := 4) (n2 := 8448) (by decide) (by decide) (by decide) hx ha hb hc

/-- The real arrays of four arguments, and the row maxima of their scores. -/
def arrs : Arrays := arrsOf x0 x1 x2 x3 (val_main_v10 (F := Ideal) x0 x1)

variable {x0 x1 x2 x3}
variable (h0 : ∀ i, ∃ r : ℝ, (x0 i : EReal) = r) (h1 : ∀ i, ∃ r : ℝ, (x1 i : EReal) = r) (h2 : ∀ i, ∃ r : ℝ, (x2 i : EReal) = r)
  (h3 : ∀ i, ∃ r : ℝ, (x3 i : EReal) = r)
include h0 h1 h2 h3

theorem args_real : Args (arrs x0 x1 x2 x3) x0 x1 x2 x3 where
  q := real2 _ _ h0
  k := real2 _ _ h1
  v := real2 _ _ h2
  o := real2 _ _ h3

theorem holds_real : Holds (arrs x0 x1 x2 x3) x0 x1 x2 x3 where
  args := args_real h0 h1 h2 h3
  M := arrsOf_M x0 x1 x2 x3 (val_main_v10 (F := Ideal) x0 x1) (max_real (args_real h0 h1 h2 h3))

theorem reads_real {L E : S2x4x8448.Idx → EReal} (hL : L = lseOf (val_main_v9 (F := Ideal) x0 x1) (val_main_v10 (F := Ideal) x0 x1))
    (hE : E = deltaOf (val_main_v41 (F := Ideal) x3) (val_main_v40 (F := Ideal) x0 x1 x2)) :
    Reads (opsOf x0 x3 x1 x2 L E) (arrs x0 x1 x2 x3) where
  q := fun a b => (coe_toReal (h0 _)).symm
  o := fun a b => (coe_toReal (h3 _)).symm
  k := fun a b => (coe_toReal (h1 _)).symm
  v := fun a b => (coe_toReal (h2 _)).symm
  ls := fun h p t hh hp ht => ls_at x0 x1 x2 x3 L E
    (f := fun h p t => ((arrs x0 x1 x2 x3).M h p t + Real.log ((arrs x0 x1 x2 x3).Z h p t)) / Real.log 2)
    (fun i => (congrFun hL i).trans (lse_real (holds_real h0 h1 h2 h3) i)) hh hp ht
  es := fun h p t hh hp ht => es_at x0 x1 x2 x3 L E (f := (arrs x0 x1 x2 x3).de)
    (fun i => (congrFun hE i).trans (delta_real (holds_real h0 h1 h2 h3) i)) hh hp ht

end Arrays

variable (m : (ℓ : Loc nD τ sig) → Buf (Elt Ideal) ℓ)

theorem reads_ops (c : Dev nD) {x0 x3 : FVec Ideal S8448x1024 .bf16} {x1 x2 : FVec Ideal S8448x256 .bf16}
    (e0 : m ((c : Thread nD τ).loc main_arg0) = x0) (e1 : m ((c : Thread nD τ).loc main_arg1) = x1)
    (e2 : m ((c : Thread nD τ).loc main_arg2) = x2) (e3 : m ((c : Thread nD τ).loc main_arg3) = x3)
    (h0 : ∀ i, ∃ r : ℝ, (x0 i : EReal) = r) (h1 : ∀ i, ∃ r : ℝ, (x1 i : EReal) = r) (h2 : ∀ i, ∃ r : ℝ, (x2 i : EReal) = r)
    (h3 : ∀ i, ∃ r : ℝ, (x3 i : EReal) = r) : Reads (ops m c) (arrs x0 x1 x2 x3) := by
  have hL := V_lse m c x0 x1 e0 e1
  have hE := V_delta m c x0 x3 x1 x2 e0 e1 e2 e3
  unfold ops
  rw [V_main_arg0, V_main_arg1, V_main_arg2, V_main_arg3, e0, e1, e2, e3]
  exact reads_real h0 h1 h2 h3 hL hE

theorem dq_eq (c : Dev nD) {x0 x3 : FVec Ideal S8448x1024 .bf16} {x1 x2 : FVec Ideal S8448x256 .bf16} (R : Reads (ops m c) (arrs x0 x1 x2 x3))
    (H : Holds (arrs x0 x1 x2 x3) x0 x1 x2 x3) : dqRes m c = val_main_v68 (F := Ideal) x0 x1 x2 x3 :=
  funext fun z => (dq_real R z).trans (r68 H z).symm
theorem dk_eq (c : Dev nD) {x0 x3 : FVec Ideal S8448x1024 .bf16} {x1 x2 : FVec Ideal S8448x256 .bf16} (R : Reads (ops m c) (arrs x0 x1 x2 x3))
    (H : Holds (arrs x0 x1 x2 x3) x0 x1 x2 x3) : dkRes m c = val_main_v67 (F := Ideal) x0 x1 x2 x3 :=
  funext fun z => (dk_real R z).trans (r67 H z).symm
theorem dv_eq (c : Dev nD) {x0 x3 : FVec Ideal S8448x1024 .bf16} {x1 x2 : FVec Ideal S8448x256 .bf16} (R : Reads (ops m c) (arrs x0 x1 x2 x3))
    (H : Holds (arrs x0 x1 x2 x3) x0 x1 x2 x3) : dvRes m c = val_main_v66 (F := Ideal) x0 x1 x3 :=
  funext fun z => (dv_real R z).trans (r66 H z).symm

end Cert.KernelIdeal.Bwd

end
-- ==== Proof.Algebraic.lean ====
module

public import proofs.«01_k».proof.Defs
public import proofs.«01_k».proof.Proof.Frames
public import proofs.«01_k».proof.Proof.Bwd.Values

@[expose] public section

/-!
From memories that agree on finite arguments, the launch and the reference end with equal gradients.
-/

noncomputable section

namespace Cert.Proof

open Idealize.ShloMosaic Idealize.SL.Sem
open Cert.KernelIdeal.Bwd Cert.ReferenceIdeal.Read

/-- The reference's three results, read from arguments given by name. -/
theorem reference_run (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v68)
          = val_main_v68 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_v67)
          = val_main_v67 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_v66)
          = val_main_v66 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)) :=
  (θ_run Cert.ReferenceIdeal.defs _ _).mono (fun _ h c => by
    obtain ⟨a, b, d, e⟩ := h c
    exact ⟨a.trans (val_main_v68_eq m' c), b.trans (val_main_v67_eq m' c), d.trans (val_main_v66_eq _ _ _), e⟩)
    (Cert.ReferenceIdeal.Value.run (F := Ideal) m' g')

theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hagree
  refine ⟨dqRes m, dkRes m, dvRes m, ?_, ?_⟩
  · exact (θ_run Cert.KernelIdeal.defs _ _).mono (fun r h c => ⟨(h.1 c).1.1, (h.1 c).1.2.1, (h.1 c).1.2.2, (h.1 c).2⟩) (results m g)
  · refine (θ_run Cert.ReferenceIdeal.defs _ _).mono (fun r h c => ?_) (reference_run m' g')
    obtain ⟨h0, h1, h2, h3⟩ := Cert.Finite.reals _ _ _ _ (hpre c)
    obtain ⟨a0, a1, a2, a3⟩ := hagree c
    obtain ⟨eq, ek, ev, e⟩ := h c
    have R := reads_ops m c rfl rfl rfl rfl h0 h1 h2 h3
    have H := holds_real h0 h1 h2 h3
    rw [a0, a1, a2, a3] at eq ek
    rw [a0, a1, a3] at ev
    exact ⟨eq.trans (dq_eq m c R H).symm, ek.trans (dk_eq m c R H).symm, ev.trans (dv_eq m c R H).symm, e⟩

end Cert.Proof

end
-- ==== Proof.Prod.Common.lean ====
module

public import Idealize.ShloMosaic.Lib.Pipeline.Value
public import Idealize.ShloMosaic.Lib.VecWindow
public import Idealize.ShloMosaic.PureOps.Ideal
public import Idealize.ShloMosaic.PureOps.Ideal.Laws
public import Idealize.ShloMosaic.Lib.ValueIdxCore
public import Idealize.ShloMosaic.Adequacy
public import Idealize.ShloMosaic.Init

@[expose] public section

/-!
What the weight gradients of the products share: loads and stores of whole buffers, and a sum over all rows taken in three parts.
-/

noncomputable section

namespace Cert.Prod

open Idealize.ShloMosaic

/-- Reading all of an array is the array. -/
theorem window_all {s : Shape} {e : EltTy} {F : FTy → Type} (x : Vec F s e) {off : Fin s.rank → ℕ} (h : ∀ a, off a = 0)
    (inb : ∀ a, off a + s.size a ≤ s.size a) : VecWindow.window x off s.size inb = x := by
  obtain rfl : off = fun _ => 0 := funext h
  funext y; exact congrArg x (funext fun a => Fin.ext (by show 0 + 1 * (y a).val = (y a).val; omega))

variable {sig : RefSig} {F : FTy → Type} [FloatOps F]

/-- A load of a whole buffer that holds `x` reads `x`. -/
theorem load_all {s : Shape} {e : EltTy} (M : Memref sig .tc .vmem s e) (hM : M.IsWhole) (x : Vec F s e) {off : Fin s.rank → ℕ} (h : ∀ a, off a = 0)
    (inb : ∀ a, off a + s.size a ≤ s.size a) : M.view.readAt (Elt F) (Rect.unit off s.size inb).toLoadRect (hM.unread x) = x := by
  rw [View.readAt_unit _ _ inb rfl inb, hM.read_unread]; exact window_all x h inb

/-- A load of a whole buffer that a whole store of `x` covers reads `x`. -/
theorem load_stored [∀ e, Nonempty (Elt F e)] {s : Shape} {e : EltTy} (M : Memref sig .tc .vmem s e) (x : Vec F s e) {off : Fin s.rank → ℕ} (h : ∀ a, off a = 0)
    (inb : ∀ a, off a + s.size a ≤ s.size a) :
    M.view.readCov [(⟨Rect.unit off s.size inb, x⟩ : View.Piece (Elt F) s e)] (Rect.unit off s.size inb).toLoadRect = x := by
  refine (View.readAt_unit _ _ inb rfl inb).trans ?_
  rw [View.read_writes_full]; exact window_all x h inb

/-- A sum over 8448 rows in three parts of 2816. -/
theorem sum_rows (f : ℕ → EReal) : (∑ k : Fin 8448, f k.val)
    = ((∑ k : Fin 2816, f k.val) + ∑ k : Fin 2816, f (2816 + k.val)) + ∑ k : Fin 2816, f (5632 + k.val) := by
  simp only [Fin.sum_univ_eq_sum_range]
  rw [show 8448 = 5632 + 2816 from rfl, Finset.sum_range_add, show 5632 = 2816 + 2816 from rfl, Finset.sum_range_add]
  simp only [Fin.sum_univ_eq_sum_range (fun k => f (2816 + k)), Fin.sum_univ_eq_sum_range (fun k => f (2816 + 2816 + k))]

end Cert.Prod

end
-- ==== Proof.Ffn.Row.lean ====
module

public import proofs.«01_k».proof.Proof.Prod.Common
public import Idealize.ShloMosaic.Lib.Pointwise

@[expose] public section

/-!
The feed-forward block, one position at a time, over the extended reals; and loads and stores of whole buffers as the
windows of a pipeline state them.
-/

noncomputable section

namespace Cert.Ffn

open Idealize.ShloMosaic

/-- The norm with its gain, scaled and shifted: entry `j` of the row `x`. -/
def normed (x g sh sc : Fin 1024 → EReal) (j : Fin 1024) : EReal :=
  x j * Ideal.rsqrt (Ideal.div (∑ k, x k * x k) (Ideal.ofBits FTy.f32 1149239296#32) + Ideal.ofBits FTy.f32 897988541#32) * g j * (1 + sc j) + sh j

/-- A row times a row of a weight that is stored transposed. -/
def dotRow (h w : Fin 1024 → EReal) : EReal := ∑ k, h k * w k

/-- The gated activation. -/
def gated (a b : EReal) : EReal := a * Ideal.logistic a * b

/-- Row `r` of the context's rows followed by the sequence's. -/
def rowOf (x0 : (⟨2, ![256, 1024]⟩ : Shape).Idx → EReal) (x1 : (⟨2, ![8192, 1024]⟩ : Shape).Idx → EReal) (r : Fin 8448) (k : Fin 1024) : EReal :=
  if h : r.val < 256 then x0 (ix2 (⟨r.val, h⟩ : Fin 256) k) else x1 (ix2 (⟨r.val - 256, by omega⟩ : Fin 8192) k)

/-- Row `j` of the modulation that position `r` takes: the context's or the sequence's. -/
def modOf (x2 : (⟨3, ![2, 16, 1024]⟩ : Shape).Idx → EReal) (j : Fin 16) (r : Fin 8448) (k : Fin 1024) : EReal :=
  if r.val < 256 then x2 (ix3 (0 : Fin 2) j k) else x2 (ix3 (1 : Fin 2) j k)

variable {F : FTy → Type} [FloatOps F]

/-- A load of all of an array is the array. -/
theorem ld_all {s : Shape} {e : EltTy} (x : Vec F s e) {off : Fin s.rank → ℕ} (h : ∀ a, off a = 0)
    (inb : ∀ a, off a + s.size a ≤ s.size a) : View.ld x (Rect.unit off s.size inb) = x := by
  obtain rfl : off = fun _ => 0 := funext h
  funext y; exact congrArg x (funext fun a => Fin.ext (by show 0 + 1 * (y a).val = (y a).val; omega))

/-- A buffer that one store covers holds what was stored. -/
theorem canon_all [∀ e, Nonempty (Elt F e)] {s : Shape} {e : EltTy} (x : Vec F s e) {off : Fin s.rank → ℕ} (h : ∀ a, off a = 0)
    (inb : ∀ a, off a + s.size a ≤ s.size a) : View.canon [(⟨Rect.unit off s.size inb, x⟩ : View.Piece (Elt F) s e)] = x := by
  obtain rfl : off = fun _ => 0 := funext h
  funext y
  have e := View.canon_cons_emb (Val := Elt F) (Rect.unit (s := s) (fun _ => 0) s.size inb) x [] y
  rw [show (Rect.unit (s := s) (fun _ => 0) s.size inb).emb y = y from funext fun a => Fin.ext (by show 0 + 1 * (y a).val = (y a).val; omega)] at e
  exact e

end Cert.Ffn

end
-- ==== Proof.Merge.Row.lean ====
module

public import proofs.«01_k».proof.Proof.Ffn.Row
public import proofs.«01_k».proof.Proof.Prod.Common

@[expose] public section

/-!
One row of the gradient of the merge. The merge is `z = σ(g₁) a₁ + σ(g₂) a₂` followed by a product with a weight. At a row with gradient `D` of `z`
and gates `G` (the first 1024 belong to `a₁`, the others to `a₂`) these are the gradients of the branches, of the gates and of what lies before the
branches.
-/

noncomputable section

namespace Cert.Merge

open Idealize.ShloMosaic Cert.Ffn

variable (D : Fin 1024 → EReal) (G : Fin 2048 → EReal)

/-- The gradient of the first branch. -/
def first (b : Fin 1024) : EReal := D b * Ideal.logistic (G ⟨b.val, by omega⟩)

/-- The gradient of the second branch. -/
def second (b : Fin 1024) : EReal := D b * Ideal.logistic (G ⟨1024 + b.val, by omega⟩)

/-- The gradient of a gate whose branch has the value `a`. -/
def gate (d a g : EReal) : EReal := d * a * (Ideal.logistic g * (1 - Ideal.logistic g))

/-- The gradient of the attention's output, before the second branch's weight. -/
def before (w : (⟨2, ![1024, 1024]⟩ : Shape).Idx → EReal) (b : Fin 1024) : EReal := dotRow (second D G) (fun k => w (ix2 b k))

/-- The sum, over a head's 128 columns, of that gradient times the attention's output. -/
def delta (w : (⟨2, ![1024, 1024]⟩ : Shape).Idx → EReal) (o : Fin 1024 → EReal) (h : Fin 8) : EReal :=
  ∑ k : Fin 128, before D G w ⟨128 * h.val + k.val, by omega⟩ * o ⟨128 * h.val + k.val, by omega⟩

/-- Reading back all of a buffer gives what its stores left. -/
theorem load_back {sig : RefSig} {F : FTy → Type} [∀ e, Nonempty (Elt F e)] {s : Shape} {e : EltTy} (M : Memref sig .tc .vmem s e)
    (L : List (View.Piece (Elt F) s e)) {off : Fin s.rank → ℕ} (h : ∀ a, off a = 0) (inb : ∀ a, off a + s.size a ≤ s.size a) :
    M.view.readCov L (Rect.unit off s.size inb).toLoadRect = View.canon L := by
  obtain rfl : off = fun _ => 0 := funext h
  rw [View.readCov_eq_canon']
  exact funext fun y => congrArg (View.canon L) (funext fun a => Fin.ext (by show 0 + 1 * (y a).val = (y a).val; omega))

theorem below {n o : ℕ} (q : Fin 512) (h : o + 512 ≤ n) : o + q.val < n := by omega

/-- A pair of coordinates for an index of a matrix. -/
theorem pair {n0 n1 : ℕ} (i : (⟨2, ![n0, n1]⟩ : Shape).Idx) : ∃ a b, i = ix2 a b :=
  ⟨i 0, i 1, funext fun d => match d with
    | ⟨0, _⟩ => rfl
    | ⟨1, _⟩ => rfl⟩

/-- Three coordinates for an index of a stack of matrices. -/
theorem triple {n0 n1 n2 : ℕ} (i : (⟨3, ![n0, n1, n2]⟩ : Shape).Idx) : ∃ a b c, i = ix3 a b c :=
  ⟨i 0, i 1, i 2, funext fun d => match d with
    | ⟨0, _⟩ => rfl
    | ⟨1, _⟩ => rfl
    | ⟨2, _⟩ => rfl⟩

end Cert.Merge

end
-- ==== Proof.Mix.Row.lean ====
module

public import proofs.«01_k».proof.Proof.Merge.Row

@[expose] public section

/-!
One position of the input projection of the mixers: the residual, its norm, the projection, and the heads of the attention.
-/

noncomputable section

namespace Cert.Mix

open Idealize.ShloMosaic Cert.Ffn

/-- The residual: the row `x` plus half of the gate `u` times the branch `f`. -/
def joined (x u f : Fin 1024 → EReal) (k : Fin 1024) : EReal := x k + Ideal.ofBits FTy.f32 1056964608#32 * u k * f k

/-- The norm of a head of 128 entries, with its gain. -/
def headNorm (y g : Fin 128 → EReal) (j : Fin 128) : EReal :=
  y j * Ideal.rsqrt (Ideal.div (∑ k, y k * y k) (Ideal.ofBits FTy.f32 1124073472#32) + Ideal.ofBits FTy.f32 897988541#32) * g j

/-- The other half of an axis: the 128 entries of a head are two axes of two halves of 32. -/
def other (j : Fin 128) : Fin 128 := if j.val % 64 < 32 then ⟨(j.val + 32) % 128, by omega⟩ else ⟨(j.val + 96) % 128, by omega⟩

/-- A head turned by the angles of its position: `c` holds the cosines, `s` the sines with the sign of the half. -/
def turned (y c s : Fin 128 → EReal) (j : Fin 128) : EReal := y j * c j + y (other j) * s j

/-- A head, normed and turned. -/
def head (y g c s : Fin 128 → EReal) : Fin 128 → EReal := turned (headNorm y g) c s

/-- Heads side by side: entry `b` of the heads of the row `p`. -/
def heads {n : ℕ} (p : Fin (128 * n) → EReal) (g c s : Fin 128 → EReal) (b : Fin (128 * n)) : EReal :=
  head (fun k => p ⟨b.val / 128 * 128 + k.val, by omega⟩) g c s ⟨b.val % 128, Nat.mod_lt _ (by decide)⟩

theorem heads_at {n : ℕ} (p : Fin (128 * n) → EReal) (g c s : Fin 128 → EReal) (h : Fin n) (q : Fin 128) :
    heads p g c s ⟨128 * h.val + q.val, by omega⟩ = head (fun k => p ⟨h.val * 128 + k.val, by omega⟩) g c s q := by
  unfold heads
  have e0 : (128 * h.val + q.val) / 128 = h.val := by omega
  have e1 : (128 * h.val + q.val) % 128 = q.val := by omega
  congr 1
  · funext k
    exact congrArg p (Fin.ext (by show (128 * h.val + q.val) / 128 * 128 + k.val = _; rw [e0]))
  · exact Fin.ext e1

/-- A load of some rows of a whole buffer that holds `x`. -/
theorem load_rows {sig : RefSig} {F : FTy → Type} [FloatOps F] {n0 n m : ℕ} {e : EltTy} (M : Memref sig .tc .vmem (⟨2, ![n0, n]⟩ : Shape) e)
    (hM : M.IsWhole) (x : Vec F (⟨2, ![n0, n]⟩ : Shape) e) (o : ℕ) (inb : ∀ a, (![o, 0] : Fin 2 → ℕ) a + (![m, n] : Fin 2 → ℕ) a ≤ (⟨2, ![n0, n]⟩ : Shape).size a)
    (a : Fin m) (b : Fin n) (r : Fin n0) (hr : r.val = o + a.val) :
    M.view.readAt (Elt F) (Rect.unit (s := (⟨2, ![n0, n]⟩ : Shape)) ![o, 0] ![m, n] inb).toLoadRect (hM.unread x) (ix2 a b) = x (ix2 r b) := by
  rw [View.readAt_unit _ _ inb rfl inb, hM.read_unread]
  refine congrArg x (funext fun d => Fin.ext ?_)
  match d with
  | ⟨0, _⟩ => show o + 1 * a.val = r.val; omega
  | ⟨1, _⟩ => show 0 + 1 * b.val = b.val; omega

/-- The cosines of position `r`: one at the context's positions, which are not turned. -/
def cosAt (x : (⟨3, ![8192, 2, 32]⟩ : Shape).Idx → EReal) (r : Fin 8448) (j : Fin 128) : EReal :=
  if h : r.val < 256 then 1 else x (ix3 (⟨r.val - 256, by omega⟩ : Fin 8192) (⟨j.val / 64, by omega⟩ : Fin 2) (⟨j.val % 32, by omega⟩ : Fin 32))

/-- The sines of position `r`, with the sign of the half: zero at the context's positions. -/
def sinAt (x : (⟨3, ![8192, 2, 32]⟩ : Shape).Idx → EReal) (r : Fin 8448) (j : Fin 128) : EReal :=
  if h : r.val < 256 then 0
  else if j.val % 64 < 32 then -x (ix3 (⟨r.val - 256, by omega⟩ : Fin 8192) (⟨j.val / 64, by omega⟩ : Fin 2) (⟨j.val % 32, by omega⟩ : Fin 32))
  else x (ix3 (⟨r.val - 256, by omega⟩ : Fin 8192) (⟨j.val / 64, by omega⟩ : Fin 2) (⟨j.val % 32, by omega⟩ : Fin 32))

theorem turned_ctx (x y : (⟨3, ![8192, 2, 32]⟩ : Shape).Idx → EReal) (z : Fin 128 → EReal) (r : Fin 8448) (h : r.val < 256) (q : Fin 128) :
    turned z (cosAt x r) (sinAt y r) q = z q := by
  unfold turned cosAt sinAt
  rw [dif_pos h, dif_pos h, mul_one, mul_zero, add_zero]

theorem turned_first (x y : (⟨3, ![8192, 2, 32]⟩ : Shape).Idx → EReal) (z : Fin 128 → EReal) (r : Fin 8448) (h : ¬r.val < 256) (q : Fin 128)
    (hq : q.val / 32 % 2 < 1) : turned z (cosAt x r) (sinAt y r) q
      = z ⟨q.val / 64 * 64 + q.val % 32, by omega⟩ * x (ix3 (⟨r.val - 256, by omega⟩ : Fin 8192) (⟨q.val / 64, by omega⟩ : Fin 2) (⟨q.val % 32, by omega⟩ : Fin 32))
        - z ⟨q.val / 64 * 64 + 32 + q.val % 32, by omega⟩ * y (ix3 (⟨r.val - 256, by omega⟩ : Fin 8192) (⟨q.val / 64, by omega⟩ : Fin 2) (⟨q.val % 32, by omega⟩ : Fin 32)) := by
  have hm : q.val % 64 < 32 := by omega
  have e0 : (⟨q.val / 64 * 64 + q.val % 32, by omega⟩ : Fin 128) = q := Fin.ext (by show q.val / 64 * 64 + q.val % 32 = q.val; omega)
  have e1 : other q = ⟨q.val / 64 * 64 + 32 + q.val % 32, by omega⟩ := by
    unfold other; rw [if_pos hm]; exact Fin.ext (by show (q.val + 32) % 128 = q.val / 64 * 64 + 32 + q.val % 32; omega)
  unfold turned cosAt sinAt
  rw [dif_neg h, dif_neg h, if_pos hm, e0, e1, mul_neg, ← sub_eq_add_neg]

theorem turned_second (x y : (⟨3, ![8192, 2, 32]⟩ : Shape).Idx → EReal) (z : Fin 128 → EReal) (r : Fin 8448) (h : ¬r.val < 256) (q : Fin 128)
    (hq : ¬q.val / 32 % 2 < 1) : turned z (cosAt x r) (sinAt y r) q
      = z ⟨q.val / 64 * 64 + 32 + q.val % 32, by omega⟩ * x (ix3 (⟨r.val - 256, by omega⟩ : Fin 8192) (⟨q.val / 64, by omega⟩ : Fin 2) (⟨q.val % 32, by omega⟩ : Fin 32))
        + z ⟨q.val / 64 * 64 + q.val % 32, by omega⟩ * y (ix3 (⟨r.val - 256, by omega⟩ : Fin 8192) (⟨q.val / 64, by omega⟩ : Fin 2) (⟨q.val % 32, by omega⟩ : Fin 32)) := by
  have hm : ¬q.val % 64 < 32 := by omega
  have e0 : (⟨q.val / 64 * 64 + 32 + q.val % 32, by omega⟩ : Fin 128) = q := Fin.ext (by show q.val / 64 * 64 + 32 + q.val % 32 = q.val; omega)
  have e1 : other q = ⟨q.val / 64 * 64 + q.val % 32, by omega⟩ := by
    unfold other; rw [if_neg hm]; exact Fin.ext (by show (q.val + 96) % 128 = q.val / 64 * 64 + q.val % 32; omega)
  unfold turned cosAt sinAt
  rw [dif_neg h, dif_neg h, if_neg hm, e0, e1]

end Cert.Mix

end
-- ==== Proof.Mix.Tile11.lean ====
module

public import proofs.«01_k».proof.Proof.Mix.Row
public import proofs.«01_k».proof.Proof.Gen.Kernel11Ideal.Frame
public import Idealize.ShloMosaic.Lib.Pointwise
public import Idealize.ShloMosaic.Lib.Pipeline.ValueKit.Tiles

@[expose] public section

set_option maxRecDepth 16384

/-!
The input projection of the mixers: what a grid point leaves in each of its six outputs, at a position of its 256 rows.
-/

noncomputable section

namespace Cert.Kernel11Ideal.Tile

open Idealize.ShloMosaic Idealize.ShloMosaic.TcCoe Idealize.SL.Sem
open Cert.Kernel11Ideal Cert.Kernel11Ideal.Gen Cert.Ffn Cert.Prod Cert.Merge Cert.Mix

theorem at_zero : ∀ a : Fin 2, (![0, 0] : Fin 2 → ℕ) a = 0 := by decide
theorem at_zero3 : ∀ a : Fin 3, (![0, 0, 0] : Fin 3 → ℕ) a = 0 := by decide
theorem below {k o n : ℕ} (q : Fin k) (h : o + k ≤ n) : o + q.val < n := by omega

/-- The mask of the kernel: the lanes of the first half of an axis. -/
theorem mask : ∀ b : Fin 128, (IntOp.cmpi CmpIPredicate.slt
            (Scalar.select
              (IntOp.andi
                (IntOp.xori
                  (IntOp.cmpi CmpIPredicate.slt
                    (IntOp.remsi ArithUnit.vector (BitVec.ofNat 32 b.val)
                      (Scalar.select (Scalar.cmpi CmpIPredicate.eq 64#32 0#32) 1#32 64#32))
                    0#32)
                  (Scalar.cmpi CmpIPredicate.slt (Scalar.select (Scalar.cmpi CmpIPredicate.eq 64#32 0#32) 1#32 64#32)
                    0#32))
                (IntOp.cmpi CmpIPredicate.ne
                  (IntOp.remsi ArithUnit.vector (BitVec.ofNat 32 b.val)
                    (Scalar.select (Scalar.cmpi CmpIPredicate.eq 64#32 0#32) 1#32 64#32))
                  0#32))
              (IntOp.addi
                (IntOp.remsi ArithUnit.vector (BitVec.ofNat 32 b.val)
                  (Scalar.select (Scalar.cmpi CmpIPredicate.eq 64#32 0#32) 1#32 64#32))
                (Scalar.select (Scalar.cmpi CmpIPredicate.eq 64#32 0#32) 1#32 64#32))
              (IntOp.remsi ArithUnit.vector (BitVec.ofNat 32 b.val)
                (Scalar.select (Scalar.cmpi CmpIPredicate.eq 64#32 0#32) 1#32 64#32)))
            32#32) = if b.val % 64 < 32 then 1#1 else 0#1 := by decide +kernel

/-- A choice by the mask between a head rolled by 96 and by 32 is the other half of the axis. -/
theorem choose (n : Fin 128 → EReal) (b : Fin 128) (h1 : (b.val + 128 - 96) % 128 < 128) (h2 : (b.val + 128 - 32) % 128 < 128) :
    Scalar.select (if b.val % 64 < 32 then 1#1 else 0#1) (n ⟨(b.val + 128 - 96) % 128, h1⟩) (n ⟨(b.val + 128 - 32) % 128, h2⟩) = n (other b) := by
  unfold other
  by_cases h : b.val % 64 < 32
  · rw [if_pos h, if_pos h]
    refine (if_pos (by decide)).trans (congrArg n (Fin.ext ?_))
    show (b.val + 128 - 96) % 128 = (b.val + 32) % 128; omega
  · rw [if_neg h, if_neg h]
    refine (if_neg (by decide)).trans (congrArg n (Fin.ext ?_))
    show (b.val + 128 - 32) % 128 = (b.val + 96) % 128; omega

/-- A part of 128 columns of a product, at row `a`. -/
def part {n : ℕ} (p : Vec Ideal (⟨2, ![256, n]⟩ : Shape) .bf16) (o : ℕ) (h : o + 128 ≤ n) (a : Fin 256) (k : Fin 128) : EReal := p (ix2 a ⟨o + k.val, by omega⟩)

section
variable (c s : Vec Ideal S256x128 .f32) (g : Vec Ideal S1x128 .f32) (a : Fin 256) (b : Fin 128)

theorem q0 (v : FVec Ideal S256x1024 .bf16) (w : Vec Ideal S1024x1024 .bf16) : (k0_pay14 (F := Ideal) c s (k0_pay11 v w) g (k0_pay12 v w) k0_pay13 (ix2 a b) : EReal)
    = head (part (n := 1024) (k0_pay10 v w) 0 (by decide) a) (fun k => g (ix2 0 k)) (fun k => c (ix2 a k)) (fun k => s (ix2 a k)) b := by
  unfold k0_pay14 k0_pay12 k0_pay11 k0_pay13
  generalize k0_pay10 v w = p
  pointwise
  rw [mask b]
  unfold head turned
  rw [← choose (headNorm _ _) b (Nat.mod_lt _ (by decide)) (Nat.mod_lt _ (by decide))]
  unfold headNorm part
  simp only [Nat.zero_add]

theorem q1 (p : FVec Ideal S256x1024 .bf16) : (k0_pay17 (F := Ideal) c s (k0_pay15 p) g (k0_pay16 p) (ix2 a b) : EReal)
    = head (part (n := 1024) (p) 128 (by decide) a) (fun k => g (ix2 0 k)) (fun k => c (ix2 a k)) (fun k => s (ix2 a k)) b := by
  unfold k0_pay17 k0_pay16 k0_pay15
  pointwise
  rw [mask b]
  unfold head turned
  rw [← choose (headNorm _ _) b (Nat.mod_lt _ (by decide)) (Nat.mod_lt _ (by decide))]
  unfold headNorm part
  rfl

theorem q2 (p : FVec Ideal S256x1024 .bf16) : (k0_pay20 (F := Ideal) c s (k0_pay18 p) g (k0_pay19 p) (Scalar.ofBits FTy.f32 0x358637BD#32) (ix2 a b) : EReal)
    = head (part (n := 1024) (p) 256 (by decide) a) (fun k => g (ix2 0 k)) (fun k => c (ix2 a k)) (fun k => s (ix2 a k)) b := by
  unfold k0_pay20 k0_pay19 k0_pay18
  pointwise
  rw [mask b]
  unfold head turned
  rw [← choose (headNorm _ _) b (Nat.mod_lt _ (by decide)) (Nat.mod_lt _ (by decide))]
  unfold headNorm part
  rfl

theorem q3 (p : FVec Ideal S256x1024 .bf16) : (k0_pay24 (F := Ideal) c s (k0_pay21 p) g (k0_pay22 p) k0_pay23 (ix2 a b) : EReal)
    = head (part (n := 1024) (p) 384 (by decide) a) (fun k => g (ix2 0 k)) (fun k => c (ix2 a k)) (fun k => s (ix2 a k)) b := by
  unfold k0_pay24 k0_pay22 k0_pay21 k0_pay23
  pointwise
  rw [mask b]
  unfold head turned
  rw [← choose (headNorm _ _) b (Nat.mod_lt _ (by decide)) (Nat.mod_lt _ (by decide))]
  unfold headNorm part
  rfl

theorem q4 (p : FVec Ideal S256x1024 .bf16) : (k0_pay27 (F := Ideal) c s (k0_pay25 p) g (k0_pay26 p) (ix2 a b) : EReal)
    = head (part (n := 1024) (p) 512 (by decide) a) (fun k => g (ix2 0 k)) (fun k => c (ix2 a k)) (fun k => s (ix2 a k)) b := by
  unfold k0_pay27 k0_pay26 k0_pay25
  pointwise
  rw [mask b]
  unfold head turned
  rw [← choose (headNorm _ _) b (Nat.mod_lt _ (by decide)) (Nat.mod_lt _ (by decide))]
  unfold headNorm part
  rfl

theorem q5 (p : FVec Ideal S256x1024 .bf16) : (k0_pay30 (F := Ideal) c s (k0_pay28 p) g (k0_pay29 p) (ix2 a b) : EReal)
    = head (part (n := 1024) (p) 640 (by decide) a) (fun k => g (ix2 0 k)) (fun k => c (ix2 a k)) (fun k => s (ix2 a k)) b := by
  unfold k0_pay30 k0_pay29 k0_pay28
  pointwise
  rw [mask b]
  unfold head turned
  rw [← choose (headNorm _ _) b (Nat.mod_lt _ (by decide)) (Nat.mod_lt _ (by decide))]
  unfold headNorm part
  rfl

theorem q6 (p : FVec Ideal S256x1024 .bf16) : (k0_pay33 (F := Ideal) c s (k0_pay31 p) g (k0_pay32 p) (ix2 a b) : EReal)
    = head (part (n := 1024) (p) 768 (by decide) a) (fun k => g (ix2 0 k)) (fun k => c (ix2 a k)) (fun k => s (ix2 a k)) b := by
  unfold k0_pay33 k0_pay32 k0_pay31
  pointwise
  rw [mask b]
  unfold head turned
  rw [← choose (headNorm _ _) b (Nat.mod_lt _ (by decide)) (Nat.mod_lt _ (by decide))]
  unfold headNorm part
  rfl

theorem q7 (p : FVec Ideal S256x1024 .bf16) : (k0_pay35 (F := Ideal) c s g (k0_pay34 p) (ix2 a b) : EReal)
    = head (part (n := 1024) (p) 896 (by decide) a) (fun k => g (ix2 0 k)) (fun k => c (ix2 a k)) (fun k => s (ix2 a k)) b := by
  unfold k0_pay35 k0_pay34
  pointwise
  rw [mask b]
  unfold head turned
  rw [← choose (headNorm _ _) b (Nat.mod_lt _ (by decide)) (Nat.mod_lt _ (by decide))]
  unfold headNorm part
  rfl

theorem k0 (v : FVec Ideal S256x1024 .bf16) (w : Vec Ideal S512x1024 .bf16) : (k0_pay39 (F := Ideal) c s (k0_pay37 v w) g (k0_pay38 v w) (ix2 a b) : EReal)
    = head (part (n := 512) (k0_pay36 v w) 0 (by decide) a) (fun k => g (ix2 0 k)) (fun k => c (ix2 a k)) (fun k => s (ix2 a k)) b := by
  unfold k0_pay39 k0_pay38 k0_pay37
  generalize k0_pay36 v w = p
  pointwise
  rw [mask b]
  unfold head turned
  rw [← choose (headNorm _ _) b (Nat.mod_lt _ (by decide)) (Nat.mod_lt _ (by decide))]
  unfold headNorm part
  simp only [Nat.zero_add]

theorem k1 (p : FVec Ideal S256x512 .bf16) : (k0_pay42 (F := Ideal) c s (k0_pay40 p) g (k0_pay41 p) (Scalar.ofBits FTy.f32 0x43000000#32) (ix2 a b) : EReal)
    = head (part (n := 512) (p) 128 (by decide) a) (fun k => g (ix2 0 k)) (fun k => c (ix2 a k)) (fun k => s (ix2 a k)) b := by
  unfold k0_pay42 k0_pay41 k0_pay40
  pointwise
  rw [mask b]
  unfold head turned
  rw [← choose (headNorm _ _) b (Nat.mod_lt _ (by decide)) (Nat.mod_lt _ (by decide))]
  unfold headNorm part
  rfl

end

theorem cos_all (x : Vec Ideal S256x128 .f32) : k0_pay5 (F := Ideal) x = x := shapeCast_self _ _
theorem sin_all (x : Vec Ideal S256x128 .f32) : k0_pay6 (F := Ideal) x = x := shapeCast_self _ _

theorem prod1 (h : FVec Ideal S256x1024 .bf16) (w : Vec Ideal S1024x1024 .bf16) (a : Fin 256) (b : Fin 1024) :
    (k0_pay1 (F := Ideal) h w (ix2 a b) : EReal) = dotRow (fun k => h (ix2 a k)) (fun k => w (ix2 b k)) := by
  unfold k0_pay1 dotRow
  pointwise

theorem prod7 (h : FVec Ideal S256x1024 .bf16) (w : Vec Ideal S1024x1024 .bf16) (a : Fin 256) (b : Fin 1024) :
    (k0_pay7 (F := Ideal) h w (ix2 a b) : EReal) = dotRow (fun k => h (ix2 a k)) (fun k => w (ix2 b k)) := by
  unfold k0_pay7 dotRow
  pointwise

theorem prod8 (h : FVec Ideal S256x1024 .bf16) (w : Vec Ideal S1024x1024 .bf16) (a : Fin 256) (b : Fin 1024) :
    (k0_pay8 (F := Ideal) h w (ix2 a b) : EReal) = dotRow (fun k => h (ix2 a k)) (fun k => w (ix2 b k)) := by
  unfold k0_pay8 dotRow
  pointwise

theorem prod9 (h : FVec Ideal S256x1024 .bf16) (w : Vec Ideal S1024x1024 .bf16) (a : Fin 256) (b : Fin 1024) :
    (k0_pay9 (F := Ideal) h w (ix2 a b) : EReal) = dotRow (fun k => h (ix2 a k)) (fun k => w (ix2 b k)) := by
  unfold k0_pay9 dotRow
  pointwise

theorem prod10 (h : FVec Ideal S256x1024 .bf16) (w : Vec Ideal S1024x1024 .bf16) (a : Fin 256) (b : Fin 1024) :
    (k0_pay10 (F := Ideal) h w (ix2 a b) : EReal) = dotRow (fun k => h (ix2 a k)) (fun k => w (ix2 b k)) := by
  unfold k0_pay10 dotRow
  pointwise

theorem prod36 (h : FVec Ideal S256x1024 .bf16) (w : Vec Ideal S512x1024 .bf16) (a : Fin 256) (b : Fin 512) :
    (k0_pay36 (F := Ideal) h w (ix2 a b) : EReal) = dotRow (fun k => h (ix2 a k)) (fun k => w (ix2 b k)) := by
  unfold k0_pay36 dotRow
  pointwise

theorem prod44 (h : FVec Ideal S256x1024 .bf16) (w : Vec Ideal S1024x1024 .bf16) (a : Fin 256) (b : Fin 1024) :
    (k0_pay44 (F := Ideal) h w (ix2 a b) : EReal) = dotRow (fun k => h (ix2 a k)) (fun k => w (ix2 b k)) := by
  unfold k0_pay44 dotRow
  pointwise

section
variable (i : grid0.Coords) (x0 x1 x2 : Vec Ideal S256x1024 .f32) (x3 : Vec Ideal S1x16x1024 .f32) (x4 : Vec Ideal S1x1024 .f32) (x5 : Vec Ideal S6656x1024 .bf16)
  (x6 x7 : Vec Ideal S1x128 .f32) (x8 x9 : Vec Ideal S256x128 .f32)

/-- A row of the point's tile: the context at the first point, the sequence at the others. -/
def pick (a : Fin 256) (k : Fin 1024) : EReal :=
  Scalar.select (Scalar.cmpi CmpIPredicate.eq (BitVec.ofNat 32 (i 0).val) 0#32) (x0 (ix2 a k)) (x1 (ix2 a k))

/-- The residual of a tile's row. -/
def xrow (a : Fin 256) : Fin 1024 → EReal := joined (pick i x0 x1 a) (fun k => x3 (ix3 0 2 k)) (fun k => x2 (ix2 a k))

theorem xrow_at (a : Fin 256) (b : Fin 1024) : (k0_pay3 (F := Ideal) i x3 x0 x1 x2 (ix2 a b) : EReal) = xrow i x0 x1 x2 x3 a b := by
  unfold k0_pay3 k0_pay2
  pointwise
  rfl

/-- The normed row of a tile. -/
def hrow (a : Fin 256) : Fin 1024 → EReal :=
  normed (xrow i x0 x1 x2 x3 a) (fun k => x4 (ix2 0 k)) (fun k => x3 (ix3 0 3 k)) (fun k => x3 (ix3 0 4 k))

theorem norm_at (a : Fin 256) (b : Fin 1024) : (k0_pay4 (F := Ideal) i x3 x0 x1 x2 x4 (ix2 a b) : EReal) = hrow i x0 x1 x2 x3 x4 a b := by
  unfold hrow normed
  simp only [← xrow_at]
  unfold k0_pay4 k0_pay2
  generalize k0_pay3 i x3 x0 x1 x2 = x
  pointwise

/-- The projection of a tile's row. -/
def proj (a : Fin 256) (n : Fin 6656) : EReal := dotRow (hrow i x0 x1 x2 x3 x4 a) (fun k => x5 (ix2 n k))

theorem proj_of (M : Memref sig .tc .vmem S6656x1024 .bf16) (hM : M.IsWhole) (o m : ℕ)
    (inb : ∀ a, (![o, 0] : Fin 2 → ℕ) a + (![m, 1024] : Fin 2 → ℕ) a ≤ S6656x1024.size a) (a : Fin 256) (q : Fin m) (n : Fin 6656) (hn : n.val = o + q.val) :
    dotRow (fun k => k0_pay4 (F := Ideal) i x3 x0 x1 x2 x4 (ix2 a k))
      (fun k => M.view.readAt (Elt Ideal) (Rect.unit (s := S6656x1024) ![o, 0] ![m, 1024] inb).toLoadRect (hM.unread x5) (ix2 q k))
      = proj i x0 x1 x2 x3 x4 x5 a n := by
  unfold proj dotRow
  refine Finset.sum_congr rfl fun k _ => ?_
  exact congrArg₂ (· * ·) (norm_at i x0 x1 x2 x3 x4 a k) (load_rows M hM x5 o inb q k n hn)

/-- The queries' heads of a tile's row, and the keys'. -/
def qrow (a : Fin 256) : Fin 1024 → EReal := heads (n := 8) (fun b => proj i x0 x1 x2 x3 x4 x5 a ⟨3072 + b.val, by omega⟩)
  (fun k => x6 (ix2 0 k)) (fun k => x8 (ix2 a k)) (fun k => x9 (ix2 a k))
def krow (a : Fin 256) : Fin 256 → EReal := heads (n := 2) (fun b => proj i x0 x1 x2 x3 x4 x5 a ⟨4096 + b.val, by omega⟩)
  (fun k => x7 (ix2 0 k)) (fun k => x8 (ix2 a k)) (fun k => x9 (ix2 a k))

section
variable (c : Dev nD) (arg1 : Memref sig .tc .vmem S256x1024 .f32) (harg1 : arg1.IsWhole)
  (arg2 : Memref sig .tc .vmem S256x1024 .f32) (harg2 : arg2.IsWhole)
  (arg3 : Memref sig .tc .vmem S256x1024 .f32) (harg3 : arg3.IsWhole)
  (arg4 : Memref sig .tc .vmem S1x16x1024 .f32) (harg4 : arg4.IsWhole)
  (arg5 : Memref sig .tc .vmem S1x1024 .f32) (harg5 : arg5.IsWhole)
  (arg6 : Memref sig .tc .vmem S6656x1024 .bf16) (harg6 : arg6.IsWhole)
  (arg7 : Memref sig .tc .vmem S1x128 .f32) (harg7 : arg7.IsWhole)
  (arg8 : Memref sig .tc .vmem S1x128 .f32) (harg8 : arg8.IsWhole)
  (arg9 : Memref sig .tc .vmem S256x128 .f32) (harg9 : arg9.IsWhole)
  (arg10 : Memref sig .tc .vmem S256x128 .f32) (harg10 : arg10.IsWhole)
  (arg11 : Memref sig .tc .vmem S256x1024 .f32) (harg11 : arg11.IsWhole)
  (arg12 : Memref sig .tc .vmem S256x1024 .bf16) (harg12 : arg12.IsWhole)
  (arg13 : Memref sig .tc .vmem S256x6656 .bf16) (harg13 : arg13.IsWhole)
  (arg14 : Memref sig .tc .vmem S256x1024 .bf16) (harg14 : arg14.IsWhole)
  (arg15 : Memref sig .tc .vmem S256x256 .bf16) (harg15 : arg15.IsWhole)
  (arg16 : Memref sig .tc .vmem S256x256 .bf16) (harg16 : arg16.IsWhole)

theorem out10_at (a : Fin 256) (b : Fin 1024) : (out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 (ix2 a b) : EReal) = xrow i x0 x1 x2 x3 a b := by
  unfold out0_A_10 kernelRun0_A
  dsimp only
  rw [View.read_writes_junk_eq_canon]
  refine (congrFun (canon_all _ at_zero _) (ix2 a b)).trans ?_
  simp only [kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r, kernelRun0_A.sl.cst_70, kernelRun0_A.sl.cst_179,
    load_all arg1 harg1 x0 at_zero, load_all arg2 harg2 x1 at_zero, load_all arg3 harg3 x2 at_zero, load_all arg4 harg4 x3 at_zero3, load_all arg5 harg5 x4 at_zero,
    load_all arg7 harg7 x6 at_zero, load_all arg8 harg8 x7 at_zero, load_all arg9 harg9 x8 at_zero, load_all arg10 harg10 x9 at_zero, cos_all, sin_all]
  exact xrow_at i x0 x1 x2 x3 a b

theorem out11_at (a : Fin 256) (b : Fin 1024) : (out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 (ix2 a b) : EReal) = hrow i x0 x1 x2 x3 x4 a b := by
  unfold out0_A_11 kernelRun0_A
  dsimp only
  rw [View.read_writes_junk_eq_canon]
  refine (congrFun (canon_all _ at_zero _) (ix2 a b)).trans ?_
  simp only [kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r, kernelRun0_A.sl.cst_70, kernelRun0_A.sl.cst_179,
    load_all arg1 harg1 x0 at_zero, load_all arg2 harg2 x1 at_zero, load_all arg3 harg3 x2 at_zero, load_all arg4 harg4 x3 at_zero3, load_all arg5 harg5 x4 at_zero,
    load_all arg7 harg7 x6 at_zero, load_all arg8 harg8 x7 at_zero, load_all arg9 harg9 x8 at_zero, load_all arg10 harg10 x9 at_zero, cos_all, sin_all]
  exact norm_at i x0 x1 x2 x3 x4 a b

theorem out12_at (a : Fin 256) (b : Fin 6656) : (out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 (ix2 a b) : EReal) = proj i x0 x1 x2 x3 x4 x5 a b := by
  unfold out0_A_12 kernelRun0_A
  dsimp only
  rw [View.read_writes_junk_eq_canon]
  canon_tiles x h using (cover0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 (ix2 a b))
  · obtain ⟨p, q, rfl⟩ := pair x
    obtain rfl : a = p := Fin.ext h0
    obtain rfl : b = ⟨5632 + q.val, below q (by decide)⟩ := Fin.ext h1
    simp only [kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r, kernelRun0_A.sl.cst_70, kernelRun0_A.sl.cst_179,
    load_all arg1 harg1 x0 at_zero, load_all arg2 harg2 x1 at_zero, load_all arg3 harg3 x2 at_zero, load_all arg4 harg4 x3 at_zero3, load_all arg5 harg5 x4 at_zero,
    load_all arg7 harg7 x6 at_zero, load_all arg8 harg8 x7 at_zero, load_all arg9 harg9 x8 at_zero, load_all arg10 harg10 x9 at_zero, cos_all, sin_all]
    exact (prod1 _ _ a q).trans (proj_of i x0 x1 x2 x3 x4 x5 arg6 harg6 5632 1024 _ a q _ rfl)
  · obtain ⟨p, q, rfl⟩ := pair x
    obtain rfl : a = p := Fin.ext h0
    obtain rfl : b = ⟨4608 + q.val, below q (by decide)⟩ := Fin.ext h1
    simp only [kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r, kernelRun0_A.sl.cst_70, kernelRun0_A.sl.cst_179,
    load_all arg1 harg1 x0 at_zero, load_all arg2 harg2 x1 at_zero, load_all arg3 harg3 x2 at_zero, load_all arg4 harg4 x3 at_zero3, load_all arg5 harg5 x4 at_zero,
    load_all arg7 harg7 x6 at_zero, load_all arg8 harg8 x7 at_zero, load_all arg9 harg9 x8 at_zero, load_all arg10 harg10 x9 at_zero, cos_all, sin_all]
    exact (prod44 _ _ a q).trans (proj_of i x0 x1 x2 x3 x4 x5 arg6 harg6 4608 1024 _ a q _ rfl)
  · obtain ⟨p, q, rfl⟩ := pair x
    obtain rfl : a = p := Fin.ext h0
    obtain rfl : b = ⟨4096 + q.val, below q (by decide)⟩ := Fin.ext h1
    simp only [kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r, kernelRun0_A.sl.cst_70, kernelRun0_A.sl.cst_179,
    load_all arg1 harg1 x0 at_zero, load_all arg2 harg2 x1 at_zero, load_all arg3 harg3 x2 at_zero, load_all arg4 harg4 x3 at_zero3, load_all arg5 harg5 x4 at_zero,
    load_all arg7 harg7 x6 at_zero, load_all arg8 harg8 x7 at_zero, load_all arg9 harg9 x8 at_zero, load_all arg10 harg10 x9 at_zero, cos_all, sin_all]
    exact (prod36 _ _ a q).trans (proj_of i x0 x1 x2 x3 x4 x5 arg6 harg6 4096 512 _ a q _ rfl)
  · obtain ⟨p, q, rfl⟩ := pair x
    obtain rfl : a = p := Fin.ext h0
    obtain rfl : b = ⟨3072 + q.val, below q (by decide)⟩ := Fin.ext h1
    simp only [kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r, kernelRun0_A.sl.cst_70, kernelRun0_A.sl.cst_179,
    load_all arg1 harg1 x0 at_zero, load_all arg2 harg2 x1 at_zero, load_all arg3 harg3 x2 at_zero, load_all arg4 harg4 x3 at_zero3, load_all arg5 harg5 x4 at_zero,
    load_all arg7 harg7 x6 at_zero, load_all arg8 harg8 x7 at_zero, load_all arg9 harg9 x8 at_zero, load_all arg10 harg10 x9 at_zero, cos_all, sin_all]
    exact (prod10 _ _ a q).trans (proj_of i x0 x1 x2 x3 x4 x5 arg6 harg6 3072 1024 _ a q _ rfl)
  · obtain ⟨p, q, rfl⟩ := pair x
    obtain rfl : a = p := Fin.ext h0
    obtain rfl : b = ⟨2048 + q.val, below q (by decide)⟩ := Fin.ext h1
    simp only [kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r, kernelRun0_A.sl.cst_70, kernelRun0_A.sl.cst_179,
    load_all arg1 harg1 x0 at_zero, load_all arg2 harg2 x1 at_zero, load_all arg3 harg3 x2 at_zero, load_all arg4 harg4 x3 at_zero3, load_all arg5 harg5 x4 at_zero,
    load_all arg7 harg7 x6 at_zero, load_all arg8 harg8 x7 at_zero, load_all arg9 harg9 x8 at_zero, load_all arg10 harg10 x9 at_zero, cos_all, sin_all]
    exact (prod9 _ _ a q).trans (proj_of i x0 x1 x2 x3 x4 x5 arg6 harg6 2048 1024 _ a q _ rfl)
  · obtain ⟨p, q, rfl⟩ := pair x
    obtain rfl : a = p := Fin.ext h0
    obtain rfl : b = ⟨1024 + q.val, below q (by decide)⟩ := Fin.ext h1
    simp only [kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r, kernelRun0_A.sl.cst_70, kernelRun0_A.sl.cst_179,
    load_all arg1 harg1 x0 at_zero, load_all arg2 harg2 x1 at_zero, load_all arg3 harg3 x2 at_zero, load_all arg4 harg4 x3 at_zero3, load_all arg5 harg5 x4 at_zero,
    load_all arg7 harg7 x6 at_zero, load_all arg8 harg8 x7 at_zero, load_all arg9 harg9 x8 at_zero, load_all arg10 harg10 x9 at_zero, cos_all, sin_all]
    exact (prod8 _ _ a q).trans (proj_of i x0 x1 x2 x3 x4 x5 arg6 harg6 1024 1024 _ a q _ rfl)
  · obtain ⟨p, q, rfl⟩ := pair x
    obtain rfl : a = p := Fin.ext h0
    obtain rfl : b = ⟨0 + q.val, below q (by decide)⟩ := Fin.ext (h1.trans (Nat.zero_add _).symm)
    simp only [kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r, kernelRun0_A.sl.cst_70, kernelRun0_A.sl.cst_179,
    load_all arg1 harg1 x0 at_zero, load_all arg2 harg2 x1 at_zero, load_all arg3 harg3 x2 at_zero, load_all arg4 harg4 x3 at_zero3, load_all arg5 harg5 x4 at_zero,
    load_all arg7 harg7 x6 at_zero, load_all arg8 harg8 x7 at_zero, load_all arg9 harg9 x8 at_zero, load_all arg10 harg10 x9 at_zero, cos_all, sin_all]
    exact (prod7 _ _ a q).trans (proj_of i x0 x1 x2 x3 x4 x5 arg6 harg6 0 1024 _ a q _ rfl)

theorem out13_at (a : Fin 256) (b : Fin 1024) : (out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 (ix2 a b) : EReal) = qrow i x0 x1 x2 x3 x4 x5 x6 x8 x9 a b := by
  unfold out0_A_13 kernelRun0_A
  dsimp only
  rw [View.read_writes_junk_eq_canon]
  simp only [kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r, kernelRun0_A.sl.cst_70, kernelRun0_A.sl.cst_179,
    load_all arg1 harg1 x0 at_zero, load_all arg2 harg2 x1 at_zero, load_all arg3 harg3 x2 at_zero, load_all arg4 harg4 x3 at_zero3, load_all arg5 harg5 x4 at_zero,
    load_all arg7 harg7 x6 at_zero, load_all arg8 harg8 x7 at_zero, load_all arg9 harg9 x8 at_zero, load_all arg10 harg10 x9 at_zero, cos_all, sin_all]
  canon_tiles x h
  · obtain ⟨p, q, rfl⟩ := pair x
    obtain rfl : a = p := Fin.ext h0
    obtain rfl : b = ⟨896 + q.val, below q (by decide)⟩ := Fin.ext h1
    refine (Tile.q7 x8 x9 x6 a q _).trans (Eq.trans ?_ (heads_at (n := 8) _ _ _ _ ⟨7, by decide⟩ q).symm)
    exact congrArg (fun f => head f _ _ _ q) (funext fun k => (prod10 _ _ a _).trans (proj_of i x0 x1 x2 x3 x4 x5 arg6 harg6 3072 1024 _ a _ _ rfl))
  · obtain ⟨p, q, rfl⟩ := pair x
    obtain rfl : a = p := Fin.ext h0
    obtain rfl : b = ⟨768 + q.val, below q (by decide)⟩ := Fin.ext h1
    refine (Tile.q6 x8 x9 x6 a q _).trans (Eq.trans ?_ (heads_at (n := 8) _ _ _ _ ⟨6, by decide⟩ q).symm)
    exact congrArg (fun f => head f _ _ _ q) (funext fun k => (prod10 _ _ a _).trans (proj_of i x0 x1 x2 x3 x4 x5 arg6 harg6 3072 1024 _ a _ _ rfl))
  · obtain ⟨p, q, rfl⟩ := pair x
    obtain rfl : a = p := Fin.ext h0
    obtain rfl : b = ⟨640 + q.val, below q (by decide)⟩ := Fin.ext h1
    refine (Tile.q5 x8 x9 x6 a q _).trans (Eq.trans ?_ (heads_at (n := 8) _ _ _ _ ⟨5, by decide⟩ q).symm)
    exact congrArg (fun f => head f _ _ _ q) (funext fun k => (prod10 _ _ a _).trans (proj_of i x0 x1 x2 x3 x4 x5 arg6 harg6 3072 1024 _ a _ _ rfl))
  · obtain ⟨p, q, rfl⟩ := pair x
    obtain rfl : a = p := Fin.ext h0
    obtain rfl : b = ⟨512 + q.val, below q (by decide)⟩ := Fin.ext h1
    refine (Tile.q4 x8 x9 x6 a q _).trans (Eq.trans ?_ (heads_at (n := 8) _ _ _ _ ⟨4, by decide⟩ q).symm)
    exact congrArg (fun f => head f _ _ _ q) (funext fun k => (prod10 _ _ a _).trans (proj_of i x0 x1 x2 x3 x4 x5 arg6 harg6 3072 1024 _ a _ _ rfl))
  · obtain ⟨p, q, rfl⟩ := pair x
    obtain rfl : a = p := Fin.ext h0
    obtain rfl : b = ⟨384 + q.val, below q (by decide)⟩ := Fin.ext h1
    refine (Tile.q3 x8 x9 x6 a q _).trans (Eq.trans ?_ (heads_at (n := 8) _ _ _ _ ⟨3, by decide⟩ q).symm)
    exact congrArg (fun f => head f _ _ _ q) (funext fun k => (prod10 _ _ a _).trans (proj_of i x0 x1 x2 x3 x4 x5 arg6 harg6 3072 1024 _ a _ _ rfl))
  · obtain ⟨p, q, rfl⟩ := pair x
    obtain rfl : a = p := Fin.ext h0
    obtain rfl : b = ⟨256 + q.val, below q (by decide)⟩ := Fin.ext h1
    refine (Tile.q2 x8 x9 x6 a q _).trans (Eq.trans ?_ (heads_at (n := 8) _ _ _ _ ⟨2, by decide⟩ q).symm)
    exact congrArg (fun f => head f _ _ _ q) (funext fun k => (prod10 _ _ a _).trans (proj_of i x0 x1 x2 x3 x4 x5 arg6 harg6 3072 1024 _ a _ _ rfl))
  · obtain ⟨p, q, rfl⟩ := pair x
    obtain rfl : a = p := Fin.ext h0
    obtain rfl : b = ⟨128 + q.val, below q (by decide)⟩ := Fin.ext h1
    refine (Tile.q1 x8 x9 x6 a q _).trans (Eq.trans ?_ (heads_at (n := 8) _ _ _ _ ⟨1, by decide⟩ q).symm)
    exact congrArg (fun f => head f _ _ _ q) (funext fun k => (prod10 _ _ a _).trans (proj_of i x0 x1 x2 x3 x4 x5 arg6 harg6 3072 1024 _ a _ _ rfl))
  · obtain ⟨p, q, rfl⟩ := pair x
    obtain rfl : a = p := Fin.ext h0
    obtain rfl : b = ⟨0 + q.val, below q (by decide)⟩ := Fin.ext (h1.trans (Nat.zero_add _).symm)
    refine (Tile.q0 x8 x9 x6 a q _ _).trans (Eq.trans ?_ (heads_at (n := 8) _ _ _ _ ⟨0, by decide⟩ q).symm)
    exact congrArg (fun f => head f _ _ _ q) (funext fun k => (prod10 _ _ a _).trans (proj_of i x0 x1 x2 x3 x4 x5 arg6 harg6 3072 1024 _ a _ _ rfl))

theorem out14_at (a : Fin 256) (b : Fin 256) : (out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 (ix2 a b) : EReal) = krow i x0 x1 x2 x3 x4 x5 x7 x8 x9 a b := by
  unfold out0_A_14 kernelRun0_A
  dsimp only
  rw [View.read_writes_junk_eq_canon]
  simp only [kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r, kernelRun0_A.sl.cst_70, kernelRun0_A.sl.cst_179,
    load_all arg1 harg1 x0 at_zero, load_all arg2 harg2 x1 at_zero, load_all arg3 harg3 x2 at_zero, load_all arg4 harg4 x3 at_zero3, load_all arg5 harg5 x4 at_zero,
    load_all arg7 harg7 x6 at_zero, load_all arg8 harg8 x7 at_zero, load_all arg9 harg9 x8 at_zero, load_all arg10 harg10 x9 at_zero, cos_all, sin_all]
  canon_tiles x h
  · obtain ⟨p, q, rfl⟩ := pair x
    obtain rfl : a = p := Fin.ext h0
    obtain rfl : b = ⟨128 + q.val, below q (by decide)⟩ := Fin.ext h1
    refine (Tile.k1 x8 x9 x7 a q _).trans (Eq.trans ?_ (heads_at (n := 2) _ _ _ _ ⟨1, by decide⟩ q).symm)
    exact congrArg (fun f => head f _ _ _ q) (funext fun k => (prod36 _ _ a _).trans (proj_of i x0 x1 x2 x3 x4 x5 arg6 harg6 4096 512 _ a _ _ rfl))
  · obtain ⟨p, q, rfl⟩ := pair x
    obtain rfl : a = p := Fin.ext h0
    obtain rfl : b = ⟨0 + q.val, below q (by decide)⟩ := Fin.ext (h1.trans (Nat.zero_add _).symm)
    refine (Tile.k0 x8 x9 x7 a q _ _).trans (Eq.trans ?_ (heads_at (n := 2) _ _ _ _ ⟨0, by decide⟩ q).symm)
    exact congrArg (fun f => head f _ _ _ q) (funext fun k => (prod36 _ _ a _).trans (proj_of i x0 x1 x2 x3 x4 x5 arg6 harg6 4096 512 _ a _ _ rfl))

theorem vals (p : FVec Ideal S256x512 .bf16) (a b : Fin 256) : (k0_pay43 (F := Ideal) p (ix2 a b) : EReal) = p (ix2 a ⟨256 + b.val, by omega⟩) := by
  unfold k0_pay43
  pointwise

theorem out15_at (a : Fin 256) (b : Fin 256) : (out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 (ix2 a b) : EReal) = proj i x0 x1 x2 x3 x4 x5 a ⟨4352 + b.val, by omega⟩ := by
  unfold out0_A_15 kernelRun0_A
  dsimp only
  rw [View.read_writes_junk_eq_canon]
  refine (congrFun (canon_all _ at_zero _) (ix2 a b)).trans ?_
  simp only [kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r, kernelRun0_A.sl.cst_70, kernelRun0_A.sl.cst_179,
    load_all arg1 harg1 x0 at_zero, load_all arg2 harg2 x1 at_zero, load_all arg3 harg3 x2 at_zero, load_all arg4 harg4 x3 at_zero3, load_all arg5 harg5 x4 at_zero,
    load_all arg7 harg7 x6 at_zero, load_all arg8 harg8 x7 at_zero, load_all arg9 harg9 x8 at_zero, load_all arg10 harg10 x9 at_zero, cos_all, sin_all]
  exact (vals _ a b).trans ((prod36 _ _ a _).trans (proj_of i x0 x1 x2 x3 x4 x5 arg6 harg6 4096 512 _ a _ _ (by show 4352 + b.val = 4096 + (256 + b.val); omega)))

end

end

end Cert.Kernel11Ideal.Tile

end
-- ==== Proof.Mix.Ref11.lean ====
module

public import proofs.«01_k».proof.Proof.Mix.Row
public import proofs.«01_k».proof.Proof.Gen.Reference11Ideal.Read
public import Idealize.ShloMosaic.Lib.Pointwise

@[expose] public section

set_option maxRecDepth 16384

/-!
The input projection of the mixers: the reference's results, position by position.
-/

noncomputable section

namespace Cert.Reference11Ideal.Rows

open Idealize.ShloMosaic Idealize.ShloMosaic.TcCoe Idealize.SL.Sem
open Cert.Reference11Ideal Cert.Reference11Ideal.Read Cert.Ffn Cert.Mix

variable (x0 : (⟨S256x1024, .f32⟩ : BufTy).Contents (Elt Ideal)) (x1 : (⟨S8192x1024, .f32⟩ : BufTy).Contents (Elt Ideal)) (x2 : (⟨S8448x1024, .f32⟩ : BufTy).Contents (Elt Ideal)) (x3 : (⟨S2x16x1024, .f32⟩ : BufTy).Contents (Elt Ideal)) (x4 : (⟨S1x1024, .f32⟩ : BufTy).Contents (Elt Ideal)) (x5 : (⟨S6656x1024, .bf16⟩ : BufTy).Contents (Elt Ideal)) (x6 x7 : (⟨S1x128, .f32⟩ : BufTy).Contents (Elt Ideal)) (x8 x9 : (⟨S8192x2x32, .f32⟩ : BufTy).Contents (Elt Ideal))

theorem gate_at (r : Fin 8448) (k : Fin 1024) : (val_main_v7 (F := Ideal) x3 (ix2 r k) : EReal) = modOf x3 2 r k := by
  unfold val_main_v7 val_main_v6 val_main_v5 val_main_v4 val_main_v3 val_main_v2 val_main_v1 modOf
  pointwise
  rfl

theorem shift_at (r : Fin 8448) (k : Fin 1024) : (val_main_v32 (F := Ideal) x3 (ix2 r k) : EReal) = modOf x3 3 r k := by
  unfold val_main_v32 val_main_v31 val_main_v30 val_main_v29 val_main_v28 val_main_v27 val_main_v26 modOf
  pointwise
  rfl

theorem scale_at (r : Fin 8448) (k : Fin 1024) : (val_main_v39 (F := Ideal) x3 (ix2 r k) : EReal) = modOf x3 4 r k := by
  unfold val_main_v39 val_main_v38 val_main_v37 val_main_v36 val_main_v35 val_main_v34 val_main_v33 modOf
  pointwise
  rfl

/-- The residual at position `r`. -/
def xrow (r : Fin 8448) : Fin 1024 → EReal := joined (rowOf x0 x1 r) (modOf x3 2 r) (fun k => x2 (ix2 r k))

theorem xrow_at (r : Fin 8448) (k : Fin 1024) : (val_main_v11 (F := Ideal) x0 x1 x2 x3 (ix2 r k) : EReal) = xrow x0 x1 x2 x3 r k := by
  unfold xrow joined rowOf
  rw [← gate_at]
  unfold val_main_v11 val_main_v10 val_main_v9 val_main_v8 val_main_v0 val_main_cst
  generalize val_main_v7 x3 = g
  pointwise

/-- The normed row at position `r`. -/
def hrow (r : Fin 8448) : Fin 1024 → EReal := normed (xrow x0 x1 x2 x3 r) (fun k => x4 (ix2 0 k)) (modOf x3 3 r) (modOf x3 4 r)

theorem norm_at (r : Fin 8448) (k : Fin 1024) : (val_main_v43 (F := Ideal) x0 x1 x2 x3 x4 (ix2 r k) : EReal) = hrow x0 x1 x2 x3 x4 r k := by
  unfold hrow normed
  simp only [← xrow_at, ← shift_at, ← scale_at]
  unfold val_main_v43 val_main_v42 val_main_v41 val_main_v40 val_main_v25 val_main_v24 val_main_v23 val_main_v22 val_main_v21 val_main_v20 val_main_v19 val_main_v18 val_main_v17 val_main_v16 val_main_v15 val_main_v14 val_main_v13 val_main_v12 val_main_cst_0 val_main_cst_1 val_main_cst_2 val_main_cst_3
  generalize val_main_v11 x0 x1 x2 x3 = x
  generalize val_main_v32 x3 = s
  generalize val_main_v39 x3 = t
  pointwise

/-- The projection at position `r`. -/
def proj (r : Fin 8448) (n : Fin 6656) : EReal := dotRow (hrow x0 x1 x2 x3 x4 r) (fun k => x5 (ix2 n k))

theorem proj_at (r : Fin 8448) (n : Fin 6656) : (val_main_v46 (F := Ideal) x0 x1 x2 x3 x4 x5 (ix2 r n) : EReal) = proj x0 x1 x2 x3 x4 x5 r n := by
  unfold proj dotRow
  simp only [← norm_at]
  unfold val_main_v46 val_main_v45 val_main_v44
  generalize val_main_v43 x0 x1 x2 x3 x4 = h
  pointwise

theorem qnorm_at (r : Fin 8448) (h : Fin 8) (k : Fin 128) : (val_main_v64 (F := Ideal) x0 x1 x2 x3 x4 x5 x6 (ix3 r h k) : EReal)
    = headNorm (fun k => proj x0 x1 x2 x3 x4 x5 r ⟨3072 + (h.val * 128 + k.val), by omega⟩) (fun k => x6 (ix2 0 k)) k := by
  unfold headNorm
  simp only [← proj_at]
  unfold val_main_v64 val_main_v63 val_main_v62 val_main_v61 val_main_v60 val_main_v59 val_main_v58 val_main_v57 val_main_v56 val_main_v55 val_main_v54 val_main_v53 val_main_v52 val_main_v51 val_main_v50 val_main_v47 val_main_cst_4 val_main_cst_5 val_main_cst_6
  generalize val_main_v46 x0 x1 x2 x3 x4 x5 = p
  pointwise

/-- The heads at position `r`. -/
def qrow (r : Fin 8448) : Fin 1024 → EReal := heads (n := 8) (fun b => proj x0 x1 x2 x3 x4 x5 r ⟨3072 + b.val, by omega⟩)
  (fun k => x6 (ix2 0 k)) (cosAt x8 r) (sinAt x9 r)

theorem qrow_at (r : Fin 8448) (b : Fin 1024) : (val_main_v89 (F := Ideal) x0 x1 x2 x3 x4 x5 x6 x8 x9 (ix2 r b) : EReal) = qrow x0 x1 x2 x3 x4 x5 x6 x8 x9 r b := by
  have hz := qnorm_at x0 x1 x2 x3 x4 x5 x6
  unfold qrow heads head
  unfold val_main_v89 val_main_v88 val_main_v87 val_main_v86 val_main_v85 val_main_v84 val_main_v83 val_main_v82 val_main_v81 val_main_v80 val_main_v79 val_main_v78 val_main_v77 val_main_v76 val_main_v75 val_main_v74 val_main_v73 val_main_v72 val_main_v71 val_main_v70 val_main_v69 val_main_v68 val_main_v67 val_main_v66 val_main_v65
  generalize val_main_v64 x0 x1 x2 x3 x4 x5 x6 = z at hz ⊢
  pointwise
  by_cases h : r.val < 256
  · exact (dif_pos h).trans ((hz _ _ _).trans (turned_ctx x8 x9 _ r h _).symm)
  · have hr : ∀ (h : Fin 8) (k : Fin 128), z (ix3 (⟨256 + (r.val - 256), by omega⟩ : Fin 8448) h k) = z (ix3 r h k) := fun h k =>
      congrArg (fun r => z (ix3 r h k)) (Fin.ext (by show 256 + (r.val - 256) = r.val; omega))
    refine (dif_neg h).trans ?_
    by_cases hq : b.val % 128 / 32 % 2 < 1
    · refine (dif_pos hq).trans (Eq.trans ?_ (turned_first x8 x9 _ r h _ hq).symm)
      exact congrArg₂ (fun u v : EReal => u * _ - v * _) ((hr _ _).trans (hz _ _ _)) ((hr _ _).trans (hz _ _ _))
    · refine (dif_neg hq).trans (Eq.trans ?_ (turned_second x8 x9 _ r h _ hq).symm)
      exact congrArg₂ (fun u v : EReal => u * _ + v * _) ((hr _ _).trans (hz _ _ _)) ((hr _ _).trans (hz _ _ _))

theorem knorm_at (r : Fin 8448) (h : Fin 2) (k : Fin 128) : (val_main_v104 (F := Ideal) x0 x1 x2 x3 x4 x5 x7 (ix3 r h k) : EReal)
    = headNorm (fun k => proj x0 x1 x2 x3 x4 x5 r ⟨4096 + (h.val * 128 + k.val), by omega⟩) (fun k => x7 (ix2 0 k)) k := by
  unfold headNorm
  simp only [← proj_at]
  unfold val_main_v104 val_main_v103 val_main_v102 val_main_v101 val_main_v100 val_main_v99 val_main_v98 val_main_v97 val_main_v96 val_main_v95 val_main_v94 val_main_v93 val_main_v92 val_main_v91 val_main_v90 val_main_v48 val_main_cst_7 val_main_cst_8 val_main_cst_9
  generalize val_main_v46 x0 x1 x2 x3 x4 x5 = p
  pointwise

/-- The heads at position `r`. -/
def krow (r : Fin 8448) : Fin 256 → EReal := heads (n := 2) (fun b => proj x0 x1 x2 x3 x4 x5 r ⟨4096 + b.val, by omega⟩)
  (fun k => x7 (ix2 0 k)) (cosAt x8 r) (sinAt x9 r)

theorem krow_at (r : Fin 8448) (b : Fin 256) : (val_main_v129 (F := Ideal) x0 x1 x2 x3 x4 x5 x7 x8 x9 (ix2 r b) : EReal) = krow x0 x1 x2 x3 x4 x5 x7 x8 x9 r b := by
  have hz := knorm_at x0 x1 x2 x3 x4 x5 x7
  unfold krow heads head
  unfold val_main_v129 val_main_v128 val_main_v127 val_main_v126 val_main_v125 val_main_v124 val_main_v123 val_main_v122 val_main_v121 val_main_v120 val_main_v119 val_main_v118 val_main_v117 val_main_v116 val_main_v115 val_main_v114 val_main_v113 val_main_v112 val_main_v111 val_main_v110 val_main_v109 val_main_v108 val_main_v107 val_main_v106 val_main_v105
  generalize val_main_v104 x0 x1 x2 x3 x4 x5 x7 = z at hz ⊢
  pointwise
  by_cases h : r.val < 256
  · exact (dif_pos h).trans ((hz _ _ _).trans (turned_ctx x8 x9 _ r h _).symm)
  · have hr : ∀ (h : Fin 2) (k : Fin 128), z (ix3 (⟨256 + (r.val - 256), by omega⟩ : Fin 8448) h k) = z (ix3 r h k) := fun h k =>
      congrArg (fun r => z (ix3 r h k)) (Fin.ext (by show 256 + (r.val - 256) = r.val; omega))
    refine (dif_neg h).trans ?_
    by_cases hq : b.val % 128 / 32 % 2 < 1
    · refine (dif_pos hq).trans (Eq.trans ?_ (turned_first x8 x9 _ r h _ hq).symm)
      exact congrArg₂ (fun u v : EReal => u * _ - v * _) ((hr _ _).trans (hz _ _ _)) ((hr _ _).trans (hz _ _ _))
    · refine (dif_neg hq).trans (Eq.trans ?_ (turned_second x8 x9 _ r h _ hq).symm)
      exact congrArg₂ (fun u v : EReal => u * _ + v * _) ((hr _ _).trans (hz _ _ _)) ((hr _ _).trans (hz _ _ _))

theorem vals_at (r : Fin 8448) (b : Fin 256) : (val_main_v49 (F := Ideal) x0 x1 x2 x3 x4 x5 (ix2 r b) : EReal)
    = proj x0 x1 x2 x3 x4 x5 r ⟨4352 + b.val, by omega⟩ := by
  simp only [← proj_at]
  unfold val_main_v49
  generalize val_main_v46 x0 x1 x2 x3 x4 x5 = p
  pointwise

end Cert.Reference11Ideal.Rows

end
-- ==== Proof.Mix.Host11.lean ====
module

public import proofs.«01_k».proof.Proof.Gen.Kernel11Ideal.Frame
public import proofs.«01_k».proof.Proof.Real
public import proofs.«01_k».proof.Proof.Mix.Row
public import Idealize.ShloMosaic.Lib.StableHlo.RunRead
public import Idealize.ShloMosaic.Lib.Claim
import Idealize.ShloMosaic.Lib.Pointwise

@[expose] public section

set_option maxRecDepth 16384

/-!
The two tables the host hands the launch of the input projection: at every position the cosines, and the sines with the sign of the half.
-/

noncomputable section

namespace Cert.Kernel11Ideal.Host

open Idealize.ShloMosaic Idealize.ShloMosaic.TcCoe Idealize.ShloMosaic.StableHlo
open Cert.Kernel11Ideal Cert.Kernel11Ideal.Gen Cert.Mix

variable (m : (ℓ : Loc nD τ sig) → Buf (Elt Ideal) ℓ)

/-- Each axis's 32 values for both of its halves, on every position of the sequence. -/
def both (x y : FVec Ideal S8192x2x1x32 .f32) : FVec Ideal S8192x128 .f32 :=
  shapeCast _ (concatenate S8192x2x2x32 2 [⟨S8192x2x1x32, x⟩, ⟨S8192x2x1x32, y⟩] concatenates_S8192x2x1x32_S8192x2x1x32_S8192x2x2x32_d2) shapeCasts_S8192x2x2x32_S8192x128

/-- The table: the constant `w` on the context's positions, then `x`. -/
def under (w : FVec Ideal S_ .f32) (x : FVec Ideal S8192x128 .f32) : FVec Ideal S8448x128 .f32 :=
  concatenate S8448x128 0 [⟨S256x128, broadcastInDim S256x128 ![] bcast_S_S256x128 w⟩, ⟨S8192x128, x⟩] concatenates_S256x128_S8192x128_S8448x128_d0

/-- The cosines, as the host lays them out. -/
def cosTable (x : FVec Ideal S8192x2x32 .f32) : FVec Ideal S8448x128 .f32 :=
  under (constant S_ .f32 0x3F800000#32) (both (shapeCast _ x shapeCasts_S8192x2x32_S8192x2x1x32) (shapeCast _ x shapeCasts_S8192x2x32_S8192x2x1x32))

/-- The sines, as the host lays them out. -/
def sinTable (x : FVec Ideal S8192x2x32 .f32) : FVec Ideal S8448x128 .f32 :=
  under (constant S_ .f32 0x00000000#32) (both (Host.negf (shapeCast _ x shapeCasts_S8192x2x32_S8192x2x1x32)) (shapeCast _ x shapeCasts_S8192x2x32_S8192x2x1x32))

theorem V_cos (c : Dev nD) : V m c main_v8 = cosTable (m ((c : Thread nD τ).loc main_arg8)) := by
  unfold_abbrev_sides
  after_reads_simp
  rfl

theorem V_sin (c : Dev nD) : V m c main_v10 = sinTable (m ((c : Thread nD τ).loc main_arg9)) := by
  unfold_abbrev_sides
  after_reads_simp
  rfl

theorem under_at (w : FVec Ideal S_ .f32) (x : FVec Ideal S8192x128 .f32) (r : Fin 8448) (j : Fin 128) :
    (under w x (ix2 r j) : EReal) = if h : r.val < 256 then w ix0 else x (ix2 (⟨r.val - 256, by omega⟩ : Fin 8192) j) := by
  unfold under
  pointwise

theorem both_at (x y : FVec Ideal S8192x2x1x32 .f32) (r : Fin 8192) (j : Fin 128) :
    (both x y (ix2 r j) : EReal) = if j.val % 64 < 32 then x (ix4 r (⟨j.val / 64, by omega⟩ : Fin 2) (0 : Fin 1) (⟨j.val % 32, by omega⟩ : Fin 32))
      else y (ix4 r (⟨j.val / 64, by omega⟩ : Fin 2) (0 : Fin 1) (⟨j.val % 32, by omega⟩ : Fin 32)) := by
  unfold both
  pointwise
  by_cases h : j.val % 64 < 32
  · rw [if_pos h, dif_pos (by omega)]
    exact congrArg (fun p => x (ix4 r (⟨j.val / 64, by omega⟩ : Fin 2) p (⟨j.val % 32, by omega⟩ : Fin 32))) (Fin.ext (by show j.val / 32 % 2 = 0; omega))
  · rw [if_neg h, dif_neg (by omega)]
    exact congrArg (fun p => y (ix4 r (⟨j.val / 64, by omega⟩ : Fin 2) p (⟨j.val % 32, by omega⟩ : Fin 32))) (Fin.ext (by show j.val / 32 % 2 - 1 = 0; omega))

theorem piece_at (x : FVec Ideal S8192x2x32 .f32) (r : Fin 8192) (p : Fin 2) (k : Fin 32) :
    (shapeCast S8192x2x1x32 x shapeCasts_S8192x2x32_S8192x2x1x32 (ix4 r p (0 : Fin 1) k) : EReal) = x (ix3 r p k) := by
  pointwise

theorem cos_at (x : FVec Ideal S8192x2x32 .f32) (r : Fin 8448) (j : Fin 128) : (cosTable x (ix2 r j) : EReal) = cosAt x r j := by
  unfold cosTable cosAt
  rw [under_at]
  split
  · exact Cert.Attn.one_word.trans rfl
  · rw [both_at]
    split
    · exact piece_at x _ _ _
    · exact piece_at x _ _ _

theorem sin_at (x : FVec Ideal S8192x2x32 .f32) (r : Fin 8448) (j : Fin 128) : (sinTable x (ix2 r j) : EReal) = sinAt x r j := by
  unfold sinTable sinAt
  rw [under_at]
  split
  · exact Cert.Attn.zero_word
  · rw [both_at]
    split
    · exact congrArg (fun z : EReal => -z) (piece_at x _ _ _)
    · exact piece_at x _ _ _

end Cert.Kernel11Ideal.Host

end
-- ==== Proof.Mix.Array11.lean ====
module

public import proofs.«01_k».proof.Proof.Mix.Tile11
public import proofs.«01_k».proof.Proof.Gen.Kernel11Ideal.Value
public import proofs.«01_k».proof.Proof.Mix.Ref11
public import proofs.«01_k».proof.Proof.Mix.Host11

@[expose] public section

set_option maxRecDepth 16384

/-!
The input projection of the mixers: the six arrays the launch leaves, position by position, as the reference's.
-/

noncomputable section

namespace Cert.Kernel11Ideal.Array

open Idealize.ShloMosaic Idealize.ShloMosaic.TcCoe Idealize.SL.Sem
open Cert.Kernel11Ideal Cert.Kernel11Ideal.Gen Cert.Kernel11Ideal.Value Cert.Ffn Cert.Mix Cert.Reference11Ideal

variable (m : (ℓ : Loc nD τ sig) → Buf (Elt Ideal) ℓ) (c : Dev nD)

/-- The arguments, as arrays of extended reals. -/
abbrev ctx : Vec Ideal S256x1024 .f32 := m ((c : Thread nD τ).loc main_arg0)
abbrev seq : Vec Ideal S8192x1024 .f32 := m ((c : Thread nD τ).loc main_arg1)
abbrev branch : Vec Ideal S8448x1024 .f32 := m ((c : Thread nD τ).loc main_arg2)
abbrev mods : Vec Ideal S2x16x1024 .f32 := m ((c : Thread nD τ).loc main_arg3)
abbrev gain : Vec Ideal S1x1024 .f32 := m ((c : Thread nD τ).loc main_arg4)
abbrev wIn : Vec Ideal S6656x1024 .bf16 := m ((c : Thread nD τ).loc main_arg5)
abbrev gq : Vec Ideal S1x128 .f32 := m ((c : Thread nD τ).loc main_arg6)
abbrev gk : Vec Ideal S1x128 .f32 := m ((c : Thread nD τ).loc main_arg7)
abbrev cos : Vec Ideal S8192x2x32 .f32 := m ((c : Thread nD τ).loc main_arg8)
abbrev sin : Vec Ideal S8192x2x32 .f32 := m ((c : Thread nD τ).loc main_arg9)

theorem count (t : Fin cfg0.N) : t.val < 33 := lt_of_lt_of_eq t.isLt N_0

theorem places : ∀ t : Fin cfg0.N, (grid0.coords t 0).val = t.val
    ∧ win0_0.index t (0 : Fin 2) = 0 ∧ win0_0.index t (1 : Fin 2) = 0
    ∧ win0_1.index t (0 : Fin 2) = t.val - 1 ∧ win0_1.index t (1 : Fin 2) = 0
    ∧ win0_3.index t (0 : Fin 3) = (if t.val = 0 then 0 else 1) ∧ win0_3.index t (1 : Fin 3) = 0 ∧ win0_3.index t (2 : Fin 3) = 0 :=
  (by decide +kernel : ∀ t : Fin grid0.N, _)

theorem places_whole : ∀ t : Fin cfg0.N, win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

theorem places_rows : ∀ t : Fin cfg0.N, win0_2.index t (0 : Fin 2) = t.val ∧ win0_2.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

theorem places_out : ∀ t : Fin cfg0.N, win0_10.index t (0 : Fin 2) = t.val ∧ win0_10.index t (1 : Fin 2) = 0
    ∧ win0_11.index t (0 : Fin 2) = t.val ∧ win0_11.index t (1 : Fin 2) = 0
    ∧ win0_12.index t (0 : Fin 2) = t.val ∧ win0_12.index t (1 : Fin 2) = 0
    ∧ win0_13.index t (0 : Fin 2) = t.val ∧ win0_13.index t (1 : Fin 2) = 0
    ∧ win0_14.index t (0 : Fin 2) = t.val ∧ win0_14.index t (1 : Fin 2) = 0
    ∧ win0_15.index t (0 : Fin 2) = t.val ∧ win0_15.index t (1 : Fin 2) = 0 :=
  (by decide +kernel : ∀ t : Fin grid0.N, _)

/-- The array position of row `a` of point `t`. -/
def pos (t : Fin cfg0.N) (a : Fin 256) : Fin 8448 := ⟨256 * t.val + a.val, by have := count t; omega⟩

theorem pos_of (r : Fin 8448) : ∃ (t : Fin cfg0.N) (a : Fin 256), pos t a = r := by
  have hr := r.isLt
  exact ⟨⟨r.val / 256, lt_of_lt_of_eq (by omega) N_0.symm⟩, ⟨r.val % 256, Nat.mod_lt _ (by decide)⟩,
    Fin.ext (by show 256 * (r.val / 256) + r.val % 256 = r.val; omega)⟩

/-! ## The blocks a point takes -/

theorem gain_block (t : Fin cfg0.N) : (iblk m c 4 t : Vec Ideal S1x1024 .f32) = gain m c := by
  obtain ⟨e0, e1, -⟩ := places_whole t
  refine funext fun y => congrArg (gain m c) (funext fun d => Fin.ext ?_)
  match d with
  | ⟨0, _⟩ => show win0_4.index t (0 : Fin 2) * 1 + 1 * (y 0).val = (y 0).val; rw [e0]; omega
  | ⟨1, _⟩ => show win0_4.index t (1 : Fin 2) * 1024 + 1 * (y 1).val = (y 1).val; rw [e1]; omega

theorem wIn_block (t : Fin cfg0.N) : (iblk m c 5 t : Vec Ideal S6656x1024 .bf16) = wIn m c := by
  obtain ⟨-, -, e0, e1, -⟩ := places_whole t
  refine funext fun y => congrArg (wIn m c) (funext fun d => Fin.ext ?_)
  match d with
  | ⟨0, _⟩ => show win0_5.index t (0 : Fin 2) * 6656 + 1 * (y 0).val = (y 0).val; rw [e0]; omega
  | ⟨1, _⟩ => show win0_5.index t (1 : Fin 2) * 1024 + 1 * (y 1).val = (y 1).val; rw [e1]; omega

theorem gq_block (t : Fin cfg0.N) : (iblk m c 6 t : Vec Ideal S1x128 .f32) = gq m c := by
  obtain ⟨-, -, -, -, e0, e1, -⟩ := places_whole t
  refine funext fun y => congrArg (gq m c) (funext fun d => Fin.ext ?_)
  match d with
  | ⟨0, _⟩ => show win0_6.index t (0 : Fin 2) * 1 + 1 * (y 0).val = (y 0).val; rw [e0]; omega
  | ⟨1, _⟩ => show win0_6.index t (1 : Fin 2) * 128 + 1 * (y 1).val = (y 1).val; rw [e1]; omega

theorem gk_block (t : Fin cfg0.N) : (iblk m c 7 t : Vec Ideal S1x128 .f32) = gk m c := by
  obtain ⟨-, -, -, -, -, -, e0, e1⟩ := places_whole t
  refine funext fun y => congrArg (gk m c) (funext fun d => Fin.ext ?_)
  match d with
  | ⟨0, _⟩ => show win0_7.index t (0 : Fin 2) * 1 + 1 * (y 0).val = (y 0).val; rw [e0]; omega
  | ⟨1, _⟩ => show win0_7.index t (1 : Fin 2) * 128 + 1 * (y 1).val = (y 1).val; rw [e1]; omega

theorem row_block (t : Fin cfg0.N) (a : Fin 256) :
    Tile.pick (grid0.coords t) (iblk m c 0 t) (iblk m c 1 t) a = rowOf (ctx m c) (seq m c) (pos t a) := by
  obtain ⟨e, c0, c1, s0, s1, -⟩ := places t
  have ht := count t
  funext k
  unfold Tile.pick rowOf
  rw [e]
  rcases Nat.eq_zero_or_pos t.val with h | h
  · have hr : (pos t a).val < 256 := by show 256 * t.val + a.val < 256; omega
    rw [dif_pos hr]
    have hb : Scalar.cmpi CmpIPredicate.eq (BitVec.ofNat 32 t.val) 0#32 = 1#1 := by rw [h]; decide
    rw [hb]
    refine (if_pos (by decide)).trans (congrArg (ctx m c) (funext fun d => Fin.ext ?_))
    match d with
    | ⟨0, _⟩ => show win0_0.index t (0 : Fin 2) * 256 + 1 * a.val = 256 * t.val + a.val; rw [c0]; omega
    | ⟨1, _⟩ => show win0_0.index t (1 : Fin 2) * 1024 + 1 * k.val = k.val; rw [c1]; omega
  · have hr : ¬(pos t a).val < 256 := by show ¬256 * t.val + a.val < 256; omega
    rw [dif_neg hr]
    have hb : Scalar.cmpi CmpIPredicate.eq (BitVec.ofNat 32 t.val) 0#32 = 0#1 := by
      have : ∀ n : Fin 33, 0 < n.val → Scalar.cmpi CmpIPredicate.eq (BitVec.ofNat 32 n.val) 0#32 = 0#1 := by decide
      exact this ⟨t.val, ht⟩ h
    rw [hb]
    refine (if_neg (by decide)).trans (congrArg (seq m c) (funext fun d => Fin.ext ?_))
    match d with
    | ⟨0, _⟩ => show win0_1.index t (0 : Fin 2) * 256 + 1 * a.val = 256 * t.val + a.val - 256; rw [s0]; omega
    | ⟨1, _⟩ => show win0_1.index t (1 : Fin 2) * 1024 + 1 * k.val = k.val; rw [s1]; omega

theorem mod_block (t : Fin cfg0.N) (a : Fin 256) (j : Fin 16) :
    (fun k => (iblk m c 3 t : Vec Ideal S1x16x1024 .f32) (ix3 0 j k)) = modOf (mods m c) j (pos t a) := by
  obtain ⟨-, -, -, -, -, e0, e1, e2⟩ := places t
  funext k
  unfold modOf
  rcases Nat.eq_zero_or_pos t.val with h | h
  · rw [if_pos (by show 256 * t.val + a.val < 256; omega)]
    rw [if_pos h] at e0
    refine congrArg (mods m c) (funext fun d => Fin.ext ?_)
    match d with
    | ⟨0, _⟩ => show win0_3.index t (0 : Fin 3) * 1 + 1 * 0 = 0; rw [e0]
    | ⟨1, _⟩ => show win0_3.index t (1 : Fin 3) * 16 + 1 * j.val = j.val; rw [e1]; omega
    | ⟨2, _⟩ => show win0_3.index t (2 : Fin 3) * 1024 + 1 * k.val = k.val; rw [e2]; omega
  · rw [if_neg (by show ¬256 * t.val + a.val < 256; omega)]
    rw [if_neg (by omega)] at e0
    refine congrArg (mods m c) (funext fun d => Fin.ext ?_)
    match d with
    | ⟨0, _⟩ => show win0_3.index t (0 : Fin 3) * 1 + 1 * 0 = 1; rw [e0]
    | ⟨1, _⟩ => show win0_3.index t (1 : Fin 3) * 16 + 1 * j.val = j.val; rw [e1]; omega
    | ⟨2, _⟩ => show win0_3.index t (2 : Fin 3) * 1024 + 1 * k.val = k.val; rw [e2]; omega

theorem branch_block (t : Fin cfg0.N) (a : Fin 256) :
    ((fun k => (iblk m c 2 t : Vec Ideal S256x1024 .f32) (ix2 a k)) : Fin 1024 → EReal) = fun k => branch m c (ix2 (pos t a) k) := by
  obtain ⟨e0, e1, -⟩ := places_rows t
  refine funext fun k => congrArg (branch m c) (funext fun d => Fin.ext ?_)
  match d with
  | ⟨0, _⟩ => show win0_2.index t (0 : Fin 2) * 256 + 1 * a.val = 256 * t.val + a.val; rw [e0]; omega
  | ⟨1, _⟩ => show win0_2.index t (1 : Fin 2) * 1024 + 1 * k.val = k.val; rw [e1]; omega

theorem cos_block (t : Fin cfg0.N) (a : Fin 256) :
    ((fun k => (iblk m c 8 t : Vec Ideal S256x128 .f32) (ix2 a k)) : Fin 128 → EReal) = cosAt (cos m c) (pos t a) := by
  obtain ⟨-, -, e0, e1, -⟩ := places_rows t
  funext k
  refine Eq.trans (congrArg (V m c main_v8) (funext fun d => Fin.ext ?_)) ((congrFun (Host.V_cos m c) (ix2 (pos t a) k)).trans (Host.cos_at _ _ _))
  match d with
  | ⟨0, _⟩ => show win0_8.index t (0 : Fin 2) * 256 + 1 * a.val = 256 * t.val + a.val; rw [e0]; omega
  | ⟨1, _⟩ => show win0_8.index t (1 : Fin 2) * 128 + 1 * k.val = k.val; rw [e1]; omega

theorem sin_block (t : Fin cfg0.N) (a : Fin 256) :
    ((fun k => (iblk m c 9 t : Vec Ideal S256x128 .f32) (ix2 a k)) : Fin 128 → EReal) = sinAt (sin m c) (pos t a) := by
  obtain ⟨-, -, -, -, e0, e1⟩ := places_rows t
  funext k
  refine Eq.trans (congrArg (V m c main_v10) (funext fun d => Fin.ext ?_)) ((congrFun (Host.V_sin m c) (ix2 (pos t a) k)).trans (Host.sin_at _ _ _))
  match d with
  | ⟨0, _⟩ => show win0_9.index t (0 : Fin 2) * 256 + 1 * a.val = 256 * t.val + a.val; rw [e0]; omega
  | ⟨1, _⟩ => show win0_9.index t (1 : Fin 2) * 128 + 1 * k.val = k.val; rw [e1]; omega

/-! ## The rows of a point -/

theorem xrow_eq (t : Fin cfg0.N) (a : Fin 256) : Tile.xrow (grid0.coords t) (iblk m c 0 t) (iblk m c 1 t) (iblk m c 2 t) (iblk m c 3 t) a = Rows.xrow (ctx m c) (seq m c) (branch m c) (mods m c) (pos t a) := by
  unfold Tile.xrow Rows.xrow
  rw [row_block, mod_block m c t a 2, branch_block]

theorem hrow_eq (t : Fin cfg0.N) (a : Fin 256) : Tile.hrow (grid0.coords t) (iblk m c 0 t) (iblk m c 1 t) (iblk m c 2 t) (iblk m c 3 t) (iblk m c 4 t) a
    = Rows.hrow (ctx m c) (seq m c) (branch m c) (mods m c) (gain m c) (pos t a) := by
  unfold Tile.hrow Rows.hrow
  rw [xrow_eq, mod_block m c t a 3, mod_block m c t a 4, gain_block]

theorem proj_eq (t : Fin cfg0.N) (a : Fin 256) (n : Fin 6656) : Tile.proj (grid0.coords t) (iblk m c 0 t) (iblk m c 1 t) (iblk m c 2 t) (iblk m c 3 t) (iblk m c 4 t) (iblk m c 5 t) a n
    = Rows.proj (ctx m c) (seq m c) (branch m c) (mods m c) (gain m c) (wIn m c) (pos t a) n := by
  unfold Tile.proj Rows.proj
  rw [hrow_eq, wIn_block]

theorem qrow_eq (t : Fin cfg0.N) (a : Fin 256) : Tile.qrow (grid0.coords t) (iblk m c 0 t) (iblk m c 1 t) (iblk m c 2 t) (iblk m c 3 t) (iblk m c 4 t) (iblk m c 5 t) (iblk m c 6 t) (iblk m c 8 t) (iblk m c 9 t) a
    = Rows.qrow (ctx m c) (seq m c) (branch m c) (mods m c) (gain m c) (wIn m c) (gq m c) (cos m c) (sin m c) (pos t a) := by
  unfold Tile.qrow Rows.qrow
  rw [gq_block, cos_block, sin_block]
  simp only [proj_eq]

theorem krow_eq (t : Fin cfg0.N) (a : Fin 256) : Tile.krow (grid0.coords t) (iblk m c 0 t) (iblk m c 1 t) (iblk m c 2 t) (iblk m c 3 t) (iblk m c 4 t) (iblk m c 5 t) (iblk m c 7 t) (iblk m c 8 t) (iblk m c 9 t) a
    = Rows.krow (ctx m c) (seq m c) (branch m c) (mods m c) (gain m c) (wIn m c) (gk m c) (cos m c) (sin m c) (pos t a) := by
  unfold Tile.krow Rows.krow
  rw [gk_block, cos_block, sin_block]
  simp only [proj_eq]

/-! ## The arrays -/

theorem out10 (r : Fin 8448) (b : Fin 1024) : ((dats m 0 c).arrAt 10 cfg0.N (ix2 r b) : EReal)
    = Rows.xrow (ctx m c) (seq m c) (branch m c) (mods m c) r b := by
  obtain ⟨t, a, rfl⟩ := pos_of r
  obtain ⟨e0, e1, -⟩ := places_out t
  have e := (congrFun (blocks10 m c t (flush0_10 t)) (ix2 a b)).trans (congrFun (flushed10_A m c t) (ix2 a b))
  have v := Tile.out10_at (grid0.coords t) (iblk m c 0 t) (iblk m c 1 t) (iblk m c 2 t) (iblk m c 3 t) (iblk m c 4 t) (iblk m c 5 t) (iblk m c 6 t) (iblk m c 7 t) (iblk m c 8 t) (iblk m c 9 t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) a b
  refine Eq.trans (Eq.trans (congrArg ((dats m 0 c).arrAt 10 cfg0.N) (funext fun d => Fin.ext ?_)) e) (v.trans ?_)
  rotate_left
  · rw [xrow_eq]
  match d with
  | ⟨0, _⟩ => show 256 * t.val + a.val = win0_10.index t (0 : Fin 2) * 256 + 1 * a.val; rw [e0]; omega
  | ⟨1, _⟩ => show b.val = win0_10.index t (1 : Fin 2) * 1024 + 1 * b.val; rw [e1]; omega

theorem out11 (r : Fin 8448) (b : Fin 1024) : ((dats m 0 c).arrAt 11 cfg0.N (ix2 r b) : EReal)
    = Rows.hrow (ctx m c) (seq m c) (branch m c) (mods m c) (gain m c) r b := by
  obtain ⟨t, a, rfl⟩ := pos_of r
  obtain ⟨-, -, e0, e1, -⟩ := places_out t
  have e := (congrFun (blocks11 m c t (flush0_11 t)) (ix2 a b)).trans (congrFun (flushed11_A m c t) (ix2 a b))
  have v := Tile.out11_at (grid0.coords t) (iblk m c 0 t) (iblk m c 1 t) (iblk m c 2 t) (iblk m c 3 t) (iblk m c 4 t) (iblk m c 5 t) (iblk m c 6 t) (iblk m c 7 t) (iblk m c 8 t) (iblk m c 9 t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) a b
  refine Eq.trans (Eq.trans (congrArg ((dats m 0 c).arrAt 11 cfg0.N) (funext fun d => Fin.ext ?_)) e) (v.trans ?_)
  rotate_left
  · rw [hrow_eq]
  match d with
  | ⟨0, _⟩ => show 256 * t.val + a.val = win0_11.index t (0 : Fin 2) * 256 + 1 * a.val; rw [e0]; omega
  | ⟨1, _⟩ => show b.val = win0_11.index t (1 : Fin 2) * 1024 + 1 * b.val; rw [e1]; omega

theorem out12 (r : Fin 8448) (b : Fin 6656) : ((dats m 0 c).arrAt 12 cfg0.N (ix2 r b) : EReal)
    = Rows.proj (ctx m c) (seq m c) (branch m c) (mods m c) (gain m c) (wIn m c) r b := by
  obtain ⟨t, a, rfl⟩ := pos_of r
  obtain ⟨-, -, -, -, e0, e1, -⟩ := places_out t
  have e := (congrFun (blocks12 m c t (flush0_12 t)) (ix2 a b)).trans (congrFun (flushed12_A m c t) (ix2 a b))
  have v := Tile.out12_at (grid0.coords t) (iblk m c 0 t) (iblk m c 1 t) (iblk m c 2 t) (iblk m c 3 t) (iblk m c 4 t) (iblk m c 5 t) (iblk m c 6 t) (iblk m c 7 t) (iblk m c 8 t) (iblk m c 9 t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) a b
  refine Eq.trans (Eq.trans (congrArg ((dats m 0 c).arrAt 12 cfg0.N) (funext fun d => Fin.ext ?_)) e) (v.trans ?_)
  rotate_left
  · exact proj_eq m c t a b
  match d with
  | ⟨0, _⟩ => show 256 * t.val + a.val = win0_12.index t (0 : Fin 2) * 256 + 1 * a.val; rw [e0]; omega
  | ⟨1, _⟩ => show b.val = win0_12.index t (1 : Fin 2) * 6656 + 1 * b.val; rw [e1]; omega

theorem out13 (r : Fin 8448) (b : Fin 1024) : ((dats m 0 c).arrAt 13 cfg0.N (ix2 r b) : EReal)
    = Rows.qrow (ctx m c) (seq m c) (branch m c) (mods m c) (gain m c) (wIn m c) (gq m c) (cos m c) (sin m c) r b := by
  obtain ⟨t, a, rfl⟩ := pos_of r
  obtain ⟨-, -, -, -, -, -, e0, e1, -⟩ := places_out t
  have e := (congrFun (blocks13 m c t (flush0_13 t)) (ix2 a b)).trans (congrFun (flushed13_A m c t) (ix2 a b))
  have v := Tile.out13_at (grid0.coords t) (iblk m c 0 t) (iblk m c 1 t) (iblk m c 2 t) (iblk m c 3 t) (iblk m c 4 t) (iblk m c 5 t) (iblk m c 6 t) (iblk m c 7 t) (iblk m c 8 t) (iblk m c 9 t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) a b
  refine Eq.trans (Eq.trans (congrArg ((dats m 0 c).arrAt 13 cfg0.N) (funext fun d => Fin.ext ?_)) e) (v.trans ?_)
  rotate_left
  · rw [qrow_eq]
  match d with
  | ⟨0, _⟩ => show 256 * t.val + a.val = win0_13.index t (0 : Fin 2) * 256 + 1 * a.val; rw [e0]; omega
  | ⟨1, _⟩ => show b.val = win0_13.index t (1 : Fin 2) * 1024 + 1 * b.val; rw [e1]; omega

theorem out14 (r : Fin 8448) (b : Fin 256) : ((dats m 0 c).arrAt 14 cfg0.N (ix2 r b) : EReal)
    = Rows.krow (ctx m c) (seq m c) (branch m c) (mods m c) (gain m c) (wIn m c) (gk m c) (cos m c) (sin m c) r b := by
  obtain ⟨t, a, rfl⟩ := pos_of r
  obtain ⟨-, -, -, -, -, -, -, -, e0, e1, -⟩ := places_out t
  have e := (congrFun (blocks14 m c t (flush0_14 t)) (ix2 a b)).trans (congrFun (flushed14_A m c t) (ix2 a b))
  have v := Tile.out14_at (grid0.coords t) (iblk m c 0 t) (iblk m c 1 t) (iblk m c 2 t) (iblk m c 3 t) (iblk m c 4 t) (iblk m c 5 t) (iblk m c 6 t) (iblk m c 7 t) (iblk m c 8 t) (iblk m c 9 t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) a b
  refine Eq.trans (Eq.trans (congrArg ((dats m 0 c).arrAt 14 cfg0.N) (funext fun d => Fin.ext ?_)) e) (v.trans ?_)
  rotate_left
  · rw [krow_eq]
  match d with
  | ⟨0, _⟩ => show 256 * t.val + a.val = win0_14.index t (0 : Fin 2) * 256 + 1 * a.val; rw [e0]; omega
  | ⟨1, _⟩ => show b.val = win0_14.index t (1 : Fin 2) * 256 + 1 * b.val; rw [e1]; omega

theorem out15 (r : Fin 8448) (b : Fin 256) : ((dats m 0 c).arrAt 15 cfg0.N (ix2 r b) : EReal)
    = Rows.proj (ctx m c) (seq m c) (branch m c) (mods m c) (gain m c) (wIn m c) r ⟨4352 + b.val, by omega⟩ := by
  obtain ⟨t, a, rfl⟩ := pos_of r
  obtain ⟨-, -, -, -, -, -, -, -, -, -, e0, e1⟩ := places_out t
  have e := (congrFun (blocks15 m c t (flush0_15 t)) (ix2 a b)).trans (congrFun (flushed15_A m c t) (ix2 a b))
  have v := Tile.out15_at (grid0.coords t) (iblk m c 0 t) (iblk m c 1 t) (iblk m c 2 t) (iblk m c 3 t) (iblk m c 4 t) (iblk m c 5 t) (iblk m c 6 t) (iblk m c 7 t) (iblk m c 8 t) (iblk m c 9 t) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) a b
  refine Eq.trans (Eq.trans (congrArg ((dats m 0 c).arrAt 15 cfg0.N) (funext fun d => Fin.ext ?_)) e) (v.trans ?_)
  rotate_left
  · exact proj_eq m c t a _
  match d with
  | ⟨0, _⟩ => show 256 * t.val + a.val = win0_15.index t (0 : Fin 2) * 256 + 1 * a.val; rw [e0]; omega
  | ⟨1, _⟩ => show b.val = win0_15.index t (1 : Fin 2) * 256 + 1 * b.val; rw [e1]; omega

end Cert.Kernel11Ideal.Array

end
-- ==== Proof.Mix.Block11.lean ====
module

public import proofs.«01_k».proof.Defs
public import proofs.«01_k».proof.Proof.Mix.Array11
public import proofs.«01_k».proof.Proof.Gen.Kernel11.Frame

@[expose] public section

set_option maxRecDepth 16384

/-!
The claims about the input projection of the mixers.
-/

noncomputable section

namespace Cert.Proof.Block11

open Idealize.ShloMosaic Idealize.ShloMosaic.TcCoe Idealize.SL.Sem Cert.Reference11Ideal.Read

theorem frame_p : Cert.quiescent_Kernel11 (hKernel11 := Cert.Kernel11.Gen.facts) := fun m ρ _ => Cert.Kernel11.Gen.frame m ρ

theorem frame_pi : Cert.quiescent_Kernel11Ideal (hKernel11Ideal := Cert.Kernel11Ideal.Gen.facts) := fun m ρ _ => Cert.Kernel11Ideal.Gen.frame m ρ

theorem frame_ri : Cert.quiescent_Reference11Ideal (hReference11Ideal := Cert.Reference11Ideal.Gen.facts) := fun m ρ _ =>
  (θ_run Cert.Reference11Ideal.defs _ _).mono (fun r h => ⟨fun c => (h c).2.2.2.2.2.2, sem_eq_zero_of_no_sems (by decide) r.2⟩)
    (Cert.Reference11Ideal.Value.run (F := Ideal) m ρ)

theorem preserves : Cert.preserves_Kernel11_Kernel11Ideal := trivial

/-- Two matrices with the same entries are the same. -/
theorem same {n0 n1 : ℕ} {f g : (⟨2, ![n0, n1]⟩ : Shape).Idx → EReal} (h : ∀ a b, f (ix2 a b) = g (ix2 a b)) : f = g :=
  funext fun i => by obtain ⟨a, b, rfl⟩ := Cert.Merge.pair i; exact h a b

open Cert.Kernel11Ideal Cert.Kernel11Ideal.Gen Cert.Reference11Ideal.Rows in
theorem algebraic : Cert.algebraic_Kernel11Ideal_Reference11Ideal (hKernel11Ideal := Cert.Kernel11Ideal.Gen.facts)
    (hReference11Ideal := Cert.Reference11Ideal.Gen.facts) := by
  intro m g m' g' _ hagree
  refine ⟨fun c => (dats m 0 c).arrAt 10 cfg0.N, fun c => (dats m 0 c).arrAt 11 cfg0.N, fun c => (dats m 0 c).arrAt 12 cfg0.N,
    fun c => (dats m 0 c).arrAt 13 cfg0.N, fun c => (dats m 0 c).arrAt 14 cfg0.N, fun c => (dats m 0 c).arrAt 15 cfg0.N,
    Cert.Kernel11Ideal.Value.run_blocks m g, ?_⟩
  refine (θ_run Cert.Reference11Ideal.defs _ _).mono (fun r h c => ?_) (Cert.Reference11Ideal.Value.run (F := Ideal) m' g')
  obtain ⟨a0, a1, a2, a3, a4, a5, a6, a7, a8, a9⟩ := hagree c
  obtain ⟨e0, e1, e2, e3, e4, e5, u⟩ := h c
  refine ⟨(e0.trans (val_main_v11_eq _ _ _ _)).trans ?_, (e1.trans (val_main_v130_eq m' c)).trans ?_, (e2.trans (val_main_v131_eq m' c)).trans ?_,
    (e3.trans (val_main_v132_eq m' c)).trans ?_, (e4.trans (val_main_v133_eq m' c)).trans ?_, (e5.trans (val_main_v134_eq m' c)).trans ?_, u⟩
  · rw [a0, a1, a2, a3]
    exact same fun a b => (xrow_at _ _ _ _ a b).trans (Cert.Kernel11Ideal.Array.out10 m c a b).symm
  · rw [a0, a1, a2, a3, a4]
    exact same fun a b => (norm_at _ _ _ _ _ a b).trans (Cert.Kernel11Ideal.Array.out11 m c a b).symm
  · rw [a0, a1, a2, a3, a4, a5]
    exact same fun a b => (proj_at _ _ _ _ _ _ a b).trans (Cert.Kernel11Ideal.Array.out12 m c a b).symm
  · rw [a0, a1, a2, a3, a4, a5, a6, a8, a9]
    exact same fun a b => (qrow_at _ _ _ _ _ _ _ _ _ a b).trans (Cert.Kernel11Ideal.Array.out13 m c a b).symm
  · rw [a0, a1, a2, a3, a4, a5, a7, a8, a9]
    exact same fun a b => (krow_at _ _ _ _ _ _ _ _ _ a b).trans (Cert.Kernel11Ideal.Array.out14 m c a b).symm
  · rw [a0, a1, a2, a3, a4, a5]
    exact same fun a b => (vals_at _ _ _ _ _ _ a b).trans (Cert.Kernel11Ideal.Array.out15 m c a b).symm

end Cert.Proof.Block11

end
-- ==== Proof.Merge.Tile10.lean ====
module

public import proofs.«01_k».proof.Proof.Merge.Row
public import proofs.«01_k».proof.Proof.Gen.Kernel10Ideal.Value
public import Idealize.ShloMosaic.Lib.Pointwise
public import Idealize.ShloMosaic.Lib.Pipeline.ValueKit.Tiles

@[expose] public section

set_option maxRecDepth 16384

/-!
The gradient of the merge: what a grid point leaves in each of its six outputs, at a position of its 256 rows.
-/

noncomputable section

namespace Cert.Kernel10Ideal.Tile

open Idealize.ShloMosaic Idealize.ShloMosaic.TcCoe Idealize.SL.Sem
open Cert.Kernel10Ideal Cert.Kernel10Ideal.Gen Cert.Ffn Cert.Prod Cert.Merge

theorem at_zero : ∀ a : Fin 2, (![0, 0] : Fin 2 → ℕ) a = 0 := by decide

section
variable (x0 x1 x2 : Vec Ideal S256x1024 .bf16) (x3 : Vec Ideal S256x1024 .f32) (x4 x5 x6 x7 : Vec Ideal S256x512 .bf16)
  (x8 x9 x10 : Vec Ideal S1024x1024 .bf16)

/-- The gradient of the merged sum at row `a` of the tile. -/
def dz (a : Fin 256) (b : Fin 1024) : EReal := dotRow (fun k => x0 (ix2 a k)) (fun k => x10 (ix2 b k))

/-- The gates of row `a` of the tile: four pieces of 512. -/
def gates (a : Fin 256) (n : Fin 2048) : EReal :=
  if h : n.val < 512 then x4 (ix2 a ⟨n.val, h⟩)
  else if h : n.val < 1024 then x5 (ix2 a ⟨n.val - 512, by omega⟩)
  else if h : n.val < 1536 then x6 (ix2 a ⟨n.val - 1024, by omega⟩)
  else x7 (ix2 a ⟨n.val - 1536, by omega⟩)

theorem gates0 (a : Fin 256) (q : Fin 512) : gates x4 x5 x6 x7 a ⟨q.val, by omega⟩ = x4 (ix2 a q) := by
  unfold gates; exact dif_pos q.isLt
theorem gates1 (a : Fin 256) (q : Fin 512) (n : Fin 2048) (h : n.val = 512 + q.val) : gates x4 x5 x6 x7 a n = x5 (ix2 a q) := by
  unfold gates; rw [dif_neg (by omega), dif_pos (by omega)]; congr 2; exact Fin.ext (by show n.val - 512 = q.val; omega)
theorem gates2 (a : Fin 256) (q : Fin 512) (n : Fin 2048) (h : n.val = 1024 + q.val) : gates x4 x5 x6 x7 a n = x6 (ix2 a q) := by
  unfold gates; rw [dif_neg (by omega), dif_neg (by omega), dif_pos (by omega)]; congr 2; exact Fin.ext (by show n.val - 1024 = q.val; omega)
theorem gates3 (a : Fin 256) (q : Fin 512) (n : Fin 2048) (h : n.val = 1536 + q.val) : gates x4 x5 x6 x7 a n = x7 (ix2 a q) := by
  unfold gates; rw [dif_neg (by omega), dif_neg (by omega), dif_neg (by omega)]; congr 2; exact Fin.ext (by show n.val - 1536 = q.val; omega)

theorem dz_at (a : Fin 256) (b : Fin 1024) : (k0_pay3 (F := Ideal) x0 x10 (ix2 a b) : EReal) = dz x0 x10 a b := by
  unfold k0_pay3 dz dotRow
  pointwise

theorem lo_first (a : Fin 256) (b : Fin 512) (g : Vec Ideal S256x512 .bf16) :
    (k0_pay7 (F := Ideal) x0 x10 g (ix2 a b) : EReal) = dz x0 x10 a ⟨b.val, by omega⟩ * Ideal.logistic (g (ix2 a b)) := by
  rw [← dz_at]
  unfold k0_pay7 k0_pay4 k0_pay5
  generalize k0_pay3 x0 x10 = v
  pointwise

theorem lo_second (a : Fin 256) (b : Fin 512) (g : Vec Ideal S256x512 .bf16) :
    (k0_pay8 (F := Ideal) x0 x10 g (ix2 a b) : EReal) = dz x0 x10 a ⟨b.val, by omega⟩ * Ideal.logistic (g (ix2 a b)) := by
  rw [← dz_at]
  unfold k0_pay8 k0_pay4 k0_pay6
  generalize k0_pay3 x0 x10 = v
  pointwise

theorem hi_first (a : Fin 256) (b : Fin 512) (g : Vec Ideal S256x512 .bf16) :
    (k0_pay14 (F := Ideal) (k0_pay3 x0 x10) g (ix2 a b) : EReal) = dz x0 x10 a ⟨512 + b.val, by omega⟩ * Ideal.logistic (g (ix2 a b)) := by
  rw [← dz_at]
  unfold k0_pay14 k0_pay11 k0_pay12
  generalize k0_pay3 x0 x10 = v
  pointwise

theorem hi_second (a : Fin 256) (b : Fin 512) (g : Vec Ideal S256x512 .bf16) :
    (k0_pay15 (F := Ideal) (k0_pay3 x0 x10) g (ix2 a b) : EReal) = dz x0 x10 a ⟨512 + b.val, by omega⟩ * Ideal.logistic (g (ix2 a b)) := by
  rw [← dz_at]
  unfold k0_pay15 k0_pay11 k0_pay13
  generalize k0_pay3 x0 x10 = v
  pointwise

theorem lo_gate1 (a : Fin 256) (b : Fin 512) (g u : Vec Ideal S256x512 .bf16) :
    (k0_pay9 (F := Ideal) x0 x10 g u (ix2 a b) : EReal) = gate (dz x0 x10 a ⟨b.val, by omega⟩) (u (ix2 a b)) (g (ix2 a b)) := by
  rw [← dz_at]
  unfold k0_pay9 k0_pay4 k0_pay5 gate
  generalize k0_pay3 x0 x10 = v
  pointwise

theorem lo_gate2 (a : Fin 256) (b : Fin 512) (g u : Vec Ideal S256x512 .bf16) :
    (k0_pay10 (F := Ideal) x0 x10 g u (ix2 a b) : EReal) = gate (dz x0 x10 a ⟨b.val, by omega⟩) (u (ix2 a b)) (g (ix2 a b)) := by
  rw [← dz_at]
  unfold k0_pay10 k0_pay4 k0_pay6 gate
  generalize k0_pay3 x0 x10 = v
  pointwise

theorem hi_gate1 (a : Fin 256) (b : Fin 512) (g u : Vec Ideal S256x512 .bf16) :
    (k0_pay16 (F := Ideal) (k0_pay3 x0 x10) g u (ix2 a b) : EReal) = gate (dz x0 x10 a ⟨512 + b.val, by omega⟩) (u (ix2 a b)) (g (ix2 a b)) := by
  rw [← dz_at]
  unfold k0_pay16 k0_pay11 k0_pay12 gate
  generalize k0_pay3 x0 x10 = v
  pointwise

theorem hi_gate2 (a : Fin 256) (b : Fin 512) (g u : Vec Ideal S256x512 .bf16) :
    (k0_pay17 (F := Ideal) (k0_pay3 x0 x10) g u (ix2 a b) : EReal) = gate (dz x0 x10 a ⟨512 + b.val, by omega⟩) (u (ix2 a b)) (g (ix2 a b)) := by
  rw [← dz_at]
  unfold k0_pay17 k0_pay11 k0_pay13 gate
  generalize k0_pay3 x0 x10 = v
  pointwise

end

section
variable (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S256x1024 .bf16) (harg12 : arg12.IsWhole) (arg13 : Memref sig .tc .vmem S256x1024 .bf16) (harg13 : arg13.IsWhole) (arg14 : Memref sig .tc .vmem S256x2048 .bf16) (harg14 : arg14.IsWhole) (arg15 : Memref sig .tc .vmem S256x1024 .f32) (harg15 : arg15.IsWhole) (arg16 : Memref sig .tc .vmem S256x1024 .bf16) (harg16 : arg16.IsWhole) (arg17 : Memref sig .tc .vmem S2x4x256 .f32) (harg17 : arg17.IsWhole)
  (x0 : Vec Ideal S256x1024 .bf16) (x1 : Vec Ideal S256x1024 .bf16) (x2 : Vec Ideal S256x1024 .bf16) (x3 : Vec Ideal S256x1024 .f32) (x4 : Vec Ideal S256x512 .bf16) (x5 : Vec Ideal S256x512 .bf16) (x6 : Vec Ideal S256x512 .bf16) (x7 : Vec Ideal S256x512 .bf16) (x8 : Vec Ideal S1024x1024 .bf16) (x9 : Vec Ideal S1024x1024 .bf16) (x10 : Vec Ideal S1024x1024 .bf16)

theorem r_eq : kernelRun0_A.sl.r (F := Ideal) c arg1 harg1 arg11 harg11 x0 x10 = k0_pay3 x0 x10 := by
  unfold kernelRun0_A.sl.r
  rw [load_all arg1 harg1 x0 at_zero, load_all arg11 harg11 x10 at_zero]

/-- What the stores of the first branch's gradient leave. -/
theorem first_left (a : Fin 256) (b : Fin 1024) : (View.canon (Val := Elt Ideal) (kernelRun0_A.sl.H11_2 (F := Ideal) c arg1 harg1 arg5 harg5 arg6 harg6 arg11 harg11 x0 x4 x5 x10) (ix2 a b) : EReal)
    = first (dz x0 x10 a) (gates x4 x5 x6 x7 a) b := by
  unfold kernelRun0_A.sl.H11_2
  canon_tiles x h
  · obtain ⟨p, q, rfl⟩ := pair x
    obtain rfl : a = p := Fin.ext h0
    obtain rfl : b = ⟨512 + q.val, below q (by decide)⟩ := Fin.ext h1
    rw [r_eq, load_all arg6 harg6 x5 at_zero, hi_first]
    unfold first
    rw [gates1 x4 x5 x6 x7 a q _ rfl]
  · obtain ⟨p, q, rfl⟩ := pair x
    obtain rfl : a = p := Fin.ext h0
    obtain rfl : b = ⟨q.val, lt_of_lt_of_le q.isLt (by decide)⟩ := Fin.ext h1
    rw [load_all arg1 harg1 x0 at_zero, load_all arg11 harg11 x10 at_zero, load_all arg5 harg5 x4 at_zero, lo_first]
    unfold first
    rw [gates0 x4 x5 x6 x7 a q]

/-- What the stores of the second branch's gradient leave. -/
theorem second_left (a : Fin 256) (b : Fin 1024) : (View.canon (Val := Elt Ideal) (kernelRun0_A.sl.H12_2 (F := Ideal) c arg1 harg1 arg7 harg7 arg8 harg8 arg11 harg11 x0 x6 x7 x10) (ix2 a b) : EReal)
    = second (dz x0 x10 a) (gates x4 x5 x6 x7 a) b := by
  unfold kernelRun0_A.sl.H12_2
  canon_tiles x h
  · obtain ⟨p, q, rfl⟩ := pair x
    obtain rfl : a = p := Fin.ext h0
    obtain rfl : b = ⟨512 + q.val, below q (by decide)⟩ := Fin.ext h1
    rw [r_eq, load_all arg8 harg8 x7 at_zero, hi_second]
    unfold second
    rw [gates3 x4 x5 x6 x7 a q _ (by show 1024 + (512 + q.val) = _; omega)]
  · obtain ⟨p, q, rfl⟩ := pair x
    obtain rfl : a = p := Fin.ext h0
    obtain rfl : b = ⟨q.val, lt_of_lt_of_le q.isLt (by decide)⟩ := Fin.ext h1
    rw [load_all arg1 harg1 x0 at_zero, load_all arg11 harg11 x10 at_zero, load_all arg7 harg7 x6 at_zero, lo_second]
    unfold second
    rw [gates2 x4 x5 x6 x7 a q _ rfl]

theorem out11_at (a : Fin 256) (b : Fin 1024) : (out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 (ix2 a b) : EReal)
    = first (dz x0 x10 a) (gates x4 x5 x6 x7 a) b := by
  unfold out0_A_11 kernelRun0_A
  dsimp only
  rw [View.read_writes_junk_eq_canon]
  exact first_left c arg1 harg1 arg5 harg5 arg6 harg6 arg11 harg11 x0 x4 x5 x6 x7 x10 a b

theorem out12_at (a : Fin 256) (b : Fin 1024) : (out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 (ix2 a b) : EReal)
    = second (dz x0 x10 a) (gates x4 x5 x6 x7 a) b := by
  unfold out0_A_12 kernelRun0_A
  dsimp only
  rw [View.read_writes_junk_eq_canon]
  exact second_left c arg1 harg1 arg7 harg7 arg8 harg8 arg11 harg11 x0 x4 x5 x6 x7 x10 a b

theorem load_part (M : Memref sig .tc .vmem S256x1024 .bf16) (hM : M.IsWhole) (x : Vec Ideal S256x1024 .bf16) (o : ℕ)
    (inb : ∀ a, (![0, o] : Fin 2 → ℕ) a + (![256, 512] : Fin 2 → ℕ) a ≤ S256x1024.size a) (a : Fin 256) (q : Fin 512) (b : Fin 1024) (h : b.val = o + q.val) :
    M.view.readAt (Elt Ideal) (Rect.unit (s := S256x1024) ![0, o] ![256, 512] inb).toLoadRect (hM.unread x) (ix2 a q) = x (ix2 a b) := by
  rw [View.readAt_apply, hM.read_unread]
  refine congrArg x (funext fun d => Fin.ext ?_)
  match d with
  | ⟨0, _⟩ => show 0 + 1 * a.val = a.val; omega
  | ⟨1, _⟩ => show o + 1 * q.val = b.val; omega

/-- The branch a gate belongs to. -/
def branch (a : Fin 256) (n : Fin 2048) : EReal := if h : n.val < 1024 then x1 (ix2 a ⟨n.val, h⟩) else x2 (ix2 a ⟨n.val - 1024, by omega⟩)

/-- The gradient of the gates at row `a`. -/
def dgate (a : Fin 256) (n : Fin 2048) : EReal :=
  gate (dz x0 x10 a ⟨n.val % 1024, Nat.mod_lt _ (by decide)⟩) (branch x1 x2 a n) (gates x4 x5 x6 x7 a n)

theorem dgate_eq (a : Fin 256) (n : Fin 2048) (d u g : EReal) (hd : dz x0 x10 a ⟨n.val % 1024, Nat.mod_lt _ (by decide)⟩ = d) (hu : branch x1 x2 a n = u)
    (hg : gates x4 x5 x6 x7 a n = g) : gate d u g = dgate x0 x1 x2 x4 x5 x6 x7 x10 a n := by
  subst hd hu hg; rfl

theorem out13_at (a : Fin 256) (n : Fin 2048) : (out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 (ix2 a n) : EReal)
    = dgate x0 x1 x2 x4 x5 x6 x7 x10 a n := by
  unfold out0_A_13 kernelRun0_A
  dsimp only
  rw [View.read_writes_junk_eq_canon]
  canon_tiles x h
  · obtain ⟨p, q, rfl⟩ := pair x
    obtain rfl : a = p := Fin.ext h0
    obtain rfl : n = ⟨1536 + q.val, below q (by decide)⟩ := Fin.ext h1
    rw [r_eq, load_all arg8 harg8 x7 at_zero, hi_gate2, load_part arg3 harg3 x2 512 _ a q ⟨512 + q.val, by omega⟩ rfl]
    refine dgate_eq x0 x1 x2 x4 x5 x6 x7 x10 a _ _ _ _ (congrArg (dz x0 x10 a) (Fin.ext ?_)) ?_ (gates3 x4 x5 x6 x7 a q _ rfl)
    · show (1536 + q.val) % 1024 = 512 + q.val; omega
    · unfold branch; rw [dif_neg (by show ¬1536 + q.val < 1024; omega)]; exact congrArg (fun z => x2 (ix2 a z)) (Fin.ext (by show 1536 + q.val - 1024 = 512 + q.val; omega))
  · obtain ⟨p, q, rfl⟩ := pair x
    obtain rfl : a = p := Fin.ext h0
    obtain rfl : n = ⟨512 + q.val, below q (by decide)⟩ := Fin.ext h1
    rw [r_eq, load_all arg6 harg6 x5 at_zero, hi_gate1, load_part arg2 harg2 x1 512 _ a q ⟨512 + q.val, by omega⟩ rfl]
    refine dgate_eq x0 x1 x2 x4 x5 x6 x7 x10 a _ _ _ _ (congrArg (dz x0 x10 a) (Fin.ext ?_)) ?_ (gates1 x4 x5 x6 x7 a q _ rfl)
    · show (512 + q.val) % 1024 = 512 + q.val; omega
    · unfold branch; rw [dif_pos (by show 512 + q.val < 1024; omega)]
  · obtain ⟨p, q, rfl⟩ := pair x
    obtain rfl : a = p := Fin.ext h0
    obtain rfl : n = ⟨1024 + q.val, below q (by decide)⟩ := Fin.ext h1
    unfold kernelRun0_A.sl.r_1
    rw [load_all arg1 harg1 x0 at_zero, load_all arg11 harg11 x10 at_zero, load_all arg7 harg7 x6 at_zero, lo_gate2,
      load_part arg3 harg3 x2 0 _ a q ⟨q.val, by omega⟩ (Nat.zero_add _).symm]
    refine dgate_eq x0 x1 x2 x4 x5 x6 x7 x10 a _ _ _ _ (congrArg (dz x0 x10 a) (Fin.ext ?_)) ?_ (gates2 x4 x5 x6 x7 a q _ rfl)
    · show (1024 + q.val) % 1024 = q.val; omega
    · unfold branch; rw [dif_neg (by show ¬1024 + q.val < 1024; omega)]; exact congrArg (fun z => x2 (ix2 a z)) (Fin.ext (by show 1024 + q.val - 1024 = q.val; omega))
  · obtain ⟨p, q, rfl⟩ := pair x
    obtain rfl : a = p := Fin.ext h0
    obtain rfl : n = ⟨q.val, lt_of_lt_of_le q.isLt (by decide)⟩ := Fin.ext h1
    rw [load_all arg1 harg1 x0 at_zero, load_all arg11 harg11 x10 at_zero, load_all arg5 harg5 x4 at_zero, lo_gate1,
      load_part arg2 harg2 x1 0 _ a q ⟨q.val, by omega⟩ (Nat.zero_add _).symm]
    refine dgate_eq x0 x1 x2 x4 x5 x6 x7 x10 a _ _ _ _ (congrArg (dz x0 x10 a) (Fin.ext ?_)) ?_ (gates0 x4 x5 x6 x7 a q)
    · show q.val % 1024 = q.val; omega
    · unfold branch; rw [dif_pos (by show q.val < 1024; omega)]

theorem out14_at (a : Fin 256) (b : Fin 1024) : (out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 (ix2 a b) : EReal)
    = dotRow (first (dz x0 x10 a) (gates x4 x5 x6 x7 a)) (fun k => x8 (ix2 b k)) := by
  unfold out0_A_14 kernelRun0_A
  dsimp only
  rw [View.read_writes_junk_eq_canon, canon_all _ at_zero, load_all arg9 harg9 x8 at_zero]
  have e : kernelRun0_A.sl.r_2 (F := Ideal) c arg1 harg1 arg5 harg5 arg6 harg6 arg11 harg11 arg12 x0 x4 x5 x10
      = View.canon (Val := Elt Ideal) (kernelRun0_A.sl.H11_2 (F := Ideal) c arg1 harg1 arg5 harg5 arg6 harg6 arg11 harg11 x0 x4 x5 x10) := by
    unfold kernelRun0_A.sl.r_2 k0_pay18 kernelRun0_A.sl.v65
    dsimp only
    rw [load_back arg12 _ at_zero, shapeCast_self]
  rw [e]
  unfold dotRow
  simp only [← first_left c arg1 harg1 arg5 harg5 arg6 harg6 arg11 harg11 x0 x4 x5 x6 x7 x10 a]
  generalize View.canon (Val := Elt Ideal) (kernelRun0_A.sl.H11_2 (F := Ideal) c arg1 harg1 arg5 harg5 arg6 harg6 arg11 harg11 x0 x4 x5 x10) = v
  unfold k0_pay19
  pointwise

theorem back (a : Fin 256) (b : Fin 1024) : (kernelRun0_A.sl.v70 (F := Ideal) c arg1 harg1 arg7 harg7 arg8 harg8 arg11 harg11 arg13 x0 x6 x7 x10 (ix2 a b) : EReal)
    = second (dz x0 x10 a) (gates x4 x5 x6 x7 a) b := by
  unfold kernelRun0_A.sl.v70
  rw [load_back arg13 _ at_zero]
  exact second_left c arg1 harg1 arg7 harg7 arg8 harg8 arg11 harg11 x0 x4 x5 x6 x7 x10 a b

theorem before_at (a : Fin 256) (b : Fin 1024) : (k0_pay20 (F := Ideal) (kernelRun0_A.sl.v70 (F := Ideal) c arg1 harg1 arg7 harg7 arg8 harg8 arg11 harg11 arg13 x0 x6 x7 x10) x9 (ix2 a b) : EReal)
    = before (dz x0 x10 a) (gates x4 x5 x6 x7 a) x9 b := by
  unfold before dotRow
  simp only [← back c arg1 harg1 arg7 harg7 arg8 harg8 arg11 harg11 arg13 x0 x4 x5 x6 x7 x10 a]
  generalize kernelRun0_A.sl.v70 (F := Ideal) c arg1 harg1 arg7 harg7 arg8 harg8 arg11 harg11 arg13 x0 x6 x7 x10 = v
  unfold k0_pay20
  pointwise

theorem out15_at (a : Fin 256) (b : Fin 1024) : (out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 (ix2 a b) : EReal)
    = before (dz x0 x10 a) (gates x4 x5 x6 x7 a) x9 b := by
  unfold out0_A_15 kernelRun0_A
  dsimp only
  rw [View.read_writes_junk_eq_canon, canon_all _ at_zero, load_all arg10 harg10 x9 at_zero]
  exact before_at c arg1 harg1 arg7 harg7 arg8 harg8 arg11 harg11 arg13 x0 x4 x5 x6 x7 x9 x10 a b

/-- The gradient before the branch's weight times the attention's output, as the tile holds it. -/
theorem weighed (a : Fin 256) (b : Fin 1024) : (k0_pay22 (F := Ideal) (kernelRun0_A.sl.v70 (F := Ideal) c arg1 harg1 arg7 harg7 arg8 harg8 arg11 harg11 arg13 x0 x6 x7 x10) x9 x3 (ix2 a b) : EReal)
    = before (dz x0 x10 a) (gates x4 x5 x6 x7 a) x9 b * x3 (ix2 a b) := by
  rw [← before_at c arg1 harg1 arg7 harg7 arg8 harg8 arg11 harg11 arg13 x0 x4 x5 x6 x7 x9 x10 a b]
  rfl

theorem heads (v70 : Vec Ideal S256x1024 .bf16) (v77 : FVec Ideal S256x1024 .f32) (a : Fin 256) (h : k0_pay22 (F := Ideal) v70 x9 x3 = v77) :
    (k0_pay23 (F := Ideal) v70 x9 x3 (ix3 0 0 a) : EReal) = ∑ k : Fin 128, v77 (ix2 a ⟨0 + k.val, by omega⟩)
    ∧ (k0_pay24 (F := Ideal) v70 x9 x3 (ix3 0 0 a) : EReal) = ∑ k : Fin 128, v77 (ix2 a ⟨128 + k.val, by omega⟩)
    ∧ (k0_pay26 (F := Ideal) (k0_pay25 v70 x9 x3) (ix3 0 0 a) : EReal) = ∑ k : Fin 128, v77 (ix2 a ⟨256 + k.val, by omega⟩) := by
  subst h
  unfold k0_pay23 k0_pay24 k0_pay26 k0_pay25
  generalize k0_pay22 v70 x9 x3 = v
  refine ⟨?_, ?_, ?_⟩
  · pointwise
  · pointwise
  · pointwise

theorem heads' (v : FVec Ideal S256x1024 .f32) (a : Fin 256) :
    (k0_pay27 (F := Ideal) v (ix3 0 0 a) : EReal) = ∑ k : Fin 128, v (ix2 a ⟨384 + k.val, by omega⟩)
    ∧ (k0_pay28 (F := Ideal) v (ix3 0 0 a) : EReal) = ∑ k : Fin 128, v (ix2 a ⟨512 + k.val, by omega⟩)
    ∧ (k0_pay29 (F := Ideal) v (ix3 0 0 a) : EReal) = ∑ k : Fin 128, v (ix2 a ⟨640 + k.val, by omega⟩)
    ∧ (k0_pay1 (F := Ideal) (k0_pay30 v) (ix3 0 0 a) : EReal) = ∑ k : Fin 128, v (ix2 a ⟨768 + k.val, by omega⟩)
    ∧ (k0_pay2 (F := Ideal) v (ix3 0 0 a) : EReal) = ∑ k : Fin 128, v (ix2 a ⟨896 + k.val, by omega⟩) := by
  unfold k0_pay27 k0_pay28 k0_pay29 k0_pay1 k0_pay30 k0_pay2
  refine ⟨?_, ?_, ?_, ?_, ?_⟩ <;> pointwise

theorem head_sum (a : Fin 256) (o : ℕ) (h : Fin 8) (e : 128 * h.val = o) (ho : ∀ k : Fin 128, o + k.val < 1024) (v : FVec Ideal S256x1024 .f32)
    (hv : v = k0_pay22 (F := Ideal) (kernelRun0_A.sl.v70 (F := Ideal) c arg1 harg1 arg7 harg7 arg8 harg8 arg11 harg11 arg13 x0 x6 x7 x10) x9 x3) :
    (∑ k : Fin 128, (v (ix2 a ⟨o + k.val, ho k⟩) : EReal)) = delta (dz x0 x10 a) (gates x4 x5 x6 x7 a) x9 (fun k => x3 (ix2 a k)) h := by
  subst e hv
  exact Finset.sum_congr rfl fun k _ => weighed c arg1 harg1 arg7 harg7 arg8 harg8 arg11 harg11 arg13 x0 x3 x4 x5 x6 x7 x9 x10 a _

theorem out16_at (p : Fin 2) (q : Fin 4) (a : Fin 256) : (out0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 (ix3 p q a) : EReal)
    = delta (dz x0 x10 a) (gates x4 x5 x6 x7 a) x9 (fun k => x3 (ix2 a k)) ⟨4 * p.val + q.val, by omega⟩ := by
  unfold out0_A_16 kernelRun0_A
  dsimp only
  rw [View.read_writes_junk_eq_canon]
  unfold kernelRun0_A.sl.r_4 kernelRun0_A.sl.r_5 kernelRun0_A.sl.r_3
  simp only [load_all arg10 harg10 x9 at_zero, load_all arg4 harg4 x3 at_zero]
  canon_tiles x h
  all_goals
    obtain ⟨u, v, w, rfl⟩ := triple x
    obtain rfl : u = 0 := Fin.ext (by omega)
    obtain rfl : v = 0 := Fin.ext (by omega)
    obtain rfl : a = w := Fin.ext h2
    have hp : p.val = _ := h0
    have hq : q.val = _ := h1
  · refine (heads' _ a).2.2.2.2.trans (head_sum c arg1 harg1 arg7 harg7 arg8 harg8 arg11 harg11 arg13 x0 x3 x4 x5 x6 x7 x9 x10 a _ _ ?_ _ _ rfl)
    show 128 * (4 * p.val + q.val) = 896
    rw [hp, hq]; rfl
  · refine (heads' _ a).2.2.2.1.trans (head_sum c arg1 harg1 arg7 harg7 arg8 harg8 arg11 harg11 arg13 x0 x3 x4 x5 x6 x7 x9 x10 a _ _ ?_ _ _ rfl)
    show 128 * (4 * p.val + q.val) = 768
    rw [hp, hq]; rfl
  · refine (heads' _ a).2.2.1.trans (head_sum c arg1 harg1 arg7 harg7 arg8 harg8 arg11 harg11 arg13 x0 x3 x4 x5 x6 x7 x9 x10 a _ _ ?_ _ _ rfl)
    show 128 * (4 * p.val + q.val) = 640
    rw [hp, hq]; rfl
  · refine (heads' _ a).2.1.trans (head_sum c arg1 harg1 arg7 harg7 arg8 harg8 arg11 harg11 arg13 x0 x3 x4 x5 x6 x7 x9 x10 a _ _ ?_ _ _ rfl)
    show 128 * (4 * p.val + q.val) = 512
    rw [hp, hq]; rfl
  · refine (heads' _ a).1.trans (head_sum c arg1 harg1 arg7 harg7 arg8 harg8 arg11 harg11 arg13 x0 x3 x4 x5 x6 x7 x9 x10 a _ _ ?_ _ _ rfl)
    show 128 * (4 * p.val + q.val) = 384
    rw [hp, hq]; rfl
  · refine (heads x3 x9 _ _ a rfl).2.2.trans (head_sum c arg1 harg1 arg7 harg7 arg8 harg8 arg11 harg11 arg13 x0 x3 x4 x5 x6 x7 x9 x10 a _ _ ?_ _ _ rfl)
    show 128 * (4 * p.val + q.val) = 256
    rw [hp, hq]; rfl
  · refine (heads x3 x9 _ _ a rfl).2.1.trans (head_sum c arg1 harg1 arg7 harg7 arg8 harg8 arg11 harg11 arg13 x0 x3 x4 x5 x6 x7 x9 x10 a _ _ ?_ _ _ rfl)
    show 128 * (4 * p.val + q.val) = 128
    rw [hp, hq]; rfl
  · refine (heads x3 x9 _ _ a rfl).1.trans (head_sum c arg1 harg1 arg7 harg7 arg8 harg8 arg11 harg11 arg13 x0 x3 x4 x5 x6 x7 x9 x10 a _ _ ?_ _ _ rfl)
    show 128 * (4 * p.val + q.val) = 0
    rw [hp, hq]; rfl

end

end Cert.Kernel10Ideal.Tile

end
-- ==== Proof.Merge.Ref10.lean ====
module

public import proofs.«01_k».proof.Proof.Merge.Row
public import proofs.«01_k».proof.Proof.Gen.Reference10Ideal.Run
public import proofs.«01_k».proof.Proof.Gen.Reference10Ideal.Read
public import Idealize.ShloMosaic.Lib.Pointwise

@[expose] public section

set_option maxRecDepth 16384

/-!
The gradient of the merge as the reference states it, position by position.
-/

noncomputable section

namespace Cert.Reference10Ideal.Rows

open Idealize.ShloMosaic Idealize.ShloMosaic.TcCoe Idealize.SL.Sem
open Cert.Reference10Ideal Cert.Reference10Ideal.Read Cert.Ffn Cert.Merge

variable (x0 x1 x2 : (⟨S8448x1024, .bf16⟩ : BufTy).Contents (Elt Ideal)) (x3 : (⟨S8448x1024, .f32⟩ : BufTy).Contents (Elt Ideal))
  (x4 : (⟨S8448x6656, .bf16⟩ : BufTy).Contents (Elt Ideal)) (x5 x6 x7 : (⟨S1024x1024, .bf16⟩ : BufTy).Contents (Elt Ideal))

/-- The gradient of the merged sum at position `r`. -/
def dz (r : Fin 8448) (b : Fin 1024) : EReal := dotRow (fun k => x0 (ix2 r k)) (fun k => x7 (ix2 b k))

/-- The gates at position `r`: the last 2048 columns of the projection. -/
def gates (r : Fin 8448) (n : Fin 2048) : EReal := x4 (ix2 r (⟨4608 + n.val, by omega⟩ : Fin 6656))

theorem dz_at (r : Fin 8448) (b : Fin 1024) : (val_main_v21 (F := Ideal) x0 x7 (ix2 r b) : EReal) = dz x0 x7 r b := by
  unfold val_main_v21 val_main_v20 val_main_v18 dz dotRow
  pointwise

theorem sig_at (r : Fin 8448) (n : Fin 2048) : (val_main_v9 (F := Ideal) x4 (ix2 r n) : EReal) = Ideal.logistic (gates x4 r n) := by
  unfold val_main_v9 val_main_v8 val_main_v7 val_main_v6 val_main_v5 val_main_v4 val_main_v1 val_main_v0 val_main_cst val_main_cst_0 Ideal.logistic gates
  pointwise

theorem first_at (r : Fin 8448) (b : Fin 1024) : (val_main_v24 (F := Ideal) x0 x4 x7 (ix2 r b) : EReal) = first (dz x0 x7 r) (gates x4 r) b := by
  unfold first
  rw [← dz_at, ← sig_at]
  unfold val_main_v24 val_main_v13
  generalize val_main_v21 x0 x7 = d
  generalize val_main_v9 x4 = g
  pointwise
  exact mul_comm _ _

theorem second_at (r : Fin 8448) (b : Fin 1024) : (val_main_v22 (F := Ideal) x0 x4 x7 (ix2 r b) : EReal) = second (dz x0 x7 r) (gates x4 r) b := by
  unfold second
  rw [← dz_at, ← sig_at]
  unfold val_main_v22 val_main_v14
  generalize val_main_v21 x0 x7 = d
  generalize val_main_v9 x4 = g
  pointwise
  exact mul_comm _ _

/-- The branch a gate belongs to. -/
def branch (r : Fin 8448) (n : Fin 2048) : EReal := if h : n.val < 1024 then x1 (ix2 r ⟨n.val, h⟩) else x2 (ix2 r ⟨n.val - 1024, by omega⟩)

/-- The gradient of the gates at position `r`. -/
def dgate (r : Fin 8448) (n : Fin 2048) : EReal :=
  gate (dz x0 x7 r ⟨n.val % 1024, Nat.mod_lt _ (by decide)⟩) (branch x1 x2 r n) (gates x4 r n)

theorem gate_at (r : Fin 8448) (n : Fin 2048) : (val_main_v27 (F := Ideal) x0 x1 x2 x4 x7 (ix2 r n) : EReal) = dgate x0 x1 x2 x4 x7 r n := by
  unfold dgate gate branch
  rw [← dz_at, ← sig_at]
  unfold val_main_v27 val_main_v26 val_main_v25 val_main_v23 val_main_v12 val_main_v11 val_main_v10 val_main_cst_1 val_main_v3 val_main_v2
  generalize val_main_v21 x0 x7 = d
  generalize val_main_v9 x4 = g
  by_cases h : n.val < 1024
  · rw [dif_pos h]
    have e : (⟨n.val % 1024, Nat.mod_lt _ (by decide)⟩ : Fin 1024) = ⟨n.val, h⟩ := Fin.ext (Nat.mod_eq_of_lt h)
    rw [e]
    pointwise
    rw [dif_pos h]
  · rw [dif_neg h]
    have e : (⟨n.val % 1024, Nat.mod_lt _ (by decide)⟩ : Fin 1024) = ⟨n.val - 1024, by omega⟩ := Fin.ext (by show n.val % 1024 = n.val - 1024; omega)
    rw [e]
    pointwise
    rw [dif_neg h]

theorem conv_at (r : Fin 8448) (b : Fin 1024) : (val_main_v31 (F := Ideal) x0 x4 x5 x7 (ix2 r b) : EReal)
    = dotRow (first (dz x0 x7 r) (gates x4 r)) (fun k => x5 (ix2 b k)) := by
  unfold dotRow
  simp only [← first_at]
  unfold val_main_v31 val_main_v29
  generalize val_main_v24 x0 x4 x7 = v
  pointwise

theorem before_at (r : Fin 8448) (b : Fin 1024) : (val_main_v34 (F := Ideal) x0 x4 x6 x7 (ix2 r b) : EReal) = before (dz x0 x7 r) (gates x4 r) x6 b := by
  unfold before dotRow
  simp only [← second_at]
  unfold val_main_v34 val_main_v32
  generalize val_main_v22 x0 x4 x7 = v
  pointwise

theorem delta_at (p : Fin 2) (q : Fin 4) (r : Fin 8448) : (val_main_v43 (F := Ideal) x0 x3 x4 x6 x7 (ix3 p q r) : EReal)
    = delta (dz x0 x7 r) (gates x4 r) x6 (fun k => x3 (ix2 r k)) ⟨4 * p.val + q.val, by omega⟩ := by
  unfold delta
  simp only [← before_at]
  unfold val_main_v43 val_main_v42 val_main_v37 val_main_v36 val_main_v35 val_main_cst_3
  generalize val_main_v34 x0 x4 x6 x7 = v
  pointwise
  refine Finset.sum_congr rfl fun k _ => ?_
  have e : (⟨(p.val * 4 + q.val) * 128 + k.val, by omega⟩ : Fin 1024) = ⟨128 * (4 * p.val + q.val) + k.val, by omega⟩ := Fin.ext (by show (p.val * 4 + q.val) * 128 + k.val = 128 * (4 * p.val + q.val) + k.val; omega)
  rw [e]

end Cert.Reference10Ideal.Rows

end
-- ==== Proof.Merge.Array10.lean ====
module

public import proofs.«01_k».proof.Proof.Merge.Tile10
public import proofs.«01_k».proof.Proof.Merge.Ref10

@[expose] public section

set_option maxRecDepth 16384

/-!
The gradient of the merge: the six arrays the launch leaves, position by position, as the reference's.
-/

noncomputable section

namespace Cert.Kernel10Ideal.Array

open Idealize.ShloMosaic Idealize.ShloMosaic.TcCoe Idealize.SL.Sem
open Cert.Kernel10Ideal Cert.Kernel10Ideal.Gen Cert.Kernel10Ideal.Value Cert.Ffn Cert.Merge Cert.Reference10Ideal

variable (m : (ℓ : Loc nD τ sig) → Buf (Elt Ideal) ℓ) (c : Dev nD)

/-- The arguments, as arrays of extended reals. -/
abbrev dmo : Vec Ideal S8448x1024 .bf16 := m ((c : Thread nD τ).loc main_arg0)
abbrev one : Vec Ideal S8448x1024 .bf16 := m ((c : Thread nD τ).loc main_arg1)
abbrev two : Vec Ideal S8448x1024 .bf16 := m ((c : Thread nD τ).loc main_arg2)
abbrev att : Vec Ideal S8448x1024 .f32 := m ((c : Thread nD τ).loc main_arg3)
abbrev proj : Vec Ideal S8448x6656 .bf16 := m ((c : Thread nD τ).loc main_arg4)
abbrev wConv : Vec Ideal S1024x1024 .bf16 := m ((c : Thread nD τ).loc main_arg5)
abbrev wAtt : Vec Ideal S1024x1024 .bf16 := m ((c : Thread nD τ).loc main_arg6)
abbrev wOut : Vec Ideal S1024x1024 .bf16 := m ((c : Thread nD τ).loc main_arg7)

theorem count (t : Fin cfg0.N) : t.val < 33 := lt_of_lt_of_eq t.isLt N_0

theorem places_rows : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem places_gates : ∀ t : Fin cfg0.N, win0_4.index t (0 : Fin 2) = t.val ∧ win0_4.index t (1 : Fin 2) = 9
    ∧ win0_5.index t (0 : Fin 2) = t.val ∧ win0_5.index t (1 : Fin 2) = 10
    ∧ win0_6.index t (0 : Fin 2) = t.val ∧ win0_6.index t (1 : Fin 2) = 11
    ∧ win0_7.index t (0 : Fin 2) = t.val ∧ win0_7.index t (1 : Fin 2) = 12 :=
  (by decide +kernel : ∀ t : Fin grid0.N, _)

theorem places_weights : ∀ t : Fin cfg0.N, win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0 :=
  (by decide +kernel : ∀ t : Fin grid0.N, _)

theorem places_out : ∀ t : Fin cfg0.N, win0_11.index t (0 : Fin 2) = t.val ∧ win0_11.index t (1 : Fin 2) = 0
    ∧ win0_12.index t (0 : Fin 2) = t.val ∧ win0_12.index t (1 : Fin 2) = 0
    ∧ win0_13.index t (0 : Fin 2) = t.val ∧ win0_13.index t (1 : Fin 2) = 0
    ∧ win0_14.index t (0 : Fin 2) = t.val ∧ win0_14.index t (1 : Fin 2) = 0
    ∧ win0_15.index t (0 : Fin 2) = t.val ∧ win0_15.index t (1 : Fin 2) = 0
    ∧ win0_16.index t (0 : Fin 3) = 0 ∧ win0_16.index t (1 : Fin 3) = 0 ∧ win0_16.index t (2 : Fin 3) = t.val :=
  (by decide +kernel : ∀ t : Fin grid0.N, _)

/-- The array position of row `a` of point `t`. -/
def pos (t : Fin cfg0.N) (a : Fin 256) : Fin 8448 := ⟨256 * t.val + a.val, by have := count t; omega⟩

theorem pos_of (r : Fin 8448) : ∃ (t : Fin cfg0.N) (a : Fin 256), pos t a = r := by
  have hr := r.isLt
  exact ⟨⟨r.val / 256, lt_of_lt_of_eq (by omega) N_0.symm⟩, ⟨r.val % 256, Nat.mod_lt _ (by decide)⟩,
    Fin.ext (by show 256 * (r.val / 256) + r.val % 256 = r.val; omega)⟩

/-! ## The blocks a point takes -/

theorem dmo_block (t : Fin cfg0.N) (a : Fin 256) (k : Fin 1024) : ((iblk m c 0 t : Vec Ideal S256x1024 .bf16) (ix2 a k) : EReal) = dmo m c (ix2 (pos t a) k) := by
  obtain ⟨e0, e1, -⟩ := places_rows t
  refine congrArg (dmo m c) (funext fun d => Fin.ext ?_)
  match d with
  | ⟨0, _⟩ => show win0_0.index t (0 : Fin 2) * 256 + 1 * a.val = 256 * t.val + a.val; rw [e0]; omega
  | ⟨1, _⟩ => show win0_0.index t (1 : Fin 2) * 1024 + 1 * k.val = k.val; rw [e1]; omega

theorem one_block (t : Fin cfg0.N) (a : Fin 256) (k : Fin 1024) : ((iblk m c 1 t : Vec Ideal S256x1024 .bf16) (ix2 a k) : EReal) = one m c (ix2 (pos t a) k) := by
  obtain ⟨-, -, e0, e1, -⟩ := places_rows t
  refine congrArg (one m c) (funext fun d => Fin.ext ?_)
  match d with
  | ⟨0, _⟩ => show win0_1.index t (0 : Fin 2) * 256 + 1 * a.val = 256 * t.val + a.val; rw [e0]; omega
  | ⟨1, _⟩ => show win0_1.index t (1 : Fin 2) * 1024 + 1 * k.val = k.val; rw [e1]; omega

theorem two_block (t : Fin cfg0.N) (a : Fin 256) (k : Fin 1024) : ((iblk m c 2 t : Vec Ideal S256x1024 .bf16) (ix2 a k) : EReal) = two m c (ix2 (pos t a) k) := by
  obtain ⟨-, -, -, -, e0, e1, -⟩ := places_rows t
  refine congrArg (two m c) (funext fun d => Fin.ext ?_)
  match d with
  | ⟨0, _⟩ => show win0_2.index t (0 : Fin 2) * 256 + 1 * a.val = 256 * t.val + a.val; rw [e0]; omega
  | ⟨1, _⟩ => show win0_2.index t (1 : Fin 2) * 1024 + 1 * k.val = k.val; rw [e1]; omega

theorem att_block (t : Fin cfg0.N) (a : Fin 256) (k : Fin 1024) : ((iblk m c 3 t : Vec Ideal S256x1024 .f32) (ix2 a k) : EReal) = att m c (ix2 (pos t a) k) := by
  obtain ⟨-, -, -, -, -, -, e0, e1⟩ := places_rows t
  refine congrArg (att m c) (funext fun d => Fin.ext ?_)
  match d with
  | ⟨0, _⟩ => show win0_3.index t (0 : Fin 2) * 256 + 1 * a.val = 256 * t.val + a.val; rw [e0]; omega
  | ⟨1, _⟩ => show win0_3.index t (1 : Fin 2) * 1024 + 1 * k.val = k.val; rw [e1]; omega

theorem wConv_block (t : Fin cfg0.N) : (iblk m c 8 t : Vec Ideal S1024x1024 .bf16) = wConv m c := by
  obtain ⟨e0, e1, -⟩ := places_weights t
  refine funext fun y => congrArg (wConv m c) (funext fun d => Fin.ext ?_)
  match d with
  | ⟨0, _⟩ => show win0_8.index t (0 : Fin 2) * 1024 + 1 * (y 0).val = (y 0).val; rw [e0]; omega
  | ⟨1, _⟩ => show win0_8.index t (1 : Fin 2) * 1024 + 1 * (y 1).val = (y 1).val; rw [e1]; omega

theorem wAtt_block (t : Fin cfg0.N) : (iblk m c 9 t : Vec Ideal S1024x1024 .bf16) = wAtt m c := by
  obtain ⟨-, -, e0, e1, -⟩ := places_weights t
  refine funext fun y => congrArg (wAtt m c) (funext fun d => Fin.ext ?_)
  match d with
  | ⟨0, _⟩ => show win0_9.index t (0 : Fin 2) * 1024 + 1 * (y 0).val = (y 0).val; rw [e0]; omega
  | ⟨1, _⟩ => show win0_9.index t (1 : Fin 2) * 1024 + 1 * (y 1).val = (y 1).val; rw [e1]; omega

theorem wOut_block (t : Fin cfg0.N) : (iblk m c 10 t : Vec Ideal S1024x1024 .bf16) = wOut m c := by
  obtain ⟨-, -, -, -, e0, e1⟩ := places_weights t
  refine funext fun y => congrArg (wOut m c) (funext fun d => Fin.ext ?_)
  match d with
  | ⟨0, _⟩ => show win0_10.index t (0 : Fin 2) * 1024 + 1 * (y 0).val = (y 0).val; rw [e0]; omega
  | ⟨1, _⟩ => show win0_10.index t (1 : Fin 2) * 1024 + 1 * (y 1).val = (y 1).val; rw [e1]; omega

theorem gates_block0 (t : Fin cfg0.N) (a : Fin 256) (q : Fin 512) (n : Fin 2048) (h : n.val = 0 + q.val) :
    ((iblk m c 4 t : Vec Ideal S256x512 .bf16) (ix2 a q) : EReal) = Rows.gates (proj m c) (pos t a) n := by
  obtain ⟨e0, e1, -⟩ := places_gates t
  unfold Rows.gates
  refine congrArg (proj m c) (funext fun d => Fin.ext ?_)
  match d with
  | ⟨0, _⟩ => show win0_4.index t (0 : Fin 2) * 256 + 1 * a.val = 256 * t.val + a.val; rw [e0]; omega
  | ⟨1, _⟩ => show win0_4.index t (1 : Fin 2) * 512 + 1 * q.val = 4608 + n.val; rw [e1]; omega

theorem gates_block1 (t : Fin cfg0.N) (a : Fin 256) (q : Fin 512) (n : Fin 2048) (h : n.val = 512 + q.val) :
    ((iblk m c 5 t : Vec Ideal S256x512 .bf16) (ix2 a q) : EReal) = Rows.gates (proj m c) (pos t a) n := by
  obtain ⟨-, -, e0, e1, -⟩ := places_gates t
  unfold Rows.gates
  refine congrArg (proj m c) (funext fun d => Fin.ext ?_)
  match d with
  | ⟨0, _⟩ => show win0_5.index t (0 : Fin 2) * 256 + 1 * a.val = 256 * t.val + a.val; rw [e0]; omega
  | ⟨1, _⟩ => show win0_5.index t (1 : Fin 2) * 512 + 1 * q.val = 4608 + n.val; rw [e1]; omega

theorem gates_block2 (t : Fin cfg0.N) (a : Fin 256) (q : Fin 512) (n : Fin 2048) (h : n.val = 1024 + q.val) :
    ((iblk m c 6 t : Vec Ideal S256x512 .bf16) (ix2 a q) : EReal) = Rows.gates (proj m c) (pos t a) n := by
  obtain ⟨-, -, -, -, e0, e1, -⟩ := places_gates t
  unfold Rows.gates
  refine congrArg (proj m c) (funext fun d => Fin.ext ?_)
  match d with
  | ⟨0, _⟩ => show win0_6.index t (0 : Fin 2) * 256 + 1 * a.val = 256 * t.val + a.val; rw [e0]; omega
  | ⟨1, _⟩ => show win0_6.index t (1 : Fin 2) * 512 + 1 * q.val = 4608 + n.val; rw [e1]; omega

theorem gates_block3 (t : Fin cfg0.N) (a : Fin 256) (q : Fin 512) (n : Fin 2048) (h : n.val = 1536 + q.val) :
    ((iblk m c 7 t : Vec Ideal S256x512 .bf16) (ix2 a q) : EReal) = Rows.gates (proj m c) (pos t a) n := by
  obtain ⟨-, -, -, -, -, -, e0, e1⟩ := places_gates t
  unfold Rows.gates
  refine congrArg (proj m c) (funext fun d => Fin.ext ?_)
  match d with
  | ⟨0, _⟩ => show win0_7.index t (0 : Fin 2) * 256 + 1 * a.val = 256 * t.val + a.val; rw [e0]; omega
  | ⟨1, _⟩ => show win0_7.index t (1 : Fin 2) * 512 + 1 * q.val = 4608 + n.val; rw [e1]; omega

/-! ## The rows of a point -/

theorem dz_eq (t : Fin cfg0.N) (a : Fin 256) : Tile.dz (iblk m c 0 t) (iblk m c 10 t) a = Rows.dz (dmo m c) (wOut m c) (pos t a) := by
  funext b
  unfold Tile.dz Rows.dz dotRow
  rw [wOut_block]
  exact Finset.sum_congr rfl fun k _ => congrArg (fun z => z * wOut m c (ix2 b k)) (dmo_block m c t a k)

theorem gates_eq (t : Fin cfg0.N) (a : Fin 256) : Tile.gates (iblk m c 4 t) (iblk m c 5 t) (iblk m c 6 t) (iblk m c 7 t) a = Rows.gates (proj m c) (pos t a) := by
  funext n
  unfold Tile.gates
  split
  · exact gates_block0 m c t a _ n (Nat.zero_add _).symm
  · split
    · exact gates_block1 m c t a _ n (by show n.val = 512 + (n.val - 512); omega)
    · split
      · exact gates_block2 m c t a _ n (by show n.val = 1024 + (n.val - 1024); omega)
      · exact gates_block3 m c t a _ n (by show n.val = 1536 + (n.val - 1536); omega)

theorem dgate_eq (t : Fin cfg0.N) (a : Fin 256) (n : Fin 2048) :
    Tile.dgate (iblk m c 0 t) (iblk m c 1 t) (iblk m c 2 t) (iblk m c 4 t) (iblk m c 5 t) (iblk m c 6 t) (iblk m c 7 t) (iblk m c 10 t) a n
      = Rows.dgate (dmo m c) (one m c) (two m c) (proj m c) (wOut m c) (pos t a) n := by
  unfold Tile.dgate Rows.dgate
  rw [dz_eq, gates_eq]
  refine congrArg (fun z => gate _ z _) ?_
  unfold Tile.branch Rows.branch
  split
  · exact one_block m c t a _
  · exact two_block m c t a _

theorem att_eq (t : Fin cfg0.N) (a : Fin 256) : (fun k => (iblk m c 3 t : Vec Ideal S256x1024 .f32) (ix2 a k) : Fin 1024 → EReal) = fun k => att m c (ix2 (pos t a) k) :=
  funext fun k => att_block m c t a k

/-! ## The arrays -/

theorem out11 (r : Fin 8448) (b : Fin 1024) : ((dats m 0 c).arrAt 11 cfg0.N (ix2 r b) : EReal)
    = first (Rows.dz (dmo m c) (wOut m c) r) (Rows.gates (proj m c) r) b := by
  obtain ⟨t, a, rfl⟩ := pos_of r
  obtain ⟨e0, e1, -⟩ := places_out t
  have e := (congrFun (blocks11 m c t (flush0_11 t)) (ix2 a b)).trans (congrFun (flushed11_A m c t) (ix2 a b))
  have v := Tile.out11_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (iblk m c 0 t) (iblk m c 1 t) (iblk m c 2 t) (iblk m c 3 t) (iblk m c 4 t) (iblk m c 5 t) (iblk m c 6 t) (iblk m c 7 t) (iblk m c 8 t) (iblk m c 9 t) (iblk m c 10 t) a b
  refine Eq.trans (Eq.trans (congrArg ((dats m 0 c).arrAt 11 cfg0.N) (funext fun d => Fin.ext ?_)) e) (v.trans ?_)
  rotate_left
  · rw [dz_eq, gates_eq]
  match d with
  | ⟨0, _⟩ => show 256 * t.val + a.val = win0_11.index t (0 : Fin 2) * 256 + 1 * a.val; rw [e0]; omega
  | ⟨1, _⟩ => show b.val = win0_11.index t (1 : Fin 2) * 1024 + 1 * b.val; rw [e1]; omega

theorem out12 (r : Fin 8448) (b : Fin 1024) : ((dats m 0 c).arrAt 12 cfg0.N (ix2 r b) : EReal)
    = second (Rows.dz (dmo m c) (wOut m c) r) (Rows.gates (proj m c) r) b := by
  obtain ⟨t, a, rfl⟩ := pos_of r
  obtain ⟨-, -, e0, e1, -⟩ := places_out t
  have e := (congrFun (blocks12 m c t (flush0_12 t)) (ix2 a b)).trans (congrFun (flushed12_A m c t) (ix2 a b))
  have v := Tile.out12_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (iblk m c 0 t) (iblk m c 1 t) (iblk m c 2 t) (iblk m c 3 t) (iblk m c 4 t) (iblk m c 5 t) (iblk m c 6 t) (iblk m c 7 t) (iblk m c 8 t) (iblk m c 9 t) (iblk m c 10 t) a b
  refine Eq.trans (Eq.trans (congrArg ((dats m 0 c).arrAt 12 cfg0.N) (funext fun d => Fin.ext ?_)) e) (v.trans ?_)
  rotate_left
  · rw [dz_eq, gates_eq]
  match d with
  | ⟨0, _⟩ => show 256 * t.val + a.val = win0_12.index t (0 : Fin 2) * 256 + 1 * a.val; rw [e0]; omega
  | ⟨1, _⟩ => show b.val = win0_12.index t (1 : Fin 2) * 1024 + 1 * b.val; rw [e1]; omega

theorem out13 (r : Fin 8448) (b : Fin 2048) : ((dats m 0 c).arrAt 13 cfg0.N (ix2 r b) : EReal)
    = Rows.dgate (dmo m c) (one m c) (two m c) (proj m c) (wOut m c) r b := by
  obtain ⟨t, a, rfl⟩ := pos_of r
  obtain ⟨-, -, -, -, e0, e1, -⟩ := places_out t
  have e := (congrFun (blocks13 m c t (flush0_13 t)) (ix2 a b)).trans (congrFun (flushed13_A m c t) (ix2 a b))
  have v := Tile.out13_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (iblk m c 0 t) (iblk m c 1 t) (iblk m c 2 t) (iblk m c 3 t) (iblk m c 4 t) (iblk m c 5 t) (iblk m c 6 t) (iblk m c 7 t) (iblk m c 8 t) (iblk m c 9 t) (iblk m c 10 t) a b
  refine Eq.trans (Eq.trans (congrArg ((dats m 0 c).arrAt 13 cfg0.N) (funext fun d => Fin.ext ?_)) e) (v.trans ?_)
  rotate_left
  · rw [dgate_eq]
  match d with
  | ⟨0, _⟩ => show 256 * t.val + a.val = win0_13.index t (0 : Fin 2) * 256 + 1 * a.val; rw [e0]; omega
  | ⟨1, _⟩ => show b.val = win0_13.index t (1 : Fin 2) * 2048 + 1 * b.val; rw [e1]; omega

theorem out14 (r : Fin 8448) (b : Fin 1024) : ((dats m 0 c).arrAt 14 cfg0.N (ix2 r b) : EReal)
    = dotRow (first (Rows.dz (dmo m c) (wOut m c) r) (Rows.gates (proj m c) r)) (fun k => wConv m c (ix2 b k)) := by
  obtain ⟨t, a, rfl⟩ := pos_of r
  obtain ⟨-, -, -, -, -, -, e0, e1, -⟩ := places_out t
  have e := (congrFun (blocks14 m c t (flush0_14 t)) (ix2 a b)).trans (congrFun (flushed14_A m c t) (ix2 a b))
  have v := Tile.out14_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (iblk m c 0 t) (iblk m c 1 t) (iblk m c 2 t) (iblk m c 3 t) (iblk m c 4 t) (iblk m c 5 t) (iblk m c 6 t) (iblk m c 7 t) (iblk m c 8 t) (iblk m c 9 t) (iblk m c 10 t) a b
  refine Eq.trans (Eq.trans (congrArg ((dats m 0 c).arrAt 14 cfg0.N) (funext fun d => Fin.ext ?_)) e) (v.trans ?_)
  rotate_left
  · rw [dz_eq, gates_eq, wConv_block]
  match d with
  | ⟨0, _⟩ => show 256 * t.val + a.val = win0_14.index t (0 : Fin 2) * 256 + 1 * a.val; rw [e0]; omega
  | ⟨1, _⟩ => show b.val = win0_14.index t (1 : Fin 2) * 1024 + 1 * b.val; rw [e1]; omega

theorem out15 (r : Fin 8448) (b : Fin 1024) : ((dats m 0 c).arrAt 15 cfg0.N (ix2 r b) : EReal)
    = before (Rows.dz (dmo m c) (wOut m c) r) (Rows.gates (proj m c) r) (wAtt m c) b := by
  obtain ⟨t, a, rfl⟩ := pos_of r
  obtain ⟨-, -, -, -, -, -, -, -, e0, e1, -⟩ := places_out t
  have e := (congrFun (blocks15 m c t (flush0_15 t)) (ix2 a b)).trans (congrFun (flushed15_A m c t) (ix2 a b))
  have v := Tile.out15_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (iblk m c 0 t) (iblk m c 1 t) (iblk m c 2 t) (iblk m c 3 t) (iblk m c 4 t) (iblk m c 5 t) (iblk m c 6 t) (iblk m c 7 t) (iblk m c 8 t) (iblk m c 9 t) (iblk m c 10 t) a b
  refine Eq.trans (Eq.trans (congrArg ((dats m 0 c).arrAt 15 cfg0.N) (funext fun d => Fin.ext ?_)) e) (v.trans ?_)
  rotate_left
  · rw [dz_eq, gates_eq, wAtt_block]
  match d with
  | ⟨0, _⟩ => show 256 * t.val + a.val = win0_15.index t (0 : Fin 2) * 256 + 1 * a.val; rw [e0]; omega
  | ⟨1, _⟩ => show b.val = win0_15.index t (1 : Fin 2) * 1024 + 1 * b.val; rw [e1]; omega

theorem out16 (p : Fin 2) (q : Fin 4) (r : Fin 8448) : ((dats m 0 c).arrAt 16 cfg0.N (ix3 p q r) : EReal)
    = delta (Rows.dz (dmo m c) (wOut m c) r) (Rows.gates (proj m c) r) (wAtt m c) (fun k => att m c (ix2 r k)) ⟨4 * p.val + q.val, by omega⟩ := by
  obtain ⟨t, a, rfl⟩ := pos_of r
  obtain ⟨-, -, -, -, -, -, -, -, -, -, e0, e1, e2⟩ := places_out t
  have e := (congrFun (blocks16 m c t (flush0_16 t)) (ix3 p q a)).trans (congrFun (flushed16_A m c t) (ix3 p q a))
  have v := Tile.out16_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (iblk m c 0 t) (iblk m c 1 t) (iblk m c 2 t) (iblk m c 3 t) (iblk m c 4 t) (iblk m c 5 t) (iblk m c 6 t) (iblk m c 7 t) (iblk m c 8 t) (iblk m c 9 t) (iblk m c 10 t) p q a
  refine Eq.trans (Eq.trans (congrArg ((dats m 0 c).arrAt 16 cfg0.N) (funext fun d => Fin.ext ?_)) e) (v.trans ?_)
  rotate_left
  · rw [dz_eq, gates_eq, wAtt_block, att_eq]
  match d with
  | ⟨0, _⟩ => show p.val = win0_16.index t (0 : Fin 3) * 2 + 1 * p.val; rw [e0]; omega
  | ⟨1, _⟩ => show q.val = win0_16.index t (1 : Fin 3) * 4 + 1 * q.val; rw [e1]; omega
  | ⟨2, _⟩ => show 256 * t.val + a.val = win0_16.index t (2 : Fin 3) * 256 + 1 * a.val; rw [e2]; omega

end Cert.Kernel10Ideal.Array

end
-- ==== Proof.Merge.Block10.lean ====
module

public import proofs.«01_k».proof.Defs
public import proofs.«01_k».proof.Proof.Merge.Array10
public import proofs.«01_k».proof.Proof.Gen.Kernel10.Frame

@[expose] public section

set_option maxRecDepth 16384

/-!
The claims about the gradient of the merge.
-/

noncomputable section

namespace Cert.Proof.Block10

open Idealize.ShloMosaic Idealize.ShloMosaic.TcCoe Idealize.SL.Sem Cert.Reference10Ideal.Read

theorem frame_p : Cert.quiescent_Kernel10 (hKernel10 := Cert.Kernel10.Gen.facts) := fun m ρ _ => Cert.Kernel10.Gen.frame m ρ

theorem frame_pi : Cert.quiescent_Kernel10Ideal (hKernel10Ideal := Cert.Kernel10Ideal.Gen.facts) := fun m ρ _ => Cert.Kernel10Ideal.Gen.frame m ρ

theorem frame_ri : Cert.quiescent_Reference10Ideal (hReference10Ideal := Cert.Reference10Ideal.Gen.facts) := fun m ρ _ =>
  (θ_run Cert.Reference10Ideal.defs _ _).mono (fun r h => ⟨fun c => (h c).2.2.2.2.2.2, sem_eq_zero_of_no_sems (by decide) r.2⟩)
    (Cert.Reference10Ideal.Value.run (F := Ideal) m ρ)

theorem preserves : Cert.preserves_Kernel10_Kernel10Ideal := trivial

/-- Two matrices with the same entries are the same. -/
theorem same {n0 n1 : ℕ} {f g : (⟨2, ![n0, n1]⟩ : Shape).Idx → EReal} (h : ∀ a b, f (ix2 a b) = g (ix2 a b)) : f = g :=
  funext fun i => by obtain ⟨a, b, rfl⟩ := Cert.Merge.pair i; exact h a b

/-- Two stacks of matrices with the same entries are the same. -/
theorem same3 {n0 n1 n2 : ℕ} {f g : (⟨3, ![n0, n1, n2]⟩ : Shape).Idx → EReal} (h : ∀ a b c, f (ix3 a b c) = g (ix3 a b c)) : f = g :=
  funext fun i => by obtain ⟨a, b, c, rfl⟩ := Cert.Merge.triple i; exact h a b c

open Cert.Kernel10Ideal Cert.Kernel10Ideal.Gen Cert.Reference10Ideal.Rows in
theorem algebraic : Cert.algebraic_Kernel10Ideal_Reference10Ideal (hKernel10Ideal := Cert.Kernel10Ideal.Gen.facts)
    (hReference10Ideal := Cert.Reference10Ideal.Gen.facts) := by
  intro m g m' g' _ hagree
  refine ⟨fun c => (dats m 0 c).arrAt 11 cfg0.N, fun c => (dats m 0 c).arrAt 12 cfg0.N, fun c => (dats m 0 c).arrAt 13 cfg0.N,
    fun c => (dats m 0 c).arrAt 14 cfg0.N, fun c => (dats m 0 c).arrAt 15 cfg0.N, fun c => (dats m 0 c).arrAt 16 cfg0.N,
    Cert.Kernel10Ideal.Value.run_blocks m g, ?_⟩
  refine (θ_run Cert.Reference10Ideal.defs _ _).mono (fun r h c => ?_) (Cert.Reference10Ideal.Value.run (F := Ideal) m' g')
  obtain ⟨a0, a1, a2, a3, a4, a5, a6, a7⟩ := hagree c
  obtain ⟨e0, e1, e2, e3, e4, e5, u⟩ := h c
  refine ⟨(e0.trans (val_main_v38_eq _ _ _)).trans ?_, (e1.trans (val_main_v39_eq _ _ _)).trans ?_, (e2.trans (val_main_v40_eq _ _ _ _ _)).trans ?_,
    (e3.trans (val_main_v31_eq _ _ _ _)).trans ?_, (e4.trans (val_main_v41_eq _ _ _ _)).trans ?_, (e5.trans (val_main_v43_eq _ _ _ _ _)).trans ?_, u⟩
  · rw [a0, a4, a7]
    exact same fun a b => (first_at _ _ _ a b).trans (Cert.Kernel10Ideal.Array.out11 m c a b).symm
  · rw [a0, a4, a7]
    exact same fun a b => (second_at _ _ _ a b).trans (Cert.Kernel10Ideal.Array.out12 m c a b).symm
  · rw [a0, a1, a2, a4, a7]
    exact same fun a b => (gate_at _ _ _ _ _ a b).trans (Cert.Kernel10Ideal.Array.out13 m c a b).symm
  · rw [a0, a4, a5, a7]
    exact same fun a b => (conv_at _ _ _ _ a b).trans (Cert.Kernel10Ideal.Array.out14 m c a b).symm
  · rw [a0, a4, a6, a7]
    exact same fun a b => (before_at _ _ _ _ a b).trans (Cert.Kernel10Ideal.Array.out15 m c a b).symm
  · rw [a0, a3, a4, a6, a7]
    exact same3 fun p q r => (delta_at _ _ _ _ _ p q r).trans (Cert.Kernel10Ideal.Array.out16 m c p q r).symm

end Cert.Proof.Block10

end
-- ==== Proof.Ffn.Tile9.lean ====
module

public import proofs.«01_k».proof.Proof.Ffn.Row
public import proofs.«01_k».proof.Proof.Gen.Kernel9Ideal.Value
public import Idealize.ShloMosaic.Lib.Pointwise

@[expose] public section

set_option maxRecDepth 16384

/-!
The first feed-forward block: what a grid point leaves in each output, at a position of its 256 rows.
-/

noncomputable section

namespace Cert.Kernel9Ideal.Tile

open Idealize.ShloMosaic Idealize.ShloMosaic.TcCoe Idealize.SL.Sem
open Cert.Kernel9Ideal Cert.Kernel9Ideal.Gen Cert.Kernel9Ideal.Value Cert.Ffn

theorem at_zero : ∀ a : Fin 2, (![0, 0] : Fin 2 → ℕ) a = 0 := by decide
theorem at_zero3 : ∀ a : Fin 3, (![0, 0, 0] : Fin 3 → ℕ) a = 0 := by decide

/-- A row of the point's tile: the context at the first point, the sequence at the others. -/
def pick (i : grid0.Coords) (x0 x1 : Vec Ideal S256x1024 .f32) (a : Fin 256) (k : Fin 1024) : EReal :=
  Scalar.select (Scalar.cmpi CmpIPredicate.eq (BitVec.ofNat 32 (i 0).val) 0#32) (x0 (ix2 a k)) (x1 (ix2 a k))

section
variable (i : grid0.Coords) (x0 : Vec Ideal S256x1024 .f32) (x1 : Vec Ideal S256x1024 .f32) (x2 : Vec Ideal S1x16x1024 .f32) (x3 : Vec Ideal S1x1024 .f32)
  (x4 : Vec Ideal S5632x1024 .bf16) (x5 : Vec Ideal S2816x1024 .bf16)

/-- The normed row of a tile. -/
def hrow (a : Fin 256) : Fin 1024 → EReal :=
  normed (pick i x0 x1 a) (fun k => x3 (ix2 0 k)) (fun k => x2 (ix3 0 0 k)) (fun k => x2 (ix3 0 1 k))

theorem norm_at (a : Fin 256) (b : Fin 1024) : (k0_pay5 (F := Ideal) i x0 x1 x2 x3 (ix2 a b) : EReal) = hrow i x0 x1 x2 x3 a b := by
  unfold k0_pay5
  pointwise
  rfl

theorem half_at (w : Vec Ideal S2816x1024 .bf16) (a : Fin 256) (b : Fin 2816) :
    (k0_pay7 (F := Ideal) i x0 x1 x2 x3 w (ix2 a b) : EReal) = dotRow (hrow i x0 x1 x2 x3 a) (fun k => w (ix2 b k)) := by
  unfold k0_pay7 dotRow
  simp only [← norm_at]
  generalize k0_pay5 i x0 x1 x2 x3 = h
  pointwise

/-- The product of a tile's row with row `n` of the first weight. -/
def up (a : Fin 256) (n : Fin 5632) : EReal := dotRow (hrow i x0 x1 x2 x3 a) (fun k => x4 (ix2 n k))

theorem ld_lo (b : Fin 2816) (k : Fin 1024) : View.ld x4 r0_3 (ix2 b k) = x4 (ix2 (⟨b.val, by omega⟩ : Fin 5632) k) :=
  congrArg x4 (funext fun a => Fin.ext (match a with
    | ⟨0, _⟩ => by show 0 + 1 * b.val = b.val; omega
    | ⟨1, _⟩ => by show 0 + 1 * k.val = k.val; omega))

theorem ld_hi (b : Fin 2816) (k : Fin 1024) : View.ld x4 r0_4 (ix2 b k) = x4 (ix2 (⟨2816 + b.val, by omega⟩ : Fin 5632) k) :=
  congrArg x4 (funext fun a => Fin.ext (match a with
    | ⟨0, _⟩ => by show 2816 + 1 * b.val = 2816 + b.val; omega
    | ⟨1, _⟩ => by show 0 + 1 * k.val = k.val; omega))

theorem lo_at (a : Fin 256) (b : Fin 2816) : (k0_pay10 (F := Ideal) i x0 x1 x2 x3 x4 x5 (ix2 a b) : EReal) = up i x0 x1 x2 x3 x4 a ⟨b.val, by omega⟩ := by
  unfold k0_pay10
  rw [ld_all x0 at_zero, ld_all x1 at_zero, ld_all x2 at_zero3, ld_all x3 at_zero, half_at]
  exact Finset.sum_congr rfl fun k _ => congrArg _ (ld_lo x4 b k)

theorem hi_at (a : Fin 256) (b : Fin 2816) : (k0_pay11 (F := Ideal) i x0 x1 x2 x3 x4 x5 (ix2 a b) : EReal) = up i x0 x1 x2 x3 x4 a ⟨2816 + b.val, by omega⟩ := by
  unfold k0_pay11
  rw [ld_all x0 at_zero, ld_all x1 at_zero, ld_all x2 at_zero3, ld_all x3 at_zero]
  refine (half_at i x0 x1 x2 x3 _ a b).trans ?_
  exact Finset.sum_congr rfl fun k _ => congrArg _ (ld_hi x4 b k)

theorem sig_at (a : Fin 256) (b : Fin 2816) :
    (k0_pay12 (F := Ideal) i x0 x1 x2 x3 x4 x5 (ix2 a b) : EReal) = Ideal.logistic (up i x0 x1 x2 x3 x4 a ⟨b.val, by omega⟩) := by
  rw [← lo_at i x0 x1 x2 x3 x4 x5 a b]
  rfl

/-- The gated activation of a tile's row. -/
def act (a : Fin 256) (b : Fin 2816) : EReal := gated (up i x0 x1 x2 x3 x4 a ⟨b.val, by omega⟩) (up i x0 x1 x2 x3 x4 a ⟨2816 + b.val, by omega⟩)

theorem act_at (a : Fin 256) (b : Fin 2816) :
    (k0_pay1 (F := Ideal) (k0_pay10 i x0 x1 x2 x3 x4 x5) (k0_pay11 i x0 x1 x2 x3 x4 x5) (k0_pay12 i x0 x1 x2 x3 x4 x5) (ix2 a b) : EReal)
      = act i x0 x1 x2 x3 x4 a b := by
  unfold act gated
  rw [← sig_at i x0 x1 x2 x3 x4 x5 a b, ← lo_at i x0 x1 x2 x3 x4 x5 a b, ← hi_at i x0 x1 x2 x3 x4 x5 a b]
  rfl

/-! ## The outputs of a point -/

theorem out6_at (a : Fin 256) (b : Fin 1024) : (out0_6 (F := Ideal) i x0 x1 x2 x3 x4 x5 (ix2 a b) : EReal) = hrow i x0 x1 x2 x3 a b := by
  unfold out0_6
  rw [canon_all _ at_zero, ld_all x0 at_zero, ld_all x1 at_zero, ld_all x2 at_zero3, ld_all x3 at_zero, norm_at]

theorem out8_at (a : Fin 256) (b : Fin 2816) : (out0_8 (F := Ideal) i x0 x1 x2 x3 x4 x5 (ix2 a b) : EReal) = act i x0 x1 x2 x3 x4 a b := by
  unfold out0_8
  rw [canon_all _ at_zero, act_at]

theorem out9_at (a : Fin 256) (b : Fin 1024) : (out0_9 (F := Ideal) i x0 x1 x2 x3 x4 x5 (ix2 a b) : EReal)
    = ∑ k, act i x0 x1 x2 x3 x4 a k * x5 (ix2 k b) := by
  unfold out0_9
  rw [canon_all _ at_zero, ld_all x5 at_zero]
  simp only [← act_at i x0 x1 x2 x3 x4 x5]
  unfold k0_pay4
  generalize k0_pay1 (k0_pay10 i x0 x1 x2 x3 x4 x5) (k0_pay11 i x0 x1 x2 x3 x4 x5) (k0_pay12 i x0 x1 x2 x3 x4 x5) = h
  unfold k0_pay6
  pointwise

theorem out7_lo (a : Fin 256) (b : Fin 2816) : (out0_7 (F := Ideal) i x0 x1 x2 x3 x4 x5 (ix2 a (⟨b.val, by omega⟩ : Fin 5632)) : EReal)
    = up i x0 x1 x2 x3 x4 a ⟨b.val, by omega⟩ := by
  unfold out0_7
  have e : (ix2 a (⟨b.val, by omega⟩ : Fin 5632) : S256x5632.Idx) = r0_5.emb (ix2 a b) := funext fun a => Fin.ext (match a with
    | ⟨0, _⟩ => by show _ = 0 + 1 * _; rw [Nat.zero_add, Nat.one_mul]; rfl
    | ⟨1, _⟩ => by show _ = 0 + 1 * _; rw [Nat.zero_add, Nat.one_mul]; rfl)
  rw [View.canon_cons_of_not_mem, e]
  · refine (View.canon_cons_emb (Val := Elt Ideal) r0_5 _ [] (ix2 a b)).trans (lo_at i x0 x1 x2 x3 x4 x5 a b)
  · intro hm
    have h2 := (Rect.mem_set_unit (inb := inb_S256x5632_S256x2816_0_2816).mp hm) 1
    have h3 : 2816 ≤ b.val := h2.1
    omega

theorem out7_hi (a : Fin 256) (b : Fin 2816) : (out0_7 (F := Ideal) i x0 x1 x2 x3 x4 x5 (ix2 a (⟨2816 + b.val, by omega⟩ : Fin 5632)) : EReal)
    = up i x0 x1 x2 x3 x4 a ⟨2816 + b.val, by omega⟩ := by
  unfold out0_7
  have e : (ix2 a (⟨2816 + b.val, by omega⟩ : Fin 5632) : S256x5632.Idx) = r0_6.emb (ix2 a b) := funext fun a => Fin.ext (match a with
    | ⟨0, _⟩ => by show _ = 0 + 1 * _; rw [Nat.zero_add, Nat.one_mul]; rfl
    | ⟨1, _⟩ => by show _ = 2816 + 1 * _; rw [Nat.one_mul]; rfl)
  rw [e]
  exact (View.canon_cons_emb (Val := Elt Ideal) r0_6 _ _ (ix2 a b)).trans (hi_at i x0 x1 x2 x3 x4 x5 a b)

end

end Cert.Kernel9Ideal.Tile

end
-- ==== Proof.Ffn.Ref9.lean ====
module

public import proofs.«01_k».proof.Proof.Ffn.Row
public import proofs.«01_k».proof.Proof.Gen.Reference9Ideal.Run
public import proofs.«01_k».proof.Proof.Gen.Reference9Ideal.Read
public import Idealize.ShloMosaic.Lib.Pointwise

@[expose] public section

set_option maxRecDepth 16384

noncomputable section

namespace Cert.Reference9Ideal.Rows

open Idealize.ShloMosaic Idealize.ShloMosaic.TcCoe Idealize.SL.Sem
open Cert.Reference9Ideal Cert.Reference9Ideal.Read Cert.Ffn

variable (x0 : (⟨S256x1024, .f32⟩ : BufTy).Contents (Elt Ideal)) (x1 : (⟨S8192x1024, .f32⟩ : BufTy).Contents (Elt Ideal)) (x2 : (⟨S2x16x1024, .f32⟩ : BufTy).Contents (Elt Ideal)) (x3 : (⟨S1x1024, .f32⟩ : BufTy).Contents (Elt Ideal)) (x4 : (⟨S5632x1024, .bf16⟩ : BufTy).Contents (Elt Ideal)) (x5 : (⟨S2816x1024, .bf16⟩ : BufTy).Contents (Elt Ideal))

theorem x_at (r : Fin 8448) (k : Fin 1024) : (val_main_v0 (F := Ideal) x0 x1 (ix2 r k) : EReal) = rowOf x0 x1 r k := by
  unfold val_main_v0 rowOf
  pointwise

theorem shift_at (r : Fin 8448) (k : Fin 1024) : (val_main_v21 (F := Ideal) x2 (ix2 r k) : EReal) = modOf x2 0 r k := by
  unfold val_main_v21 val_main_v20 val_main_v19 val_main_v18 val_main_v17 val_main_v16 val_main_v15 modOf
  pointwise
  rfl

theorem scale_at (r : Fin 8448) (k : Fin 1024) : (val_main_v28 (F := Ideal) x2 (ix2 r k) : EReal) = modOf x2 1 r k := by
  unfold val_main_v28 val_main_v27 val_main_v26 val_main_v25 val_main_v24 val_main_v23 val_main_v22 modOf
  pointwise
  rfl

/-- The normed row at position `r`. -/
def hrow (r : Fin 8448) : Fin 1024 → EReal := normed (rowOf x0 x1 r) (fun k => x3 (ix2 0 k)) (modOf x2 0 r) (modOf x2 1 r)

theorem norm_at (r : Fin 8448) (k : Fin 1024) : (val_main_v32 (F := Ideal) x0 x1 x2 x3 (ix2 r k) : EReal) = hrow x0 x1 x2 x3 r k := by
  unfold hrow normed
  simp only [← x_at, ← shift_at, ← scale_at]
  unfold val_main_v32 val_main_v31 val_main_v30 val_main_v29 val_main_v14 val_main_v13 val_main_v12 val_main_v11 val_main_v10 val_main_v9 val_main_v8 val_main_v7 val_main_v6 val_main_v5 val_main_v4 val_main_v3 val_main_v2 val_main_v1 val_main_cst val_main_cst_0 val_main_cst_1 val_main_cst_2
  generalize val_main_v0 x0 x1 = x
  generalize val_main_v21 x2 = s
  generalize val_main_v28 x2 = t
  pointwise

/-- The product of position `r` with row `n` of the first weight. -/
def up (r : Fin 8448) (n : Fin 5632) : EReal := dotRow (hrow x0 x1 x2 x3 r) (fun k => x4 (ix2 n k))

theorem up_at (r : Fin 8448) (n : Fin 5632) : (val_main_v35 (F := Ideal) x0 x1 x2 x3 x4 (ix2 r n) : EReal) = up x0 x1 x2 x3 x4 r n := by
  unfold up dotRow
  simp only [← norm_at]
  unfold val_main_v35 val_main_v34 val_main_v33
  generalize val_main_v32 x0 x1 x2 x3 = h
  pointwise

/-- The gated activation at position `r`. -/
def act (r : Fin 8448) (b : Fin 2816) : EReal := gated (up x0 x1 x2 x3 x4 r ⟨b.val, by omega⟩) (up x0 x1 x2 x3 x4 r ⟨2816 + b.val, by omega⟩)

theorem act_at (r : Fin 8448) (b : Fin 2816) : (val_main_v39 (F := Ideal) x0 x1 x2 x3 x4 (ix2 r b) : EReal) = act x0 x1 x2 x3 x4 r b := by
  unfold act gated Ideal.logistic
  simp only [← up_at]
  unfold val_main_v39 val_main_v38 val_main_call0_v5 val_main_call0_v4 val_main_call0_v3 val_main_call0_v2 val_main_call0_v1 val_main_call0_v0 val_main_call0_cst val_main_call0_cst_0 val_main_v37 val_main_v36
  generalize val_main_v35 x0 x1 x2 x3 x4 = h
  pointwise

theorem out0_at (r : Fin 8448) (k : Fin 1024) : (val_main_v40 (F := Ideal) x0 x1 x2 x3 (ix2 r k) : EReal) = hrow x0 x1 x2 x3 r k :=
  norm_at x0 x1 x2 x3 r k

theorem out1_at (r : Fin 8448) (n : Fin 5632) : (val_main_v41 (F := Ideal) x0 x1 x2 x3 x4 (ix2 r n) : EReal) = up x0 x1 x2 x3 x4 r n :=
  up_at x0 x1 x2 x3 x4 r n

theorem out2_at (r : Fin 8448) (b : Fin 2816) : (val_main_v42 (F := Ideal) x0 x1 x2 x3 x4 (ix2 r b) : EReal) = act x0 x1 x2 x3 x4 r b :=
  act_at x0 x1 x2 x3 x4 r b

theorem out3_at (r : Fin 8448) (k : Fin 1024) : (val_main_v44 (F := Ideal) x0 x1 x2 x3 x4 x5 (ix2 r k) : EReal)
    = ∑ b, act x0 x1 x2 x3 x4 r b * x5 (ix2 b k) := by
  simp only [← act_at]
  unfold val_main_v44 val_main_v43
  generalize val_main_v39 x0 x1 x2 x3 x4 = h
  pointwise

end Cert.Reference9Ideal.Rows
end
-- ==== Proof.Ffn.Array9.lean ====
module

public import proofs.«01_k».proof.Proof.Ffn.Tile9
public import proofs.«01_k».proof.Proof.Ffn.Ref9

@[expose] public section

set_option maxRecDepth 16384

/-!
The first feed-forward block: the four arrays the launch leaves, position by position, as the reference's rows.
-/

noncomputable section

namespace Cert.Kernel9Ideal.Array

open Idealize.ShloMosaic Idealize.ShloMosaic.TcCoe Idealize.SL.Sem
open Cert.Kernel9Ideal Cert.Kernel9Ideal.Gen Cert.Kernel9Ideal.Value Cert.Ffn Cert.Reference9Ideal

variable (m : (ℓ : Loc nD τ sig) → Buf (Elt Ideal) ℓ) (c : Dev nD)

/-- The arguments, as arrays of extended reals. -/
abbrev ctx : Vec Ideal S256x1024 .f32 := m ((c : Thread nD τ).loc main_arg0)
abbrev seq : Vec Ideal S8192x1024 .f32 := m ((c : Thread nD τ).loc main_arg1)
abbrev mods : Vec Ideal S2x16x1024 .f32 := m ((c : Thread nD τ).loc main_arg2)
abbrev gain : Vec Ideal S1x1024 .f32 := m ((c : Thread nD τ).loc main_arg3)
abbrev wIn : Vec Ideal S5632x1024 .bf16 := m ((c : Thread nD τ).loc main_arg4)
abbrev wOut : Vec Ideal S2816x1024 .bf16 := m ((c : Thread nD τ).loc main_arg5)

theorem count (t : Fin cfg0.N) : t.val < 33 := lt_of_lt_of_eq t.isLt N_0

theorem places : ∀ t : Fin cfg0.N, (grid0.coords t 0).val = t.val
    ∧ win0_0.index t (0 : Fin 2) = 0 ∧ win0_0.index t (1 : Fin 2) = 0
    ∧ win0_1.index t (0 : Fin 2) = t.val - 1 ∧ win0_1.index t (1 : Fin 2) = 0
    ∧ win0_2.index t (0 : Fin 3) = (if t.val = 0 then 0 else 1) ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

theorem places_out : ∀ t : Fin cfg0.N, win0_6.index t (0 : Fin 2) = t.val ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-! ## The blocks a point takes -/

theorem gain_block (t : Fin cfg0.N) : (iblk m c 3 t : Vec Ideal S1x1024 .f32) = gain m c := by
  obtain ⟨-, -, -, -, -, -, -, -, e0, e1, -⟩ := places t
  refine funext fun y => congrArg (gain m c) (funext fun a => Fin.ext ?_)
  match a with
  | ⟨0, _⟩ => show win0_3.index t (0 : Fin 2) * 1 + 1 * (y 0).val = (y 0).val; rw [e0]; omega
  | ⟨1, _⟩ => show win0_3.index t (1 : Fin 2) * 1024 + 1 * (y 1).val = (y 1).val; rw [e1]; omega

theorem wIn_block (t : Fin cfg0.N) : (iblk m c 4 t : Vec Ideal S5632x1024 .bf16) = wIn m c := by
  obtain ⟨-, -, -, -, -, -, -, -, -, -, e0, e1, -⟩ := places t
  refine funext fun y => congrArg (wIn m c) (funext fun a => Fin.ext ?_)
  match a with
  | ⟨0, _⟩ => show win0_4.index t (0 : Fin 2) * 5632 + 1 * (y 0).val = (y 0).val; rw [e0]; omega
  | ⟨1, _⟩ => show win0_4.index t (1 : Fin 2) * 1024 + 1 * (y 1).val = (y 1).val; rw [e1]; omega

theorem wOut_block (t : Fin cfg0.N) : (iblk m c 5 t : Vec Ideal S2816x1024 .bf16) = wOut m c := by
  obtain ⟨-, -, -, -, -, -, -, -, -, -, -, -, e0, e1⟩ := places t
  refine funext fun y => congrArg (wOut m c) (funext fun a => Fin.ext ?_)
  match a with
  | ⟨0, _⟩ => show win0_5.index t (0 : Fin 2) * 2816 + 1 * (y 0).val = (y 0).val; rw [e0]; omega
  | ⟨1, _⟩ => show win0_5.index t (1 : Fin 2) * 1024 + 1 * (y 1).val = (y 1).val; rw [e1]; omega

/-- The array position of row `a` of point `t`. -/
def pos (t : Fin cfg0.N) (a : Fin 256) : Fin 8448 := ⟨256 * t.val + a.val, by have := count t; omega⟩

theorem row_block (t : Fin cfg0.N) (a : Fin 256) :
    Tile.pick (grid0.coords t) (iblk m c 0 t) (iblk m c 1 t) a = rowOf (ctx m c) (seq m c) (pos t a) := by
  obtain ⟨e, c0, c1, s0, s1, -⟩ := places t
  have ht := count t
  funext k
  unfold Tile.pick rowOf
  rw [e]
  rcases Nat.eq_zero_or_pos t.val with h | h
  · have hr : (pos t a).val < 256 := by show 256 * t.val + a.val < 256; omega
    rw [dif_pos hr]
    have hb : Scalar.cmpi CmpIPredicate.eq (BitVec.ofNat 32 t.val) 0#32 = 1#1 := by rw [h]; decide
    rw [hb]
    refine (if_pos (by decide)).trans (congrArg (ctx m c) (funext fun d => Fin.ext ?_))
    match d with
    | ⟨0, _⟩ => show win0_0.index t (0 : Fin 2) * 256 + 1 * a.val = 256 * t.val + a.val; rw [c0]; omega
    | ⟨1, _⟩ => show win0_0.index t (1 : Fin 2) * 1024 + 1 * k.val = k.val; rw [c1]; omega
  · have hr : ¬(pos t a).val < 256 := by show ¬256 * t.val + a.val < 256; omega
    rw [dif_neg hr]
    have hb : Scalar.cmpi CmpIPredicate.eq (BitVec.ofNat 32 t.val) 0#32 = 0#1 := by
      have : ∀ n : Fin 33, 0 < n.val → Scalar.cmpi CmpIPredicate.eq (BitVec.ofNat 32 n.val) 0#32 = 0#1 := by decide
      exact this ⟨t.val, ht⟩ h
    rw [hb]
    refine (if_neg (by decide)).trans (congrArg (seq m c) (funext fun d => Fin.ext ?_))
    match d with
    | ⟨0, _⟩ => show win0_1.index t (0 : Fin 2) * 256 + 1 * a.val = 256 * t.val + a.val - 256; rw [s0]; omega
    | ⟨1, _⟩ => show win0_1.index t (1 : Fin 2) * 1024 + 1 * k.val = k.val; rw [s1]; omega

theorem mod_block (t : Fin cfg0.N) (a : Fin 256) (j : Fin 16) :
    (fun k => (iblk m c 2 t : Vec Ideal S1x16x1024 .f32) (ix3 0 j k)) = modOf (mods m c) j (pos t a) := by
  obtain ⟨-, -, -, -, -, e0, e1, e2, -⟩ := places t
  funext k
  unfold modOf
  rcases Nat.eq_zero_or_pos t.val with h | h
  · rw [if_pos (by show 256 * t.val + a.val < 256; omega)]
    rw [if_pos h] at e0
    refine congrArg (mods m c) (funext fun d => Fin.ext ?_)
    match d with
    | ⟨0, _⟩ => show win0_2.index t (0 : Fin 3) * 1 + 1 * 0 = 0; rw [e0]
    | ⟨1, _⟩ => show win0_2.index t (1 : Fin 3) * 16 + 1 * j.val = j.val; rw [e1]; omega
    | ⟨2, _⟩ => show win0_2.index t (2 : Fin 3) * 1024 + 1 * k.val = k.val; rw [e2]; omega
  · rw [if_neg (by show ¬256 * t.val + a.val < 256; omega)]
    rw [if_neg (by omega)] at e0
    refine congrArg (mods m c) (funext fun d => Fin.ext ?_)
    match d with
    | ⟨0, _⟩ => show win0_2.index t (0 : Fin 3) * 1 + 1 * 0 = 1; rw [e0]
    | ⟨1, _⟩ => show win0_2.index t (1 : Fin 3) * 16 + 1 * j.val = j.val; rw [e1]; omega
    | ⟨2, _⟩ => show win0_2.index t (2 : Fin 3) * 1024 + 1 * k.val = k.val; rw [e2]; omega

/-! ## The rows of a point -/

theorem hrow_eq (t : Fin cfg0.N) (a : Fin 256) : Tile.hrow (grid0.coords t) (iblk m c 0 t) (iblk m c 1 t) (iblk m c 2 t) (iblk m c 3 t) a
    = Rows.hrow (ctx m c) (seq m c) (mods m c) (gain m c) (pos t a) := by
  unfold Tile.hrow Rows.hrow
  rw [row_block, mod_block m c t a 0, mod_block m c t a 1, gain_block]

theorem up_eq (t : Fin cfg0.N) (a : Fin 256) (n : Fin 5632) :
    Tile.up (grid0.coords t) (iblk m c 0 t) (iblk m c 1 t) (iblk m c 2 t) (iblk m c 3 t) (iblk m c 4 t) a n
      = Rows.up (ctx m c) (seq m c) (mods m c) (gain m c) (wIn m c) (pos t a) n := by
  unfold Tile.up Rows.up
  rw [hrow_eq, wIn_block]

theorem act_eq (t : Fin cfg0.N) (a : Fin 256) (b : Fin 2816) :
    Tile.act (grid0.coords t) (iblk m c 0 t) (iblk m c 1 t) (iblk m c 2 t) (iblk m c 3 t) (iblk m c 4 t) a b
      = Rows.act (ctx m c) (seq m c) (mods m c) (gain m c) (wIn m c) (pos t a) b := by
  unfold Tile.act Rows.act
  rw [up_eq, up_eq]

/-! ## The arrays -/

theorem pos_of (r : Fin 8448) : ∃ (t : Fin cfg0.N) (a : Fin 256), pos t a = r := by
  have hr := r.isLt
  exact ⟨⟨r.val / 256, lt_of_lt_of_eq (by omega) N_0.symm⟩, ⟨r.val % 256, Nat.mod_lt _ (by decide)⟩,
    Fin.ext (by show 256 * (r.val / 256) + r.val % 256 = r.val; omega)⟩

theorem out6 (r : Fin 8448) (k : Fin 1024) : ((dats m 0 c).arrAt 6 cfg0.N (ix2 r k) : EReal)
    = Rows.hrow (ctx m c) (seq m c) (mods m c) (gain m c) r k := by
  obtain ⟨t, a, rfl⟩ := pos_of r
  obtain ⟨e0, e1, -⟩ := places_out t
  have e := congrFun (blocks6 m c t (flush0_6 t)) (ix2 a k)
  rw [flushed6] at e
  rw [← hrow_eq, ← Tile.out6_at (grid0.coords t) (iblk m c 0 t) (iblk m c 1 t) (iblk m c 2 t) (iblk m c 3 t) (iblk m c 4 t) (iblk m c 5 t)]
  refine Eq.trans (congrArg ((dats m 0 c).arrAt 6 cfg0.N) (funext fun d => Fin.ext ?_)) e
  match d with
  | ⟨0, _⟩ => show 256 * t.val + a.val = win0_6.index t (0 : Fin 2) * 256 + 1 * a.val; rw [e0]; omega
  | ⟨1, _⟩ => show k.val = win0_6.index t (1 : Fin 2) * 1024 + 1 * k.val; rw [e1]; omega

theorem out7 (r : Fin 8448) (n : Fin 5632) : ((dats m 0 c).arrAt 7 cfg0.N (ix2 r n) : EReal)
    = Rows.up (ctx m c) (seq m c) (mods m c) (gain m c) (wIn m c) r n := by
  obtain ⟨t, a, rfl⟩ := pos_of r
  obtain ⟨-, -, e0, e1, -⟩ := places_out t
  have e := congrFun (blocks7 m c t (flush0_7 t)) (ix2 a n)
  rw [flushed7] at e
  rw [← up_eq]
  have v : (out0_7 (F := Ideal) (grid0.coords t) (iblk m c 0 t) (iblk m c 1 t) (iblk m c 2 t) (iblk m c 3 t) (iblk m c 4 t) (iblk m c 5 t) (ix2 a n) : EReal)
      = Tile.up (grid0.coords t) (iblk m c 0 t) (iblk m c 1 t) (iblk m c 2 t) (iblk m c 3 t) (iblk m c 4 t) a n := by
    by_cases h : n.val < 2816
    · exact Tile.out7_lo (grid0.coords t) (iblk m c 0 t) (iblk m c 1 t) (iblk m c 2 t) (iblk m c 3 t) (iblk m c 4 t) (iblk m c 5 t) a ⟨n.val, h⟩
    · have hn : n = ⟨2816 + (n.val - 2816), by omega⟩ := Fin.ext (by show n.val = 2816 + (n.val - 2816); omega)
      rw [hn]
      exact Tile.out7_hi (grid0.coords t) (iblk m c 0 t) (iblk m c 1 t) (iblk m c 2 t) (iblk m c 3 t) (iblk m c 4 t) (iblk m c 5 t) a ⟨n.val - 2816, by omega⟩
  rw [← v]
  refine Eq.trans (congrArg ((dats m 0 c).arrAt 7 cfg0.N) (funext fun d => Fin.ext ?_)) e
  match d with
  | ⟨0, _⟩ => show 256 * t.val + a.val = win0_7.index t (0 : Fin 2) * 256 + 1 * a.val; rw [e0]; omega
  | ⟨1, _⟩ => show n.val = win0_7.index t (1 : Fin 2) * 5632 + 1 * n.val; rw [e1]; omega

theorem out8 (r : Fin 8448) (b : Fin 2816) : ((dats m 0 c).arrAt 8 cfg0.N (ix2 r b) : EReal)
    = Rows.act (ctx m c) (seq m c) (mods m c) (gain m c) (wIn m c) r b := by
  obtain ⟨t, a, rfl⟩ := pos_of r
  obtain ⟨-, -, -, -, e0, e1, -⟩ := places_out t
  have e := congrFun (blocks8 m c t (flush0_8 t)) (ix2 a b)
  rw [flushed8] at e
  rw [← act_eq, ← Tile.out8_at (grid0.coords t) (iblk m c 0 t) (iblk m c 1 t) (iblk m c 2 t) (iblk m c 3 t) (iblk m c 4 t) (iblk m c 5 t)]
  refine Eq.trans (congrArg ((dats m 0 c).arrAt 8 cfg0.N) (funext fun d => Fin.ext ?_)) e
  match d with
  | ⟨0, _⟩ => show 256 * t.val + a.val = win0_8.index t (0 : Fin 2) * 256 + 1 * a.val; rw [e0]; omega
  | ⟨1, _⟩ => show b.val = win0_8.index t (1 : Fin 2) * 2816 + 1 * b.val; rw [e1]; omega

theorem out9 (r : Fin 8448) (k : Fin 1024) : ((dats m 0 c).arrAt 9 cfg0.N (ix2 r k) : EReal)
    = ∑ b, Rows.act (ctx m c) (seq m c) (mods m c) (gain m c) (wIn m c) r b * wOut m c (ix2 b k) := by
  obtain ⟨t, a, rfl⟩ := pos_of r
  obtain ⟨-, -, -, -, -, -, e0, e1⟩ := places_out t
  have e := congrFun (blocks9 m c t (flush0_9 t)) (ix2 a k)
  rw [flushed9] at e
  simp only [← act_eq]
  rw [← wOut_block m c t, ← Tile.out9_at (grid0.coords t) (iblk m c 0 t) (iblk m c 1 t) (iblk m c 2 t) (iblk m c 3 t) (iblk m c 4 t) (iblk m c 5 t)]
  refine Eq.trans (congrArg ((dats m 0 c).arrAt 9 cfg0.N) (funext fun d => Fin.ext ?_)) e
  match d with
  | ⟨0, _⟩ => show 256 * t.val + a.val = win0_9.index t (0 : Fin 2) * 256 + 1 * a.val; rw [e0]; omega
  | ⟨1, _⟩ => show k.val = win0_9.index t (1 : Fin 2) * 1024 + 1 * k.val; rw [e1]; omega

end Cert.Kernel9Ideal.Array

end
-- ==== Proof.Ffn.Block9.lean ====
module

public import proofs.«01_k».proof.Defs
public import proofs.«01_k».proof.Proof.Ffn.Array9
public import proofs.«01_k».proof.Proof.Gen.Kernel9.Frame

@[expose] public section

set_option maxRecDepth 16384

/-!
The claims about the first feed-forward block.
-/

noncomputable section

namespace Cert.Proof.Block9

open Idealize.ShloMosaic Idealize.ShloMosaic.TcCoe Idealize.SL.Sem Cert.Reference9Ideal.Read

theorem frame_p : Cert.quiescent_Kernel9 (hKernel9 := Cert.Kernel9.Gen.facts) := fun m ρ _ => Cert.Kernel9.Gen.frame m ρ

theorem frame_pi : Cert.quiescent_Kernel9Ideal (hKernel9Ideal := Cert.Kernel9Ideal.Gen.facts) := fun m ρ _ => Cert.Kernel9Ideal.Gen.frame m ρ

theorem frame_ri : Cert.quiescent_Reference9Ideal (hReference9Ideal := Cert.Reference9Ideal.Gen.facts) := fun m ρ _ =>
  (θ_run Cert.Reference9Ideal.defs _ _).mono (fun r h => ⟨fun c => (h c).2.2.2.2, sem_eq_zero_of_no_sems (by decide) r.2⟩)
    (Cert.Reference9Ideal.Value.run (F := Ideal) m ρ)

theorem preserves : Cert.preserves_Kernel9_Kernel9Ideal := trivial

/-- Two arrays with the same entries are the same. -/
theorem same {n0 n1 : ℕ} {f g : (⟨2, ![n0, n1]⟩ : Shape).Idx → EReal} (h : ∀ a b, f (ix2 a b) = g (ix2 a b)) : f = g :=
  funext fun i => by
    have e : i = ix2 (i 0) (i 1) := funext fun d => match d with
      | ⟨0, _⟩ => rfl
      | ⟨1, _⟩ => rfl
    rw [e]; exact h _ _

open Cert.Kernel9Ideal Cert.Kernel9Ideal.Gen in
theorem algebraic : Cert.algebraic_Kernel9Ideal_Reference9Ideal (hKernel9Ideal := Cert.Kernel9Ideal.Gen.facts)
    (hReference9Ideal := Cert.Reference9Ideal.Gen.facts) := by
  intro m g m' g' _ hagree
  refine ⟨fun c => (dats m 0 c).arrAt 6 cfg0.N, fun c => (dats m 0 c).arrAt 7 cfg0.N, fun c => (dats m 0 c).arrAt 8 cfg0.N,
    fun c => (dats m 0 c).arrAt 9 cfg0.N, Cert.Kernel9Ideal.Value.run_blocks m g, ?_⟩
  refine (θ_run Cert.Reference9Ideal.defs _ _).mono (fun r h c => ?_) (Cert.Reference9Ideal.Value.run (F := Ideal) m' g')
  obtain ⟨a0, a1, a2, a3, a4, a5⟩ := hagree c
  obtain ⟨e0, e1, e2, e3, u⟩ := h c
  refine ⟨(e0.trans (val_main_v40_eq _ _ _ _)).trans ?_, (e1.trans (val_main_v41_eq _ _ _ _ _)).trans ?_,
    (e2.trans (val_main_v42_eq m' c)).trans ?_, (e3.trans (val_main_v44_eq m' c)).trans ?_, u⟩
  · rw [a0, a1, a2, a3]
    exact same fun a b => (Cert.Reference9Ideal.Rows.out0_at _ _ _ _ a b).trans (Cert.Kernel9Ideal.Array.out6 m c a b).symm
  · rw [a0, a1, a2, a3, a4]
    exact same fun a b => (Cert.Reference9Ideal.Rows.out1_at _ _ _ _ _ a b).trans (Cert.Kernel9Ideal.Array.out7 m c a b).symm
  · rw [a0, a1, a2, a3, a4]
    exact same fun a b => (Cert.Reference9Ideal.Rows.out2_at _ _ _ _ _ a b).trans (Cert.Kernel9Ideal.Array.out8 m c a b).symm
  · rw [a0, a1, a2, a3, a4, a5]
    exact same fun a b => (Cert.Reference9Ideal.Rows.out3_at _ _ _ _ _ _ a b).trans (Cert.Kernel9Ideal.Array.out9 m c a b).symm

end Cert.Proof.Block9

end
-- ==== Proof.Prod.Sum2.lean ====
module

public import proofs.«01_k».proof.Proof.Prod.Common
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pointwise

@[expose] public section

set_option maxRecDepth 16384

/-!
The weight gradient of 2816 columns: a block of the output is the sum of three products of 2816 rows, and that is the product of all 8448 rows.
-/

noncomputable section

namespace Cert.Kernel2Ideal.Sum

open Idealize.ShloMosaic Idealize.ShloMosaic.TcCoe Idealize.SL.Sem
open Cert.Kernel2Ideal Cert.Kernel2Ideal.Gen Cert.Kernel2Ideal.Value Cert.Prod

theorem at_zero : ∀ a : Fin 2, (![0, 0] : Fin 2 → ℕ) a = 0 := by decide

/-! ## What a point leaves, in each of its three cases -/

theorem first_leaves (c : Dev nD) (i : grid0.Coords) (arg2 : Memref sig .tc .vmem S2816x1408 .bf16) (harg2 : arg2.IsWhole) (arg3 : Memref sig .tc .vmem S2816x1024 .bf16) (harg3 : arg3.IsWhole)
  (arg4 : Memref sig .tc .vmem S1408x1024 .bf16) (harg4 : arg4.IsWhole) (arg5 : Memref sig .tc .vmem S1408x1024 .f32) (harg5 : arg5.IsWhole)
    (hc0 : cond0_0 i) (hc1 : ¬cond0_1 i) (hc2 : ¬cond0_2 i) (x0 : Vec Ideal S2816x1408 .bf16) (x1 : Vec Ideal S2816x1024 .bf16) :
    sout0_A_0 (F := Ideal) c i arg2 harg2 arg3 harg3 arg4 harg4 arg5 harg5 hc0 hc1 hc2 x0 x1 = k0_pay1 x0 x1 := by
  show VS0_0.read (Elt Ideal) (VS0_0.writes (Elt Ideal) VS0_0.junk [⟨Rect.unit (s := S1408x1024) ![0, 0] S1408x1024.size inb_S1408x1024_S1408x1024_0_0, k0_pay2 (arg2.view.readAt (Elt Ideal) (Rect.unit (s := S2816x1408) ![0, 0] S2816x1408.size inb_S2816x1408_S2816x1408_0_0).toLoadRect (harg2.unread x0)) (arg3.view.readAt (Elt Ideal) (Rect.unit (s := S2816x1024) ![0, 0] S2816x1024.size inb_S2816x1024_S2816x1024_0_0).toLoadRect (harg3.unread x1))⟩]) = _
  rw [load_all arg2 harg2 x0 at_zero, load_all arg3 harg3 x1 at_zero, View.read_writes_full]
  unfold k0_pay2
  simp only [shapeCast_self]

theorem middle_leaves (c : Dev nD) (i : grid0.Coords) (arg2 : Memref sig .tc .vmem S2816x1408 .bf16) (harg2 : arg2.IsWhole) (arg3 : Memref sig .tc .vmem S2816x1024 .bf16) (harg3 : arg3.IsWhole)
  (arg4 : Memref sig .tc .vmem S1408x1024 .bf16) (harg4 : arg4.IsWhole) (arg5 : Memref sig .tc .vmem S1408x1024 .f32) (harg5 : arg5.IsWhole)
    (hc0 : ¬cond0_0 i) (hc1 : cond0_1 i) (hc2 : ¬cond0_2 i) (x0 : Vec Ideal S2816x1408 .bf16) (x1 : Vec Ideal S2816x1024 .bf16) (xs : Vec Ideal S1408x1024 .f32) :
    sout0_B_0 (F := Ideal) c i arg2 harg2 arg3 harg3 arg4 harg4 arg5 harg5 hc0 hc1 hc2 x0 x1 xs = addf xs (k0_pay1 x0 x1) := by
  show VS0_0.read (Elt Ideal) (VS0_0.writes (Elt Ideal) VS0_0.junk [⟨Rect.unit (s := S1408x1024) ![0, 0] S1408x1024.size inb_S1408x1024_S1408x1024_0_0, k0_pay3 (arg2.view.readAt (Elt Ideal) (Rect.unit (s := S2816x1408) ![0, 0] S2816x1408.size inb_S2816x1408_S2816x1408_0_0).toLoadRect (harg2.unread x0)) (arg3.view.readAt (Elt Ideal) (Rect.unit (s := S2816x1024) ![0, 0] S2816x1024.size inb_S2816x1024_S2816x1024_0_0).toLoadRect (harg3.unread x1)) (arg5.view.readAt (Elt Ideal) (Rect.unit (s := S1408x1024) ![0, 0] S1408x1024.size inb_S1408x1024_S1408x1024_0_0).toLoadRect (harg5.unread xs))⟩]) = _
  rw [load_all arg2 harg2 x0 at_zero, load_all arg3 harg3 x1 at_zero, load_all arg5 harg5 xs at_zero, View.read_writes_full]
  unfold k0_pay3
  simp only [shapeCast_self]

theorem last_leaves (c : Dev nD) (i : grid0.Coords) (arg2 : Memref sig .tc .vmem S2816x1408 .bf16) (harg2 : arg2.IsWhole) (arg3 : Memref sig .tc .vmem S2816x1024 .bf16) (harg3 : arg3.IsWhole)
  (arg4 : Memref sig .tc .vmem S1408x1024 .bf16) (harg4 : arg4.IsWhole) (arg5 : Memref sig .tc .vmem S1408x1024 .f32) (harg5 : arg5.IsWhole)
    (hc0 : ¬cond0_0 i) (hc1 : cond0_1 i) (hc2 : cond0_2 i) (x0 : Vec Ideal S2816x1408 .bf16) (x1 : Vec Ideal S2816x1024 .bf16) (xs : Vec Ideal S1408x1024 .f32) :
    out0_C_2 (F := Ideal) c i arg2 harg2 arg3 harg3 arg4 harg4 arg5 harg5 hc0 hc1 hc2 x0 x1 xs = k0_pay4 (addf xs (k0_pay1 x0 x1)) := by
  show VO0_2.read (Elt Ideal) (VO0_2.writes (Elt Ideal) VO0_2.junk [⟨Rect.unit (s := S1408x1024) ![0, 0] S1408x1024.size inb_S1408x1024_S1408x1024_0_0, k0_pay4 (arg5.view.readCov [(⟨Rect.unit (s := S1408x1024) ![0, 0] S1408x1024.size inb_S1408x1024_S1408x1024_0_0, k0_pay3 (arg2.view.readAt (Elt Ideal) (Rect.unit (s := S2816x1408) ![0, 0] S2816x1408.size inb_S2816x1408_S2816x1408_0_0).toLoadRect (harg2.unread x0)) (arg3.view.readAt (Elt Ideal) (Rect.unit (s := S2816x1024) ![0, 0] S2816x1024.size inb_S2816x1024_S2816x1024_0_0).toLoadRect (harg3.unread x1)) (arg5.view.readAt (Elt Ideal) (Rect.unit (s := S1408x1024) ![0, 0] S1408x1024.size inb_S1408x1024_S1408x1024_0_0).toLoadRect (harg5.unread xs))⟩ : View.Piece (Elt Ideal) S1408x1024 .f32)] (Rect.unit (s := S1408x1024) ![0, 0] S1408x1024.size inb_S1408x1024_S1408x1024_0_0).toLoadRect)⟩]) = _
  rw [load_all arg2 harg2 x0 at_zero, load_all arg3 harg3 x1 at_zero, load_all arg5 harg5 xs at_zero, load_stored _ _ at_zero, View.read_writes_full]
  unfold k0_pay3
  simp only [shapeCast_self]

/-! ## The blocks of a point, and the product at an index -/

variable (m : (ℓ : Loc nD τ sig) → Buf (Elt Ideal) ℓ) (ρ : Dev nD → PrngReg)

/-- Row `k` and column `j` of the left argument. -/
def lhs (c : Dev nD) (k j : ℕ) : EReal := if h : k < 8448 ∧ j < 2816 then m ((c : Thread nD τ).loc main_arg0) (ix2 (⟨k, h.1⟩ : Fin 8448) (⟨j, h.2⟩ : Fin 2816)) else 0
/-- Row `k` and column `j` of the right argument. -/
def rhs (c : Dev nD) (k j : ℕ) : EReal := if h : k < 8448 ∧ j < 1024 then m ((c : Thread nD τ).loc main_arg1) (ix2 (⟨k, h.1⟩ : Fin 8448) (⟨j, h.2⟩ : Fin 1024)) else 0

theorem places : ∀ t : Fin cfg0.N, win0_0.index t (0 : Fin 2) = t.val % 3 ∧ win0_0.index t (1 : Fin 2) = t.val / 3
    ∧ win0_1.index t (0 : Fin 2) = t.val % 3 ∧ win0_1.index t (1 : Fin 2) = 0 :=
  (by decide +kernel : ∀ t : Fin grid0.N, _)

theorem count (t : Fin cfg0.N) : t.val < 6 := lt_of_lt_of_eq t.isLt N_0

theorem lhs_block (c : Dev nD) (t : Fin cfg0.N) (y : S2816x1408.Idx) :
    (iblk m c 0 t y : EReal) = lhs m c (t.val % 3 * 2816 + (y 0).val) (t.val / 3 * 1408 + (y 1).val) := by
  obtain ⟨e0, e1, -, -⟩ := places t
  have hy0 : (y 0).val < 2816 := (y 0).isLt
  have hy1 : (y 1).val < 1408 := (y 1).isLt
  have ht := count t
  unfold lhs
  rw [dif_pos ⟨by omega, by omega⟩]
  refine congrArg (m ((c : Thread nD τ).loc main_arg0)) (funext fun a => Fin.ext ?_)
  match a with
  | ⟨0, _⟩ => show win0_0.index t (0 : Fin 2) * 2816 + 1 * (y 0).val = t.val % 3 * 2816 + (y 0).val; rw [e0]; omega
  | ⟨1, _⟩ => show win0_0.index t (1 : Fin 2) * 1408 + 1 * (y 1).val = t.val / 3 * 1408 + (y 1).val; rw [e1]; omega

theorem rhs_block (c : Dev nD) (t : Fin cfg0.N) (y : S2816x1024.Idx) :
    (iblk m c 1 t y : EReal) = rhs m c (t.val % 3 * 2816 + (y 0).val) (y 1).val := by
  obtain ⟨-, -, e0, e1⟩ := places t
  have hy0 : (y 0).val < 2816 := (y 0).isLt
  have hy1 : (y 1).val < 1024 := (y 1).isLt
  have ht := count t
  unfold rhs
  rw [dif_pos ⟨by omega, by omega⟩]
  refine congrArg (m ((c : Thread nD τ).loc main_arg1)) (funext fun a => Fin.ext ?_)
  match a with
  | ⟨0, _⟩ => show win0_1.index t (0 : Fin 2) * 2816 + 1 * (y 0).val = t.val % 3 * 2816 + (y 0).val; rw [e0]; omega
  | ⟨1, _⟩ => show win0_1.index t (1 : Fin 2) * 1024 + 1 * (y 1).val = (y 1).val; rw [e1]; omega

theorem product_at (x0 : Vec Ideal S2816x1408 .bf16) (x1 : Vec Ideal S2816x1024 .bf16) (a : Fin 1408) (b : Fin 1024) :
    (k0_pay1 (F := Ideal) x0 x1 (ix2 a b) : EReal) = ∑ k : Fin 2816, x0 (ix2 k a) * x1 (ix2 k b) := by
  unfold k0_pay1
  pointwise

/-- The product of one point, over the rows of the arguments. -/
theorem part (c : Dev nD) (t : Fin cfg0.N) (a : Fin 1408) (b : Fin 1024) :
    (k0_pay1 (F := Ideal) (iblk m c 0 t) (iblk m c 1 t) (ix2 a b) : EReal)
      = ∑ k : Fin 2816, lhs m c (t.val % 3 * 2816 + k.val) (t.val / 3 * 1408 + a.val) * rhs m c (t.val % 3 * 2816 + k.val) b.val := by
  rw [product_at]
  refine Finset.sum_congr rfl fun k _ => ?_
  rw [lhs_block, rhs_block]
  rfl

/-! ## The output -/

theorem after_first (c : Dev nD) (n : ℕ) (h : n < cfg0.N) (hm : n % 3 = 0) :
    (outsAt0 m c n h).2 = k0_pay1 (iblk m c 0 ⟨n, h⟩) (iblk m c 1 ⟨n, h⟩) := by
  have e := congrArg Prod.snd (outsAt0_A m c ⟨n, h⟩ hm (by dsimp only; omega) (by dsimp only; omega))
  dsimp only at e
  rw [first_leaves] at e
  exact e

theorem after_middle (c : Dev nD) (n : ℕ) (h : n + 1 < cfg0.N) (hm : (n + 1) % 3 = 1) :
    (outsAt0 m c (n + 1) h).2 = addf (outsAt0 m c n (Nat.lt_of_succ_lt h)).2 (k0_pay1 (iblk m c 0 ⟨n + 1, h⟩) (iblk m c 1 ⟨n + 1, h⟩)) := by
  have e := congrArg Prod.snd (outsAt0_B m c ⟨n + 1, h⟩ (by dsimp only; omega) (by dsimp only; omega) (by dsimp only; omega))
  dsimp only at e
  rw [middle_leaves] at e
  exact e

theorem after_last (c : Dev nD) (n : ℕ) (h : n + 1 < cfg0.N) (hm : (n + 1) % 3 = 2) :
    (outsAt0 m c (n + 1) h).1 = k0_pay4 (addf (outsAt0 m c n (Nat.lt_of_succ_lt h)).2 (k0_pay1 (iblk m c 0 ⟨n + 1, h⟩) (iblk m c 1 ⟨n + 1, h⟩))) := by
  have e := congrArg Prod.fst (outsAt0_C m c ⟨n + 1, h⟩ (by dsimp only; omega) (by dsimp only; omega) hm)
  dsimp only at e
  rw [last_leaves] at e
  exact e

/-- The three points of a block leave the sum of their products. -/
theorem block_at (c : Dev nD) (n : ℕ) (h : 3 * n + 2 < cfg0.N) (a : Fin 1408) (b : Fin 1024) :
    ((outsAt0 m c (3 * n + 2) h).1 (ix2 a b) : EReal) = ∑ k : Fin 8448, lhs m c k.val (n * 1408 + a.val) * rhs m c k.val b.val := by
  have p2 := part m c ⟨3 * n + 2, h⟩ a b
  have p1 := part m c ⟨3 * n + 1, by omega⟩ a b
  have p0 := part m c ⟨3 * n, by omega⟩ a b
  simp only [show (3 * n + 2) % 3 = 2 by omega, show (3 * n + 2) / 3 = n by omega] at p2
  simp only [show (3 * n + 1) % 3 = 1 by omega, show (3 * n + 1) / 3 = n by omega] at p1
  simp only [show (3 * n) % 3 = 0 by omega, show (3 * n) / 3 = n by omega] at p0
  have s : ((outsAt0 m c (3 * n + 2) h).1 (ix2 a b) : EReal)
      = (k0_pay1 (F := Ideal) (iblk m c 0 ⟨3 * n, by omega⟩) (iblk m c 1 ⟨3 * n, by omega⟩) (ix2 a b)
          + k0_pay1 (F := Ideal) (iblk m c 0 ⟨3 * n + 1, by omega⟩) (iblk m c 1 ⟨3 * n + 1, by omega⟩) (ix2 a b))
        + k0_pay1 (F := Ideal) (iblk m c 0 ⟨3 * n + 2, h⟩) (iblk m c 1 ⟨3 * n + 2, h⟩) (ix2 a b) := by
    rw [after_last m c (3 * n + 1) h (by omega), after_middle m c (3 * n) (by omega) (by omega), after_first m c (3 * n) (by omega) (by omega)]
    rfl
  rw [s, p0, p1, p2, sum_rows (fun k => lhs m c k (n * 1408 + a.val) * rhs m c k b.val)]
  simp only [Nat.zero_mul, Nat.zero_add, Nat.one_mul]

/-- What the launch leaves at an index of its output. -/
theorem out_at (c : Dev nD) (i : S2816x1024.Idx) : (G2 m c i : EReal) = ∑ k : Fin 8448, lhs m c k.val (i 0).val * rhs m c k.val (i 1).val := by
  have h0 : (i 0).val < 2816 := (i 0).isLt
  have h1 : (i 1).val < 1024 := (i 1).isLt
  have hr : run2Of i = (i 0).val / 1408 := by show 1 * ((i 0).val / 1408 - 0) + 1 * ((i 1).val / 1024 - 0) = _; omega
  have hN : cfg0.N = 6 := N_0
  have hp : pt2Of i < cfg0.N := by show 3 * run2Of i + 2 < _; rw [hr]; omega
  have e := block_at m c (run2Of i) hp ⟨(i 0).val % 1408, Nat.mod_lt _ (by decide)⟩ ⟨(i 1).val % 1024, Nat.mod_lt _ (by decide)⟩
  unfold G2
  rw [dif_pos hp, ← outsAt0_sweep m c (pt2Of i) hp]
  refine Eq.trans ?_ (e.trans ?_)
  · refine congrArg (outsAt0 m c (3 * run2Of i + 2) hp).1 (funext fun a => ?_)
    match a with
    | ⟨0, _⟩ => rfl
    | ⟨1, _⟩ => rfl
  · have r0 : run2Of i * 1408 + (i 0).val % 1408 = (i 0).val := by rw [hr]; omega
    have r1 : (i 1).val % 1024 = (i 1).val := by omega
    simp only [r0, r1]

end Cert.Kernel2Ideal.Sum

end
-- ==== Proof.Prod.Weight2.lean ====
module

public import proofs.«01_k».proof.Defs
public import proofs.«01_k».proof.Proof.Prod.Sum2
public import proofs.«01_k».proof.Proof.Gen.Kernel2.Frame

@[expose] public section

set_option maxRecDepth 16384

/-!
The claims about the weight gradient of 2816 columns.
-/

noncomputable section

namespace Cert.Proof.Weight2

open Idealize.ShloMosaic Idealize.ShloMosaic.TcCoe Idealize.SL.Sem Cert.Reference2Ideal.Read

theorem frame_p : Cert.quiescent_Kernel2 (hKernel2 := Cert.Kernel2.Gen.facts) := fun m ρ _ => Cert.Kernel2.Gen.frame m ρ

theorem frame_pi : Cert.quiescent_Kernel2Ideal (hKernel2Ideal := Cert.Kernel2Ideal.Gen.facts) := fun m ρ _ => Cert.Kernel2Ideal.Gen.frame m ρ

theorem frame_ri : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

theorem preserves : Cert.preserves_Kernel2_Kernel2Ideal := trivial

/-- The reference's gradient at an index: the product of a column of the input and a column of the cotangent. -/
theorem reference_at (x0 : (⟨Cert.Reference2Ideal.S8448x2816, .bf16⟩ : BufTy).Contents (Elt Ideal)) (x1 : (⟨Cert.Reference2Ideal.S8448x1024, .bf16⟩ : BufTy).Contents (Elt Ideal))
    (i : Cert.Reference2Ideal.S2816x1024.Idx) :
    (val_main_v6 (F := Ideal) x0 x1 i : EReal) = ∑ k : Fin 8448, x0 (ix2 k (⟨(i 0).val, (i 0).isLt⟩ : Fin 2816)) * x1 (ix2 k (⟨(i 1).val, (i 1).isLt⟩ : Fin 1024)) := by
  rw [val_main_v6_apply, val_main_v5_apply, val_main_v4_apply]
  refine Finset.sum_congr rfl fun k _ => ?_
  rw [mul_comm]
  refine congrArg₂ _ (congrArg x0 (funext fun a => ?_)) (congrArg x1 (funext fun a => ?_))
  · match a with
    | ⟨0, _⟩ => rfl
    | ⟨1, _⟩ => rfl
  · match a with
    | ⟨0, _⟩ => rfl
    | ⟨1, _⟩ => rfl

theorem algebraic : Cert.algebraic_Kernel2Ideal_Reference2Ideal (hKernel2Ideal := Cert.Kernel2Ideal.Gen.facts)
    (hReference2Ideal := Cert.Reference2Ideal.Gen.facts) := by
  intro m g m' g' _ hagree
  refine ⟨Cert.Kernel2Ideal.Value.G2 m, Cert.Kernel2Ideal.Value.run m g, ?_⟩
  refine (θ_run Cert.Reference2Ideal.defs _ _).mono (fun r h c => ?_) (Cert.Reference2Ideal.Value.run (F := Ideal) m' g')
  obtain ⟨a0, a1⟩ := hagree c
  obtain ⟨e, u⟩ := h c
  refine ⟨(e.trans (val_main_v6_eq _ _)).trans (funext fun i => ?_), u⟩
  rw [a0, a1]
  refine (reference_at _ _ i).trans (Eq.trans ?_ (Cert.Kernel2Ideal.Sum.out_at m c i).symm)
  refine Finset.sum_congr rfl fun k _ => ?_
  unfold Cert.Kernel2Ideal.Sum.lhs Cert.Kernel2Ideal.Sum.rhs
  rw [dif_pos ⟨k.isLt, (i 0).isLt⟩, dif_pos ⟨k.isLt, (i 1).isLt⟩]

end Cert.Proof.Weight2

end
-- ==== Proof.Prod.Sum3.lean ====
module

public import proofs.«01_k».proof.Proof.Prod.Common
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pointwise

@[expose] public section

set_option maxRecDepth 16384

/-!
The weight gradient of 5632 columns: a block of the output is the sum of three products of 2816 rows, and that is the product of all 8448 rows.
-/

noncomputable section

namespace Cert.Kernel3Ideal.Sum

open Idealize.ShloMosaic Idealize.ShloMosaic.TcCoe Idealize.SL.Sem
open Cert.Kernel3Ideal Cert.Kernel3Ideal.Gen Cert.Kernel3Ideal.Value Cert.Prod

theorem at_zero : ∀ a : Fin 2, (![0, 0] : Fin 2 → ℕ) a = 0 := by decide

/-! ## What a point leaves, in each of its three cases -/

theorem first_leaves (c : Dev nD) (i : grid0.Coords) (arg2 : Memref sig .tc .vmem S2816x1408 .bf16) (harg2 : arg2.IsWhole) (arg3 : Memref sig .tc .vmem S2816x1024 .bf16) (harg3 : arg3.IsWhole)
  (arg4 : Memref sig .tc .vmem S1408x1024 .bf16) (harg4 : arg4.IsWhole) (arg5 : Memref sig .tc .vmem S1408x1024 .f32) (harg5 : arg5.IsWhole)
    (hc0 : cond0_0 i) (hc1 : ¬cond0_1 i) (hc2 : ¬cond0_2 i) (x0 : Vec Ideal S2816x1408 .bf16) (x1 : Vec Ideal S2816x1024 .bf16) :
    sout0_A_0 (F := Ideal) c i arg2 harg2 arg3 harg3 arg4 harg4 arg5 harg5 hc0 hc1 hc2 x0 x1 = k0_pay1 x0 x1 := by
  show VS0_0.read (Elt Ideal) (VS0_0.writes (Elt Ideal) VS0_0.junk [⟨Rect.unit (s := S1408x1024) ![0, 0] S1408x1024.size inb_S1408x1024_S1408x1024_0_0, k0_pay2 (arg2.view.readAt (Elt Ideal) (Rect.unit (s := S2816x1408) ![0, 0] S2816x1408.size inb_S2816x1408_S2816x1408_0_0).toLoadRect (harg2.unread x0)) (arg3.view.readAt (Elt Ideal) (Rect.unit (s := S2816x1024) ![0, 0] S2816x1024.size inb_S2816x1024_S2816x1024_0_0).toLoadRect (harg3.unread x1))⟩]) = _
  rw [load_all arg2 harg2 x0 at_zero, load_all arg3 harg3 x1 at_zero, View.read_writes_full]
  unfold k0_pay2
  simp only [shapeCast_self]

theorem middle_leaves (c : Dev nD) (i : grid0.Coords) (arg2 : Memref sig .tc .vmem S2816x1408 .bf16) (harg2 : arg2.IsWhole) (arg3 : Memref sig .tc .vmem S2816x1024 .bf16) (harg3 : arg3.IsWhole)
  (arg4 : Memref sig .tc .vmem S1408x1024 .bf16) (harg4 : arg4.IsWhole) (arg5 : Memref sig .tc .vmem S1408x1024 .f32) (harg5 : arg5.IsWhole)
    (hc0 : ¬cond0_0 i) (hc1 : cond0_1 i) (hc2 : ¬cond0_2 i) (x0 : Vec Ideal S2816x1408 .bf16) (x1 : Vec Ideal S2816x1024 .bf16) (xs : Vec Ideal S1408x1024 .f32) :
    sout0_B_0 (F := Ideal) c i arg2 harg2 arg3 harg3 arg4 harg4 arg5 harg5 hc0 hc1 hc2 x0 x1 xs = addf xs (k0_pay1 x0 x1) := by
  show VS0_0.read (Elt Ideal) (VS0_0.writes (Elt Ideal) VS0_0.junk [⟨Rect.unit (s := S1408x1024) ![0, 0] S1408x1024.size inb_S1408x1024_S1408x1024_0_0, k0_pay3 (arg2.view.readAt (Elt Ideal) (Rect.unit (s := S2816x1408) ![0, 0] S2816x1408.size inb_S2816x1408_S2816x1408_0_0).toLoadRect (harg2.unread x0)) (arg3.view.readAt (Elt Ideal) (Rect.unit (s := S2816x1024) ![0, 0] S2816x1024.size inb_S2816x1024_S2816x1024_0_0).toLoadRect (harg3.unread x1)) (arg5.view.readAt (Elt Ideal) (Rect.unit (s := S1408x1024) ![0, 0] S1408x1024.size inb_S1408x1024_S1408x1024_0_0).toLoadRect (harg5.unread xs))⟩]) = _
  rw [load_all arg2 harg2 x0 at_zero, load_all arg3 harg3 x1 at_zero, load_all arg5 harg5 xs at_zero, View.read_writes_full]
  unfold k0_pay3
  simp only [shapeCast_self]

theorem last_leaves (c : Dev nD) (i : grid0.Coords) (arg2 : Memref sig .tc .vmem S2816x1408 .bf16) (harg2 : arg2.IsWhole) (arg3 : Memref sig .tc .vmem S2816x1024 .bf16) (harg3 : arg3.IsWhole)
  (arg4 : Memref sig .tc .vmem S1408x1024 .bf16) (harg4 : arg4.IsWhole) (arg5 : Memref sig .tc .vmem S1408x1024 .f32) (harg5 : arg5.IsWhole)
    (hc0 : ¬cond0_0 i) (hc1 : cond0_1 i) (hc2 : cond0_2 i) (x0 : Vec Ideal S2816x1408 .bf16) (x1 : Vec Ideal S2816x1024 .bf16) (xs : Vec Ideal S1408x1024 .f32) :
    out0_C_2 (F := Ideal) c i arg2 harg2 arg3 harg3 arg4 harg4 arg5 harg5 hc0 hc1 hc2 x0 x1 xs = k0_pay4 (addf xs (k0_pay1 x0 x1)) := by
  show VO0_2.read (Elt Ideal) (VO0_2.writes (Elt Ideal) VO0_2.junk [⟨Rect.unit (s := S1408x1024) ![0, 0] S1408x1024.size inb_S1408x1024_S1408x1024_0_0, k0_pay4 (arg5.view.readCov [(⟨Rect.unit (s := S1408x1024) ![0, 0] S1408x1024.size inb_S1408x1024_S1408x1024_0_0, k0_pay3 (arg2.view.readAt (Elt Ideal) (Rect.unit (s := S2816x1408) ![0, 0] S2816x1408.size inb_S2816x1408_S2816x1408_0_0).toLoadRect (harg2.unread x0)) (arg3.view.readAt (Elt Ideal) (Rect.unit (s := S2816x1024) ![0, 0] S2816x1024.size inb_S2816x1024_S2816x1024_0_0).toLoadRect (harg3.unread x1)) (arg5.view.readAt (Elt Ideal) (Rect.unit (s := S1408x1024) ![0, 0] S1408x1024.size inb_S1408x1024_S1408x1024_0_0).toLoadRect (harg5.unread xs))⟩ : View.Piece (Elt Ideal) S1408x1024 .f32)] (Rect.unit (s := S1408x1024) ![0, 0] S1408x1024.size inb_S1408x1024_S1408x1024_0_0).toLoadRect)⟩]) = _
  rw [load_all arg2 harg2 x0 at_zero, load_all arg3 harg3 x1 at_zero, load_all arg5 harg5 xs at_zero, load_stored _ _ at_zero, View.read_writes_full]
  unfold k0_pay3
  simp only [shapeCast_self]

/-! ## The blocks of a point, and the product at an index -/

variable (m : (ℓ : Loc nD τ sig) → Buf (Elt Ideal) ℓ) (ρ : Dev nD → PrngReg)

/-- Row `k` and column `j` of the left argument. -/
def lhs (c : Dev nD) (k j : ℕ) : EReal := if h : k < 8448 ∧ j < 5632 then m ((c : Thread nD τ).loc main_arg0) (ix2 (⟨k, h.1⟩ : Fin 8448) (⟨j, h.2⟩ : Fin 5632)) else 0
/-- Row `k` and column `j` of the right argument. -/
def rhs (c : Dev nD) (k j : ℕ) : EReal := if h : k < 8448 ∧ j < 1024 then m ((c : Thread nD τ).loc main_arg1) (ix2 (⟨k, h.1⟩ : Fin 8448) (⟨j, h.2⟩ : Fin 1024)) else 0

theorem places : ∀ t : Fin cfg0.N, win0_0.index t (0 : Fin 2) = t.val % 3 ∧ win0_0.index t (1 : Fin 2) = t.val / 3
    ∧ win0_1.index t (0 : Fin 2) = t.val % 3 ∧ win0_1.index t (1 : Fin 2) = 0 :=
  (by decide +kernel : ∀ t : Fin grid0.N, _)

theorem count (t : Fin cfg0.N) : t.val < 12 := lt_of_lt_of_eq t.isLt N_0

theorem lhs_block (c : Dev nD) (t : Fin cfg0.N) (y : S2816x1408.Idx) :
    (iblk m c 0 t y : EReal) = lhs m c (t.val % 3 * 2816 + (y 0).val) (t.val / 3 * 1408 + (y 1).val) := by
  obtain ⟨e0, e1, -, -⟩ := places t
  have hy0 : (y 0).val < 2816 := (y 0).isLt
  have hy1 : (y 1).val < 1408 := (y 1).isLt
  have ht := count t
  unfold lhs
  rw [dif_pos ⟨by omega, by omega⟩]
  refine congrArg (m ((c : Thread nD τ).loc main_arg0)) (funext fun a => Fin.ext ?_)
  match a with
  | ⟨0, _⟩ => show win0_0.index t (0 : Fin 2) * 2816 + 1 * (y 0).val = t.val % 3 * 2816 + (y 0).val; rw [e0]; omega
  | ⟨1, _⟩ => show win0_0.index t (1 : Fin 2) * 1408 + 1 * (y 1).val = t.val / 3 * 1408 + (y 1).val; rw [e1]; omega

theorem rhs_block (c : Dev nD) (t : Fin cfg0.N) (y : S2816x1024.Idx) :
    (iblk m c 1 t y : EReal) = rhs m c (t.val % 3 * 2816 + (y 0).val) (y 1).val := by
  obtain ⟨-, -, e0, e1⟩ := places t
  have hy0 : (y 0).val < 2816 := (y 0).isLt
  have hy1 : (y 1).val < 1024 := (y 1).isLt
  have ht := count t
  unfold rhs
  rw [dif_pos ⟨by omega, by omega⟩]
  refine congrArg (m ((c : Thread nD τ).loc main_arg1)) (funext fun a => Fin.ext ?_)
  match a with
  | ⟨0, _⟩ => show win0_1.index t (0 : Fin 2) * 2816 + 1 * (y 0).val = t.val % 3 * 2816 + (y 0).val; rw [e0]; omega
  | ⟨1, _⟩ => show win0_1.index t (1 : Fin 2) * 1024 + 1 * (y 1).val = (y 1).val; rw [e1]; omega

theorem product_at (x0 : Vec Ideal S2816x1408 .bf16) (x1 : Vec Ideal S2816x1024 .bf16) (a : Fin 1408) (b : Fin 1024) :
    (k0_pay1 (F := Ideal) x0 x1 (ix2 a b) : EReal) = ∑ k : Fin 2816, x0 (ix2 k a) * x1 (ix2 k b) := by
  unfold k0_pay1
  pointwise

/-- The product of one point, over the rows of the arguments. -/
theorem part (c : Dev nD) (t : Fin cfg0.N) (a : Fin 1408) (b : Fin 1024) :
    (k0_pay1 (F := Ideal) (iblk m c 0 t) (iblk m c 1 t) (ix2 a b) : EReal)
      = ∑ k : Fin 2816, lhs m c (t.val % 3 * 2816 + k.val) (t.val / 3 * 1408 + a.val) * rhs m c (t.val % 3 * 2816 + k.val) b.val := by
  rw [product_at]
  refine Finset.sum_congr rfl fun k _ => ?_
  rw [lhs_block, rhs_block]
  rfl

/-! ## The output -/

theorem after_first (c : Dev nD) (n : ℕ) (h : n < cfg0.N) (hm : n % 3 = 0) :
    (outsAt0 m c n h).2 = k0_pay1 (iblk m c 0 ⟨n, h⟩) (iblk m c 1 ⟨n, h⟩) := by
  have e := congrArg Prod.snd (outsAt0_A m c ⟨n, h⟩ hm (by dsimp only; omega) (by dsimp only; omega))
  dsimp only at e
  rw [first_leaves] at e
  exact e

theorem after_middle (c : Dev nD) (n : ℕ) (h : n + 1 < cfg0.N) (hm : (n + 1) % 3 = 1) :
    (outsAt0 m c (n + 1) h).2 = addf (outsAt0 m c n (Nat.lt_of_succ_lt h)).2 (k0_pay1 (iblk m c 0 ⟨n + 1, h⟩) (iblk m c 1 ⟨n + 1, h⟩)) := by
  have e := congrArg Prod.snd (outsAt0_B m c ⟨n + 1, h⟩ (by dsimp only; omega) (by dsimp only; omega) (by dsimp only; omega))
  dsimp only at e
  rw [middle_leaves] at e
  exact e

theorem after_last (c : Dev nD) (n : ℕ) (h : n + 1 < cfg0.N) (hm : (n + 1) % 3 = 2) :
    (outsAt0 m c (n + 1) h).1 = k0_pay4 (addf (outsAt0 m c n (Nat.lt_of_succ_lt h)).2 (k0_pay1 (iblk m c 0 ⟨n + 1, h⟩) (iblk m c 1 ⟨n + 1, h⟩))) := by
  have e := congrArg Prod.fst (outsAt0_C m c ⟨n + 1, h⟩ (by dsimp only; omega) (by dsimp only; omega) hm)
  dsimp only at e
  rw [last_leaves] at e
  exact e

/-- The three points of a block leave the sum of their products. -/
theorem block_at (c : Dev nD) (n : ℕ) (h : 3 * n + 2 < cfg0.N) (a : Fin 1408) (b : Fin 1024) :
    ((outsAt0 m c (3 * n + 2) h).1 (ix2 a b) : EReal) = ∑ k : Fin 8448, lhs m c k.val (n * 1408 + a.val) * rhs m c k.val b.val := by
  have p2 := part m c ⟨3 * n + 2, h⟩ a b
  have p1 := part m c ⟨3 * n + 1, by omega⟩ a b
  have p0 := part m c ⟨3 * n, by omega⟩ a b
  simp only [show (3 * n + 2) % 3 = 2 by omega, show (3 * n + 2) / 3 = n by omega] at p2
  simp only [show (3 * n + 1) % 3 = 1 by omega, show (3 * n + 1) / 3 = n by omega] at p1
  simp only [show (3 * n) % 3 = 0 by omega, show (3 * n) / 3 = n by omega] at p0
  have s : ((outsAt0 m c (3 * n + 2) h).1 (ix2 a b) : EReal)
      = (k0_pay1 (F := Ideal) (iblk m c 0 ⟨3 * n, by omega⟩) (iblk m c 1 ⟨3 * n, by omega⟩) (ix2 a b)
          + k0_pay1 (F := Ideal) (iblk m c 0 ⟨3 * n + 1, by omega⟩) (iblk m c 1 ⟨3 * n + 1, by omega⟩) (ix2 a b))
        + k0_pay1 (F := Ideal) (iblk m c 0 ⟨3 * n + 2, h⟩) (iblk m c 1 ⟨3 * n + 2, h⟩) (ix2 a b) := by
    rw [after_last m c (3 * n + 1) h (by omega), after_middle m c (3 * n) (by omega) (by omega), after_first m c (3 * n) (by omega) (by omega)]
    rfl
  rw [s, p0, p1, p2, sum_rows (fun k => lhs m c k (n * 1408 + a.val) * rhs m c k b.val)]
  simp only [Nat.zero_mul, Nat.zero_add, Nat.one_mul]

/-- What the launch leaves at an index of its output. -/
theorem out_at (c : Dev nD) (i : S5632x1024.Idx) : (G2 m c i : EReal) = ∑ k : Fin 8448, lhs m c k.val (i 0).val * rhs m c k.val (i 1).val := by
  have h0 : (i 0).val < 5632 := (i 0).isLt
  have h1 : (i 1).val < 1024 := (i 1).isLt
  have hr : run2Of i = (i 0).val / 1408 := by show 1 * ((i 0).val / 1408 - 0) + 1 * ((i 1).val / 1024 - 0) = _; omega
  have hN : cfg0.N = 12 := N_0
  have hp : pt2Of i < cfg0.N := by show 3 * run2Of i + 2 < _; rw [hr]; omega
  have e := block_at m c (run2Of i) hp ⟨(i 0).val % 1408, Nat.mod_lt _ (by decide)⟩ ⟨(i 1).val % 1024, Nat.mod_lt _ (by decide)⟩
  unfold G2
  rw [dif_pos hp, ← outsAt0_sweep m c (pt2Of i) hp]
  refine Eq.trans ?_ (e.trans ?_)
  · refine congrArg (outsAt0 m c (3 * run2Of i + 2) hp).1 (funext fun a => ?_)
    match a with
    | ⟨0, _⟩ => rfl
    | ⟨1, _⟩ => rfl
  · have r0 : run2Of i * 1408 + (i 0).val % 1408 = (i 0).val := by rw [hr]; omega
    have r1 : (i 1).val % 1024 = (i 1).val := by omega
    simp only [r0, r1]

end Cert.Kernel3Ideal.Sum

end
-- ==== Proof.Prod.Weight3.lean ====
module

public import proofs.«01_k».proof.Defs
public import proofs.«01_k».proof.Proof.Prod.Sum3
public import proofs.«01_k».proof.Proof.Gen.Kernel3.Frame

@[expose] public section

set_option maxRecDepth 16384

/-!
The claims about the weight gradient of 5632 columns.
-/

noncomputable section

namespace Cert.Proof.Weight3

open Idealize.ShloMosaic Idealize.ShloMosaic.TcCoe Idealize.SL.Sem Cert.Reference3Ideal.Read

theorem frame_p : Cert.quiescent_Kernel3 (hKernel3 := Cert.Kernel3.Gen.facts) := fun m ρ _ => Cert.Kernel3.Gen.frame m ρ

theorem frame_pi : Cert.quiescent_Kernel3Ideal (hKernel3Ideal := Cert.Kernel3Ideal.Gen.facts) := fun m ρ _ => Cert.Kernel3Ideal.Gen.frame m ρ

theorem frame_ri : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

theorem preserves : Cert.preserves_Kernel3_Kernel3Ideal := trivial

/-- The reference's gradient at an index: the product of a column of the input and a column of the cotangent. -/
theorem reference_at (x0 : (⟨Cert.Reference3Ideal.S8448x5632, .bf16⟩ : BufTy).Contents (Elt Ideal)) (x1 : (⟨Cert.Reference3Ideal.S8448x1024, .bf16⟩ : BufTy).Contents (Elt Ideal))
    (i : Cert.Reference3Ideal.S5632x1024.Idx) :
    (val_main_v8 (F := Ideal) x0 x1 i : EReal) = ∑ k : Fin 8448, x0 (ix2 k (⟨(i 0).val, (i 0).isLt⟩ : Fin 5632)) * x1 (ix2 k (⟨(i 1).val, (i 1).isLt⟩ : Fin 1024)) := by
  rw [val_main_v8_apply, val_main_v7_apply, val_main_v6_apply, val_main_v5_apply]
  refine Finset.sum_congr rfl fun k _ => ?_
  refine congrArg₂ _ (congrArg x0 (funext fun a => ?_)) (congrArg x1 (funext fun a => ?_))
  · match a with
    | ⟨0, _⟩ => rfl
    | ⟨1, _⟩ => rfl
  · match a with
    | ⟨0, _⟩ => rfl
    | ⟨1, _⟩ => rfl

theorem algebraic : Cert.algebraic_Kernel3Ideal_Reference3Ideal (hKernel3Ideal := Cert.Kernel3Ideal.Gen.facts)
    (hReference3Ideal := Cert.Reference3Ideal.Gen.facts) := by
  intro m g m' g' _ hagree
  refine ⟨Cert.Kernel3Ideal.Value.G2 m, Cert.Kernel3Ideal.Value.run m g, ?_⟩
  refine (θ_run Cert.Reference3Ideal.defs _ _).mono (fun r h c => ?_) (Cert.Reference3Ideal.Value.run (F := Ideal) m' g')
  obtain ⟨a0, a1⟩ := hagree c
  obtain ⟨e, u⟩ := h c
  refine ⟨(e.trans (val_main_v8_eq _ _)).trans (funext fun i => ?_), u⟩
  rw [a0, a1]
  refine (reference_at _ _ i).trans (Eq.trans ?_ (Cert.Kernel3Ideal.Sum.out_at m c i).symm)
  refine Finset.sum_congr rfl fun k _ => ?_
  unfold Cert.Kernel3Ideal.Sum.lhs Cert.Kernel3Ideal.Sum.rhs
  rw [dif_pos ⟨k.isLt, (i 0).isLt⟩, dif_pos ⟨k.isLt, (i 1).isLt⟩]

end Cert.Proof.Weight3

end
-- ==== Proof.Prod.Sum4.lean ====
module

public import proofs.«01_k».proof.Proof.Prod.Common
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pointwise

@[expose] public section

set_option maxRecDepth 16384

/-!
The weight gradient of 3072 columns: a block of the output is the sum of three products of 2816 rows, and that is the product of all 8448 rows.
-/

noncomputable section

namespace Cert.Kernel4Ideal.Sum

open Idealize.ShloMosaic Idealize.ShloMosaic.TcCoe Idealize.SL.Sem
open Cert.Kernel4Ideal Cert.Kernel4Ideal.Gen Cert.Kernel4Ideal.Value Cert.Prod

theorem at_zero : ∀ a : Fin 2, (![0, 0] : Fin 2 → ℕ) a = 0 := by decide

/-! ## What a point leaves, in each of its three cases -/

theorem first_leaves (c : Dev nD) (i : grid0.Coords) (arg2 : Memref sig .tc .vmem S2816x1024 .bf16) (harg2 : arg2.IsWhole) (arg3 : Memref sig .tc .vmem S2816x1024 .bf16) (harg3 : arg3.IsWhole)
  (arg4 : Memref sig .tc .vmem S1024x1024 .bf16) (harg4 : arg4.IsWhole) (arg5 : Memref sig .tc .vmem S1024x1024 .f32) (harg5 : arg5.IsWhole)
    (hc0 : cond0_0 i) (hc1 : ¬cond0_1 i) (hc2 : ¬cond0_2 i) (x0 : Vec Ideal S2816x1024 .bf16) (x1 : Vec Ideal S2816x1024 .bf16) :
    sout0_A_0 (F := Ideal) c i arg2 harg2 arg3 harg3 arg4 harg4 arg5 harg5 hc0 hc1 hc2 x0 x1 = k0_pay1 x0 x1 := by
  show VS0_0.read (Elt Ideal) (VS0_0.writes (Elt Ideal) VS0_0.junk [⟨Rect.unit (s := S1024x1024) ![0, 0] S1024x1024.size inb_S1024x1024_S1024x1024_0_0, k0_pay2 (arg2.view.readAt (Elt Ideal) (Rect.unit (s := S2816x1024) ![0, 0] S2816x1024.size inb_S2816x1024_S2816x1024_0_0).toLoadRect (harg2.unread x0)) (arg3.view.readAt (Elt Ideal) (Rect.unit (s := S2816x1024) ![0, 0] S2816x1024.size inb_S2816x1024_S2816x1024_0_0).toLoadRect (harg3.unread x1))⟩]) = _
  rw [load_all arg2 harg2 x0 at_zero, load_all arg3 harg3 x1 at_zero, View.read_writes_full]
  unfold k0_pay2
  simp only [shapeCast_self]

theorem middle_leaves (c : Dev nD) (i : grid0.Coords) (arg2 : Memref sig .tc .vmem S2816x1024 .bf16) (harg2 : arg2.IsWhole) (arg3 : Memref sig .tc .vmem S2816x1024 .bf16) (harg3 : arg3.IsWhole)
  (arg4 : Memref sig .tc .vmem S1024x1024 .bf16) (harg4 : arg4.IsWhole) (arg5 : Memref sig .tc .vmem S1024x1024 .f32) (harg5 : arg5.IsWhole)
    (hc0 : ¬cond0_0 i) (hc1 : cond0_1 i) (hc2 : ¬cond0_2 i) (x0 : Vec Ideal S2816x1024 .bf16) (x1 : Vec Ideal S2816x1024 .bf16) (xs : Vec Ideal S1024x1024 .f32) :
    sout0_B_0 (F := Ideal) c i arg2 harg2 arg3 harg3 arg4 harg4 arg5 harg5 hc0 hc1 hc2 x0 x1 xs = addf xs (k0_pay1 x0 x1) := by
  show VS0_0.read (Elt Ideal) (VS0_0.writes (Elt Ideal) VS0_0.junk [⟨Rect.unit (s := S1024x1024) ![0, 0] S1024x1024.size inb_S1024x1024_S1024x1024_0_0, k0_pay3 (arg2.view.readAt (Elt Ideal) (Rect.unit (s := S2816x1024) ![0, 0] S2816x1024.size inb_S2816x1024_S2816x1024_0_0).toLoadRect (harg2.unread x0)) (arg3.view.readAt (Elt Ideal) (Rect.unit (s := S2816x1024) ![0, 0] S2816x1024.size inb_S2816x1024_S2816x1024_0_0).toLoadRect (harg3.unread x1)) (arg5.view.readAt (Elt Ideal) (Rect.unit (s := S1024x1024) ![0, 0] S1024x1024.size inb_S1024x1024_S1024x1024_0_0).toLoadRect (harg5.unread xs))⟩]) = _
  rw [load_all arg2 harg2 x0 at_zero, load_all arg3 harg3 x1 at_zero, load_all arg5 harg5 xs at_zero, View.read_writes_full]
  unfold k0_pay3
  simp only [shapeCast_self]

theorem last_leaves (c : Dev nD) (i : grid0.Coords) (arg2 : Memref sig .tc .vmem S2816x1024 .bf16) (harg2 : arg2.IsWhole) (arg3 : Memref sig .tc .vmem S2816x1024 .bf16) (harg3 : arg3.IsWhole)
  (arg4 : Memref sig .tc .vmem S1024x1024 .bf16) (harg4 : arg4.IsWhole) (arg5 : Memref sig .tc .vmem S1024x1024 .f32) (harg5 : arg5.IsWhole)
    (hc0 : ¬cond0_0 i) (hc1 : cond0_1 i) (hc2 : cond0_2 i) (x0 : Vec Ideal S2816x1024 .bf16) (x1 : Vec Ideal S2816x1024 .bf16) (xs : Vec Ideal S1024x1024 .f32) :
    out0_C_2 (F := Ideal) c i arg2 harg2 arg3 harg3 arg4 harg4 arg5 harg5 hc0 hc1 hc2 x0 x1 xs = k0_pay4 (addf xs (k0_pay1 x0 x1)) := by
  show VO0_2.read (Elt Ideal) (VO0_2.writes (Elt Ideal) VO0_2.junk [⟨Rect.unit (s := S1024x1024) ![0, 0] S1024x1024.size inb_S1024x1024_S1024x1024_0_0, k0_pay4 (arg5.view.readCov [(⟨Rect.unit (s := S1024x1024) ![0, 0] S1024x1024.size inb_S1024x1024_S1024x1024_0_0, k0_pay3 (arg2.view.readAt (Elt Ideal) (Rect.unit (s := S2816x1024) ![0, 0] S2816x1024.size inb_S2816x1024_S2816x1024_0_0).toLoadRect (harg2.unread x0)) (arg3.view.readAt (Elt Ideal) (Rect.unit (s := S2816x1024) ![0, 0] S2816x1024.size inb_S2816x1024_S2816x1024_0_0).toLoadRect (harg3.unread x1)) (arg5.view.readAt (Elt Ideal) (Rect.unit (s := S1024x1024) ![0, 0] S1024x1024.size inb_S1024x1024_S1024x1024_0_0).toLoadRect (harg5.unread xs))⟩ : View.Piece (Elt Ideal) S1024x1024 .f32)] (Rect.unit (s := S1024x1024) ![0, 0] S1024x1024.size inb_S1024x1024_S1024x1024_0_0).toLoadRect)⟩]) = _
  rw [load_all arg2 harg2 x0 at_zero, load_all arg3 harg3 x1 at_zero, load_all arg5 harg5 xs at_zero, load_stored _ _ at_zero, View.read_writes_full]
  unfold k0_pay3
  simp only [shapeCast_self]

/-! ## The blocks of a point, and the product at an index -/

variable (m : (ℓ : Loc nD τ sig) → Buf (Elt Ideal) ℓ) (ρ : Dev nD → PrngReg)

/-- Row `k` and column `j` of the left argument. -/
def lhs (c : Dev nD) (k j : ℕ) : EReal := if h : k < 8448 ∧ j < 3072 then m ((c : Thread nD τ).loc main_arg0) (ix2 (⟨k, h.1⟩ : Fin 8448) (⟨j, h.2⟩ : Fin 3072)) else 0
/-- Row `k` and column `j` of the right argument. -/
def rhs (c : Dev nD) (k j : ℕ) : EReal := if h : k < 8448 ∧ j < 1024 then m ((c : Thread nD τ).loc main_arg1) (ix2 (⟨k, h.1⟩ : Fin 8448) (⟨j, h.2⟩ : Fin 1024)) else 0

theorem places : ∀ t : Fin cfg0.N, win0_0.index t (0 : Fin 2) = t.val % 3 ∧ win0_0.index t (1 : Fin 2) = t.val / 3
    ∧ win0_1.index t (0 : Fin 2) = t.val % 3 ∧ win0_1.index t (1 : Fin 2) = 0 :=
  (by decide +kernel : ∀ t : Fin grid0.N, _)

theorem count (t : Fin cfg0.N) : t.val < 9 := lt_of_lt_of_eq t.isLt N_0

theorem lhs_block (c : Dev nD) (t : Fin cfg0.N) (y : S2816x1024.Idx) :
    (iblk m c 0 t y : EReal) = lhs m c (t.val % 3 * 2816 + (y 0).val) (t.val / 3 * 1024 + (y 1).val) := by
  obtain ⟨e0, e1, -, -⟩ := places t
  have hy0 : (y 0).val < 2816 := (y 0).isLt
  have hy1 : (y 1).val < 1024 := (y 1).isLt
  have ht := count t
  unfold lhs
  rw [dif_pos ⟨by omega, by omega⟩]
  refine congrArg (m ((c : Thread nD τ).loc main_arg0)) (funext fun a => Fin.ext ?_)
  match a with
  | ⟨0, _⟩ => show win0_0.index t (0 : Fin 2) * 2816 + 1 * (y 0).val = t.val % 3 * 2816 + (y 0).val; rw [e0]; omega
  | ⟨1, _⟩ => show win0_0.index t (1 : Fin 2) * 1024 + 1 * (y 1).val = t.val / 3 * 1024 + (y 1).val; rw [e1]; omega

theorem rhs_block (c : Dev nD) (t : Fin cfg0.N) (y : S2816x1024.Idx) :
    (iblk m c 1 t y : EReal) = rhs m c (t.val % 3 * 2816 + (y 0).val) (y 1).val := by
  obtain ⟨-, -, e0, e1⟩ := places t
  have hy0 : (y 0).val < 2816 := (y 0).isLt
  have hy1 : (y 1).val < 1024 := (y 1).isLt
  have ht := count t
  unfold rhs
  rw [dif_pos ⟨by omega, by omega⟩]
  refine congrArg (m ((c : Thread nD τ).loc main_arg1)) (funext fun a => Fin.ext ?_)
  match a with
  | ⟨0, _⟩ => show win0_1.index t (0 : Fin 2) * 2816 + 1 * (y 0).val = t.val % 3 * 2816 + (y 0).val; rw [e0]; omega
  | ⟨1, _⟩ => show win0_1.index t (1 : Fin 2) * 1024 + 1 * (y 1).val = (y 1).val; rw [e1]; omega

theorem product_at (x0 : Vec Ideal S2816x1024 .bf16) (x1 : Vec Ideal S2816x1024 .bf16) (a : Fin 1024) (b : Fin 1024) :
    (k0_pay1 (F := Ideal) x0 x1 (ix2 a b) : EReal) = ∑ k : Fin 2816, x0 (ix2 k a) * x1 (ix2 k b) := by
  unfold k0_pay1
  pointwise

/-- The product of one point, over the rows of the arguments. -/
theorem part (c : Dev nD) (t : Fin cfg0.N) (a : Fin 1024) (b : Fin 1024) :
    (k0_pay1 (F := Ideal) (iblk m c 0 t) (iblk m c 1 t) (ix2 a b) : EReal)
      = ∑ k : Fin 2816, lhs m c (t.val % 3 * 2816 + k.val) (t.val / 3 * 1024 + a.val) * rhs m c (t.val % 3 * 2816 + k.val) b.val := by
  rw [product_at]
  refine Finset.sum_congr rfl fun k _ => ?_
  rw [lhs_block, rhs_block]
  rfl

/-! ## The output -/

theorem after_first (c : Dev nD) (n : ℕ) (h : n < cfg0.N) (hm : n % 3 = 0) :
    (outsAt0 m c n h).2 = k0_pay1 (iblk m c 0 ⟨n, h⟩) (iblk m c 1 ⟨n, h⟩) := by
  have e := congrArg Prod.snd (outsAt0_A m c ⟨n, h⟩ hm (by dsimp only; omega) (by dsimp only; omega))
  dsimp only at e
  rw [first_leaves] at e
  exact e

theorem after_middle (c : Dev nD) (n : ℕ) (h : n + 1 < cfg0.N) (hm : (n + 1) % 3 = 1) :
    (outsAt0 m c (n + 1) h).2 = addf (outsAt0 m c n (Nat.lt_of_succ_lt h)).2 (k0_pay1 (iblk m c 0 ⟨n + 1, h⟩) (iblk m c 1 ⟨n + 1, h⟩)) := by
  have e := congrArg Prod.snd (outsAt0_B m c ⟨n + 1, h⟩ (by dsimp only; omega) (by dsimp only; omega) (by dsimp only; omega))
  dsimp only at e
  rw [middle_leaves] at e
  exact e

theorem after_last (c : Dev nD) (n : ℕ) (h : n + 1 < cfg0.N) (hm : (n + 1) % 3 = 2) :
    (outsAt0 m c (n + 1) h).1 = k0_pay4 (addf (outsAt0 m c n (Nat.lt_of_succ_lt h)).2 (k0_pay1 (iblk m c 0 ⟨n + 1, h⟩) (iblk m c 1 ⟨n + 1, h⟩))) := by
  have e := congrArg Prod.fst (outsAt0_C m c ⟨n + 1, h⟩ (by dsimp only; omega) (by dsimp only; omega) hm)
  dsimp only at e
  rw [last_leaves] at e
  exact e

/-- The three points of a block leave the sum of their products. -/
theorem block_at (c : Dev nD) (n : ℕ) (h : 3 * n + 2 < cfg0.N) (a : Fin 1024) (b : Fin 1024) :
    ((outsAt0 m c (3 * n + 2) h).1 (ix2 a b) : EReal) = ∑ k : Fin 8448, lhs m c k.val (n * 1024 + a.val) * rhs m c k.val b.val := by
  have p2 := part m c ⟨3 * n + 2, h⟩ a b
  have p1 := part m c ⟨3 * n + 1, by omega⟩ a b
  have p0 := part m c ⟨3 * n, by omega⟩ a b
  simp only [show (3 * n + 2) % 3 = 2 by omega, show (3 * n + 2) / 3 = n by omega] at p2
  simp only [show (3 * n + 1) % 3 = 1 by omega, show (3 * n + 1) / 3 = n by omega] at p1
  simp only [show (3 * n) % 3 = 0 by omega, show (3 * n) / 3 = n by omega] at p0
  have s : ((outsAt0 m c (3 * n + 2) h).1 (ix2 a b) : EReal)
      = (k0_pay1 (F := Ideal) (iblk m c 0 ⟨3 * n, by omega⟩) (iblk m c 1 ⟨3 * n, by omega⟩) (ix2 a b)
          + k0_pay1 (F := Ideal) (iblk m c 0 ⟨3 * n + 1, by omega⟩) (iblk m c 1 ⟨3 * n + 1, by omega⟩) (ix2 a b))
        + k0_pay1 (F := Ideal) (iblk m c 0 ⟨3 * n + 2, h⟩) (iblk m c 1 ⟨3 * n + 2, h⟩) (ix2 a b) := by
    rw [after_last m c (3 * n + 1) h (by omega), after_middle m c (3 * n) (by omega) (by omega), after_first m c (3 * n) (by omega) (by omega)]
    rfl
  rw [s, p0, p1, p2, sum_rows (fun k => lhs m c k (n * 1024 + a.val) * rhs m c k b.val)]
  simp only [Nat.zero_mul, Nat.zero_add, Nat.one_mul]

/-- What the launch leaves at an index of its output. -/
theorem out_at (c : Dev nD) (i : S3072x1024.Idx) : (G2 m c i : EReal) = ∑ k : Fin 8448, lhs m c k.val (i 0).val * rhs m c k.val (i 1).val := by
  have h0 : (i 0).val < 3072 := (i 0).isLt
  have h1 : (i 1).val < 1024 := (i 1).isLt
  have hr : run2Of i = (i 0).val / 1024 := by show 1 * ((i 0).val / 1024 - 0) + 1 * ((i 1).val / 1024 - 0) = _; omega
  have hN : cfg0.N = 9 := N_0
  have hp : pt2Of i < cfg0.N := by show 3 * run2Of i + 2 < _; rw [hr]; omega
  have e := block_at m c (run2Of i) hp ⟨(i 0).val % 1024, Nat.mod_lt _ (by decide)⟩ ⟨(i 1).val % 1024, Nat.mod_lt _ (by decide)⟩
  unfold G2
  rw [dif_pos hp, ← outsAt0_sweep m c (pt2Of i) hp]
  refine Eq.trans ?_ (e.trans ?_)
  · refine congrArg (outsAt0 m c (3 * run2Of i + 2) hp).1 (funext fun a => ?_)
    match a with
    | ⟨0, _⟩ => rfl
    | ⟨1, _⟩ => rfl
  · have r0 : run2Of i * 1024 + (i 0).val % 1024 = (i 0).val := by rw [hr]; omega
    have r1 : (i 1).val % 1024 = (i 1).val := by omega
    simp only [r0, r1]

end Cert.Kernel4Ideal.Sum

end
-- ==== Proof.Prod.Weight4.lean ====
module

public import proofs.«01_k».proof.Defs
public import proofs.«01_k».proof.Proof.Prod.Sum4
public import proofs.«01_k».proof.Proof.Gen.Kernel4.Frame

@[expose] public section

set_option maxRecDepth 16384

/-!
The claims about the weight gradient of 3072 columns.
-/

noncomputable section

namespace Cert.Proof.Weight4

open Idealize.ShloMosaic Idealize.ShloMosaic.TcCoe Idealize.SL.Sem Cert.Reference4Ideal.Read

theorem frame_p : Cert.quiescent_Kernel4 (hKernel4 := Cert.Kernel4.Gen.facts) := fun m ρ _ => Cert.Kernel4.Gen.frame m ρ

theorem frame_pi : Cert.quiescent_Kernel4Ideal (hKernel4Ideal := Cert.Kernel4Ideal.Gen.facts) := fun m ρ _ => Cert.Kernel4Ideal.Gen.frame m ρ

theorem frame_ri : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run (F := Ideal) m ρ)

theorem preserves : Cert.preserves_Kernel4_Kernel4Ideal := trivial

/-- The reference's gradient at an index: the product of a column of the input and a column of the cotangent. -/
theorem reference_at (x0 : (⟨Cert.Reference4Ideal.S8448x3072, .bf16⟩ : BufTy).Contents (Elt Ideal)) (x1 : (⟨Cert.Reference4Ideal.S8448x1024, .bf16⟩ : BufTy).Contents (Elt Ideal))
    (i : Cert.Reference4Ideal.S3072x1024.Idx) :
    (val_main_v8 (F := Ideal) x0 x1 i : EReal) = ∑ k : Fin 8448, x0 (ix2 k (⟨(i 0).val, (i 0).isLt⟩ : Fin 3072)) * x1 (ix2 k (⟨(i 1).val, (i 1).isLt⟩ : Fin 1024)) := by
  rw [val_main_v8_apply, val_main_v7_apply, val_main_v6_apply, val_main_v5_apply]
  refine Finset.sum_congr rfl fun k _ => ?_
  refine congrArg₂ _ (congrArg x0 (funext fun a => ?_)) (congrArg x1 (funext fun a => ?_))
  · match a with
    | ⟨0, _⟩ => rfl
    | ⟨1, _⟩ => rfl
  · match a with
    | ⟨0, _⟩ => rfl
    | ⟨1, _⟩ => rfl

theorem algebraic : Cert.algebraic_Kernel4Ideal_Reference4Ideal (hKernel4Ideal := Cert.Kernel4Ideal.Gen.facts)
    (hReference4Ideal := Cert.Reference4Ideal.Gen.facts) := by
  intro m g m' g' _ hagree
  refine ⟨Cert.Kernel4Ideal.Value.G2 m, Cert.Kernel4Ideal.Value.run m g, ?_⟩
  refine (θ_run Cert.Reference4Ideal.defs _ _).mono (fun r h c => ?_) (Cert.Reference4Ideal.Value.run (F := Ideal) m' g')
  obtain ⟨a0, a1⟩ := hagree c
  obtain ⟨e, u⟩ := h c
  refine ⟨(e.trans (val_main_v8_eq _ _)).trans (funext fun i => ?_), u⟩
  rw [a0, a1]
  refine (reference_at _ _ i).trans (Eq.trans ?_ (Cert.Kernel4Ideal.Sum.out_at m c i).symm)
  refine Finset.sum_congr rfl fun k _ => ?_
  unfold Cert.Kernel4Ideal.Sum.lhs Cert.Kernel4Ideal.Sum.rhs
  rw [dif_pos ⟨k.isLt, (i 0).isLt⟩, dif_pos ⟨k.isLt, (i 1).isLt⟩]

end Cert.Proof.Weight4

end
-- ==== Proof.Prod.Sum5.lean ====
module

public import proofs.«01_k».proof.Proof.Prod.Common
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pointwise

@[expose] public section

set_option maxRecDepth 16384

/-!
The weight gradient of 2048 columns: a block of the output is the sum of three products of 2816 rows, and that is the product of all 8448 rows.
-/

noncomputable section

namespace Cert.Kernel5Ideal.Sum

open Idealize.ShloMosaic Idealize.ShloMosaic.TcCoe Idealize.SL.Sem
open Cert.Kernel5Ideal Cert.Kernel5Ideal.Gen Cert.Kernel5Ideal.Value Cert.Prod

theorem at_zero : ∀ a : Fin 2, (![0, 0] : Fin 2 → ℕ) a = 0 := by decide

/-! ## What a point leaves, in each of its three cases -/

theorem first_leaves (c : Dev nD) (i : grid0.Coords) (arg2 : Memref sig .tc .vmem S2816x1024 .bf16) (harg2 : arg2.IsWhole) (arg3 : Memref sig .tc .vmem S2816x1024 .bf16) (harg3 : arg3.IsWhole)
  (arg4 : Memref sig .tc .vmem S1024x1024 .bf16) (harg4 : arg4.IsWhole) (arg5 : Memref sig .tc .vmem S1024x1024 .f32) (harg5 : arg5.IsWhole)
    (hc0 : cond0_0 i) (hc1 : ¬cond0_1 i) (hc2 : ¬cond0_2 i) (x0 : Vec Ideal S2816x1024 .bf16) (x1 : Vec Ideal S2816x1024 .bf16) :
    sout0_A_0 (F := Ideal) c i arg2 harg2 arg3 harg3 arg4 harg4 arg5 harg5 hc0 hc1 hc2 x0 x1 = k0_pay1 x0 x1 := by
  show VS0_0.read (Elt Ideal) (VS0_0.writes (Elt Ideal) VS0_0.junk [⟨Rect.unit (s := S1024x1024) ![0, 0] S1024x1024.size inb_S1024x1024_S1024x1024_0_0, k0_pay2 (arg2.view.readAt (Elt Ideal) (Rect.unit (s := S2816x1024) ![0, 0] S2816x1024.size inb_S2816x1024_S2816x1024_0_0).toLoadRect (harg2.unread x0)) (arg3.view.readAt (Elt Ideal) (Rect.unit (s := S2816x1024) ![0, 0] S2816x1024.size inb_S2816x1024_S2816x1024_0_0).toLoadRect (harg3.unread x1))⟩]) = _
  rw [load_all arg2 harg2 x0 at_zero, load_all arg3 harg3 x1 at_zero, View.read_writes_full]
  unfold k0_pay2
  simp only [shapeCast_self]

theorem middle_leaves (c : Dev nD) (i : grid0.Coords) (arg2 : Memref sig .tc .vmem S2816x1024 .bf16) (harg2 : arg2.IsWhole) (arg3 : Memref sig .tc .vmem S2816x1024 .bf16) (harg3 : arg3.IsWhole)
  (arg4 : Memref sig .tc .vmem S1024x1024 .bf16) (harg4 : arg4.IsWhole) (arg5 : Memref sig .tc .vmem S1024x1024 .f32) (harg5 : arg5.IsWhole)
    (hc0 : ¬cond0_0 i) (hc1 : cond0_1 i) (hc2 : ¬cond0_2 i) (x0 : Vec Ideal S2816x1024 .bf16) (x1 : Vec Ideal S2816x1024 .bf16) (xs : Vec Ideal S1024x1024 .f32) :
    sout0_B_0 (F := Ideal) c i arg2 harg2 arg3 harg3 arg4 harg4 arg5 harg5 hc0 hc1 hc2 x0 x1 xs = addf xs (k0_pay1 x0 x1) := by
  show VS0_0.read (Elt Ideal) (VS0_0.writes (Elt Ideal) VS0_0.junk [⟨Rect.unit (s := S1024x1024) ![0, 0] S1024x1024.size inb_S1024x1024_S1024x1024_0_0, k0_pay3 (arg2.view.readAt (Elt Ideal) (Rect.unit (s := S2816x1024) ![0, 0] S2816x1024.size inb_S2816x1024_S2816x1024_0_0).toLoadRect (harg2.unread x0)) (arg3.view.readAt (Elt Ideal) (Rect.unit (s := S2816x1024) ![0, 0] S2816x1024.size inb_S2816x1024_S2816x1024_0_0).toLoadRect (harg3.unread x1)) (arg5.view.readAt (Elt Ideal) (Rect.unit (s := S1024x1024) ![0, 0] S1024x1024.size inb_S1024x1024_S1024x1024_0_0).toLoadRect (harg5.unread xs))⟩]) = _
  rw [load_all arg2 harg2 x0 at_zero, load_all arg3 harg3 x1 at_zero, load_all arg5 harg5 xs at_zero, View.read_writes_full]
  unfold k0_pay3
  simp only [shapeCast_self]

theorem last_leaves (c : Dev nD) (i : grid0.Coords) (arg2 : Memref sig .tc .vmem S2816x1024 .bf16) (harg2 : arg2.IsWhole) (arg3 : Memref sig .tc .vmem S2816x1024 .bf16) (harg3 : arg3.IsWhole)
  (arg4 : Memref sig .tc .vmem S1024x1024 .bf16) (harg4 : arg4.IsWhole) (arg5 : Memref sig .tc .vmem S1024x1024 .f32) (harg5 : arg5.IsWhole)
    (hc0 : ¬cond0_0 i) (hc1 : cond0_1 i) (hc2 : cond0_2 i) (x0 : Vec Ideal S2816x1024 .bf16) (x1 : Vec Ideal S2816x1024 .bf16) (xs : Vec Ideal S1024x1024 .f32) :
    out0_C_2 (F := Ideal) c i arg2 harg2 arg3 harg3 arg4 harg4 arg5 harg5 hc0 hc1 hc2 x0 x1 xs = k0_pay4 (addf xs (k0_pay1 x0 x1)) := by
  show VO0_2.read (Elt Ideal) (VO0_2.writes (Elt Ideal) VO0_2.junk [⟨Rect.unit (s := S1024x1024) ![0, 0] S1024x1024.size inb_S1024x1024_S1024x1024_0_0, k0_pay4 (arg5.view.readCov [(⟨Rect.unit (s := S1024x1024) ![0, 0] S1024x1024.size inb_S1024x1024_S1024x1024_0_0, k0_pay3 (arg2.view.readAt (Elt Ideal) (Rect.unit (s := S2816x1024) ![0, 0] S2816x1024.size inb_S2816x1024_S2816x1024_0_0).toLoadRect (harg2.unread x0)) (arg3.view.readAt (Elt Ideal) (Rect.unit (s := S2816x1024) ![0, 0] S2816x1024.size inb_S2816x1024_S2816x1024_0_0).toLoadRect (harg3.unread x1)) (arg5.view.readAt (Elt Ideal) (Rect.unit (s := S1024x1024) ![0, 0] S1024x1024.size inb_S1024x1024_S1024x1024_0_0).toLoadRect (harg5.unread xs))⟩ : View.Piece (Elt Ideal) S1024x1024 .f32)] (Rect.unit (s := S1024x1024) ![0, 0] S1024x1024.size inb_S1024x1024_S1024x1024_0_0).toLoadRect)⟩]) = _
  rw [load_all arg2 harg2 x0 at_zero, load_all arg3 harg3 x1 at_zero, load_all arg5 harg5 xs at_zero, load_stored _ _ at_zero, View.read_writes_full]
  unfold k0_pay3
  simp only [shapeCast_self]

/-! ## The blocks of a point, and the product at an index -/

variable (m : (ℓ : Loc nD τ sig) → Buf (Elt Ideal) ℓ) (ρ : Dev nD → PrngReg)

/-- Row `k` and column `j` of the left argument. -/
def lhs (c : Dev nD) (k j : ℕ) : EReal := if h : k < 8448 ∧ j < 2048 then m ((c : Thread nD τ).loc main_arg0) (ix2 (⟨k, h.1⟩ : Fin 8448) (⟨j, h.2⟩ : Fin 2048)) else 0
/-- Row `k` and column `j` of the right argument. -/
def rhs (c : Dev nD) (k j : ℕ) : EReal := if h : k < 8448 ∧ j < 1024 then m ((c : Thread nD τ).loc main_arg1) (ix2 (⟨k, h.1⟩ : Fin 8448) (⟨j, h.2⟩ : Fin 1024)) else 0

theorem places : ∀ t : Fin cfg0.N, win0_0.index t (0 : Fin 2) = t.val % 3 ∧ win0_0.index t (1 : Fin 2) = t.val / 3
    ∧ win0_1.index t (0 : Fin 2) = t.val % 3 ∧ win0_1.index t (1 : Fin 2) = 0 :=
  (by decide +kernel : ∀ t : Fin grid0.N, _)

theorem count (t : Fin cfg0.N) : t.val < 6 := lt_of_lt_of_eq t.isLt N_0

theorem lhs_block (c : Dev nD) (t : Fin cfg0.N) (y : S2816x1024.Idx) :
    (iblk m c 0 t y : EReal) = lhs m c (t.val % 3 * 2816 + (y 0).val) (t.val / 3 * 1024 + (y 1).val) := by
  obtain ⟨e0, e1, -, -⟩ := places t
  have hy0 : (y 0).val < 2816 := (y 0).isLt
  have hy1 : (y 1).val < 1024 := (y 1).isLt
  have ht := count t
  unfold lhs
  rw [dif_pos ⟨by omega, by omega⟩]
  refine congrArg (m ((c : Thread nD τ).loc main_arg0)) (funext fun a => Fin.ext ?_)
  match a with
  | ⟨0, _⟩ => show win0_0.index t (0 : Fin 2) * 2816 + 1 * (y 0).val = t.val % 3 * 2816 + (y 0).val; rw [e0]; omega
  | ⟨1, _⟩ => show win0_0.index t (1 : Fin 2) * 1024 + 1 * (y 1).val = t.val / 3 * 1024 + (y 1).val; rw [e1]; omega

theorem rhs_block (c : Dev nD) (t : Fin cfg0.N) (y : S2816x1024.Idx) :
    (iblk m c 1 t y : EReal) = rhs m c (t.val % 3 * 2816 + (y 0).val) (y 1).val := by
  obtain ⟨-, -, e0, e1⟩ := places t
  have hy0 : (y 0).val < 2816 := (y 0).isLt
  have hy1 : (y 1).val < 1024 := (y 1).isLt
  have ht := count t
  unfold rhs
  rw [dif_pos ⟨by omega, by omega⟩]
  refine congrArg (m ((c : Thread nD τ).loc main_arg1)) (funext fun a => Fin.ext ?_)
  match a with
  | ⟨0, _⟩ => show win0_1.index t (0 : Fin 2) * 2816 + 1 * (y 0).val = t.val % 3 * 2816 + (y 0).val; rw [e0]; omega
  | ⟨1, _⟩ => show win0_1.index t (1 : Fin 2) * 1024 + 1 * (y 1).val = (y 1).val; rw [e1]; omega

theorem product_at (x0 : Vec Ideal S2816x1024 .bf16) (x1 : Vec Ideal S2816x1024 .bf16) (a : Fin 1024) (b : Fin 1024) :
    (k0_pay1 (F := Ideal) x0 x1 (ix2 a b) : EReal) = ∑ k : Fin 2816, x0 (ix2 k a) * x1 (ix2 k b) := by
  unfold k0_pay1
  pointwise

/-- The product of one point, over the rows of the arguments. -/
theorem part (c : Dev nD) (t : Fin cfg0.N) (a : Fin 1024) (b : Fin 1024) :
    (k0_pay1 (F := Ideal) (iblk m c 0 t) (iblk m c 1 t) (ix2 a b) : EReal)
      = ∑ k : Fin 2816, lhs m c (t.val % 3 * 2816 + k.val) (t.val / 3 * 1024 + a.val) * rhs m c (t.val % 3 * 2816 + k.val) b.val := by
  rw [product_at]
  refine Finset.sum_congr rfl fun k _ => ?_
  rw [lhs_block, rhs_block]
  rfl

/-! ## The output -/

theorem after_first (c : Dev nD) (n : ℕ) (h : n < cfg0.N) (hm : n % 3 = 0) :
    (outsAt0 m c n h).2 = k0_pay1 (iblk m c 0 ⟨n, h⟩) (iblk m c 1 ⟨n, h⟩) := by
  have e := congrArg Prod.snd (outsAt0_A m c ⟨n, h⟩ hm (by dsimp only; omega) (by dsimp only; omega))
  dsimp only at e
  rw [first_leaves] at e
  exact e

theorem after_middle (c : Dev nD) (n : ℕ) (h : n + 1 < cfg0.N) (hm : (n + 1) % 3 = 1) :
    (outsAt0 m c (n + 1) h).2 = addf (outsAt0 m c n (Nat.lt_of_succ_lt h)).2 (k0_pay1 (iblk m c 0 ⟨n + 1, h⟩) (iblk m c 1 ⟨n + 1, h⟩)) := by
  have e := congrArg Prod.snd (outsAt0_B m c ⟨n + 1, h⟩ (by dsimp only; omega) (by dsimp only; omega) (by dsimp only; omega))
  dsimp only at e
  rw [middle_leaves] at e
  exact e

theorem after_last (c : Dev nD) (n : ℕ) (h : n + 1 < cfg0.N) (hm : (n + 1) % 3 = 2) :
    (outsAt0 m c (n + 1) h).1 = k0_pay4 (addf (outsAt0 m c n (Nat.lt_of_succ_lt h)).2 (k0_pay1 (iblk m c 0 ⟨n + 1, h⟩) (iblk m c 1 ⟨n + 1, h⟩))) := by
  have e := congrArg Prod.fst (outsAt0_C m c ⟨n + 1, h⟩ (by dsimp only; omega) (by dsimp only; omega) hm)
  dsimp only at e
  rw [last_leaves] at e
  exact e

/-- The three points of a block leave the sum of their products. -/
theorem block_at (c : Dev nD) (n : ℕ) (h : 3 * n + 2 < cfg0.N) (a : Fin 1024) (b : Fin 1024) :
    ((outsAt0 m c (3 * n + 2) h).1 (ix2 a b) : EReal) = ∑ k : Fin 8448, lhs m c k.val (n * 1024 + a.val) * rhs m c k.val b.val := by
  have p2 := part m c ⟨3 * n + 2, h⟩ a b
  have p1 := part m c ⟨3 * n + 1, by omega⟩ a b
  have p0 := part m c ⟨3 * n, by omega⟩ a b
  simp only [show (3 * n + 2) % 3 = 2 by omega, show (3 * n + 2) / 3 = n by omega] at p2
  simp only [show (3 * n + 1) % 3 = 1 by omega, show (3 * n + 1) / 3 = n by omega] at p1
  simp only [show (3 * n) % 3 = 0 by omega, show (3 * n) / 3 = n by omega] at p0
  have s : ((outsAt0 m c (3 * n + 2) h).1 (ix2 a b) : EReal)
      = (k0_pay1 (F := Ideal) (iblk m c 0 ⟨3 * n, by omega⟩) (iblk m c 1 ⟨3 * n, by omega⟩) (ix2 a b)
          + k0_pay1 (F := Ideal) (iblk m c 0 ⟨3 * n + 1, by omega⟩) (iblk m c 1 ⟨3 * n + 1, by omega⟩) (ix2 a b))
        + k0_pay1 (F := Ideal) (iblk m c 0 ⟨3 * n + 2, h⟩) (iblk m c 1 ⟨3 * n + 2, h⟩) (ix2 a b) := by
    rw [after_last m c (3 * n + 1) h (by omega), after_middle m c (3 * n) (by omega) (by omega), after_first m c (3 * n) (by omega) (by omega)]
    rfl
  rw [s, p0, p1, p2, sum_rows (fun k => lhs m c k (n * 1024 + a.val) * rhs m c k b.val)]
  simp only [Nat.zero_mul, Nat.zero_add, Nat.one_mul]

/-- What the launch leaves at an index of its output. -/
theorem out_at (c : Dev nD) (i : S2048x1024.Idx) : (G2 m c i : EReal) = ∑ k : Fin 8448, lhs m c k.val (i 0).val * rhs m c k.val (i 1).val := by
  have h0 : (i 0).val < 2048 := (i 0).isLt
  have h1 : (i 1).val < 1024 := (i 1).isLt
  have hr : run2Of i = (i 0).val / 1024 := by show 1 * ((i 0).val / 1024 - 0) + 1 * ((i 1).val / 1024 - 0) = _; omega
  have hN : cfg0.N = 6 := N_0
  have hp : pt2Of i < cfg0.N := by show 3 * run2Of i + 2 < _; rw [hr]; omega
  have e := block_at m c (run2Of i) hp ⟨(i 0).val % 1024, Nat.mod_lt _ (by decide)⟩ ⟨(i 1).val % 1024, Nat.mod_lt _ (by decide)⟩
  unfold G2
  rw [dif_pos hp, ← outsAt0_sweep m c (pt2Of i) hp]
  refine Eq.trans ?_ (e.trans ?_)
  · refine congrArg (outsAt0 m c (3 * run2Of i + 2) hp).1 (funext fun a => ?_)
    match a with
    | ⟨0, _⟩ => rfl
    | ⟨1, _⟩ => rfl
  · have r0 : run2Of i * 1024 + (i 0).val % 1024 = (i 0).val := by rw [hr]; omega
    have r1 : (i 1).val % 1024 = (i 1).val := by omega
    simp only [r0, r1]

end Cert.Kernel5Ideal.Sum

end
-- ==== Proof.Prod.Weight5.lean ====
module

public import proofs.«01_k».proof.Defs
public import proofs.«01_k».proof.Proof.Prod.Sum5
public import proofs.«01_k».proof.Proof.Gen.Kernel5.Frame

@[expose] public section

set_option maxRecDepth 16384

/-!
The claims about the weight gradient of 2048 columns.
-/

noncomputable section

namespace Cert.Proof.Weight5

open Idealize.ShloMosaic Idealize.ShloMosaic.TcCoe Idealize.SL.Sem Cert.Reference5Ideal.Read

theorem frame_p : Cert.quiescent_Kernel5 (hKernel5 := Cert.Kernel5.Gen.facts) := fun m ρ _ => Cert.Kernel5.Gen.frame m ρ

theorem frame_pi : Cert.quiescent_Kernel5Ideal (hKernel5Ideal := Cert.Kernel5Ideal.Gen.facts) := fun m ρ _ => Cert.Kernel5Ideal.Gen.frame m ρ

theorem frame_ri : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run (F := Ideal) m ρ)

theorem preserves : Cert.preserves_Kernel5_Kernel5Ideal := trivial

/-- The reference's gradient at an index: the product of a column of the input and a column of the cotangent. -/
theorem reference_at (x0 : (⟨Cert.Reference5Ideal.S8448x2048, .bf16⟩ : BufTy).Contents (Elt Ideal)) (x1 : (⟨Cert.Reference5Ideal.S8448x1024, .bf16⟩ : BufTy).Contents (Elt Ideal))
    (i : Cert.Reference5Ideal.S2048x1024.Idx) :
    (val_main_v8 (F := Ideal) x0 x1 i : EReal) = ∑ k : Fin 8448, x0 (ix2 k (⟨(i 0).val, (i 0).isLt⟩ : Fin 2048)) * x1 (ix2 k (⟨(i 1).val, (i 1).isLt⟩ : Fin 1024)) := by
  rw [val_main_v8_apply, val_main_v7_apply, val_main_v6_apply, val_main_v5_apply]
  refine Finset.sum_congr rfl fun k _ => ?_
  refine congrArg₂ _ (congrArg x0 (funext fun a => ?_)) (congrArg x1 (funext fun a => ?_))
  · match a with
    | ⟨0, _⟩ => rfl
    | ⟨1, _⟩ => rfl
  · match a with
    | ⟨0, _⟩ => rfl
    | ⟨1, _⟩ => rfl

theorem algebraic : Cert.algebraic_Kernel5Ideal_Reference5Ideal (hKernel5Ideal := Cert.Kernel5Ideal.Gen.facts)
    (hReference5Ideal := Cert.Reference5Ideal.Gen.facts) := by
  intro m g m' g' _ hagree
  refine ⟨Cert.Kernel5Ideal.Value.G2 m, Cert.Kernel5Ideal.Value.run m g, ?_⟩
  refine (θ_run Cert.Reference5Ideal.defs _ _).mono (fun r h c => ?_) (Cert.Reference5Ideal.Value.run (F := Ideal) m' g')
  obtain ⟨a0, a1⟩ := hagree c
  obtain ⟨e, u⟩ := h c
  refine ⟨(e.trans (val_main_v8_eq _ _)).trans (funext fun i => ?_), u⟩
  rw [a0, a1]
  refine (reference_at _ _ i).trans (Eq.trans ?_ (Cert.Kernel5Ideal.Sum.out_at m c i).symm)
  refine Finset.sum_congr rfl fun k _ => ?_
  unfold Cert.Kernel5Ideal.Sum.lhs Cert.Kernel5Ideal.Sum.rhs
  rw [dif_pos ⟨k.isLt, (i 0).isLt⟩, dif_pos ⟨k.isLt, (i 1).isLt⟩]

end Cert.Proof.Weight5

end
-- ==== Proof.Prod.Sum6.lean ====
module

public import proofs.«01_k».proof.Proof.Prod.Common
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pointwise

@[expose] public section

set_option maxRecDepth 16384

/-!
The weight gradient of 1536 columns: a block of the output is the sum of three products of 2816 rows, and that is the product of all 8448 rows.
-/

noncomputable section

namespace Cert.Kernel6Ideal.Sum

open Idealize.ShloMosaic Idealize.ShloMosaic.TcCoe Idealize.SL.Sem
open Cert.Kernel6Ideal Cert.Kernel6Ideal.Gen Cert.Kernel6Ideal.Value Cert.Prod

theorem at_zero : ∀ a : Fin 2, (![0, 0] : Fin 2 → ℕ) a = 0 := by decide

/-! ## What a point leaves, in each of its three cases -/

theorem first_leaves (c : Dev nD) (i : grid0.Coords) (arg2 : Memref sig .tc .vmem S2816x512 .bf16) (harg2 : arg2.IsWhole) (arg3 : Memref sig .tc .vmem S2816x1024 .bf16) (harg3 : arg3.IsWhole)
  (arg4 : Memref sig .tc .vmem S512x1024 .bf16) (harg4 : arg4.IsWhole) (arg5 : Memref sig .tc .vmem S512x1024 .f32) (harg5 : arg5.IsWhole)
    (hc0 : cond0_0 i) (hc1 : ¬cond0_1 i) (hc2 : ¬cond0_2 i) (x0 : Vec Ideal S2816x512 .bf16) (x1 : Vec Ideal S2816x1024 .bf16) :
    sout0_A_0 (F := Ideal) c i arg2 harg2 arg3 harg3 arg4 harg4 arg5 harg5 hc0 hc1 hc2 x0 x1 = k0_pay1 x0 x1 := by
  show VS0_0.read (Elt Ideal) (VS0_0.writes (Elt Ideal) VS0_0.junk [⟨Rect.unit (s := S512x1024) ![0, 0] S512x1024.size inb_S512x1024_S512x1024_0_0, k0_pay2 (arg2.view.readAt (Elt Ideal) (Rect.unit (s := S2816x512) ![0, 0] S2816x512.size inb_S2816x512_S2816x512_0_0).toLoadRect (harg2.unread x0)) (arg3.view.readAt (Elt Ideal) (Rect.unit (s := S2816x1024) ![0, 0] S2816x1024.size inb_S2816x1024_S2816x1024_0_0).toLoadRect (harg3.unread x1))⟩]) = _
  rw [load_all arg2 harg2 x0 at_zero, load_all arg3 harg3 x1 at_zero, View.read_writes_full]
  unfold k0_pay2
  simp only [shapeCast_self]

theorem middle_leaves (c : Dev nD) (i : grid0.Coords) (arg2 : Memref sig .tc .vmem S2816x512 .bf16) (harg2 : arg2.IsWhole) (arg3 : Memref sig .tc .vmem S2816x1024 .bf16) (harg3 : arg3.IsWhole)
  (arg4 : Memref sig .tc .vmem S512x1024 .bf16) (harg4 : arg4.IsWhole) (arg5 : Memref sig .tc .vmem S512x1024 .f32) (harg5 : arg5.IsWhole)
    (hc0 : ¬cond0_0 i) (hc1 : cond0_1 i) (hc2 : ¬cond0_2 i) (x0 : Vec Ideal S2816x512 .bf16) (x1 : Vec Ideal S2816x1024 .bf16) (xs : Vec Ideal S512x1024 .f32) :
    sout0_B_0 (F := Ideal) c i arg2 harg2 arg3 harg3 arg4 harg4 arg5 harg5 hc0 hc1 hc2 x0 x1 xs = addf xs (k0_pay1 x0 x1) := by
  show VS0_0.read (Elt Ideal) (VS0_0.writes (Elt Ideal) VS0_0.junk [⟨Rect.unit (s := S512x1024) ![0, 0] S512x1024.size inb_S512x1024_S512x1024_0_0, k0_pay3 (arg2.view.readAt (Elt Ideal) (Rect.unit (s := S2816x512) ![0, 0] S2816x512.size inb_S2816x512_S2816x512_0_0).toLoadRect (harg2.unread x0)) (arg3.view.readAt (Elt Ideal) (Rect.unit (s := S2816x1024) ![0, 0] S2816x1024.size inb_S2816x1024_S2816x1024_0_0).toLoadRect (harg3.unread x1)) (arg5.view.readAt (Elt Ideal) (Rect.unit (s := S512x1024) ![0, 0] S512x1024.size inb_S512x1024_S512x1024_0_0).toLoadRect (harg5.unread xs))⟩]) = _
  rw [load_all arg2 harg2 x0 at_zero, load_all arg3 harg3 x1 at_zero, load_all arg5 harg5 xs at_zero, View.read_writes_full]
  unfold k0_pay3
  simp only [shapeCast_self]

theorem last_leaves (c : Dev nD) (i : grid0.Coords) (arg2 : Memref sig .tc .vmem S2816x512 .bf16) (harg2 : arg2.IsWhole) (arg3 : Memref sig .tc .vmem S2816x1024 .bf16) (harg3 : arg3.IsWhole)
  (arg4 : Memref sig .tc .vmem S512x1024 .bf16) (harg4 : arg4.IsWhole) (arg5 : Memref sig .tc .vmem S512x1024 .f32) (harg5 : arg5.IsWhole)
    (hc0 : ¬cond0_0 i) (hc1 : cond0_1 i) (hc2 : cond0_2 i) (x0 : Vec Ideal S2816x512 .bf16) (x1 : Vec Ideal S2816x1024 .bf16) (xs : Vec Ideal S512x1024 .f32) :
    out0_C_2 (F := Ideal) c i arg2 harg2 arg3 harg3 arg4 harg4 arg5 harg5 hc0 hc1 hc2 x0 x1 xs = k0_pay4 (addf xs (k0_pay1 x0 x1)) := by
  show VO0_2.read (Elt Ideal) (VO0_2.writes (Elt Ideal) VO0_2.junk [⟨Rect.unit (s := S512x1024) ![0, 0] S512x1024.size inb_S512x1024_S512x1024_0_0, k0_pay4 (arg5.view.readCov [(⟨Rect.unit (s := S512x1024) ![0, 0] S512x1024.size inb_S512x1024_S512x1024_0_0, k0_pay3 (arg2.view.readAt (Elt Ideal) (Rect.unit (s := S2816x512) ![0, 0] S2816x512.size inb_S2816x512_S2816x512_0_0).toLoadRect (harg2.unread x0)) (arg3.view.readAt (Elt Ideal) (Rect.unit (s := S2816x1024) ![0, 0] S2816x1024.size inb_S2816x1024_S2816x1024_0_0).toLoadRect (harg3.unread x1)) (arg5.view.readAt (Elt Ideal) (Rect.unit (s := S512x1024) ![0, 0] S512x1024.size inb_S512x1024_S512x1024_0_0).toLoadRect (harg5.unread xs))⟩ : View.Piece (Elt Ideal) S512x1024 .f32)] (Rect.unit (s := S512x1024) ![0, 0] S512x1024.size inb_S512x1024_S512x1024_0_0).toLoadRect)⟩]) = _
  rw [load_all arg2 harg2 x0 at_zero, load_all arg3 harg3 x1 at_zero, load_all arg5 harg5 xs at_zero, load_stored _ _ at_zero, View.read_writes_full]
  unfold k0_pay3
  simp only [shapeCast_self]

/-! ## The blocks of a point, and the product at an index -/

variable (m : (ℓ : Loc nD τ sig) → Buf (Elt Ideal) ℓ) (ρ : Dev nD → PrngReg)

/-- Row `k` and column `j` of the left argument. -/
def lhs (c : Dev nD) (k j : ℕ) : EReal := if h : k < 8448 ∧ j < 1536 then m ((c : Thread nD τ).loc main_arg0) (ix2 (⟨k, h.1⟩ : Fin 8448) (⟨j, h.2⟩ : Fin 1536)) else 0
/-- Row `k` and column `j` of the right argument. -/
def rhs (c : Dev nD) (k j : ℕ) : EReal := if h : k < 8448 ∧ j < 1024 then m ((c : Thread nD τ).loc main_arg1) (ix2 (⟨k, h.1⟩ : Fin 8448) (⟨j, h.2⟩ : Fin 1024)) else 0

theorem places : ∀ t : Fin cfg0.N, win0_0.index t (0 : Fin 2) = t.val % 3 ∧ win0_0.index t (1 : Fin 2) = t.val / 3
    ∧ win0_1.index t (0 : Fin 2) = t.val % 3 ∧ win0_1.index t (1 : Fin 2) = 0 :=
  (by decide +kernel : ∀ t : Fin grid0.N, _)

theorem count (t : Fin cfg0.N) : t.val < 9 := lt_of_lt_of_eq t.isLt N_0

theorem lhs_block (c : Dev nD) (t : Fin cfg0.N) (y : S2816x512.Idx) :
    (iblk m c 0 t y : EReal) = lhs m c (t.val % 3 * 2816 + (y 0).val) (t.val / 3 * 512 + (y 1).val) := by
  obtain ⟨e0, e1, -, -⟩ := places t
  have hy0 : (y 0).val < 2816 := (y 0).isLt
  have hy1 : (y 1).val < 512 := (y 1).isLt
  have ht := count t
  unfold lhs
  rw [dif_pos ⟨by omega, by omega⟩]
  refine congrArg (m ((c : Thread nD τ).loc main_arg0)) (funext fun a => Fin.ext ?_)
  match a with
  | ⟨0, _⟩ => show win0_0.index t (0 : Fin 2) * 2816 + 1 * (y 0).val = t.val % 3 * 2816 + (y 0).val; rw [e0]; omega
  | ⟨1, _⟩ => show win0_0.index t (1 : Fin 2) * 512 + 1 * (y 1).val = t.val / 3 * 512 + (y 1).val; rw [e1]; omega

theorem rhs_block (c : Dev nD) (t : Fin cfg0.N) (y : S2816x1024.Idx) :
    (iblk m c 1 t y : EReal) = rhs m c (t.val % 3 * 2816 + (y 0).val) (y 1).val := by
  obtain ⟨-, -, e0, e1⟩ := places t
  have hy0 : (y 0).val < 2816 := (y 0).isLt
  have hy1 : (y 1).val < 1024 := (y 1).isLt
  have ht := count t
  unfold rhs
  rw [dif_pos ⟨by omega, by omega⟩]
  refine congrArg (m ((c : Thread nD τ).loc main_arg1)) (funext fun a => Fin.ext ?_)
  match a with
  | ⟨0, _⟩ => show win0_1.index t (0 : Fin 2) * 2816 + 1 * (y 0).val = t.val % 3 * 2816 + (y 0).val; rw [e0]; omega
  | ⟨1, _⟩ => show win0_1.index t (1 : Fin 2) * 1024 + 1 * (y 1).val = (y 1).val; rw [e1]; omega

theorem product_at (x0 : Vec Ideal S2816x512 .bf16) (x1 : Vec Ideal S2816x1024 .bf16) (a : Fin 512) (b : Fin 1024) :
    (k0_pay1 (F := Ideal) x0 x1 (ix2 a b) : EReal) = ∑ k : Fin 2816, x0 (ix2 k a) * x1 (ix2 k b) := by
  unfold k0_pay1
  pointwise

/-- The product of one point, over the rows of the arguments. -/
theorem part (c : Dev nD) (t : Fin cfg0.N) (a : Fin 512) (b : Fin 1024) :
    (k0_pay1 (F := Ideal) (iblk m c 0 t) (iblk m c 1 t) (ix2 a b) : EReal)
      = ∑ k : Fin 2816, lhs m c (t.val % 3 * 2816 + k.val) (t.val / 3 * 512 + a.val) * rhs m c (t.val % 3 * 2816 + k.val) b.val := by
  rw [product_at]
  refine Finset.sum_congr rfl fun k _ => ?_
  rw [lhs_block, rhs_block]
  rfl

/-! ## The output -/

theorem after_first (c : Dev nD) (n : ℕ) (h : n < cfg0.N) (hm : n % 3 = 0) :
    (outsAt0 m c n h).2 = k0_pay1 (iblk m c 0 ⟨n, h⟩) (iblk m c 1 ⟨n, h⟩) := by
  have e := congrArg Prod.snd (outsAt0_A m c ⟨n, h⟩ hm (by dsimp only; omega) (by dsimp only; omega))
  dsimp only at e
  rw [first_leaves] at e
  exact e

theorem after_middle (c : Dev nD) (n : ℕ) (h : n + 1 < cfg0.N) (hm : (n + 1) % 3 = 1) :
    (outsAt0 m c (n + 1) h).2 = addf (outsAt0 m c n (Nat.lt_of_succ_lt h)).2 (k0_pay1 (iblk m c 0 ⟨n + 1, h⟩) (iblk m c 1 ⟨n + 1, h⟩)) := by
  have e := congrArg Prod.snd (outsAt0_B m c ⟨n + 1, h⟩ (by dsimp only; omega) (by dsimp only; omega) (by dsimp only; omega))
  dsimp only at e
  rw [middle_leaves] at e
  exact e

theorem after_last (c : Dev nD) (n : ℕ) (h : n + 1 < cfg0.N) (hm : (n + 1) % 3 = 2) :
    (outsAt0 m c (n + 1) h).1 = k0_pay4 (addf (outsAt0 m c n (Nat.lt_of_succ_lt h)).2 (k0_pay1 (iblk m c 0 ⟨n + 1, h⟩) (iblk m c 1 ⟨n + 1, h⟩))) := by
  have e := congrArg Prod.fst (outsAt0_C m c ⟨n + 1, h⟩ (by dsimp only; omega) (by dsimp only; omega) hm)
  dsimp only at e
  rw [last_leaves] at e
  exact e

/-- The three points of a block leave the sum of their products. -/
theorem block_at (c : Dev nD) (n : ℕ) (h : 3 * n + 2 < cfg0.N) (a : Fin 512) (b : Fin 1024) :
    ((outsAt0 m c (3 * n + 2) h).1 (ix2 a b) : EReal) = ∑ k : Fin 8448, lhs m c k.val (n * 512 + a.val) * rhs m c k.val b.val := by
  have p2 := part m c ⟨3 * n + 2, h⟩ a b
  have p1 := part m c ⟨3 * n + 1, by omega⟩ a b
  have p0 := part m c ⟨3 * n, by omega⟩ a b
  simp only [show (3 * n + 2) % 3 = 2 by omega, show (3 * n + 2) / 3 = n by omega] at p2
  simp only [show (3 * n + 1) % 3 = 1 by omega, show (3 * n + 1) / 3 = n by omega] at p1
  simp only [show (3 * n) % 3 = 0 by omega, show (3 * n) / 3 = n by omega] at p0
  have s : ((outsAt0 m c (3 * n + 2) h).1 (ix2 a b) : EReal)
      = (k0_pay1 (F := Ideal) (iblk m c 0 ⟨3 * n, by omega⟩) (iblk m c 1 ⟨3 * n, by omega⟩) (ix2 a b)
          + k0_pay1 (F := Ideal) (iblk m c 0 ⟨3 * n + 1, by omega⟩) (iblk m c 1 ⟨3 * n + 1, by omega⟩) (ix2 a b))
        + k0_pay1 (F := Ideal) (iblk m c 0 ⟨3 * n + 2, h⟩) (iblk m c 1 ⟨3 * n + 2, h⟩) (ix2 a b) := by
    rw [after_last m c (3 * n + 1) h (by omega), after_middle m c (3 * n) (by omega) (by omega), after_first m c (3 * n) (by omega) (by omega)]
    rfl
  rw [s, p0, p1, p2, sum_rows (fun k => lhs m c k (n * 512 + a.val) * rhs m c k b.val)]
  simp only [Nat.zero_mul, Nat.zero_add, Nat.one_mul]

/-- What the launch leaves at an index of its output. -/
theorem out_at (c : Dev nD) (i : S1536x1024.Idx) : (G2 m c i : EReal) = ∑ k : Fin 8448, lhs m c k.val (i 0).val * rhs m c k.val (i 1).val := by
  have h0 : (i 0).val < 1536 := (i 0).isLt
  have h1 : (i 1).val < 1024 := (i 1).isLt
  have hr : run2Of i = (i 0).val / 512 := by show 1 * ((i 0).val / 512 - 0) + 1 * ((i 1).val / 1024 - 0) = _; omega
  have hN : cfg0.N = 9 := N_0
  have hp : pt2Of i < cfg0.N := by show 3 * run2Of i + 2 < _; rw [hr]; omega
  have e := block_at m c (run2Of i) hp ⟨(i 0).val % 512, Nat.mod_lt _ (by decide)⟩ ⟨(i 1).val % 1024, Nat.mod_lt _ (by decide)⟩
  unfold G2
  rw [dif_pos hp, ← outsAt0_sweep m c (pt2Of i) hp]
  refine Eq.trans ?_ (e.trans ?_)
  · refine congrArg (outsAt0 m c (3 * run2Of i + 2) hp).1 (funext fun a => ?_)
    match a with
    | ⟨0, _⟩ => rfl
    | ⟨1, _⟩ => rfl
  · have r0 : run2Of i * 512 + (i 0).val % 512 = (i 0).val := by rw [hr]; omega
    have r1 : (i 1).val % 1024 = (i 1).val := by omega
    simp only [r0, r1]

end Cert.Kernel6Ideal.Sum

end
-- ==== Proof.Prod.Weight6.lean ====
module

public import proofs.«01_k».proof.Defs
public import proofs.«01_k».proof.Proof.Prod.Sum6
public import proofs.«01_k».proof.Proof.Gen.Kernel6.Frame

@[expose] public section

set_option maxRecDepth 16384

/-!
The claims about the weight gradient of 1536 columns.
-/

noncomputable section

namespace Cert.Proof.Weight6

open Idealize.ShloMosaic Idealize.ShloMosaic.TcCoe Idealize.SL.Sem Cert.Reference6Ideal.Read

theorem frame_p : Cert.quiescent_Kernel6 (hKernel6 := Cert.Kernel6.Gen.facts) := fun m ρ _ => Cert.Kernel6.Gen.frame m ρ

theorem frame_pi : Cert.quiescent_Kernel6Ideal (hKernel6Ideal := Cert.Kernel6Ideal.Gen.facts) := fun m ρ _ => Cert.Kernel6Ideal.Gen.frame m ρ

theorem frame_ri : Cert.quiescent_Reference6Ideal (hReference6Ideal := Cert.Reference6Ideal.Gen.facts) := fun m ρ _ =>
  (θ_run Cert.Reference6Ideal.defs _ _).mono (fun r h => ⟨fun c => (h c).2, sem_eq_zero_of_no_sems (by decide) r.2⟩)
    (Cert.Reference6Ideal.Value.run (F := Ideal) m ρ)

theorem preserves : Cert.preserves_Kernel6_Kernel6Ideal := trivial

/-- The reference's gradient at an index: the product of a column of the input and a column of the cotangent. -/
theorem reference_at (x0 : (⟨Cert.Reference6Ideal.S8448x1536, .bf16⟩ : BufTy).Contents (Elt Ideal)) (x1 : (⟨Cert.Reference6Ideal.S8448x1024, .bf16⟩ : BufTy).Contents (Elt Ideal))
    (i : Cert.Reference6Ideal.S1536x1024.Idx) :
    (val_main_v8 (F := Ideal) x0 x1 i : EReal) = ∑ k : Fin 8448, x0 (ix2 k (⟨(i 0).val, (i 0).isLt⟩ : Fin 1536)) * x1 (ix2 k (⟨(i 1).val, (i 1).isLt⟩ : Fin 1024)) := by
  rw [val_main_v8_apply, val_main_v7_apply, val_main_v6_apply, val_main_v5_apply]
  refine Finset.sum_congr rfl fun k _ => ?_
  refine congrArg₂ _ (congrArg x0 (funext fun a => ?_)) (congrArg x1 (funext fun a => ?_))
  · match a with
    | ⟨0, _⟩ => rfl
    | ⟨1, _⟩ => rfl
  · match a with
    | ⟨0, _⟩ => rfl
    | ⟨1, _⟩ => rfl

theorem algebraic : Cert.algebraic_Kernel6Ideal_Reference6Ideal (hKernel6Ideal := Cert.Kernel6Ideal.Gen.facts)
    (hReference6Ideal := Cert.Reference6Ideal.Gen.facts) := by
  intro m g m' g' _ hagree
  refine ⟨Cert.Kernel6Ideal.Value.G2 m, Cert.Kernel6Ideal.Value.run m g, ?_⟩
  refine (θ_run Cert.Reference6Ideal.defs _ _).mono (fun r h c => ?_) (Cert.Reference6Ideal.Value.run (F := Ideal) m' g')
  obtain ⟨a0, a1⟩ := hagree c
  obtain ⟨e, u⟩ := h c
  refine ⟨(e.trans (val_main_v8_eq _ _)).trans (funext fun i => ?_), u⟩
  rw [a0, a1]
  refine (reference_at _ _ i).trans (Eq.trans ?_ (Cert.Kernel6Ideal.Sum.out_at m c i).symm)
  refine Finset.sum_congr rfl fun k _ => ?_
  unfold Cert.Kernel6Ideal.Sum.lhs Cert.Kernel6Ideal.Sum.rhs
  rw [dif_pos ⟨k.isLt, (i 0).isLt⟩, dif_pos ⟨k.isLt, (i 1).isLt⟩]

end Cert.Proof.Weight6

end
-- ==== Proof.Prod.Sum7.lean ====
module

public import proofs.«01_k».proof.Proof.Prod.Common
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pointwise

@[expose] public section

set_option maxRecDepth 16384

/-!
The weight gradient of 1024 columns: a block of the output is the sum of three products of 2816 rows, and that is the product of all 8448 rows.
-/

noncomputable section

namespace Cert.Kernel7Ideal.Sum

open Idealize.ShloMosaic Idealize.ShloMosaic.TcCoe Idealize.SL.Sem
open Cert.Kernel7Ideal Cert.Kernel7Ideal.Gen Cert.Kernel7Ideal.Value Cert.Prod

theorem at_zero : ∀ a : Fin 2, (![0, 0] : Fin 2 → ℕ) a = 0 := by decide

/-! ## What a point leaves, in each of its three cases -/

theorem first_leaves (c : Dev nD) (i : grid0.Coords) (arg2 : Memref sig .tc .vmem S2816x1024 .bf16) (harg2 : arg2.IsWhole) (arg3 : Memref sig .tc .vmem S2816x1024 .bf16) (harg3 : arg3.IsWhole)
  (arg4 : Memref sig .tc .vmem S1024x1024 .bf16) (harg4 : arg4.IsWhole) (arg5 : Memref sig .tc .vmem S1024x1024 .f32) (harg5 : arg5.IsWhole)
    (hc0 : cond0_0 i) (hc1 : ¬cond0_1 i) (hc2 : ¬cond0_2 i) (x0 : Vec Ideal S2816x1024 .bf16) (x1 : Vec Ideal S2816x1024 .bf16) :
    sout0_A_0 (F := Ideal) c i arg2 harg2 arg3 harg3 arg4 harg4 arg5 harg5 hc0 hc1 hc2 x0 x1 = k0_pay1 x0 x1 := by
  show VS0_0.read (Elt Ideal) (VS0_0.writes (Elt Ideal) VS0_0.junk [⟨Rect.unit (s := S1024x1024) ![0, 0] S1024x1024.size inb_S1024x1024_S1024x1024_0_0, k0_pay2 (arg2.view.readAt (Elt Ideal) (Rect.unit (s := S2816x1024) ![0, 0] S2816x1024.size inb_S2816x1024_S2816x1024_0_0).toLoadRect (harg2.unread x0)) (arg3.view.readAt (Elt Ideal) (Rect.unit (s := S2816x1024) ![0, 0] S2816x1024.size inb_S2816x1024_S2816x1024_0_0).toLoadRect (harg3.unread x1))⟩]) = _
  rw [load_all arg2 harg2 x0 at_zero, load_all arg3 harg3 x1 at_zero, View.read_writes_full]
  unfold k0_pay2
  simp only [shapeCast_self]

theorem middle_leaves (c : Dev nD) (i : grid0.Coords) (arg2 : Memref sig .tc .vmem S2816x1024 .bf16) (harg2 : arg2.IsWhole) (arg3 : Memref sig .tc .vmem S2816x1024 .bf16) (harg3 : arg3.IsWhole)
  (arg4 : Memref sig .tc .vmem S1024x1024 .bf16) (harg4 : arg4.IsWhole) (arg5 : Memref sig .tc .vmem S1024x1024 .f32) (harg5 : arg5.IsWhole)
    (hc0 : ¬cond0_0 i) (hc1 : cond0_1 i) (hc2 : ¬cond0_2 i) (x0 : Vec Ideal S2816x1024 .bf16) (x1 : Vec Ideal S2816x1024 .bf16) (xs : Vec Ideal S1024x1024 .f32) :
    sout0_B_0 (F := Ideal) c i arg2 harg2 arg3 harg3 arg4 harg4 arg5 harg5 hc0 hc1 hc2 x0 x1 xs = addf xs (k0_pay1 x0 x1) := by
  show VS0_0.read (Elt Ideal) (VS0_0.writes (Elt Ideal) VS0_0.junk [⟨Rect.unit (s := S1024x1024) ![0, 0] S1024x1024.size inb_S1024x1024_S1024x1024_0_0, k0_pay3 (arg2.view.readAt (Elt Ideal) (Rect.unit (s := S2816x1024) ![0, 0] S2816x1024.size inb_S2816x1024_S2816x1024_0_0).toLoadRect (harg2.unread x0)) (arg3.view.readAt (Elt Ideal) (Rect.unit (s := S2816x1024) ![0, 0] S2816x1024.size inb_S2816x1024_S2816x1024_0_0).toLoadRect (harg3.unread x1)) (arg5.view.readAt (Elt Ideal) (Rect.unit (s := S1024x1024) ![0, 0] S1024x1024.size inb_S1024x1024_S1024x1024_0_0).toLoadRect (harg5.unread xs))⟩]) = _
  rw [load_all arg2 harg2 x0 at_zero, load_all arg3 harg3 x1 at_zero, load_all arg5 harg5 xs at_zero, View.read_writes_full]
  unfold k0_pay3
  simp only [shapeCast_self]

theorem last_leaves (c : Dev nD) (i : grid0.Coords) (arg2 : Memref sig .tc .vmem S2816x1024 .bf16) (harg2 : arg2.IsWhole) (arg3 : Memref sig .tc .vmem S2816x1024 .bf16) (harg3 : arg3.IsWhole)
  (arg4 : Memref sig .tc .vmem S1024x1024 .bf16) (harg4 : arg4.IsWhole) (arg5 : Memref sig .tc .vmem S1024x1024 .f32) (harg5 : arg5.IsWhole)
    (hc0 : ¬cond0_0 i) (hc1 : cond0_1 i) (hc2 : cond0_2 i) (x0 : Vec Ideal S2816x1024 .bf16) (x1 : Vec Ideal S2816x1024 .bf16) (xs : Vec Ideal S1024x1024 .f32) :
    out0_C_2 (F := Ideal) c i arg2 harg2 arg3 harg3 arg4 harg4 arg5 harg5 hc0 hc1 hc2 x0 x1 xs = k0_pay4 (addf xs (k0_pay1 x0 x1)) := by
  show VO0_2.read (Elt Ideal) (VO0_2.writes (Elt Ideal) VO0_2.junk [⟨Rect.unit (s := S1024x1024) ![0, 0] S1024x1024.size inb_S1024x1024_S1024x1024_0_0, k0_pay4 (arg5.view.readCov [(⟨Rect.unit (s := S1024x1024) ![0, 0] S1024x1024.size inb_S1024x1024_S1024x1024_0_0, k0_pay3 (arg2.view.readAt (Elt Ideal) (Rect.unit (s := S2816x1024) ![0, 0] S2816x1024.size inb_S2816x1024_S2816x1024_0_0).toLoadRect (harg2.unread x0)) (arg3.view.readAt (Elt Ideal) (Rect.unit (s := S2816x1024) ![0, 0] S2816x1024.size inb_S2816x1024_S2816x1024_0_0).toLoadRect (harg3.unread x1)) (arg5.view.readAt (Elt Ideal) (Rect.unit (s := S1024x1024) ![0, 0] S1024x1024.size inb_S1024x1024_S1024x1024_0_0).toLoadRect (harg5.unread xs))⟩ : View.Piece (Elt Ideal) S1024x1024 .f32)] (Rect.unit (s := S1024x1024) ![0, 0] S1024x1024.size inb_S1024x1024_S1024x1024_0_0).toLoadRect)⟩]) = _
  rw [load_all arg2 harg2 x0 at_zero, load_all arg3 harg3 x1 at_zero, load_all arg5 harg5 xs at_zero, load_stored _ _ at_zero, View.read_writes_full]
  unfold k0_pay3
  simp only [shapeCast_self]

/-! ## The blocks of a point, and the product at an index -/

variable (m : (ℓ : Loc nD τ sig) → Buf (Elt Ideal) ℓ) (ρ : Dev nD → PrngReg)

/-- Row `k` and column `j` of the left argument. -/
def lhs (c : Dev nD) (k j : ℕ) : EReal := if h : k < 8448 ∧ j < 1024 then m ((c : Thread nD τ).loc main_arg0) (ix2 (⟨k, h.1⟩ : Fin 8448) (⟨j, h.2⟩ : Fin 1024)) else 0
/-- Row `k` and column `j` of the right argument. -/
def rhs (c : Dev nD) (k j : ℕ) : EReal := if h : k < 8448 ∧ j < 1024 then m ((c : Thread nD τ).loc main_arg1) (ix2 (⟨k, h.1⟩ : Fin 8448) (⟨j, h.2⟩ : Fin 1024)) else 0

theorem places : ∀ t : Fin cfg0.N, win0_0.index t (0 : Fin 2) = t.val % 3 ∧ win0_0.index t (1 : Fin 2) = t.val / 3
    ∧ win0_1.index t (0 : Fin 2) = t.val % 3 ∧ win0_1.index t (1 : Fin 2) = 0 :=
  (by decide +kernel : ∀ t : Fin grid0.N, _)

theorem count (t : Fin cfg0.N) : t.val < 3 := lt_of_lt_of_eq t.isLt N_0

theorem lhs_block (c : Dev nD) (t : Fin cfg0.N) (y : S2816x1024.Idx) :
    (iblk m c 0 t y : EReal) = lhs m c (t.val % 3 * 2816 + (y 0).val) (t.val / 3 * 1024 + (y 1).val) := by
  obtain ⟨e0, e1, -, -⟩ := places t
  have hy0 : (y 0).val < 2816 := (y 0).isLt
  have hy1 : (y 1).val < 1024 := (y 1).isLt
  have ht := count t
  unfold lhs
  rw [dif_pos ⟨by omega, by omega⟩]
  refine congrArg (m ((c : Thread nD τ).loc main_arg0)) (funext fun a => Fin.ext ?_)
  match a with
  | ⟨0, _⟩ => show win0_0.index t (0 : Fin 2) * 2816 + 1 * (y 0).val = t.val % 3 * 2816 + (y 0).val; rw [e0]; omega
  | ⟨1, _⟩ => show win0_0.index t (1 : Fin 2) * 1024 + 1 * (y 1).val = t.val / 3 * 1024 + (y 1).val; rw [e1]; omega

theorem rhs_block (c : Dev nD) (t : Fin cfg0.N) (y : S2816x1024.Idx) :
    (iblk m c 1 t y : EReal) = rhs m c (t.val % 3 * 2816 + (y 0).val) (y 1).val := by
  obtain ⟨-, -, e0, e1⟩ := places t
  have hy0 : (y 0).val < 2816 := (y 0).isLt
  have hy1 : (y 1).val < 1024 := (y 1).isLt
  have ht := count t
  unfold rhs
  rw [dif_pos ⟨by omega, by omega⟩]
  refine congrArg (m ((c : Thread nD τ).loc main_arg1)) (funext fun a => Fin.ext ?_)
  match a with
  | ⟨0, _⟩ => show win0_1.index t (0 : Fin 2) * 2816 + 1 * (y 0).val = t.val % 3 * 2816 + (y 0).val; rw [e0]; omega
  | ⟨1, _⟩ => show win0_1.index t (1 : Fin 2) * 1024 + 1 * (y 1).val = (y 1).val; rw [e1]; omega

theorem product_at (x0 : Vec Ideal S2816x1024 .bf16) (x1 : Vec Ideal S2816x1024 .bf16) (a : Fin 1024) (b : Fin 1024) :
    (k0_pay1 (F := Ideal) x0 x1 (ix2 a b) : EReal) = ∑ k : Fin 2816, x0 (ix2 k a) * x1 (ix2 k b) := by
  unfold k0_pay1
  pointwise

/-- The product of one point, over the rows of the arguments. -/
theorem part (c : Dev nD) (t : Fin cfg0.N) (a : Fin 1024) (b : Fin 1024) :
    (k0_pay1 (F := Ideal) (iblk m c 0 t) (iblk m c 1 t) (ix2 a b) : EReal)
      = ∑ k : Fin 2816, lhs m c (t.val % 3 * 2816 + k.val) (t.val / 3 * 1024 + a.val) * rhs m c (t.val % 3 * 2816 + k.val) b.val := by
  rw [product_at]
  refine Finset.sum_congr rfl fun k _ => ?_
  rw [lhs_block, rhs_block]
  rfl

/-! ## The output -/

theorem after_first (c : Dev nD) (n : ℕ) (h : n < cfg0.N) (hm : n % 3 = 0) :
    (outsAt0 m c n h).2 = k0_pay1 (iblk m c 0 ⟨n, h⟩) (iblk m c 1 ⟨n, h⟩) := by
  have hN : n < 3 := lt_of_lt_of_eq h N_0
  have e := congrArg Prod.snd (outsAt0_A m c ⟨n, h⟩ hm (by dsimp only; omega) (by dsimp only; omega))
  dsimp only at e
  rw [first_leaves] at e
  exact e

theorem after_middle (c : Dev nD) (n : ℕ) (h : n + 1 < cfg0.N) (hm : (n + 1) % 3 = 1) :
    (outsAt0 m c (n + 1) h).2 = addf (outsAt0 m c n (Nat.lt_of_succ_lt h)).2 (k0_pay1 (iblk m c 0 ⟨n + 1, h⟩) (iblk m c 1 ⟨n + 1, h⟩)) := by
  have e := congrArg Prod.snd (outsAt0_B m c ⟨n + 1, h⟩ (by dsimp only; omega) (by dsimp only; omega) (by dsimp only; omega))
  dsimp only at e
  rw [middle_leaves] at e
  exact e

theorem after_last (c : Dev nD) (n : ℕ) (h : n + 1 < cfg0.N) (hm : (n + 1) % 3 = 2) :
    (outsAt0 m c (n + 1) h).1 = k0_pay4 (addf (outsAt0 m c n (Nat.lt_of_succ_lt h)).2 (k0_pay1 (iblk m c 0 ⟨n + 1, h⟩) (iblk m c 1 ⟨n + 1, h⟩))) := by
  have e := congrArg Prod.fst (outsAt0_C m c ⟨n + 1, h⟩ (by dsimp only; omega) (by dsimp only; omega) hm)
  dsimp only at e
  rw [last_leaves] at e
  exact e

/-- The three points of a block leave the sum of their products. -/
theorem block_at (c : Dev nD) (n : ℕ) (h : 3 * n + 2 < cfg0.N) (a : Fin 1024) (b : Fin 1024) :
    ((outsAt0 m c (3 * n + 2) h).1 (ix2 a b) : EReal) = ∑ k : Fin 8448, lhs m c k.val (n * 1024 + a.val) * rhs m c k.val b.val := by
  have p2 := part m c ⟨3 * n + 2, h⟩ a b
  have p1 := part m c ⟨3 * n + 1, by omega⟩ a b
  have p0 := part m c ⟨3 * n, by omega⟩ a b
  simp only [show (3 * n + 2) % 3 = 2 by omega, show (3 * n + 2) / 3 = n by omega] at p2
  simp only [show (3 * n + 1) % 3 = 1 by omega, show (3 * n + 1) / 3 = n by omega] at p1
  simp only [show (3 * n) % 3 = 0 by omega, show (3 * n) / 3 = n by omega] at p0
  have s : ((outsAt0 m c (3 * n + 2) h).1 (ix2 a b) : EReal)
      = (k0_pay1 (F := Ideal) (iblk m c 0 ⟨3 * n, by omega⟩) (iblk m c 1 ⟨3 * n, by omega⟩) (ix2 a b)
          + k0_pay1 (F := Ideal) (iblk m c 0 ⟨3 * n + 1, by omega⟩) (iblk m c 1 ⟨3 * n + 1, by omega⟩) (ix2 a b))
        + k0_pay1 (F := Ideal) (iblk m c 0 ⟨3 * n + 2, h⟩) (iblk m c 1 ⟨3 * n + 2, h⟩) (ix2 a b) := by
    rw [after_last m c (3 * n + 1) h (by omega), after_middle m c (3 * n) (by omega) (by omega), after_first m c (3 * n) (by omega) (by omega)]
    rfl
  rw [s, p0, p1, p2, sum_rows (fun k => lhs m c k (n * 1024 + a.val) * rhs m c k b.val)]
  simp only [Nat.zero_mul, Nat.zero_add, Nat.one_mul]

/-- What the launch leaves at an index of its output. -/
theorem out_at (c : Dev nD) (i : S1024x1024.Idx) : (G2 m c i : EReal) = ∑ k : Fin 8448, lhs m c k.val (i 0).val * rhs m c k.val (i 1).val := by
  have h0 : (i 0).val < 1024 := (i 0).isLt
  have h1 : (i 1).val < 1024 := (i 1).isLt
  have hr : run2Of i = (i 0).val / 1024 := by show 1 * ((i 0).val / 1024 - 0) + 1 * ((i 1).val / 1024 - 0) = _; omega
  have hN : cfg0.N = 3 := N_0
  have hp : pt2Of i < cfg0.N := by show 3 * run2Of i + 2 < _; rw [hr]; omega
  have e := block_at m c (run2Of i) hp ⟨(i 0).val % 1024, Nat.mod_lt _ (by decide)⟩ ⟨(i 1).val % 1024, Nat.mod_lt _ (by decide)⟩
  unfold G2
  rw [dif_pos hp, ← outsAt0_sweep m c (pt2Of i) hp]
  refine Eq.trans ?_ (e.trans ?_)
  · refine congrArg (outsAt0 m c (3 * run2Of i + 2) hp).1 (funext fun a => ?_)
    match a with
    | ⟨0, _⟩ => rfl
    | ⟨1, _⟩ => rfl
  · have r0 : run2Of i * 1024 + (i 0).val % 1024 = (i 0).val := by rw [hr]; omega
    have r1 : (i 1).val % 1024 = (i 1).val := by omega
    simp only [r0, r1]

end Cert.Kernel7Ideal.Sum

end
-- ==== Proof.Prod.Weight7.lean ====
module

public import proofs.«01_k».proof.Defs
public import proofs.«01_k».proof.Proof.Prod.Sum7
public import proofs.«01_k».proof.Proof.Gen.Kernel7.Frame

@[expose] public section

set_option maxRecDepth 16384

/-!
The claims about the weight gradient of 1024 columns.
-/

noncomputable section

namespace Cert.Proof.Weight7

open Idealize.ShloMosaic Idealize.ShloMosaic.TcCoe Idealize.SL.Sem Cert.Reference7Ideal.Read

theorem frame_p : Cert.quiescent_Kernel7 (hKernel7 := Cert.Kernel7.Gen.facts) := fun m ρ _ => Cert.Kernel7.Gen.frame m ρ

theorem frame_pi : Cert.quiescent_Kernel7Ideal (hKernel7Ideal := Cert.Kernel7Ideal.Gen.facts) := fun m ρ _ => Cert.Kernel7Ideal.Gen.frame m ρ

theorem frame_ri : Cert.quiescent_Reference7Ideal (hReference7Ideal := Cert.Reference7Ideal.Gen.facts) := fun m ρ _ =>
  (θ_run Cert.Reference7Ideal.defs _ _).mono (fun r h => ⟨fun c => (h c).2, sem_eq_zero_of_no_sems (by decide) r.2⟩)
    (Cert.Reference7Ideal.Value.run (F := Ideal) m ρ)

theorem preserves : Cert.preserves_Kernel7_Kernel7Ideal := trivial

/-- The reference's gradient at an index: the product of a column of the input and a column of the cotangent. -/
theorem reference_at (x0 : (⟨Cert.Reference7Ideal.S8448x1024, .bf16⟩ : BufTy).Contents (Elt Ideal)) (x1 : (⟨Cert.Reference7Ideal.S8448x1024, .bf16⟩ : BufTy).Contents (Elt Ideal))
    (i : Cert.Reference7Ideal.S1024x1024.Idx) :
    (val_main_v6 (F := Ideal) x0 x1 i : EReal) = ∑ k : Fin 8448, x0 (ix2 k (⟨(i 0).val, (i 0).isLt⟩ : Fin 1024)) * x1 (ix2 k (⟨(i 1).val, (i 1).isLt⟩ : Fin 1024)) := by
  rw [val_main_v6_apply, val_main_v5_apply, val_main_v4_apply]
  refine Finset.sum_congr rfl fun k _ => ?_
  rw [mul_comm]
  refine congrArg₂ _ (congrArg x0 (funext fun a => ?_)) (congrArg x1 (funext fun a => ?_))
  · match a with
    | ⟨0, _⟩ => rfl
    | ⟨1, _⟩ => rfl
  · match a with
    | ⟨0, _⟩ => rfl
    | ⟨1, _⟩ => rfl

theorem algebraic : Cert.algebraic_Kernel7Ideal_Reference7Ideal (hKernel7Ideal := Cert.Kernel7Ideal.Gen.facts)
    (hReference7Ideal := Cert.Reference7Ideal.Gen.facts) := by
  intro m g m' g' _ hagree
  refine ⟨Cert.Kernel7Ideal.Value.G2 m, Cert.Kernel7Ideal.Value.run m g, ?_⟩
  refine (θ_run Cert.Reference7Ideal.defs _ _).mono (fun r h c => ?_) (Cert.Reference7Ideal.Value.run (F := Ideal) m' g')
  obtain ⟨a0, a1⟩ := hagree c
  obtain ⟨e, u⟩ := h c
  refine ⟨(e.trans (val_main_v6_eq _ _)).trans (funext fun i => ?_), u⟩
  rw [a0, a1]
  refine (reference_at _ _ i).trans (Eq.trans ?_ (Cert.Kernel7Ideal.Sum.out_at m c i).symm)
  refine Finset.sum_congr rfl fun k _ => ?_
  unfold Cert.Kernel7Ideal.Sum.lhs Cert.Kernel7Ideal.Sum.rhs
  rw [dif_pos ⟨k.isLt, (i 0).isLt⟩, dif_pos ⟨k.isLt, (i 1).isLt⟩]

end Cert.Proof.Weight7

end
-- ==== Proof.Prod.Sum8.lean ====
module

public import proofs.«01_k».proof.Proof.Prod.Common
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pointwise

@[expose] public section

set_option maxRecDepth 16384

/-!
The weight gradient of 1024 columns: a block of the output is the sum of three products of 2816 rows, and that is the product of all 8448 rows.
-/

noncomputable section

namespace Cert.Kernel8Ideal.Sum

open Idealize.ShloMosaic Idealize.ShloMosaic.TcCoe Idealize.SL.Sem
open Cert.Kernel8Ideal Cert.Kernel8Ideal.Gen Cert.Kernel8Ideal.Value Cert.Prod

theorem at_zero : ∀ a : Fin 2, (![0, 0] : Fin 2 → ℕ) a = 0 := by decide

/-! ## What a point leaves, in each of its three cases -/

theorem first_leaves (c : Dev nD) (i : grid0.Coords) (arg2 : Memref sig .tc .vmem S2816x1024 .f32) (harg2 : arg2.IsWhole) (arg3 : Memref sig .tc .vmem S2816x1024 .bf16) (harg3 : arg3.IsWhole)
  (arg4 : Memref sig .tc .vmem S1024x1024 .bf16) (harg4 : arg4.IsWhole) (arg5 : Memref sig .tc .vmem S1024x1024 .f32) (harg5 : arg5.IsWhole)
    (hc0 : cond0_0 i) (hc1 : ¬cond0_1 i) (hc2 : ¬cond0_2 i) (x0 : Vec Ideal S2816x1024 .f32) (x1 : Vec Ideal S2816x1024 .bf16) :
    sout0_A_0 (F := Ideal) c i arg2 harg2 arg3 harg3 arg4 harg4 arg5 harg5 hc0 hc1 hc2 x0 x1 = k0_pay1 x0 x1 := by
  show VS0_0.read (Elt Ideal) (VS0_0.writes (Elt Ideal) VS0_0.junk [⟨Rect.unit (s := S1024x1024) ![0, 0] S1024x1024.size inb_S1024x1024_S1024x1024_0_0, k0_pay2 (arg2.view.readAt (Elt Ideal) (Rect.unit (s := S2816x1024) ![0, 0] S2816x1024.size inb_S2816x1024_S2816x1024_0_0).toLoadRect (harg2.unread x0)) (arg3.view.readAt (Elt Ideal) (Rect.unit (s := S2816x1024) ![0, 0] S2816x1024.size inb_S2816x1024_S2816x1024_0_0).toLoadRect (harg3.unread x1))⟩]) = _
  rw [load_all arg2 harg2 x0 at_zero, load_all arg3 harg3 x1 at_zero, View.read_writes_full]
  unfold k0_pay2
  simp only [shapeCast_self]

theorem middle_leaves (c : Dev nD) (i : grid0.Coords) (arg2 : Memref sig .tc .vmem S2816x1024 .f32) (harg2 : arg2.IsWhole) (arg3 : Memref sig .tc .vmem S2816x1024 .bf16) (harg3 : arg3.IsWhole)
  (arg4 : Memref sig .tc .vmem S1024x1024 .bf16) (harg4 : arg4.IsWhole) (arg5 : Memref sig .tc .vmem S1024x1024 .f32) (harg5 : arg5.IsWhole)
    (hc0 : ¬cond0_0 i) (hc1 : cond0_1 i) (hc2 : ¬cond0_2 i) (x0 : Vec Ideal S2816x1024 .f32) (x1 : Vec Ideal S2816x1024 .bf16) (xs : Vec Ideal S1024x1024 .f32) :
    sout0_B_0 (F := Ideal) c i arg2 harg2 arg3 harg3 arg4 harg4 arg5 harg5 hc0 hc1 hc2 x0 x1 xs = addf xs (k0_pay1 x0 x1) := by
  show VS0_0.read (Elt Ideal) (VS0_0.writes (Elt Ideal) VS0_0.junk [⟨Rect.unit (s := S1024x1024) ![0, 0] S1024x1024.size inb_S1024x1024_S1024x1024_0_0, k0_pay3 (arg2.view.readAt (Elt Ideal) (Rect.unit (s := S2816x1024) ![0, 0] S2816x1024.size inb_S2816x1024_S2816x1024_0_0).toLoadRect (harg2.unread x0)) (arg3.view.readAt (Elt Ideal) (Rect.unit (s := S2816x1024) ![0, 0] S2816x1024.size inb_S2816x1024_S2816x1024_0_0).toLoadRect (harg3.unread x1)) (arg5.view.readAt (Elt Ideal) (Rect.unit (s := S1024x1024) ![0, 0] S1024x1024.size inb_S1024x1024_S1024x1024_0_0).toLoadRect (harg5.unread xs))⟩]) = _
  rw [load_all arg2 harg2 x0 at_zero, load_all arg3 harg3 x1 at_zero, load_all arg5 harg5 xs at_zero, View.read_writes_full]
  unfold k0_pay3
  simp only [shapeCast_self]

theorem last_leaves (c : Dev nD) (i : grid0.Coords) (arg2 : Memref sig .tc .vmem S2816x1024 .f32) (harg2 : arg2.IsWhole) (arg3 : Memref sig .tc .vmem S2816x1024 .bf16) (harg3 : arg3.IsWhole)
  (arg4 : Memref sig .tc .vmem S1024x1024 .bf16) (harg4 : arg4.IsWhole) (arg5 : Memref sig .tc .vmem S1024x1024 .f32) (harg5 : arg5.IsWhole)
    (hc0 : ¬cond0_0 i) (hc1 : cond0_1 i) (hc2 : cond0_2 i) (x0 : Vec Ideal S2816x1024 .f32) (x1 : Vec Ideal S2816x1024 .bf16) (xs : Vec Ideal S1024x1024 .f32) :
    out0_C_2 (F := Ideal) c i arg2 harg2 arg3 harg3 arg4 harg4 arg5 harg5 hc0 hc1 hc2 x0 x1 xs = k0_pay4 (addf xs (k0_pay1 x0 x1)) := by
  show VO0_2.read (Elt Ideal) (VO0_2.writes (Elt Ideal) VO0_2.junk [⟨Rect.unit (s := S1024x1024) ![0, 0] S1024x1024.size inb_S1024x1024_S1024x1024_0_0, k0_pay4 (arg5.view.readCov [(⟨Rect.unit (s := S1024x1024) ![0, 0] S1024x1024.size inb_S1024x1024_S1024x1024_0_0, k0_pay3 (arg2.view.readAt (Elt Ideal) (Rect.unit (s := S2816x1024) ![0, 0] S2816x1024.size inb_S2816x1024_S2816x1024_0_0).toLoadRect (harg2.unread x0)) (arg3.view.readAt (Elt Ideal) (Rect.unit (s := S2816x1024) ![0, 0] S2816x1024.size inb_S2816x1024_S2816x1024_0_0).toLoadRect (harg3.unread x1)) (arg5.view.readAt (Elt Ideal) (Rect.unit (s := S1024x1024) ![0, 0] S1024x1024.size inb_S1024x1024_S1024x1024_0_0).toLoadRect (harg5.unread xs))⟩ : View.Piece (Elt Ideal) S1024x1024 .f32)] (Rect.unit (s := S1024x1024) ![0, 0] S1024x1024.size inb_S1024x1024_S1024x1024_0_0).toLoadRect)⟩]) = _
  rw [load_all arg2 harg2 x0 at_zero, load_all arg3 harg3 x1 at_zero, load_all arg5 harg5 xs at_zero, load_stored _ _ at_zero, View.read_writes_full]
  unfold k0_pay3
  simp only [shapeCast_self]

/-! ## The blocks of a point, and the product at an index -/

variable (m : (ℓ : Loc nD τ sig) → Buf (Elt Ideal) ℓ) (ρ : Dev nD → PrngReg)

/-- Row `k` and column `j` of the left argument. -/
def lhs (c : Dev nD) (k j : ℕ) : EReal := if h : k < 8448 ∧ j < 1024 then m ((c : Thread nD τ).loc main_arg0) (ix2 (⟨k, h.1⟩ : Fin 8448) (⟨j, h.2⟩ : Fin 1024)) else 0
/-- Row `k` and column `j` of the right argument. -/
def rhs (c : Dev nD) (k j : ℕ) : EReal := if h : k < 8448 ∧ j < 1024 then m ((c : Thread nD τ).loc main_arg1) (ix2 (⟨k, h.1⟩ : Fin 8448) (⟨j, h.2⟩ : Fin 1024)) else 0

theorem places : ∀ t : Fin cfg0.N, win0_0.index t (0 : Fin 2) = t.val % 3 ∧ win0_0.index t (1 : Fin 2) = t.val / 3
    ∧ win0_1.index t (0 : Fin 2) = t.val % 3 ∧ win0_1.index t (1 : Fin 2) = 0 :=
  (by decide +kernel : ∀ t : Fin grid0.N, _)

theorem count (t : Fin cfg0.N) : t.val < 3 := lt_of_lt_of_eq t.isLt N_0

theorem lhs_block (c : Dev nD) (t : Fin cfg0.N) (y : S2816x1024.Idx) :
    (iblk m c 0 t y : EReal) = lhs m c (t.val % 3 * 2816 + (y 0).val) (t.val / 3 * 1024 + (y 1).val) := by
  obtain ⟨e0, e1, -, -⟩ := places t
  have hy0 : (y 0).val < 2816 := (y 0).isLt
  have hy1 : (y 1).val < 1024 := (y 1).isLt
  have ht := count t
  unfold lhs
  rw [dif_pos ⟨by omega, by omega⟩]
  refine congrArg (m ((c : Thread nD τ).loc main_arg0)) (funext fun a => Fin.ext ?_)
  match a with
  | ⟨0, _⟩ => show win0_0.index t (0 : Fin 2) * 2816 + 1 * (y 0).val = t.val % 3 * 2816 + (y 0).val; rw [e0]; omega
  | ⟨1, _⟩ => show win0_0.index t (1 : Fin 2) * 1024 + 1 * (y 1).val = t.val / 3 * 1024 + (y 1).val; rw [e1]; omega

theorem rhs_block (c : Dev nD) (t : Fin cfg0.N) (y : S2816x1024.Idx) :
    (iblk m c 1 t y : EReal) = rhs m c (t.val % 3 * 2816 + (y 0).val) (y 1).val := by
  obtain ⟨-, -, e0, e1⟩ := places t
  have hy0 : (y 0).val < 2816 := (y 0).isLt
  have hy1 : (y 1).val < 1024 := (y 1).isLt
  have ht := count t
  unfold rhs
  rw [dif_pos ⟨by omega, by omega⟩]
  refine congrArg (m ((c : Thread nD τ).loc main_arg1)) (funext fun a => Fin.ext ?_)
  match a with
  | ⟨0, _⟩ => show win0_1.index t (0 : Fin 2) * 2816 + 1 * (y 0).val = t.val % 3 * 2816 + (y 0).val; rw [e0]; omega
  | ⟨1, _⟩ => show win0_1.index t (1 : Fin 2) * 1024 + 1 * (y 1).val = (y 1).val; rw [e1]; omega

theorem product_at (x0 : Vec Ideal S2816x1024 .f32) (x1 : Vec Ideal S2816x1024 .bf16) (a : Fin 1024) (b : Fin 1024) :
    (k0_pay1 (F := Ideal) x0 x1 (ix2 a b) : EReal) = ∑ k : Fin 2816, x0 (ix2 k a) * x1 (ix2 k b) := by
  unfold k0_pay1
  pointwise

/-- The product of one point, over the rows of the arguments. -/
theorem part (c : Dev nD) (t : Fin cfg0.N) (a : Fin 1024) (b : Fin 1024) :
    (k0_pay1 (F := Ideal) (iblk m c 0 t) (iblk m c 1 t) (ix2 a b) : EReal)
      = ∑ k : Fin 2816, lhs m c (t.val % 3 * 2816 + k.val) (t.val / 3 * 1024 + a.val) * rhs m c (t.val % 3 * 2816 + k.val) b.val := by
  rw [product_at]
  refine Finset.sum_congr rfl fun k _ => ?_
  rw [lhs_block, rhs_block]
  rfl

/-! ## The output -/

theorem after_first (c : Dev nD) (n : ℕ) (h : n < cfg0.N) (hm : n % 3 = 0) :
    (outsAt0 m c n h).2 = k0_pay1 (iblk m c 0 ⟨n, h⟩) (iblk m c 1 ⟨n, h⟩) := by
  have hN : n < 3 := lt_of_lt_of_eq h N_0
  have e := congrArg Prod.snd (outsAt0_A m c ⟨n, h⟩ hm (by dsimp only; omega) (by dsimp only; omega))
  dsimp only at e
  rw [first_leaves] at e
  exact e

theorem after_middle (c : Dev nD) (n : ℕ) (h : n + 1 < cfg0.N) (hm : (n + 1) % 3 = 1) :
    (outsAt0 m c (n + 1) h).2 = addf (outsAt0 m c n (Nat.lt_of_succ_lt h)).2 (k0_pay1 (iblk m c 0 ⟨n + 1, h⟩) (iblk m c 1 ⟨n + 1, h⟩)) := by
  have e := congrArg Prod.snd (outsAt0_B m c ⟨n + 1, h⟩ (by dsimp only; omega) (by dsimp only; omega) (by dsimp only; omega))
  dsimp only at e
  rw [middle_leaves] at e
  exact e

theorem after_last (c : Dev nD) (n : ℕ) (h : n + 1 < cfg0.N) (hm : (n + 1) % 3 = 2) :
    (outsAt0 m c (n + 1) h).1 = k0_pay4 (addf (outsAt0 m c n (Nat.lt_of_succ_lt h)).2 (k0_pay1 (iblk m c 0 ⟨n + 1, h⟩) (iblk m c 1 ⟨n + 1, h⟩))) := by
  have e := congrArg Prod.fst (outsAt0_C m c ⟨n + 1, h⟩ (by dsimp only; omega) (by dsimp only; omega) hm)
  dsimp only at e
  rw [last_leaves] at e
  exact e

/-- The three points of a block leave the sum of their products. -/
theorem block_at (c : Dev nD) (n : ℕ) (h : 3 * n + 2 < cfg0.N) (a : Fin 1024) (b : Fin 1024) :
    ((outsAt0 m c (3 * n + 2) h).1 (ix2 a b) : EReal) = ∑ k : Fin 8448, lhs m c k.val (n * 1024 + a.val) * rhs m c k.val b.val := by
  have p2 := part m c ⟨3 * n + 2, h⟩ a b
  have p1 := part m c ⟨3 * n + 1, by omega⟩ a b
  have p0 := part m c ⟨3 * n, by omega⟩ a b
  simp only [show (3 * n + 2) % 3 = 2 by omega, show (3 * n + 2) / 3 = n by omega] at p2
  simp only [show (3 * n + 1) % 3 = 1 by omega, show (3 * n + 1) / 3 = n by omega] at p1
  simp only [show (3 * n) % 3 = 0 by omega, show (3 * n) / 3 = n by omega] at p0
  have s : ((outsAt0 m c (3 * n + 2) h).1 (ix2 a b) : EReal)
      = (k0_pay1 (F := Ideal) (iblk m c 0 ⟨3 * n, by omega⟩) (iblk m c 1 ⟨3 * n, by omega⟩) (ix2 a b)
          + k0_pay1 (F := Ideal) (iblk m c 0 ⟨3 * n + 1, by omega⟩) (iblk m c 1 ⟨3 * n + 1, by omega⟩) (ix2 a b))
        + k0_pay1 (F := Ideal) (iblk m c 0 ⟨3 * n + 2, h⟩) (iblk m c 1 ⟨3 * n + 2, h⟩) (ix2 a b) := by
    rw [after_last m c (3 * n + 1) h (by omega), after_middle m c (3 * n) (by omega) (by omega), after_first m c (3 * n) (by omega) (by omega)]
    rfl
  rw [s, p0, p1, p2, sum_rows (fun k => lhs m c k (n * 1024 + a.val) * rhs m c k b.val)]
  simp only [Nat.zero_mul, Nat.zero_add, Nat.one_mul]

/-- What the launch leaves at an index of its output. -/
theorem out_at (c : Dev nD) (i : S1024x1024.Idx) : (G2 m c i : EReal) = ∑ k : Fin 8448, lhs m c k.val (i 0).val * rhs m c k.val (i 1).val := by
  have h0 : (i 0).val < 1024 := (i 0).isLt
  have h1 : (i 1).val < 1024 := (i 1).isLt
  have hr : run2Of i = (i 0).val / 1024 := by show 1 * ((i 0).val / 1024 - 0) + 1 * ((i 1).val / 1024 - 0) = _; omega
  have hN : cfg0.N = 3 := N_0
  have hp : pt2Of i < cfg0.N := by show 3 * run2Of i + 2 < _; rw [hr]; omega
  have e := block_at m c (run2Of i) hp ⟨(i 0).val % 1024, Nat.mod_lt _ (by decide)⟩ ⟨(i 1).val % 1024, Nat.mod_lt _ (by decide)⟩
  unfold G2
  rw [dif_pos hp, ← outsAt0_sweep m c (pt2Of i) hp]
  refine Eq.trans ?_ (e.trans ?_)
  · refine congrArg (outsAt0 m c (3 * run2Of i + 2) hp).1 (funext fun a => ?_)
    match a with
    | ⟨0, _⟩ => rfl
    | ⟨1, _⟩ => rfl
  · have r0 : run2Of i * 1024 + (i 0).val % 1024 = (i 0).val := by rw [hr]; omega
    have r1 : (i 1).val % 1024 = (i 1).val := by omega
    simp only [r0, r1]

end Cert.Kernel8Ideal.Sum

end
-- ==== Proof.Prod.Weight8.lean ====
module

public import proofs.«01_k».proof.Defs
public import proofs.«01_k».proof.Proof.Prod.Sum8
public import proofs.«01_k».proof.Proof.Gen.Kernel8.Frame

@[expose] public section

set_option maxRecDepth 16384

/-!
The claims about the weight gradient of 1024 columns.
-/

noncomputable section

namespace Cert.Proof.Weight8

open Idealize.ShloMosaic Idealize.ShloMosaic.TcCoe Idealize.SL.Sem Cert.Reference8Ideal.Read

theorem frame_p : Cert.quiescent_Kernel8 (hKernel8 := Cert.Kernel8.Gen.facts) := fun m ρ _ => Cert.Kernel8.Gen.frame m ρ

theorem frame_pi : Cert.quiescent_Kernel8Ideal (hKernel8Ideal := Cert.Kernel8Ideal.Gen.facts) := fun m ρ _ => Cert.Kernel8Ideal.Gen.frame m ρ

theorem frame_ri : Cert.quiescent_Reference8Ideal (hReference8Ideal := Cert.Reference8Ideal.Gen.facts) := fun m ρ _ =>
  (θ_run Cert.Reference8Ideal.defs _ _).mono (fun r h => ⟨fun c => (h c).2, sem_eq_zero_of_no_sems (by decide) r.2⟩)
    (Cert.Reference8Ideal.Value.run (F := Ideal) m ρ)

theorem preserves : Cert.preserves_Kernel8_Kernel8Ideal := trivial

/-- The reference's gradient at an index: the product of a column of the input and a column of the cotangent. -/
theorem reference_at (x0 : (⟨Cert.Reference8Ideal.S8448x1024, .f32⟩ : BufTy).Contents (Elt Ideal)) (x1 : (⟨Cert.Reference8Ideal.S8448x1024, .bf16⟩ : BufTy).Contents (Elt Ideal))
    (i : Cert.Reference8Ideal.S1024x1024.Idx) :
    (val_main_v7 (F := Ideal) x0 x1 i : EReal) = ∑ k : Fin 8448, x0 (ix2 k (⟨(i 0).val, (i 0).isLt⟩ : Fin 1024)) * x1 (ix2 k (⟨(i 1).val, (i 1).isLt⟩ : Fin 1024)) := by
  rw [val_main_v7_apply, val_main_v6_apply, val_main_v5_apply]
  refine Finset.sum_congr rfl fun k _ => ?_
  rw [mul_comm]
  refine congrArg₂ _ (congrArg x0 (funext fun a => ?_)) (congrArg x1 (funext fun a => ?_))
  · match a with
    | ⟨0, _⟩ => rfl
    | ⟨1, _⟩ => rfl
  · match a with
    | ⟨0, _⟩ => rfl
    | ⟨1, _⟩ => rfl

theorem algebraic : Cert.algebraic_Kernel8Ideal_Reference8Ideal (hKernel8Ideal := Cert.Kernel8Ideal.Gen.facts)
    (hReference8Ideal := Cert.Reference8Ideal.Gen.facts) := by
  intro m g m' g' _ hagree
  refine ⟨Cert.Kernel8Ideal.Value.G2 m, Cert.Kernel8Ideal.Value.run m g, ?_⟩
  refine (θ_run Cert.Reference8Ideal.defs _ _).mono (fun r h c => ?_) (Cert.Reference8Ideal.Value.run (F := Ideal) m' g')
  obtain ⟨a0, a1⟩ := hagree c
  obtain ⟨e, u⟩ := h c
  refine ⟨(e.trans (val_main_v7_eq _ _)).trans (funext fun i => ?_), u⟩
  rw [a0, a1]
  refine (reference_at _ _ i).trans (Eq.trans ?_ (Cert.Kernel8Ideal.Sum.out_at m c i).symm)
  refine Finset.sum_congr rfl fun k _ => ?_
  unfold Cert.Kernel8Ideal.Sum.lhs Cert.Kernel8Ideal.Sum.rhs
  rw [dif_pos ⟨k.isLt, (i 0).isLt⟩, dif_pos ⟨k.isLt, (i 1).isLt⟩]

end Cert.Proof.Weight8

end
-- ==== Proof.lean ====
/- The claim put together from the frames, the named constant and the values. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2.Value
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3.Value
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4.Value
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5.Value
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6.Value
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7.Value
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8.Value
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9.Value
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Frames
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10.Value
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11.Value
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Algebraic
public import proofs.«01_k».proof.Proof.Mix.Block11
public import proofs.«01_k».proof.Proof.Merge.Block10
public import proofs.«01_k».proof.Proof.Ffn.Block9
public import proofs.«01_k».proof.Proof.Prod.Weight2
public import proofs.«01_k».proof.Proof.Prod.Weight3
public import proofs.«01_k».proof.Proof.Prod.Weight4
public import proofs.«01_k».proof.Proof.Prod.Weight5
public import proofs.«01_k».proof.Proof.Prod.Weight6
public import proofs.«01_k».proof.Proof.Prod.Weight7
public import proofs.«01_k».proof.Proof.Prod.Weight8
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Pre_finite.Gen.facts, frame_p, frame_pi, fun m ρ _ => frame_pi m ρ trivial, frame_ri, fun m ρ _ => frame_ri m ρ trivial,
  Weight2.frame_p, Weight2.frame_pi, Weight2.frame_ri,
  Weight3.frame_p, Weight3.frame_pi, Weight3.frame_ri,
  Weight4.frame_p, Weight4.frame_pi, Weight4.frame_ri,
  Weight5.frame_p, Weight5.frame_pi, Weight5.frame_ri,
  Weight6.frame_p, Weight6.frame_pi, Weight6.frame_ri,
  Weight7.frame_p, Weight7.frame_pi, Weight7.frame_ri,
  Weight8.frame_p, Weight8.frame_pi, Weight8.frame_ri,
  Block9.frame_p, Block9.frame_pi, Block9.frame_ri,
  Block10.frame_p, Block10.frame_pi, Block10.frame_ri,
  Block11.frame_p, Block11.frame_pi, Block11.frame_ri,
  preserves, algebraic,
  Weight2.preserves, Weight2.algebraic,
  Weight3.preserves, Weight3.algebraic,
  Weight4.preserves, Weight4.algebraic,
  Weight5.preserves, Weight5.algebraic,
  Weight6.preserves, Weight6.algebraic,
  Weight7.preserves, Weight7.algebraic,
  Weight8.preserves, Weight8.algebraic,
  Block9.preserves, Block9.algebraic,
  Block10.preserves, Block10.algebraic,
  Block11.preserves, Block11.algebraic⟩

end Cert.Proof

end
